-- ==== Defs.lean ====
def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_finite [hPre_finite : Cert.Pre_finite.Facts] (m : (ℓ : Loc Cert.StickIdeal.nD Cert.StickIdeal.τ Cert.StickIdeal.sig) → Buf (Elt Ideal) ℓ) : Prop :=
  ∀ c : Dev Cert.StickIdeal.nD,
    (Cert.Pre_finite.fn (F := Ideal) (m ((c.tc : Thread Cert.StickIdeal.nD Cert.StickIdeal.τ).loc Cert.StickIdeal.main_arg0))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_finite [hPre_finite : Cert.Pre_finite.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_finite.fn (F := Ideal) (m ((c.tc : Thread Cert.StickRefIdeal.nD Cert.StickRefIdeal.τ).loc Cert.StickRefIdeal.main_arg0))) = (fun _ => 1#1)

def Pre_Moe [hPre_tables : Cert.Pre_tables.Facts] (m : (ℓ : Loc Cert.Moe.nD Cert.Moe.τ Cert.Moe.sig) → Buf (Elt Bits) ℓ) : Prop :=
  ∀ c : Dev Cert.Moe.nD,
    (Cert.Pre_tables.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_tables : Cert.Pre_tables.Facts] (m : (ℓ : Loc Cert.MoeIdeal.nD Cert.MoeIdeal.τ Cert.MoeIdeal.sig) → Buf (Elt Ideal) ℓ) : Prop :=
  ∀ c : Dev Cert.MoeIdeal.nD,
    (Cert.Pre_tables.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tables [hPre_tables : Cert.Pre_tables.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalStep (m : (ℓ : Loc Cert.FinalStep.nD Cert.FinalStep.τ Cert.FinalStep.sig) → Buf (Elt Bits) ℓ) : Prop :=
  True

def Pre_FinalStepIdeal (m : (ℓ : Loc Cert.FinalStepIdeal.nD Cert.FinalStepIdeal.τ Cert.FinalStepIdeal.sig) → Buf (Elt Ideal) ℓ) : Prop :=
  True

def Pre_FinalStepRefIdeal (m : (ℓ : Loc Cert.FinalStepRefIdeal.nD Cert.FinalStepRefIdeal.τ Cert.FinalStepRefIdeal.sig) → Buf (Elt Ideal) ℓ) : Prop :=
  True

def Pre_BandStep (m : (ℓ : Loc Cert.BandStep.nD Cert.BandStep.τ Cert.BandStep.sig) → Buf (Elt Bits) ℓ) : Prop :=
  True

def Pre_BandStepIdeal (m : (ℓ : Loc Cert.BandStepIdeal.nD Cert.BandStepIdeal.τ Cert.BandStepIdeal.sig) → Buf (Elt Ideal) ℓ) : Prop :=
  True

def Pre_BandStepIdeal_scores [hPre_scores : Cert.Pre_scores.Facts] (m : (ℓ : Loc Cert.BandStepIdeal.nD Cert.BandStepIdeal.τ Cert.BandStepIdeal.sig) → Buf (Elt Ideal) ℓ) : Prop :=
  ∀ c : Dev Cert.BandStepIdeal.nD,
    (Cert.Pre_scores.fn (F := Ideal) (m ((c.tc : Thread Cert.BandStepIdeal.nD Cert.BandStepIdeal.τ).loc Cert.BandStepIdeal.main_arg0)) (m ((c.tc : Thread Cert.BandStepIdeal.nD Cert.BandStepIdeal.τ).loc Cert.BandStepIdeal.main_arg1)) (m ((c.tc : Thread Cert.BandStepIdeal.nD Cert.BandStepIdeal.τ).loc Cert.BandStepIdeal.main_arg2)) (m ((c.tc : Thread Cert.BandStepIdeal.nD Cert.BandStepIdeal.τ).loc Cert.BandStepIdeal.main_arg3))) = (fun _ => 1#1)

def Pre_BandStepRefIdeal (m : (ℓ : Loc Cert.BandStepRefIdeal.nD Cert.BandStepRefIdeal.τ Cert.BandStepRefIdeal.sig) → Buf (Elt Ideal) ℓ) : Prop :=
  True

def Pre_BandStepRefIdeal_scores [hPre_scores : Cert.Pre_scores.Facts] (m : (ℓ : Loc Cert.BandStepRefIdeal.nD Cert.BandStepRefIdeal.τ Cert.BandStepRefIdeal.sig) → Buf (Elt Ideal) ℓ) : Prop :=
  ∀ c : Dev Cert.BandStepRefIdeal.nD,
    (Cert.Pre_scores.fn (F := Ideal) (m ((c.tc : Thread Cert.BandStepRefIdeal.nD Cert.BandStepRefIdeal.τ).loc Cert.BandStepRefIdeal.main_arg0)) (m ((c.tc : Thread Cert.BandStepRefIdeal.nD Cert.BandStepRefIdeal.τ).loc Cert.BandStepRefIdeal.main_arg1)) (m ((c.tc : Thread Cert.BandStepRefIdeal.nD Cert.BandStepRefIdeal.τ).loc Cert.BandStepRefIdeal.main_arg2)) (m ((c.tc : Thread Cert.BandStepRefIdeal.nD Cert.BandStepRefIdeal.τ).loc Cert.BandStepRefIdeal.main_arg3))) = (fun _ => 1#1)

def Pre_ProjStep (m : (ℓ : Loc Cert.ProjStep.nD Cert.ProjStep.τ Cert.ProjStep.sig) → Buf (Elt Bits) ℓ) : Prop :=
  True

def Pre_ProjStepIdeal (m : (ℓ : Loc Cert.ProjStepIdeal.nD Cert.ProjStepIdeal.τ Cert.ProjStepIdeal.sig) → Buf (Elt Ideal) ℓ) : Prop :=
  True

def Pre_ProjStepRefIdeal (m : (ℓ : Loc Cert.ProjStepRefIdeal.nD Cert.ProjStepRefIdeal.τ Cert.ProjStepRefIdeal.sig) → Buf (Elt Ideal) ℓ) : Prop :=
  True

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickIdeal_pre_finite [hStickIdeal : Cert.StickIdeal.Facts] [hPre_finite : Cert.Pre_finite.Facts] : Prop :=
  ∀ (m : (ℓ : Loc Cert.StickIdeal.nD Cert.StickIdeal.τ Cert.StickIdeal.sig) → Buf (Elt Ideal) ℓ) (g : Dev Cert.StickIdeal.nD → PrngReg), Pre_StickIdeal_finite m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0))
      ∧ r.2.sem = fun _ => 0)

def quiescent_StickRefIdeal_pre_finite [hStickRefIdeal : Cert.StickRefIdeal.Facts] [hPre_finite : Cert.Pre_finite.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_finite m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0))
      ∧ r.2.sem = fun _ => 0)

def quiescent_Moe [hMoe : Cert.Moe.Facts] [hPre_tables : Cert.Pre_tables.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_tables : Cert.Pre_tables.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_tables [hMoeRefIdeal : Cert.MoeRefIdeal.Facts] [hPre_tables : Cert.Pre_tables.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tables m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_FinalStep [hFinalStep : Cert.FinalStep.Facts] : Prop :=
  ∀ (m : (ℓ : Loc Cert.FinalStep.nD Cert.FinalStep.τ Cert.FinalStep.sig) → Buf (Elt Bits) ℓ) (g : Dev Cert.FinalStep.nD → PrngReg), Pre_FinalStep m →
    θ_run (Cert.FinalStep.defs (F := Bits)) (onTc (τ := Cert.FinalStep.τ) (Cert.FinalStep.main (F := Bits))) ⟨m, fun _ => 0, g⟩ (fun r => (∀ c : Dev Cert.FinalStep.nD,
      r.2.mem ((c.tc : Thread Cert.FinalStep.nD Cert.FinalStep.τ).loc Cert.FinalStep.main_arg0) = m ((c.tc : Thread Cert.FinalStep.nD Cert.FinalStep.τ).loc Cert.FinalStep.main_arg0)
      ∧ r.2.mem ((c.tc : Thread Cert.FinalStep.nD Cert.FinalStep.τ).loc Cert.FinalStep.main_arg1) = m ((c.tc : Thread Cert.FinalStep.nD Cert.FinalStep.τ).loc Cert.FinalStep.main_arg1)
      ∧ r.2.mem ((c.tc : Thread Cert.FinalStep.nD Cert.FinalStep.τ).loc Cert.FinalStep.main_arg2) = m ((c.tc : Thread Cert.FinalStep.nD Cert.FinalStep.τ).loc Cert.FinalStep.main_arg2)
      ∧ r.2.mem ((c.tc : Thread Cert.FinalStep.nD Cert.FinalStep.τ).loc Cert.FinalStep.main_arg3) = m ((c.tc : Thread Cert.FinalStep.nD Cert.FinalStep.τ).loc Cert.FinalStep.main_arg3)
      ∧ r.2.mem ((c.tc : Thread Cert.FinalStep.nD Cert.FinalStep.τ).loc Cert.FinalStep.main_arg4) = m ((c.tc : Thread Cert.FinalStep.nD Cert.FinalStep.τ).loc Cert.FinalStep.main_arg4))
      ∧ r.2.sem = fun _ => 0)

def quiescent_FinalStepIdeal [hFinalStepIdeal : Cert.FinalStepIdeal.Facts] : Prop :=
  ∀ (m : (ℓ : Loc Cert.FinalStepIdeal.nD Cert.FinalStepIdeal.τ Cert.FinalStepIdeal.sig) → Buf (Elt Ideal) ℓ) (g : Dev Cert.FinalStepIdeal.nD → PrngReg), Pre_FinalStepIdeal m →
    θ_run (Cert.FinalStepIdeal.defs (F := Ideal)) (onTc (τ := Cert.FinalStepIdeal.τ) (Cert.FinalStepIdeal.main (F := Ideal))) ⟨m, fun _ => 0, g⟩ (fun r => (∀ c : Dev Cert.FinalStepIdeal.nD,
      r.2.mem ((c.tc : Thread Cert.FinalStepIdeal.nD Cert.FinalStepIdeal.τ).loc Cert.FinalStepIdeal.main_arg0) = m ((c.tc : Thread Cert.FinalStepIdeal.nD Cert.FinalStepIdeal.τ).loc Cert.FinalStepIdeal.main_arg0)
      ∧ r.2.mem ((c.tc : Thread Cert.FinalStepIdeal.nD Cert.FinalStepIdeal.τ).loc Cert.FinalStepIdeal.main_arg1) = m ((c.tc : Thread Cert.FinalStepIdeal.nD Cert.FinalStepIdeal.τ).loc Cert.FinalStepIdeal.main_arg1)
      ∧ r.2.mem ((c.tc : Thread Cert.FinalStepIdeal.nD Cert.FinalStepIdeal.τ).loc Cert.FinalStepIdeal.main_arg2) = m ((c.tc : Thread Cert.FinalStepIdeal.nD Cert.FinalStepIdeal.τ).loc Cert.FinalStepIdeal.main_arg2)
      ∧ r.2.mem ((c.tc : Thread Cert.FinalStepIdeal.nD Cert.FinalStepIdeal.τ).loc Cert.FinalStepIdeal.main_arg3) = m ((c.tc : Thread Cert.FinalStepIdeal.nD Cert.FinalStepIdeal.τ).loc Cert.FinalStepIdeal.main_arg3)
      ∧ r.2.mem ((c.tc : Thread Cert.FinalStepIdeal.nD Cert.FinalStepIdeal.τ).loc Cert.FinalStepIdeal.main_arg4) = m ((c.tc : Thread Cert.FinalStepIdeal.nD Cert.FinalStepIdeal.τ).loc Cert.FinalStepIdeal.main_arg4))
      ∧ r.2.sem = fun _ => 0)

def quiescent_FinalStepRefIdeal [hFinalStepRefIdeal : Cert.FinalStepRefIdeal.Facts] : Prop :=
  ∀ (m : (ℓ : Loc Cert.FinalStepRefIdeal.nD Cert.FinalStepRefIdeal.τ Cert.FinalStepRefIdeal.sig) → Buf (Elt Ideal) ℓ) (g : Dev Cert.FinalStepRefIdeal.nD → PrngReg), Pre_FinalStepRefIdeal m →
    θ_run (Cert.FinalStepRefIdeal.defs (F := Ideal)) (onTc (τ := Cert.FinalStepRefIdeal.τ) (Cert.FinalStepRefIdeal.main (F := Ideal))) ⟨m, fun _ => 0, g⟩ (fun r => (∀ c : Dev Cert.FinalStepRefIdeal.nD,
      r.2.mem ((c.tc : Thread Cert.FinalStepRefIdeal.nD Cert.FinalStepRefIdeal.τ).loc Cert.FinalStepRefIdeal.main_arg0) = m ((c.tc : Thread Cert.FinalStepRefIdeal.nD Cert.FinalStepRefIdeal.τ).loc Cert.FinalStepRefIdeal.main_arg0)
      ∧ r.2.mem ((c.tc : Thread Cert.FinalStepRefIdeal.nD Cert.FinalStepRefIdeal.τ).loc Cert.FinalStepRefIdeal.main_arg1) = m ((c.tc : Thread Cert.FinalStepRefIdeal.nD Cert.FinalStepRefIdeal.τ).loc Cert.FinalStepRefIdeal.main_arg1)
      ∧ r.2.mem ((c.tc : Thread Cert.FinalStepRefIdeal.nD Cert.FinalStepRefIdeal.τ).loc Cert.FinalStepRefIdeal.main_arg2) = m ((c.tc : Thread Cert.FinalStepRefIdeal.nD Cert.FinalStepRefIdeal.τ).loc Cert.FinalStepRefIdeal.main_arg2)
      ∧ r.2.mem ((c.tc : Thread Cert.FinalStepRefIdeal.nD Cert.FinalStepRefIdeal.τ).loc Cert.FinalStepRefIdeal.main_arg3) = m ((c.tc : Thread Cert.FinalStepRefIdeal.nD Cert.FinalStepRefIdeal.τ).loc Cert.FinalStepRefIdeal.main_arg3)
      ∧ r.2.mem ((c.tc : Thread Cert.FinalStepRefIdeal.nD Cert.FinalStepRefIdeal.τ).loc Cert.FinalStepRefIdeal.main_arg4) = m ((c.tc : Thread Cert.FinalStepRefIdeal.nD Cert.FinalStepRefIdeal.τ).loc Cert.FinalStepRefIdeal.main_arg4))
      ∧ r.2.sem = fun _ => 0)

def quiescent_BandStep [hBandStep : Cert.BandStep.Facts] : Prop :=
  ∀ (m : (ℓ : Loc Cert.BandStep.nD Cert.BandStep.τ Cert.BandStep.sig) → Buf (Elt Bits) ℓ) (g : Dev Cert.BandStep.nD → PrngReg), Pre_BandStep m →
    θ_run (Cert.BandStep.defs (F := Bits)) (onTc (τ := Cert.BandStep.τ) (Cert.BandStep.main (F := Bits))) ⟨m, fun _ => 0, g⟩ (fun r => (∀ c : Dev Cert.BandStep.nD,
      r.2.mem ((c.tc : Thread Cert.BandStep.nD Cert.BandStep.τ).loc Cert.BandStep.main_arg0) = m ((c.tc : Thread Cert.BandStep.nD Cert.BandStep.τ).loc Cert.BandStep.main_arg0)
      ∧ r.2.mem ((c.tc : Thread Cert.BandStep.nD Cert.BandStep.τ).loc Cert.BandStep.main_arg1) = m ((c.tc : Thread Cert.BandStep.nD Cert.BandStep.τ).loc Cert.BandStep.main_arg1)
      ∧ r.2.mem ((c.tc : Thread Cert.BandStep.nD Cert.BandStep.τ).loc Cert.BandStep.main_arg2) = m ((c.tc : Thread Cert.BandStep.nD Cert.BandStep.τ).loc Cert.BandStep.main_arg2)
      ∧ r.2.mem ((c.tc : Thread Cert.BandStep.nD Cert.BandStep.τ).loc Cert.BandStep.main_arg3) = m ((c.tc : Thread Cert.BandStep.nD Cert.BandStep.τ).loc Cert.BandStep.main_arg3))
      ∧ r.2.sem = fun _ => 0)

def quiescent_BandStepIdeal [hBandStepIdeal : Cert.BandStepIdeal.Facts] : Prop :=
  ∀ (m : (ℓ : Loc Cert.BandStepIdeal.nD Cert.BandStepIdeal.τ Cert.BandStepIdeal.sig) → Buf (Elt Ideal) ℓ) (g : Dev Cert.BandStepIdeal.nD → PrngReg), Pre_BandStepIdeal m →
    θ_run (Cert.BandStepIdeal.defs (F := Ideal)) (onTc (τ := Cert.BandStepIdeal.τ) (Cert.BandStepIdeal.main (F := Ideal))) ⟨m, fun _ => 0, g⟩ (fun r => (∀ c : Dev Cert.BandStepIdeal.nD,
      r.2.mem ((c.tc : Thread Cert.BandStepIdeal.nD Cert.BandStepIdeal.τ).loc Cert.BandStepIdeal.main_arg0) = m ((c.tc : Thread Cert.BandStepIdeal.nD Cert.BandStepIdeal.τ).loc Cert.BandStepIdeal.main_arg0)
      ∧ r.2.mem ((c.tc : Thread Cert.BandStepIdeal.nD Cert.BandStepIdeal.τ).loc Cert.BandStepIdeal.main_arg1) = m ((c.tc : Thread Cert.BandStepIdeal.nD Cert.BandStepIdeal.τ).loc Cert.BandStepIdeal.main_arg1)
      ∧ r.2.mem ((c.tc : Thread Cert.BandStepIdeal.nD Cert.BandStepIdeal.τ).loc Cert.BandStepIdeal.main_arg2) = m ((c.tc : Thread Cert.BandStepIdeal.nD Cert.BandStepIdeal.τ).loc Cert.BandStepIdeal.main_arg2)
      ∧ r.2.mem ((c.tc : Thread Cert.BandStepIdeal.nD Cert.BandStepIdeal.τ).loc Cert.BandStepIdeal.main_arg3) = m ((c.tc : Thread Cert.BandStepIdeal.nD Cert.BandStepIdeal.τ).loc Cert.BandStepIdeal.main_arg3))
      ∧ r.2.sem = fun _ => 0)

def quiescent_BandStepIdeal_pre_scores [hBandStepIdeal : Cert.BandStepIdeal.Facts] [hPre_scores : Cert.Pre_scores.Facts] : Prop :=
  ∀ (m : (ℓ : Loc Cert.BandStepIdeal.nD Cert.BandStepIdeal.τ Cert.BandStepIdeal.sig) → Buf (Elt Ideal) ℓ) (g : Dev Cert.BandStepIdeal.nD → PrngReg), Pre_BandStepIdeal_scores m →
    θ_run (Cert.BandStepIdeal.defs (F := Ideal)) (onTc (τ := Cert.BandStepIdeal.τ) (Cert.BandStepIdeal.main (F := Ideal))) ⟨m, fun _ => 0, g⟩ (fun r => (∀ c : Dev Cert.BandStepIdeal.nD,
      r.2.mem ((c.tc : Thread Cert.BandStepIdeal.nD Cert.BandStepIdeal.τ).loc Cert.BandStepIdeal.main_arg0) = m ((c.tc : Thread Cert.BandStepIdeal.nD Cert.BandStepIdeal.τ).loc Cert.BandStepIdeal.main_arg0)
      ∧ r.2.mem ((c.tc : Thread Cert.BandStepIdeal.nD Cert.BandStepIdeal.τ).loc Cert.BandStepIdeal.main_arg1) = m ((c.tc : Thread Cert.BandStepIdeal.nD Cert.BandStepIdeal.τ).loc Cert.BandStepIdeal.main_arg1)
      ∧ r.2.mem ((c.tc : Thread Cert.BandStepIdeal.nD Cert.BandStepIdeal.τ).loc Cert.BandStepIdeal.main_arg2) = m ((c.tc : Thread Cert.BandStepIdeal.nD Cert.BandStepIdeal.τ).loc Cert.BandStepIdeal.main_arg2)
      ∧ r.2.mem ((c.tc : Thread Cert.BandStepIdeal.nD Cert.BandStepIdeal.τ).loc Cert.BandStepIdeal.main_arg3) = m ((c.tc : Thread Cert.BandStepIdeal.nD Cert.BandStepIdeal.τ).loc Cert.BandStepIdeal.main_arg3))
      ∧ r.2.sem = fun _ => 0)

def quiescent_BandStepRefIdeal [hBandStepRefIdeal : Cert.BandStepRefIdeal.Facts] : Prop :=
  ∀ (m : (ℓ : Loc Cert.BandStepRefIdeal.nD Cert.BandStepRefIdeal.τ Cert.BandStepRefIdeal.sig) → Buf (Elt Ideal) ℓ) (g : Dev Cert.BandStepRefIdeal.nD → PrngReg), Pre_BandStepRefIdeal m →
    θ_run (Cert.BandStepRefIdeal.defs (F := Ideal)) (onTc (τ := Cert.BandStepRefIdeal.τ) (Cert.BandStepRefIdeal.main (F := Ideal))) ⟨m, fun _ => 0, g⟩ (fun r => (∀ c : Dev Cert.BandStepRefIdeal.nD,
      r.2.mem ((c.tc : Thread Cert.BandStepRefIdeal.nD Cert.BandStepRefIdeal.τ).loc Cert.BandStepRefIdeal.main_arg0) = m ((c.tc : Thread Cert.BandStepRefIdeal.nD Cert.BandStepRefIdeal.τ).loc Cert.BandStepRefIdeal.main_arg0)
      ∧ r.2.mem ((c.tc : Thread Cert.BandStepRefIdeal.nD Cert.BandStepRefIdeal.τ).loc Cert.BandStepRefIdeal.main_arg1) = m ((c.tc : Thread Cert.BandStepRefIdeal.nD Cert.BandStepRefIdeal.τ).loc Cert.BandStepRefIdeal.main_arg1)
      ∧ r.2.mem ((c.tc : Thread Cert.BandStepRefIdeal.nD Cert.BandStepRefIdeal.τ).loc Cert.BandStepRefIdeal.main_arg2) = m ((c.tc : Thread Cert.BandStepRefIdeal.nD Cert.BandStepRefIdeal.τ).loc Cert.BandStepRefIdeal.main_arg2)
      ∧ r.2.mem ((c.tc : Thread Cert.BandStepRefIdeal.nD Cert.BandStepRefIdeal.τ).loc Cert.BandStepRefIdeal.main_arg3) = m ((c.tc : Thread Cert.BandStepRefIdeal.nD Cert.BandStepRefIdeal.τ).loc Cert.BandStepRefIdeal.main_arg3))
      ∧ r.2.sem = fun _ => 0)

def quiescent_BandStepRefIdeal_pre_scores [hBandStepRefIdeal : Cert.BandStepRefIdeal.Facts] [hPre_scores : Cert.Pre_scores.Facts] : Prop :=
  ∀ (m : (ℓ : Loc Cert.BandStepRefIdeal.nD Cert.BandStepRefIdeal.τ Cert.BandStepRefIdeal.sig) → Buf (Elt Ideal) ℓ) (g : Dev Cert.BandStepRefIdeal.nD → PrngReg), Pre_BandStepRefIdeal_scores m →
    θ_run (Cert.BandStepRefIdeal.defs (F := Ideal)) (onTc (τ := Cert.BandStepRefIdeal.τ) (Cert.BandStepRefIdeal.main (F := Ideal))) ⟨m, fun _ => 0, g⟩ (fun r => (∀ c : Dev Cert.BandStepRefIdeal.nD,
      r.2.mem ((c.tc : Thread Cert.BandStepRefIdeal.nD Cert.BandStepRefIdeal.τ).loc Cert.BandStepRefIdeal.main_arg0) = m ((c.tc : Thread Cert.BandStepRefIdeal.nD Cert.BandStepRefIdeal.τ).loc Cert.BandStepRefIdeal.main_arg0)
      ∧ r.2.mem ((c.tc : Thread Cert.BandStepRefIdeal.nD Cert.BandStepRefIdeal.τ).loc Cert.BandStepRefIdeal.main_arg1) = m ((c.tc : Thread Cert.BandStepRefIdeal.nD Cert.BandStepRefIdeal.τ).loc Cert.BandStepRefIdeal.main_arg1)
      ∧ r.2.mem ((c.tc : Thread Cert.BandStepRefIdeal.nD Cert.BandStepRefIdeal.τ).loc Cert.BandStepRefIdeal.main_arg2) = m ((c.tc : Thread Cert.BandStepRefIdeal.nD Cert.BandStepRefIdeal.τ).loc Cert.BandStepRefIdeal.main_arg2)
      ∧ r.2.mem ((c.tc : Thread Cert.BandStepRefIdeal.nD Cert.BandStepRefIdeal.τ).loc Cert.BandStepRefIdeal.main_arg3) = m ((c.tc : Thread Cert.BandStepRefIdeal.nD Cert.BandStepRefIdeal.τ).loc Cert.BandStepRefIdeal.main_arg3))
      ∧ r.2.sem = fun _ => 0)

def quiescent_ProjStep [hProjStep : Cert.ProjStep.Facts] : Prop :=
  ∀ (m : (ℓ : Loc Cert.ProjStep.nD Cert.ProjStep.τ Cert.ProjStep.sig) → Buf (Elt Bits) ℓ) (g : Dev Cert.ProjStep.nD → PrngReg), Pre_ProjStep m →
    θ_run (Cert.ProjStep.defs (F := Bits)) (onTc (τ := Cert.ProjStep.τ) (Cert.ProjStep.main (F := Bits))) ⟨m, fun _ => 0, g⟩ (fun r => (∀ c : Dev Cert.ProjStep.nD,
      r.2.mem ((c.tc : Thread Cert.ProjStep.nD Cert.ProjStep.τ).loc Cert.ProjStep.main_arg0) = m ((c.tc : Thread Cert.ProjStep.nD Cert.ProjStep.τ).loc Cert.ProjStep.main_arg0)
      ∧ r.2.mem ((c.tc : Thread Cert.ProjStep.nD Cert.ProjStep.τ).loc Cert.ProjStep.main_arg1) = m ((c.tc : Thread Cert.ProjStep.nD Cert.ProjStep.τ).loc Cert.ProjStep.main_arg1)
      ∧ r.2.mem ((c.tc : Thread Cert.ProjStep.nD Cert.ProjStep.τ).loc Cert.ProjStep.main_arg2) = m ((c.tc : Thread Cert.ProjStep.nD Cert.ProjStep.τ).loc Cert.ProjStep.main_arg2)
      ∧ r.2.mem ((c.tc : Thread Cert.ProjStep.nD Cert.ProjStep.τ).loc Cert.ProjStep.main_arg3) = m ((c.tc : Thread Cert.ProjStep.nD Cert.ProjStep.τ).loc Cert.ProjStep.main_arg3)
      ∧ r.2.mem ((c.tc : Thread Cert.ProjStep.nD Cert.ProjStep.τ).loc Cert.ProjStep.main_arg4) = m ((c.tc : Thread Cert.ProjStep.nD Cert.ProjStep.τ).loc Cert.ProjStep.main_arg4)
      ∧ r.2.mem ((c.tc : Thread Cert.ProjStep.nD Cert.ProjStep.τ).loc Cert.ProjStep.main_arg5) = m ((c.tc : Thread Cert.ProjStep.nD Cert.ProjStep.τ).loc Cert.ProjStep.main_arg5))
      ∧ r.2.sem = fun _ => 0)

def quiescent_ProjStepIdeal [hProjStepIdeal : Cert.ProjStepIdeal.Facts] : Prop :=
  ∀ (m : (ℓ : Loc Cert.ProjStepIdeal.nD Cert.ProjStepIdeal.τ Cert.ProjStepIdeal.sig) → Buf (Elt Ideal) ℓ) (g : Dev Cert.ProjStepIdeal.nD → PrngReg), Pre_ProjStepIdeal m →
    θ_run (Cert.ProjStepIdeal.defs (F := Ideal)) (onTc (τ := Cert.ProjStepIdeal.τ) (Cert.ProjStepIdeal.main (F := Ideal))) ⟨m, fun _ => 0, g⟩ (fun r => (∀ c : Dev Cert.ProjStepIdeal.nD,
      r.2.mem ((c.tc : Thread Cert.ProjStepIdeal.nD Cert.ProjStepIdeal.τ).loc Cert.ProjStepIdeal.main_arg0) = m ((c.tc : Thread Cert.ProjStepIdeal.nD Cert.ProjStepIdeal.τ).loc Cert.ProjStepIdeal.main_arg0)
      ∧ r.2.mem ((c.tc : Thread Cert.ProjStepIdeal.nD Cert.ProjStepIdeal.τ).loc Cert.ProjStepIdeal.main_arg1) = m ((c.tc : Thread Cert.ProjStepIdeal.nD Cert.ProjStepIdeal.τ).loc Cert.ProjStepIdeal.main_arg1)
      ∧ r.2.mem ((c.tc : Thread Cert.ProjStepIdeal.nD Cert.ProjStepIdeal.τ).loc Cert.ProjStepIdeal.main_arg2) = m ((c.tc : Thread Cert.ProjStepIdeal.nD Cert.ProjStepIdeal.τ).loc Cert.ProjStepIdeal.main_arg2)
      ∧ r.2.mem ((c.tc : Thread Cert.ProjStepIdeal.nD Cert.ProjStepIdeal.τ).loc Cert.ProjStepIdeal.main_arg3) = m ((c.tc : Thread Cert.ProjStepIdeal.nD Cert.ProjStepIdeal.τ).loc Cert.ProjStepIdeal.main_arg3)
      ∧ r.2.mem ((c.tc : Thread Cert.ProjStepIdeal.nD Cert.ProjStepIdeal.τ).loc Cert.ProjStepIdeal.main_arg4) = m ((c.tc : Thread Cert.ProjStepIdeal.nD Cert.ProjStepIdeal.τ).loc Cert.ProjStepIdeal.main_arg4)
      ∧ r.2.mem ((c.tc : Thread Cert.ProjStepIdeal.nD Cert.ProjStepIdeal.τ).loc Cert.ProjStepIdeal.main_arg5) = m ((c.tc : Thread Cert.ProjStepIdeal.nD Cert.ProjStepIdeal.τ).loc Cert.ProjStepIdeal.main_arg5))
      ∧ r.2.sem = fun _ => 0)

def quiescent_ProjStepRefIdeal [hProjStepRefIdeal : Cert.ProjStepRefIdeal.Facts] : Prop :=
  ∀ (m : (ℓ : Loc Cert.ProjStepRefIdeal.nD Cert.ProjStepRefIdeal.τ Cert.ProjStepRefIdeal.sig) → Buf (Elt Ideal) ℓ) (g : Dev Cert.ProjStepRefIdeal.nD → PrngReg), Pre_ProjStepRefIdeal m →
    θ_run (Cert.ProjStepRefIdeal.defs (F := Ideal)) (onTc (τ := Cert.ProjStepRefIdeal.τ) (Cert.ProjStepRefIdeal.main (F := Ideal))) ⟨m, fun _ => 0, g⟩ (fun r => (∀ c : Dev Cert.ProjStepRefIdeal.nD,
      r.2.mem ((c.tc : Thread Cert.ProjStepRefIdeal.nD Cert.ProjStepRefIdeal.τ).loc Cert.ProjStepRefIdeal.main_arg0) = m ((c.tc : Thread Cert.ProjStepRefIdeal.nD Cert.ProjStepRefIdeal.τ).loc Cert.ProjStepRefIdeal.main_arg0)
      ∧ r.2.mem ((c.tc : Thread Cert.ProjStepRefIdeal.nD Cert.ProjStepRefIdeal.τ).loc Cert.ProjStepRefIdeal.main_arg1) = m ((c.tc : Thread Cert.ProjStepRefIdeal.nD Cert.ProjStepRefIdeal.τ).loc Cert.ProjStepRefIdeal.main_arg1)
      ∧ r.2.mem ((c.tc : Thread Cert.ProjStepRefIdeal.nD Cert.ProjStepRefIdeal.τ).loc Cert.ProjStepRefIdeal.main_arg2) = m ((c.tc : Thread Cert.ProjStepRefIdeal.nD Cert.ProjStepRefIdeal.τ).loc Cert.ProjStepRefIdeal.main_arg2)
      ∧ r.2.mem ((c.tc : Thread Cert.ProjStepRefIdeal.nD Cert.ProjStepRefIdeal.τ).loc Cert.ProjStepRefIdeal.main_arg3) = m ((c.tc : Thread Cert.ProjStepRefIdeal.nD Cert.ProjStepRefIdeal.τ).loc Cert.ProjStepRefIdeal.main_arg3)
      ∧ r.2.mem ((c.tc : Thread Cert.ProjStepRefIdeal.nD Cert.ProjStepRefIdeal.τ).loc Cert.ProjStepRefIdeal.main_arg4) = m ((c.tc : Thread Cert.ProjStepRefIdeal.nD Cert.ProjStepRefIdeal.τ).loc Cert.ProjStepRefIdeal.main_arg4)
      ∧ r.2.mem ((c.tc : Thread Cert.ProjStepRefIdeal.nD Cert.ProjStepRefIdeal.τ).loc Cert.ProjStepRefIdeal.main_arg5) = m ((c.tc : Thread Cert.ProjStepRefIdeal.nD Cert.ProjStepRefIdeal.τ).loc Cert.ProjStepRefIdeal.main_arg5))
      ∧ r.2.sem = fun _ => 0)

def preserves_Stick_StickIdeal : Prop :=
  IdealRules.named_const.Statement Cert.StickIdeal.κ "mask" .f32 0xF149F2CA#32 ⊥

def algebraic_StickIdeal_StickRefIdeal_pre_finite [hStickIdeal : Cert.StickIdeal.Facts] [hStickRefIdeal : Cert.StickRefIdeal.Facts] [hPre_finite : Cert.Pre_finite.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_finite m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)) →
    ∃ (v0 : (c : Dev Cert.StickIdeal.nD) → Buf (Elt Ideal) ((c.tc : Thread Cert.StickIdeal.nD Cert.StickIdeal.τ).loc Cert.StickIdeal.main_v0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v26) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0))

def preserves_Moe_MoeIdeal : Prop :=
  True

def algebraic_MoeIdeal_MoeRefIdeal [hMoeIdeal : Cert.MoeIdeal.Facts] [hMoeRefIdeal : Cert.MoeRefIdeal.Facts] [hPre_tables : Cert.Pre_tables.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v32) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)) (v4 : (c : Dev Cert.ProjIdeal.nD) → Buf (Elt Ideal) ((c.tc : Thread Cert.ProjIdeal.nD Cert.ProjIdeal.τ).loc Cert.ProjIdeal.main_v9_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_v9_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v70) = v0 c
          ∧ r.2.mem ((c.tc : Thread Cert.ProjRefIdeal.nD Cert.ProjRefIdeal.τ).loc Cert.ProjRefIdeal.main_v71) = v1 c
          ∧ r.2.mem ((c.tc : Thread Cert.ProjRefIdeal.nD Cert.ProjRefIdeal.τ).loc Cert.ProjRefIdeal.main_v72) = v2 c
          ∧ r.2.mem ((c.tc : Thread Cert.ProjRefIdeal.nD Cert.ProjRefIdeal.τ).loc Cert.ProjRefIdeal.main_v73) = v3 c
          ∧ r.2.mem ((c.tc : Thread Cert.ProjRefIdeal.nD Cert.ProjRefIdeal.τ).loc Cert.ProjRefIdeal.main_v74) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v6)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v6) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v9) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v7)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v7) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v15) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_FinalStep_FinalStepIdeal : Prop :=
  True

def algebraic_FinalStepIdeal_FinalStepRefIdeal [hFinalStepIdeal : Cert.FinalStepIdeal.Facts] [hFinalStepRefIdeal : Cert.FinalStepRefIdeal.Facts] : Prop :=
  ∀ (m : (ℓ : Loc Cert.FinalStepIdeal.nD Cert.FinalStepIdeal.τ Cert.FinalStepIdeal.sig) → Buf (Elt Ideal) ℓ) (g : Dev Cert.FinalStepIdeal.nD → PrngReg)
    (m' : (ℓ : Loc Cert.FinalStepRefIdeal.nD Cert.FinalStepRefIdeal.τ Cert.FinalStepRefIdeal.sig) → Buf (Elt Ideal) ℓ) (g' : Dev Cert.FinalStepRefIdeal.nD → PrngReg), Pre_FinalStepIdeal m →
    (∀ c : Dev Cert.FinalStepIdeal.nD,
      m' ((c.tc : Thread Cert.FinalStepRefIdeal.nD Cert.FinalStepRefIdeal.τ).loc Cert.FinalStepRefIdeal.main_arg0) = m ((c.tc : Thread Cert.FinalStepIdeal.nD Cert.FinalStepIdeal.τ).loc Cert.FinalStepIdeal.main_arg0)
      ∧ m' ((c.tc : Thread Cert.FinalStepRefIdeal.nD Cert.FinalStepRefIdeal.τ).loc Cert.FinalStepRefIdeal.main_arg1) = m ((c.tc : Thread Cert.FinalStepIdeal.nD Cert.FinalStepIdeal.τ).loc Cert.FinalStepIdeal.main_arg1)
      ∧ m' ((c.tc : Thread Cert.FinalStepRefIdeal.nD Cert.FinalStepRefIdeal.τ).loc Cert.FinalStepRefIdeal.main_arg2) = m ((c.tc : Thread Cert.FinalStepIdeal.nD Cert.FinalStepIdeal.τ).loc Cert.FinalStepIdeal.main_arg2)
      ∧ m' ((c.tc : Thread Cert.FinalStepRefIdeal.nD Cert.FinalStepRefIdeal.τ).loc Cert.FinalStepRefIdeal.main_arg3) = m ((c.tc : Thread Cert.FinalStepIdeal.nD Cert.FinalStepIdeal.τ).loc Cert.FinalStepIdeal.main_arg3)
      ∧ m' ((c.tc : Thread Cert.FinalStepRefIdeal.nD Cert.FinalStepRefIdeal.τ).loc Cert.FinalStepRefIdeal.main_arg4) = m ((c.tc : Thread Cert.FinalStepIdeal.nD Cert.FinalStepIdeal.τ).loc Cert.FinalStepIdeal.main_arg4)) →
    ∃ (v0 : (c : Dev Cert.FinalStepIdeal.nD) → Buf (Elt Ideal) ((c.tc : Thread Cert.FinalStepIdeal.nD Cert.FinalStepIdeal.τ).loc Cert.FinalStepIdeal.main_v5)),
      θ_run (Cert.FinalStepIdeal.defs (F := Ideal)) (onTc (τ := Cert.FinalStepIdeal.τ) (Cert.FinalStepIdeal.main (F := Ideal))) ⟨m, fun _ => 0, g⟩ (fun r => ∀ c : Dev Cert.FinalStepIdeal.nD,
          r.2.mem ((c.tc : Thread Cert.FinalStepIdeal.nD Cert.FinalStepIdeal.τ).loc Cert.FinalStepIdeal.main_v5) = v0 c
          ∧ r.2.mem ((c.tc : Thread Cert.FinalStepIdeal.nD Cert.FinalStepIdeal.τ).loc Cert.FinalStepIdeal.main_arg0) = m ((c.tc : Thread Cert.FinalStepIdeal.nD Cert.FinalStepIdeal.τ).loc Cert.FinalStepIdeal.main_arg0)
          ∧ r.2.mem ((c.tc : Thread Cert.FinalStepIdeal.nD Cert.FinalStepIdeal.τ).loc Cert.FinalStepIdeal.main_arg1) = m ((c.tc : Thread Cert.FinalStepIdeal.nD Cert.FinalStepIdeal.τ).loc Cert.FinalStepIdeal.main_arg1)
          ∧ r.2.mem ((c.tc : Thread Cert.FinalStepIdeal.nD Cert.FinalStepIdeal.τ).loc Cert.FinalStepIdeal.main_arg2) = m ((c.tc : Thread Cert.FinalStepIdeal.nD Cert.FinalStepIdeal.τ).loc Cert.FinalStepIdeal.main_arg2)
          ∧ r.2.mem ((c.tc : Thread Cert.FinalStepIdeal.nD Cert.FinalStepIdeal.τ).loc Cert.FinalStepIdeal.main_arg3) = m ((c.tc : Thread Cert.FinalStepIdeal.nD Cert.FinalStepIdeal.τ).loc Cert.FinalStepIdeal.main_arg3)
          ∧ r.2.mem ((c.tc : Thread Cert.FinalStepIdeal.nD Cert.FinalStepIdeal.τ).loc Cert.FinalStepIdeal.main_arg4) = m ((c.tc : Thread Cert.FinalStepIdeal.nD Cert.FinalStepIdeal.τ).loc Cert.FinalStepIdeal.main_arg4))
      ∧ θ_run (Cert.FinalStepRefIdeal.defs (F := Ideal)) (onTc (τ := Cert.FinalStepRefIdeal.τ) (Cert.FinalStepRefIdeal.main (F := Ideal))) ⟨m', fun _ => 0, g'⟩ (fun r => ∀ c : Dev Cert.FinalStepRefIdeal.nD,
          r.2.mem ((c.tc : Thread Cert.FinalStepRefIdeal.nD Cert.FinalStepRefIdeal.τ).loc Cert.FinalStepRefIdeal.main_v13) = v0 c
          ∧ r.2.mem ((c.tc : Thread Cert.FinalStepRefIdeal.nD Cert.FinalStepRefIdeal.τ).loc Cert.FinalStepRefIdeal.main_arg0) = m' ((c.tc : Thread Cert.FinalStepRefIdeal.nD Cert.FinalStepRefIdeal.τ).loc Cert.FinalStepRefIdeal.main_arg0)
          ∧ r.2.mem ((c.tc : Thread Cert.FinalStepRefIdeal.nD Cert.FinalStepRefIdeal.τ).loc Cert.FinalStepRefIdeal.main_arg1) = m' ((c.tc : Thread Cert.FinalStepRefIdeal.nD Cert.FinalStepRefIdeal.τ).loc Cert.FinalStepRefIdeal.main_arg1)
          ∧ r.2.mem ((c.tc : Thread Cert.FinalStepRefIdeal.nD Cert.FinalStepRefIdeal.τ).loc Cert.FinalStepRefIdeal.main_arg2) = m' ((c.tc : Thread Cert.FinalStepRefIdeal.nD Cert.FinalStepRefIdeal.τ).loc Cert.FinalStepRefIdeal.main_arg2)
          ∧ r.2.mem ((c.tc : Thread Cert.FinalStepRefIdeal.nD Cert.FinalStepRefIdeal.τ).loc Cert.FinalStepRefIdeal.main_arg3) = m' ((c.tc : Thread Cert.FinalStepRefIdeal.nD Cert.FinalStepRefIdeal.τ).loc Cert.FinalStepRefIdeal.main_arg3)
          ∧ r.2.mem ((c.tc : Thread Cert.FinalStepRefIdeal.nD Cert.FinalStepRefIdeal.τ).loc Cert.FinalStepRefIdeal.main_arg4) = m' ((c.tc : Thread Cert.FinalStepRefIdeal.nD Cert.FinalStepRefIdeal.τ).loc Cert.FinalStepRefIdeal.main_arg4))

def preserves_BandStep_BandStepIdeal : Prop :=
  True

def algebraic_BandStepIdeal_BandStepRefIdeal_pre_scores [hBandStepIdeal : Cert.BandStepIdeal.Facts] [hBandStepRefIdeal : Cert.BandStepRefIdeal.Facts] [hPre_scores : Cert.Pre_scores.Facts] : Prop :=
  ∀ (m : (ℓ : Loc Cert.BandStepIdeal.nD Cert.BandStepIdeal.τ Cert.BandStepIdeal.sig) → Buf (Elt Ideal) ℓ) (g : Dev Cert.BandStepIdeal.nD → PrngReg)
    (m' : (ℓ : Loc Cert.BandStepRefIdeal.nD Cert.BandStepRefIdeal.τ Cert.BandStepRefIdeal.sig) → Buf (Elt Ideal) ℓ) (g' : Dev Cert.BandStepRefIdeal.nD → PrngReg), Pre_BandStepIdeal_scores m →
    (∀ c : Dev Cert.BandStepIdeal.nD,
      m' ((c.tc : Thread Cert.BandStepRefIdeal.nD Cert.BandStepRefIdeal.τ).loc Cert.BandStepRefIdeal.main_arg0) = m ((c.tc : Thread Cert.BandStepIdeal.nD Cert.BandStepIdeal.τ).loc Cert.BandStepIdeal.main_arg0)
      ∧ m' ((c.tc : Thread Cert.BandStepRefIdeal.nD Cert.BandStepRefIdeal.τ).loc Cert.BandStepRefIdeal.main_arg1) = m ((c.tc : Thread Cert.BandStepIdeal.nD Cert.BandStepIdeal.τ).loc Cert.BandStepIdeal.main_arg1)
      ∧ m' ((c.tc : Thread Cert.BandStepRefIdeal.nD Cert.BandStepRefIdeal.τ).loc Cert.BandStepRefIdeal.main_arg2) = m ((c.tc : Thread Cert.BandStepIdeal.nD Cert.BandStepIdeal.τ).loc Cert.BandStepIdeal.main_arg2)
      ∧ m' ((c.tc : Thread Cert.BandStepRefIdeal.nD Cert.BandStepRefIdeal.τ).loc Cert.BandStepRefIdeal.main_arg3) = m ((c.tc : Thread Cert.BandStepIdeal.nD Cert.BandStepIdeal.τ).loc Cert.BandStepIdeal.main_arg3)) →
    ∃ (v0 : (c : Dev Cert.BandStepIdeal.nD) → Buf (Elt Ideal) ((c.tc : Thread Cert.BandStepIdeal.nD Cert.BandStepIdeal.τ).loc Cert.BandStepIdeal.main_v3)),
      θ_run (Cert.BandStepIdeal.defs (F := Ideal)) (onTc (τ := Cert.BandStepIdeal.τ) (Cert.BandStepIdeal.main (F := Ideal))) ⟨m, fun _ => 0, g⟩ (fun r => ∀ c : Dev Cert.BandStepIdeal.nD,
          r.2.mem ((c.tc : Thread Cert.BandStepIdeal.nD Cert.BandStepIdeal.τ).loc Cert.BandStepIdeal.main_v3) = v0 c
          ∧ r.2.mem ((c.tc : Thread Cert.BandStepIdeal.nD Cert.BandStepIdeal.τ).loc Cert.BandStepIdeal.main_arg0) = m ((c.tc : Thread Cert.BandStepIdeal.nD Cert.BandStepIdeal.τ).loc Cert.BandStepIdeal.main_arg0)
          ∧ r.2.mem ((c.tc : Thread Cert.BandStepIdeal.nD Cert.BandStepIdeal.τ).loc Cert.BandStepIdeal.main_arg1) = m ((c.tc : Thread Cert.BandStepIdeal.nD Cert.BandStepIdeal.τ).loc Cert.BandStepIdeal.main_arg1)
          ∧ r.2.mem ((c.tc : Thread Cert.BandStepIdeal.nD Cert.BandStepIdeal.τ).loc Cert.BandStepIdeal.main_arg2) = m ((c.tc : Thread Cert.BandStepIdeal.nD Cert.BandStepIdeal.τ).loc Cert.BandStepIdeal.main_arg2)
          ∧ r.2.mem ((c.tc : Thread Cert.BandStepIdeal.nD Cert.BandStepIdeal.τ).loc Cert.BandStepIdeal.main_arg3) = m ((c.tc : Thread Cert.BandStepIdeal.nD Cert.BandStepIdeal.τ).loc Cert.BandStepIdeal.main_arg3))
      ∧ θ_run (Cert.BandStepRefIdeal.defs (F := Ideal)) (onTc (τ := Cert.BandStepRefIdeal.τ) (Cert.BandStepRefIdeal.main (F := Ideal))) ⟨m', fun _ => 0, g'⟩ (fun r => ∀ c : Dev Cert.BandStepRefIdeal.nD,
          r.2.mem ((c.tc : Thread Cert.BandStepRefIdeal.nD Cert.BandStepRefIdeal.τ).loc Cert.BandStepRefIdeal.main_v30) = v0 c
          ∧ r.2.mem ((c.tc : Thread Cert.BandStepRefIdeal.nD Cert.BandStepRefIdeal.τ).loc Cert.BandStepRefIdeal.main_arg0) = m' ((c.tc : Thread Cert.BandStepRefIdeal.nD Cert.BandStepRefIdeal.τ).loc Cert.BandStepRefIdeal.main_arg0)
          ∧ r.2.mem ((c.tc : Thread Cert.BandStepRefIdeal.nD Cert.BandStepRefIdeal.τ).loc Cert.BandStepRefIdeal.main_arg1) = m' ((c.tc : Thread Cert.BandStepRefIdeal.nD Cert.BandStepRefIdeal.τ).loc Cert.BandStepRefIdeal.main_arg1)
          ∧ r.2.mem ((c.tc : Thread Cert.BandStepRefIdeal.nD Cert.BandStepRefIdeal.τ).loc Cert.BandStepRefIdeal.main_arg2) = m' ((c.tc : Thread Cert.BandStepRefIdeal.nD Cert.BandStepRefIdeal.τ).loc Cert.BandStepRefIdeal.main_arg2)
          ∧ r.2.mem ((c.tc : Thread Cert.BandStepRefIdeal.nD Cert.BandStepRefIdeal.τ).loc Cert.BandStepRefIdeal.main_arg3) = m' ((c.tc : Thread Cert.BandStepRefIdeal.nD Cert.BandStepRefIdeal.τ).loc Cert.BandStepRefIdeal.main_arg3))

def preserves_ProjStep_ProjStepIdeal : Prop :=
  True

def algebraic_ProjStepIdeal_ProjStepRefIdeal [hProjStepIdeal : Cert.ProjStepIdeal.Facts] [hProjStepRefIdeal : Cert.ProjStepRefIdeal.Facts] : Prop :=
  ∀ (m : (ℓ : Loc Cert.ProjStepIdeal.nD Cert.ProjStepIdeal.τ Cert.ProjStepIdeal.sig) → Buf (Elt Ideal) ℓ) (g : Dev Cert.ProjStepIdeal.nD → PrngReg)
    (m' : (ℓ : Loc Cert.ProjStepRefIdeal.nD Cert.ProjStepRefIdeal.τ Cert.ProjStepRefIdeal.sig) → Buf (Elt Ideal) ℓ) (g' : Dev Cert.ProjStepRefIdeal.nD → PrngReg), Pre_ProjStepIdeal m →
    (∀ c : Dev Cert.ProjStepIdeal.nD,
      m' ((c.tc : Thread Cert.ProjStepRefIdeal.nD Cert.ProjStepRefIdeal.τ).loc Cert.ProjStepRefIdeal.main_arg0) = m ((c.tc : Thread Cert.ProjStepIdeal.nD Cert.ProjStepIdeal.τ).loc Cert.ProjStepIdeal.main_arg0)
      ∧ m' ((c.tc : Thread Cert.ProjStepRefIdeal.nD Cert.ProjStepRefIdeal.τ).loc Cert.ProjStepRefIdeal.main_arg1) = m ((c.tc : Thread Cert.ProjStepIdeal.nD Cert.ProjStepIdeal.τ).loc Cert.ProjStepIdeal.main_arg1)
      ∧ m' ((c.tc : Thread Cert.ProjStepRefIdeal.nD Cert.ProjStepRefIdeal.τ).loc Cert.ProjStepRefIdeal.main_arg2) = m ((c.tc : Thread Cert.ProjStepIdeal.nD Cert.ProjStepIdeal.τ).loc Cert.ProjStepIdeal.main_arg2)
      ∧ m' ((c.tc : Thread Cert.ProjStepRefIdeal.nD Cert.ProjStepRefIdeal.τ).loc Cert.ProjStepRefIdeal.main_arg3) = m ((c.tc : Thread Cert.ProjStepIdeal.nD Cert.ProjStepIdeal.τ).loc Cert.ProjStepIdeal.main_arg3)
      ∧ m' ((c.tc : Thread Cert.ProjStepRefIdeal.nD Cert.ProjStepRefIdeal.τ).loc Cert.ProjStepRefIdeal.main_arg4) = m ((c.tc : Thread Cert.ProjStepIdeal.nD Cert.ProjStepIdeal.τ).loc Cert.ProjStepIdeal.main_arg4)
      ∧ m' ((c.tc : Thread Cert.ProjStepRefIdeal.nD Cert.ProjStepRefIdeal.τ).loc Cert.ProjStepRefIdeal.main_arg5) = m ((c.tc : Thread Cert.ProjStepIdeal.nD Cert.ProjStepIdeal.τ).loc Cert.ProjStepIdeal.main_arg5)) →
    ∃ (v0 : (c : Dev Cert.ProjStepIdeal.nD) → Buf (Elt Ideal) ((c.tc : Thread Cert.ProjStepIdeal.nD Cert.ProjStepIdeal.τ).loc Cert.ProjStepIdeal.main_v6_0)) (v1 : (c : Dev Cert.ProjStepIdeal.nD) → Buf (Elt Ideal) ((c.tc : Thread Cert.ProjStepIdeal.nD Cert.ProjStepIdeal.τ).loc Cert.ProjStepIdeal.main_v6_1)) (v2 : (c : Dev Cert.ProjStepIdeal.nD) → Buf (Elt Ideal) ((c.tc : Thread Cert.ProjStepIdeal.nD Cert.ProjStepIdeal.τ).loc Cert.ProjStepIdeal.main_v6_2)) (v3 : (c : Dev Cert.ProjStepIdeal.nD) → Buf (Elt Ideal) ((c.tc : Thread Cert.ProjStepIdeal.nD Cert.ProjStepIdeal.τ).loc Cert.ProjStepIdeal.main_v6_3)) (v4 : (c : Dev Cert.ProjStepIdeal.nD) → Buf (Elt Ideal) ((c.tc : Thread Cert.ProjStepIdeal.nD Cert.ProjStepIdeal.τ).loc Cert.ProjStepIdeal.main_v6_4)),
      θ_run (Cert.ProjStepIdeal.defs (F := Ideal)) (onTc (τ := Cert.ProjStepIdeal.τ) (Cert.ProjStepIdeal.main (F := Ideal))) ⟨m, fun _ => 0, g⟩ (fun r => ∀ c : Dev Cert.ProjStepIdeal.nD,
          r.2.mem ((c.tc : Thread Cert.ProjStepIdeal.nD Cert.ProjStepIdeal.τ).loc Cert.ProjStepIdeal.main_v6_0) = v0 c
          ∧ r.2.mem ((c.tc : Thread Cert.ProjStepIdeal.nD Cert.ProjStepIdeal.τ).loc Cert.ProjStepIdeal.main_v6_1) = v1 c
          ∧ r.2.mem ((c.tc : Thread Cert.ProjStepIdeal.nD Cert.ProjStepIdeal.τ).loc Cert.ProjStepIdeal.main_v6_2) = v2 c
          ∧ r.2.mem ((c.tc : Thread Cert.ProjStepIdeal.nD Cert.ProjStepIdeal.τ).loc Cert.ProjStepIdeal.main_v6_3) = v3 c
          ∧ r.2.mem ((c.tc : Thread Cert.ProjStepIdeal.nD Cert.ProjStepIdeal.τ).loc Cert.ProjStepIdeal.main_v6_4) = v4 c
          ∧ r.2.mem ((c.tc : Thread Cert.ProjStepIdeal.nD Cert.ProjStepIdeal.τ).loc Cert.ProjStepIdeal.main_arg0) = m ((c.tc : Thread Cert.ProjStepIdeal.nD Cert.ProjStepIdeal.τ).loc Cert.ProjStepIdeal.main_arg0)
          ∧ r.2.mem ((c.tc : Thread Cert.ProjStepIdeal.nD Cert.ProjStepIdeal.τ).loc Cert.ProjStepIdeal.main_arg1) = m ((c.tc : Thread Cert.ProjStepIdeal.nD Cert.ProjStepIdeal.τ).loc Cert.ProjStepIdeal.main_arg1)
          ∧ r.2.mem ((c.tc : Thread Cert.ProjStepIdeal.nD Cert.ProjStepIdeal.τ).loc Cert.ProjStepIdeal.main_arg2) = m ((c.tc : Thread Cert.ProjStepIdeal.nD Cert.ProjStepIdeal.τ).loc Cert.ProjStepIdeal.main_arg2)
          ∧ r.2.mem ((c.tc : Thread Cert.ProjStepIdeal.nD Cert.ProjStepIdeal.τ).loc Cert.ProjStepIdeal.main_arg3) = m ((c.tc : Thread Cert.ProjStepIdeal.nD Cert.ProjStepIdeal.τ).loc Cert.ProjStepIdeal.main_arg3)
          ∧ r.2.mem ((c.tc : Thread Cert.ProjStepIdeal.nD Cert.ProjStepIdeal.τ).loc Cert.ProjStepIdeal.main_arg4) = m ((c.tc : Thread Cert.ProjStepIdeal.nD Cert.ProjStepIdeal.τ).loc Cert.ProjStepIdeal.main_arg4)
          ∧ r.2.mem ((c.tc : Thread Cert.ProjStepIdeal.nD Cert.ProjStepIdeal.τ).loc Cert.ProjStepIdeal.main_arg5) = m ((c.tc : Thread Cert.ProjStepIdeal.nD Cert.ProjStepIdeal.τ).loc Cert.ProjStepIdeal.main_arg5))
      ∧ θ_run (Cert.ProjStepRefIdeal.defs (F := Ideal)) (onTc (τ := Cert.ProjStepRefIdeal.τ) (Cert.ProjStepRefIdeal.main (F := Ideal))) ⟨m', fun _ => 0, g'⟩ (fun r => ∀ c : Dev Cert.ProjStepRefIdeal.nD,
          r.2.mem ((c.tc : Thread Cert.ProjStepRefIdeal.nD Cert.ProjStepRefIdeal.τ).loc Cert.ProjStepRefIdeal.main_v70) = v0 c
          ∧ r.2.mem ((c.tc : Thread Cert.ProjStepRefIdeal.nD Cert.ProjStepRefIdeal.τ).loc Cert.ProjStepRefIdeal.main_v71) = v1 c
          ∧ r.2.mem ((c.tc : Thread Cert.ProjStepRefIdeal.nD Cert.ProjStepRefIdeal.τ).loc Cert.ProjStepRefIdeal.main_v72) = v2 c
          ∧ r.2.mem ((c.tc : Thread Cert.ProjStepRefIdeal.nD Cert.ProjStepRefIdeal.τ).loc Cert.ProjStepRefIdeal.main_v73) = v3 c
          ∧ r.2.mem ((c.tc : Thread Cert.ProjStepRefIdeal.nD Cert.ProjStepRefIdeal.τ).loc Cert.ProjStepRefIdeal.main_v74) = v4 c
          ∧ r.2.mem ((c.tc : Thread Cert.ProjStepRefIdeal.nD Cert.ProjStepRefIdeal.τ).loc Cert.ProjStepRefIdeal.main_arg0) = m' ((c.tc : Thread Cert.ProjStepRefIdeal.nD Cert.ProjStepRefIdeal.τ).loc Cert.ProjStepRefIdeal.main_arg0)
          ∧ r.2.mem ((c.tc : Thread Cert.ProjStepRefIdeal.nD Cert.ProjStepRefIdeal.τ).loc Cert.ProjStepRefIdeal.main_arg1) = m' ((c.tc : Thread Cert.ProjStepRefIdeal.nD Cert.ProjStepRefIdeal.τ).loc Cert.ProjStepRefIdeal.main_arg1)
          ∧ r.2.mem ((c.tc : Thread Cert.ProjStepRefIdeal.nD Cert.ProjStepRefIdeal.τ).loc Cert.ProjStepRefIdeal.main_arg2) = m' ((c.tc : Thread Cert.ProjStepRefIdeal.nD Cert.ProjStepRefIdeal.τ).loc Cert.ProjStepRefIdeal.main_arg2)
          ∧ r.2.mem ((c.tc : Thread Cert.ProjStepRefIdeal.nD Cert.ProjStepRefIdeal.τ).loc Cert.ProjStepRefIdeal.main_arg3) = m' ((c.tc : Thread Cert.ProjStepRefIdeal.nD Cert.ProjStepRefIdeal.τ).loc Cert.ProjStepRefIdeal.main_arg3)
          ∧ r.2.mem ((c.tc : Thread Cert.ProjStepRefIdeal.nD Cert.ProjStepRefIdeal.τ).loc Cert.ProjStepRefIdeal.main_arg4) = m' ((c.tc : Thread Cert.ProjStepRefIdeal.nD Cert.ProjStepRefIdeal.τ).loc Cert.ProjStepRefIdeal.main_arg4)
          ∧ r.2.mem ((c.tc : Thread Cert.ProjStepRefIdeal.nD Cert.ProjStepRefIdeal.τ).loc Cert.ProjStepRefIdeal.main_arg5) = m' ((c.tc : Thread Cert.ProjStepRefIdeal.nD Cert.ProjStepRefIdeal.τ).loc Cert.ProjStepRefIdeal.main_arg5))

def Claim : Prop :=
  ∃ (hStick : Cert.Stick.Facts) (hStickIdeal : Cert.StickIdeal.Facts) (hStickRefIdeal : Cert.StickRefIdeal.Facts) (hMoe : Cert.Moe.Facts) (hMoeIdeal : Cert.MoeIdeal.Facts) (hMoeRefIdeal : Cert.MoeRefIdeal.Facts) (hProj : Cert.Proj.Facts) (hProjIdeal : Cert.ProjIdeal.Facts) (hProjRefIdeal : Cert.ProjRefIdeal.Facts) (hAda : Cert.Ada.Facts) (hAdaIdeal : Cert.AdaIdeal.Facts) (hAdaRefIdeal : Cert.AdaRefIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hFinal : Cert.Final.Facts) (hFinalIdeal : Cert.FinalIdeal.Facts) (hFinalRefIdeal : Cert.FinalRefIdeal.Facts) (hFinalStep : Cert.FinalStep.Facts) (hFinalStepIdeal : Cert.FinalStepIdeal.Facts) (hFinalStepRefIdeal : Cert.FinalStepRefIdeal.Facts) (hBandStep : Cert.BandStep.Facts) (hBandStepIdeal : Cert.BandStepIdeal.Facts) (hBandStepRefIdeal : Cert.BandStepRefIdeal.Facts) (hProjStep : Cert.ProjStep.Facts) (hProjStepIdeal : Cert.ProjStepIdeal.Facts) (hProjStepRefIdeal : Cert.ProjStepRefIdeal.Facts) (hPre_finite : Cert.Pre_finite.Facts) (hPre_tables : Cert.Pre_tables.Facts) (hPre_scores : Cert.Pre_scores.Facts),
    quiescent_Stick (hStick := hStick)
    ∧ quiescent_StickIdeal (hStickIdeal := hStickIdeal)
    ∧ quiescent_StickIdeal_pre_finite (hStickIdeal := hStickIdeal) (hPre_finite := hPre_finite)
    ∧ quiescent_StickRefIdeal (hStickRefIdeal := hStickRefIdeal)
    ∧ quiescent_StickRefIdeal_pre_finite (hStickRefIdeal := hStickRefIdeal) (hPre_finite := hPre_finite)
    ∧ quiescent_Moe (hMoe := hMoe) (hPre_tables := hPre_tables)
    ∧ quiescent_MoeIdeal (hMoeIdeal := hMoeIdeal) (hPre_tables := hPre_tables)
    ∧ quiescent_MoeRefIdeal (hMoeRefIdeal := hMoeRefIdeal)
    ∧ quiescent_MoeRefIdeal_pre_tables (hMoeRefIdeal := hMoeRefIdeal) (hPre_tables := hPre_tables)
    ∧ quiescent_Proj (hProj := hProj)
    ∧ quiescent_ProjIdeal (hProjIdeal := hProjIdeal)
    ∧ quiescent_ProjRefIdeal (hProjRefIdeal := hProjRefIdeal)
    ∧ quiescent_Ada (hAda := hAda)
    ∧ quiescent_AdaIdeal (hAdaIdeal := hAdaIdeal)
    ∧ quiescent_AdaRefIdeal (hAdaRefIdeal := hAdaRefIdeal)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Final (hFinal := hFinal)
    ∧ quiescent_FinalIdeal (hFinalIdeal := hFinalIdeal)
    ∧ quiescent_FinalRefIdeal (hFinalRefIdeal := hFinalRefIdeal)
    ∧ quiescent_FinalStep (hFinalStep := hFinalStep)
    ∧ quiescent_FinalStepIdeal (hFinalStepIdeal := hFinalStepIdeal)
    ∧ quiescent_FinalStepRefIdeal (hFinalStepRefIdeal := hFinalStepRefIdeal)
    ∧ quiescent_BandStep (hBandStep := hBandStep)
    ∧ quiescent_BandStepIdeal (hBandStepIdeal := hBandStepIdeal)
    ∧ quiescent_BandStepIdeal_pre_scores (hBandStepIdeal := hBandStepIdeal) (hPre_scores := hPre_scores)
    ∧ quiescent_BandStepRefIdeal (hBandStepRefIdeal := hBandStepRefIdeal)
    ∧ quiescent_BandStepRefIdeal_pre_scores (hBandStepRefIdeal := hBandStepRefIdeal) (hPre_scores := hPre_scores)
    ∧ quiescent_ProjStep (hProjStep := hProjStep)
    ∧ quiescent_ProjStepIdeal (hProjStepIdeal := hProjStepIdeal)
    ∧ quiescent_ProjStepRefIdeal (hProjStepRefIdeal := hProjStepRefIdeal)
    ∧ preserves_Stick_StickIdeal
    ∧ algebraic_StickIdeal_StickRefIdeal_pre_finite (hStickIdeal := hStickIdeal) (hStickRefIdeal := hStickRefIdeal) (hPre_finite := hPre_finite)
    ∧ preserves_Moe_MoeIdeal
    ∧ algebraic_MoeIdeal_MoeRefIdeal (hMoeIdeal := hMoeIdeal) (hMoeRefIdeal := hMoeRefIdeal) (hPre_tables := hPre_tables)
    ∧ preserves_Proj_ProjIdeal
    ∧ algebraic_ProjIdeal_ProjRefIdeal (hProjIdeal := hProjIdeal) (hProjRefIdeal := hProjRefIdeal)
    ∧ preserves_Ada_AdaIdeal
    ∧ algebraic_AdaIdeal_AdaRefIdeal (hAdaIdeal := hAdaIdeal) (hAdaRefIdeal := hAdaRefIdeal)
    ∧ preserves_Merge_MergeIdeal
    ∧ algebraic_MergeIdeal_MergeRefIdeal (hMergeIdeal := hMergeIdeal) (hMergeRefIdeal := hMergeRefIdeal)
    ∧ preserves_Outproj_OutprojIdeal
    ∧ algebraic_OutprojIdeal_OutprojRefIdeal (hOutprojIdeal := hOutprojIdeal) (hOutprojRefIdeal := hOutprojRefIdeal)
    ∧ preserves_Final_FinalIdeal
    ∧ algebraic_FinalIdeal_FinalRefIdeal (hFinalIdeal := hFinalIdeal) (hFinalRefIdeal := hFinalRefIdeal)
    ∧ preserves_FinalStep_FinalStepIdeal
    ∧ algebraic_FinalStepIdeal_FinalStepRefIdeal (hFinalStepIdeal := hFinalStepIdeal) (hFinalStepRefIdeal := hFinalStepRefIdeal)
    ∧ preserves_BandStep_BandStepIdeal
    ∧ algebraic_BandStepIdeal_BandStepRefIdeal_pre_scores (hBandStepIdeal := hBandStepIdeal) (hBandStepRefIdeal := hBandStepRefIdeal) (hPre_scores := hPre_scores)
    ∧ preserves_ProjStep_ProjStepIdeal
    ∧ algebraic_ProjStepIdeal_ProjStepRefIdeal (hProjStepIdeal := hProjStepIdeal) (hProjStepRefIdeal := hProjStepRefIdeal)
-- ==== Pre_finite.lean ====
abbrev S2x4096x10240 : Shape := ⟨3, ![2, 4096, 10240]⟩
abbrev S2x4096x2048 : Shape := ⟨3, ![2, 4096, 2048]⟩
abbrev S_ : Shape := ⟨0, ![]⟩

class Facts : Prop where
  slices_S2x4096x10240_S2x4096x2048_0_0_0 : S2x4096x10240.Slices ![0, 0, 0] S2x4096x2048
  bitsLt_bf16_f32 : FTy.bits .bf16 < FTy.bits .f32
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel

variable [Facts]

def fn {F : FTy → Type} [FloatOps F] (main_arg0 : FVec F S2x4096x10240 .bf16) : IVec S_ 1 :=
  let main_v0 : FVec F S2x4096x2048 .bf16 := (extractStridedSlice S2x4096x2048 ![0, 0, 0] · slices_S2x4096x10240_S2x4096x2048_0_0_0) main_arg0
  let main_v1 : FVec F S2x4096x2048 .f32 := (extf .f32 · bitsLt_bf16_f32) main_v0
  let main_v2 : FVec F S2x4096x2048 .f32 := Host.absf main_v1
  let main_cst : FVec F S_ .f32 := constant S_ .f32 0x7F800000#32
  let main_v3 : FVec F S2x4096x2048 .f32 := broadcastInDim S2x4096x2048 ![] bcast_S_S2x4096x2048 main_cst
  let main_v4 : IVec S2x4096x2048 1 := cmpf .olt main_v2 main_v3
  let main_c : IVec S_ 1 := constantI S_ 1 1#1
  let main_v5 : IVec S_ 1 := (fun x v => Host.reduce IntOp.andi x v reducesTo_S2x4096x2048_S_d0_1_2 h_S_) main_v4 main_c
  main_v5
-- ==== Pre_scores.lean ====
abbrev S2048x10240 : Shape := ⟨2, ![2048, 10240]⟩
abbrev S32x512x8x128 : Shape := ⟨4, ![32, 512, 8, 128]⟩
abbrev S8x64x576 : Shape := ⟨3, ![8, 64, 576]⟩
abbrev S2048x2048 : Shape := ⟨2, ![2048, 2048]⟩
abbrev S_ : Shape := ⟨0, ![]⟩

class Facts : Prop where
  slices_S2048x10240_S2048x2048_0_3072 : S2048x10240.Slices ![0, 3072] S2048x2048
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32x512x8x128 : S_.BroadcastsInDim S32x512x8x128 (![] : Fin 0 → Fin S32x512x8x128.rank)
  reducesTo_S32x512x8x128_S_d0_1_2_3 : S32x512x8x128.ReducesTo [0, 1, 2, 3] S_
  bcast_S_S8x64x576 : S_.BroadcastsInDim S8x64x576 (![] : Fin 0 → Fin S8x64x576.rank)
  reducesTo_S8x64x576_S_d0_1_2 : S8x64x576.ReducesTo [0, 1, 2] S_

variable [Facts]

def fn {F : FTy → Type} [FloatOps F] (main_arg0 : FVec F S2048x10240 .bf16) (main_arg1 : FVec F S32x512x8x128 .f32) (main_arg2 : FVec F S32x512x8x128 .f32) (main_arg3 : FVec F S8x64x576 .f32) : IVec S_ 1 :=
  let main_v0 : FVec F S2048x2048 .bf16 := (extractStridedSlice S2048x2048 ![0, 3072] · slices_S2048x10240_S2048x2048_0_3072) main_arg0
  let main_v1 : FVec F S2048x2048 .f32 := (extf .f32 · bitsLt_bf16_f32) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_c : IVec S_ 1 := constantI S_ 1 1#1
  let main_v5 : IVec S_ 1 := (fun x v => Host.reduce IntOp.andi x v reducesTo_S2048x2048_S_d0_1 h_S_) main_v4 main_c
  let main_v6 : FVec F S32x512x8x128 .f32 := Host.absf main_arg1
  let main_cst_0 : FVec F S_ .f32 := constant S_ .f32 0x7F800000#32
  let main_v7 : FVec F S32x512x8x128 .f32 := broadcastInDim S32x512x8x128 ![] bcast_S_S32x512x8x128 main_cst_0
  let main_v8 : IVec S32x512x8x128 1 := cmpf .olt main_v6 main_v7
  let main_c_1 : IVec S_ 1 := constantI S_ 1 1#1
  let main_v9 : IVec S_ 1 := (fun x v => Host.reduce IntOp.andi x v reducesTo_S32x512x8x128_S_d0_1_2_3 h_S_) main_v8 main_c_1
  let main_v10 : IVec S_ 1 := andi main_v5 main_v9
  let main_v11 : FVec F S8x64x576 .f32 := Host.absf main_arg3
  let main_cst_2 : FVec F S_ .f32 := constant S_ .f32 0x7F800000#32
  let main_v12 : FVec F S8x64x576 .f32 := broadcastInDim S8x64x576 ![] bcast_S_S8x64x576 main_cst_2
  let main_v13 : IVec S8x64x576 1 := cmpf .olt main_v11 main_v12
  let main_c_3 : IVec S_ 1 := constantI S_ 1 1#1
  let main_v14 : IVec S_ 1 := (fun x v => Host.reduce IntOp.andi x v reducesTo_S8x64x576_S_d0_1_2 h_S_) main_v13 main_c_3
  let main_v15 : IVec S_ 1 := andi main_v10 main_v14
  main_v15
-- ==== Pre_tables.lean ====
abbrev S111 : Shape := ⟨1, ![111]⟩
abbrev S1 : Shape := ⟨1, ![1]⟩
abbrev S28416x2048 : Shape := ⟨2, ![28416, 2048]⟩
abbrev S32x2048x512 : Shape := ⟨3, ![32, 2048, 512]⟩
abbrev S32x512x2048 : Shape := ⟨3, ![32, 512, 2048]⟩
abbrev S_ : Shape := ⟨0, ![]⟩

class Facts : Prop where
  bcast_S_S111 : S_.BroadcastsInDim S111 (![] : Fin 0 → Fin S111.rank)
  reducesTo_S111_S_d0 : S111.ReducesTo [0] S_
  h_S_ : 0 < S_.numel
  shapeCasts_S1_S_ : S1.ShapeCasts S_

variable [Facts]

def fn {F : FTy → Type} [FloatOps F] (main_arg0 : IVec S111 32) (main_arg1 : IVec S1 32) (main_arg2 : FVec F S28416x2048 .bf16) (main_arg3 : FVec F S32x2048x512 .f32) (main_arg4 : FVec F S32x2048x512 .f32) (main_arg5 : FVec F S32x512x2048 .f32) : IVec S_ 1 :=
  let main_c : IVec S_ 32 := constantI S_ 32 0#32
  let main_v0 : IVec S111 32 := broadcastInDim S111 ![] bcast_S_S111 main_c
  let main_v1 : IVec S111 1 := cmpi .sge main_arg0 main_v0
  let main_c_0 : IVec S_ 32 := constantI S_ 32 32#32
  let main_v2 : IVec S111 32 := broadcastInDim S111 ![] bcast_S_S111 main_c_0
  let main_v3 : IVec S111 1 := cmpi .slt main_arg0 main_v2
  let main_v4 : IVec S111 1 := andi main_v1 main_v3
  let main_c_1 : IVec S_ 1 := constantI S_ 1 1#1
  let main_v5 : IVec S_ 1 := (fun x v => Host.reduce IntOp.andi x v reducesTo_S111_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 111#32
  let main_v10 : IVec S_ 1 := cmpi .sle main_v9 main_c_3
  let main_v11 : IVec S_ 1 := andi main_v8 main_v10
  main_v11
-- ==== Stick.lean ====
abbrev S2x4096x10240 : Shape := ⟨3, ![2, 4096, 10240]⟩
abbrev S2x4096x1024 : Shape := ⟨3, ![2, 4096, 1024]⟩
abbrev S1x256x128 : Shape := ⟨3, ![1, 256, 128]⟩
abbrev S1x4096x128 : Shape := ⟨3, ![1, 4096, 128]⟩
abbrev S256x128 : Shape := ⟨2, ![256, 128]⟩
abbrev S256x256 : Shape := ⟨2, ![256, 256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S2x4096x10240, .bf16⟩
  | .hbm, ⟨1, _⟩ => ⟨S2x4096x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | _, _ => ⟨S2x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c256_i32 : BitVec 32 := 256#32
  let v9 : BitVec 32 := Scalar.muli arg2 c256_i32
  v9
def k0_off1 (i : grid0.Coords) : Fin 3 → Nat :=
  let c0_3 : Index := 0#32
  let arg2 : BitVec 32 := BitVec.ofNat 32 (i 2).val
  let c256_i32 : BitVec 32 := 256#32
  let v9 : BitVec 32 := Scalar.muli arg2 c256_i32
  let v10 : BitVec 32 := v9
  let v11 : Index := Scalar.indexCast v10
  let c0_4 : Index := 0#32
  ![0, v11.toNat, 0]
@[reducible] def k0_t1_loop (i : grid0.Coords) : Scf.Loop 32 :=
  let c0_i32 : BitVec 32 := 0#32
  let arg2 : BitVec 32 := BitVec.ofNat 32 (i 2).val
  let v54 : BitVec 32 := Scalar.subi arg2 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_17 : BitVec 32 := 1#32
  ⟨c0_i32, v58, c1_i32_17⟩
def k0_mult2 (i : grid0.Coords) (k0_t1 : Fin (k0_t1_loop i).trips) : BitVec 32 :=
  let arg2 : BitVec 32 := BitVec.ofNat 32 (i 2).val
  let c1_i32_22 : BitVec 32 := 1#32
  let v65 : BitVec 32 := Scalar.subi arg2 c1_i32_22
  let c0_i32 : BitVec 32 := 0#32
  let c1_i32_17 : BitVec 32 := 1#32
  let arg7 : BitVec 32 := Scf.iv c0_i32 c1_i32_17 k0_t1
  let v66 : BitVec 32 := Scalar.subi v65 arg7
  let c256_i32_23 : BitVec 32 := 256#32
  let v67 : BitVec 32 := Scalar.muli v66 c256_i32_23
  v67
def k0_off2 (i : grid0.Coords) (k0_t1 : Fin (k0_t1_loop i).trips) : Fin 3 → Nat :=
  let c0_24 : Index := 0#32
  let arg2 : BitVec 32 := BitVec.ofNat 32 (i 2).val
  let c1_i32_22 : BitVec 32 := 1#32
  let v65 : BitVec 32 := Scalar.subi arg2 c1_i32_22
  let c0_i32 : BitVec 32 := 0#32
  let c1_i32_17 : BitVec 32 := 1#32
  let arg7 : BitVec 32 := Scf.iv c0_i32 c1_i32_17 k0_t1
  let v66 : BitVec 32 := Scalar.subi v65 arg7
  let c256_i32_23 : BitVec 32 := 256#32
  let v67 : BitVec 32 := Scalar.muli v66 c256_i32_23
  let v68 : BitVec 32 := v67
  let v69 : Index := Scalar.indexCast v68
  let c0_25 : Index := 0#32
  ![0, v69.toNat, 0]
@[reducible] def k0_t2_loop (i : grid0.Coords) : Scf.Loop 32 :=
  let c0_i32 : BitVec 32 := 0#32
  let arg2 : BitVec 32 := BitVec.ofNat 32 (i 2).val
  let v54 : BitVec 32 := Scalar.subi arg2 c0_i32
  let c1_i32 : BitVec 32 := 1#32
  let v56 : BitVec 32 := Scalar.divsi v54 c1_i32
  let v57 : BitVec 32 := Scalar.muli v56 c1_i32
  let v58 : BitVec 32 := Scalar.addi c0_i32 v57
  let v55 : BitVec 32 := Scalar.addi c0_i32 v54
  let c1_i32_18 : BitVec 32 := 1#32
  ⟨v58, v55, c1_i32_18⟩
def k0_mult3 (i : grid0.Coords) (k0_t2 : Fin (k0_t2_loop i).trips) : BitVec 32 :=
  let arg2 : BitVec 32 := BitVec.ofNat 32 (i 2).val
  let c1_i32_22 : BitVec 32 := 1#32
  let v65 : BitVec 32 := Scalar.subi arg2 c1_i32_22
  let c0_i32 : BitVec 32 := 0#32
  let v54 : BitVec 32 := Scalar.subi arg2 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_18 : BitVec 32 := 1#32
  let arg7 : BitVec 32 := Scf.iv v58 c1_i32_18 k0_t2
  let v66 : BitVec 32 := Scalar.subi v65 arg7
  let c256_i32_23 : BitVec 32 := 256#32
  let v67 : BitVec 32 := Scalar.muli v66 c256_i32_23
  v67
def k0_off3 (i : grid0.Coords) (k0_t2 : Fin (k0_t2_loop i).trips) : Fin 3 → Nat :=
  let c0_24 : Index := 0#32
  let arg2 : BitVec 32 := BitVec.ofNat 32 (i 2).val
  let c1_i32_22 : BitVec 32 := 1#32
  let v65 : BitVec 32 := Scalar.subi arg2 c1_i32_22
  let c0_i32 : BitVec 32 := 0#32
  let v54 : BitVec 32 := Scalar.subi arg2 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_18 : BitVec 32 := 1#32
  let arg7 : BitVec 32 := Scf.iv v58 c1_i32_18 k0_t2
  let v66 : BitVec 32 := Scalar.subi v65 arg7
  let c256_i32_23 : BitVec 32 := 256#32
  let v67 : BitVec 32 := Scalar.muli v66 c256_i32_23
  let v68 : BitVec 32 := v67
  let v69 : Index := Scalar.indexCast v68
  let c0_25 : Index := 0#32
  ![0, v69.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== StickIdeal.lean ====
variable {F : FTy → Type} [FloatOps F] [Named F]
def κ : String → Option EReal := fun
  | "mask" => some ⊥
  | _ => none
-- ==== StickRefIdeal.lean ====
abbrev S2x4096x10240 : Shape := ⟨3, ![2, 4096, 10240]⟩
abbrev S2x4096x1024 : Shape := ⟨3, ![2, 4096, 1024]⟩
abbrev S2x4096x8x128 : Shape := ⟨4, ![2, 4096, 8, 128]⟩
abbrev S4096 : Shape := ⟨1, ![4096]⟩
abbrev S2x8x4096x4096 : Shape := ⟨4, ![2, 8, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x8x128x4096 : Shape := ⟨4, ![2, 8, 128, 4096]⟩

abbrev nBuf : Space → Nat
  | .hbm => 68
  | .vmem => 0
  | .smem => 0
  | _ => 0

abbrev bufTy : (tb : Table) → Fin (tcTables nBuf tb) → BufTy
  | .hbm, ⟨0, _⟩ => ⟨S2x4096x10240, .bf16⟩
  | .hbm, ⟨1, _⟩ => ⟨S2x4096x10240, .f32⟩
  | .hbm, ⟨2, _⟩ => ⟨S2x4096x1024, .f32⟩
  | .hbm, ⟨3, _⟩ => ⟨S2x4096x8x128, .f32⟩
  | .hbm, ⟨4, _⟩ => ⟨S2x4096x1024, .f32⟩
  | .hbm, ⟨5, _⟩ => ⟨S2x4096x8x128, .f32⟩
  | .hbm, ⟨6, _⟩ => ⟨S2x4096x1024, .f32⟩
  | .hbm, ⟨7, _⟩ => ⟨S2x4096x8x128, .f32⟩
  | .hbm, ⟨8, _⟩ => ⟨S4096, .i32⟩
  | .hbm, ⟨9, _⟩ => ⟨S2x8x4096x4096, .f32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S2x8x4096x4096, .f32⟩
  | .hbm, ⟨16, _⟩ => ⟨S2x8x4096x4096, .f32⟩
  | .hbm, ⟨17, _⟩ => ⟨S_, .f32⟩
  | .hbm, ⟨18, _⟩ => ⟨S2x8x4096x4096, .f32⟩
  | .hbm, ⟨19, _⟩ => ⟨S2x8x4096x4096, .f32⟩
  | .hbm, ⟨20, _⟩ => ⟨S2x8x4096x4096, .f32⟩
  | .hbm, ⟨21, _⟩ => ⟨S2x8x4096x4096, .f32⟩
  | .hbm, ⟨22, _⟩ => ⟨S2x8x4096x4096, .i1⟩
  | .hbm, ⟨23, _⟩ => ⟨S2x8x4096x4096, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S_, .f32⟩
  | .hbm, ⟨33, _⟩ => ⟨S_, .f32⟩
  | .hbm, ⟨34, _⟩ => ⟨S2x8x4096x4096, .i1⟩
  | .hbm, ⟨35, _⟩ => ⟨S2x8x4096x4096, .f32⟩
  | .hbm, ⟨36, _⟩ => ⟨S2x8x4096x4096, .f32⟩
  | .hbm, ⟨37, _⟩ => ⟨S_, .f32⟩
  | .hbm, ⟨38, _⟩ => ⟨S_, .f32⟩
  | .hbm, ⟨39, _⟩ => ⟨S2x8x4096x4096, .f32⟩
  | .hbm, ⟨40, _⟩ => ⟨S2x8x4096x4096, .f32⟩
  | .hbm, ⟨41, _⟩ => ⟨S2x8x4096x4096, .f32⟩
  | .hbm, ⟨42, _⟩ => ⟨S_, .f32⟩
  | .hbm, ⟨43, _⟩ => ⟨S2x8x4096x4096, .f32⟩
  | .hbm, ⟨44, _⟩ => ⟨S2x8x4096x4096, .f32⟩
  | .hbm, ⟨45, _⟩ => ⟨S2x8x4096x4096, .f32⟩
  | .hbm, ⟨46, _⟩ => ⟨S2x8x4096x4096, .f32⟩
  | .hbm, ⟨47, _⟩ => ⟨S2x8x4096x4096, .i1⟩
  | .hbm, ⟨48, _⟩ => ⟨S2x8x4096x4096, .f32⟩
  | .hbm, ⟨49, _⟩ => ⟨S2x8x4096x4096, .f32⟩
  | .hbm, ⟨50, _⟩ => ⟨S2x8x4096x4096, .f32⟩
  | .hbm, ⟨51, _⟩ => ⟨S2x8x4096x4096, .f32⟩
  | .hbm, ⟨52, _⟩ => ⟨S2x8x4096x4096, .f32⟩
  | .hbm, ⟨53, _⟩ => ⟨S2x8x4096x4096, .f32⟩
  | .hbm, ⟨54, _⟩ => ⟨S2x8x4096x4096, .f32⟩
  | .hbm, ⟨55, _⟩ => ⟨S2x8x4096x4096, .f32⟩
  | .hbm, ⟨56, _⟩ => ⟨S2x8x4096x4096, .f32⟩
  | .hbm, ⟨57, _⟩ => ⟨S2x8x4096x4096, .f32⟩
  | .hbm, ⟨58, _⟩ => ⟨S2x8x4096x4096, .f32⟩
  | .hbm, ⟨59, _⟩ => ⟨S_, .f32⟩
  | .hbm, ⟨60, _⟩ => ⟨S_, .f32⟩
  | .hbm, ⟨61, _⟩ => ⟨S2x8x4096x4096, .i1⟩
  | .hbm, ⟨62, _⟩ => ⟨S2x8x4096x4096, .f32⟩
  | .hbm, ⟨63, _⟩ => ⟨S2x8x4096x4096, .f32⟩
  | .hbm, ⟨64, _⟩ => ⟨S2x8x128x4096, .f32⟩
  | .hbm, ⟨65, _⟩ => ⟨S2x4096x8x128, .f32⟩
  | .hbm, ⟨66, _⟩ => ⟨S2x4096x1024, .f32⟩
  | .hbm, ⟨67, _⟩ => ⟨S2x4096x1024, .bf16⟩
  | _, _ => ⟨S2x4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v15 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_call2_cst : Ref sig .tc := ⟨.hbm, 37, rfl⟩
abbrev main_call2_v0 : Ref sig .tc := ⟨.hbm, 38, rfl⟩
abbrev main_v17 : Ref sig .tc := ⟨.hbm, 39, rfl⟩
abbrev main_v18 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_0 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩

abbrev nD : Nat := 1
abbrev τ : Topo := Topo.v7x

variable {F : FTy → Type} [FloatOps F]
-- ==== Moe.lean ====
abbrev S111 : Shape := ⟨1, ![111]⟩
abbrev S1 : Shape := ⟨1, ![1]⟩
abbrev S28416x2048 : Shape := ⟨2, ![28416, 2048]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S28416x2048, .bf16⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S28416x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .bf16⟩
  | .local _ .vmem, ⟨9, _⟩ => ⟨S256x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S111, .i32⟩
  | .local _ .smem, ⟨1, _⟩ => ⟨S1, .i32⟩
  | _, _ => ⟨S28416x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![111], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S111 : Shape := ⟨1, ![111]⟩
abbrev S1 : Shape := ⟨1, ![1]⟩
abbrev S28416x2048 : Shape := ⟨2, ![28416, 2048]⟩
abbrev S32x2048x512 : Shape := ⟨3, ![32, 2048, 512]⟩
abbrev S32x512x2048 : Shape := ⟨3, ![32, 512, 2048]⟩
abbrev S28416 : Shape := ⟨1, ![28416]⟩
abbrev S_ : Shape := ⟨0, ![]⟩
abbrev S28416x1 : Shape := ⟨2, ![28416, 1]⟩
abbrev S32 : Shape := ⟨1, ![32]⟩
abbrev S1x32 : Shape := ⟨2, ![1, 32]⟩
abbrev S28416x32 : Shape := ⟨2, ![28416, 32]⟩
abbrev S28416x32x512 : Shape := ⟨3, ![28416, 32, 512]⟩
abbrev S28416x32x1 : Shape := ⟨3, ![28416, 32, 1]⟩

abbrev nBuf : Space → Nat
  | .hbm => 70
  | .vmem => 0
  | .smem => 0
  | _ => 0

abbrev bufTy : (tb : Table) → Fin (tcTables nBuf tb) → BufTy
  | .hbm, ⟨0, _⟩ => ⟨S111, .i32⟩
  | .hbm, ⟨1, _⟩ => ⟨S1, .i32⟩
  | .hbm, ⟨2, _⟩ => ⟨S28416x2048, .bf16⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S28416x2048, .f32⟩
  | .hbm, ⟨7, _⟩ => ⟨S28416, .i32⟩
  | .hbm, ⟨8, _⟩ => ⟨S_, .i32⟩
  | .hbm, ⟨9, _⟩ => ⟨S_, .i32⟩
  | .hbm, ⟨10, _⟩ => ⟨S28416, .i32⟩
  | .hbm, ⟨11, _⟩ => ⟨S28416, .i32⟩
  | .hbm, ⟨12, _⟩ => ⟨S28416, .i32⟩
  | .hbm, ⟨13, _⟩ => ⟨S_, .i32⟩
  | .hbm, ⟨14, _⟩ => ⟨S28416, .i32⟩
  | .hbm, ⟨15, _⟩ => ⟨S28416, .i1⟩
  | .hbm, ⟨16, _⟩ => ⟨S28416, .i32⟩
  | .hbm, ⟨17, _⟩ => ⟨S28416, .i32⟩
  | .hbm, ⟨18, _⟩ => ⟨S_, .i32⟩
  | .hbm, ⟨19, _⟩ => ⟨S28416, .i32⟩
  | .hbm, ⟨20, _⟩ => ⟨S28416, .i1⟩
  | .hbm, ⟨21, _⟩ => ⟨S28416, .i1⟩
  | .hbm, ⟨22, _⟩ => ⟨S_, .i32⟩
  | .hbm, ⟨23, _⟩ => ⟨S28416, .i32⟩
  | .hbm, ⟨24, _⟩ => ⟨S28416, .i32⟩
  | .hbm, ⟨25, _⟩ => ⟨S28416, .i32⟩
  | .hbm, ⟨26, _⟩ => ⟨S_, .i32⟩
  | .hbm, ⟨27, _⟩ => ⟨S28416, .i32⟩
  | .hbm, ⟨28, _⟩ => ⟨S28416, .i1⟩
  | .hbm, ⟨29, _⟩ => ⟨S_, .i32⟩
  | .hbm, ⟨30, _⟩ => ⟨S28416, .i32⟩
  | .hbm, ⟨31, _⟩ => ⟨S28416, .i1⟩
  | .hbm, ⟨32, _⟩ => ⟨S_, .i32⟩
  | .hbm, ⟨33, _⟩ => ⟨S28416, .i32⟩
  | .hbm, ⟨34, _⟩ => ⟨S28416, .i32⟩
  | .hbm, ⟨35, _⟩ => ⟨S28416, .i32⟩
  | .hbm, ⟨36, _⟩ => ⟨S28416x1, .i32⟩
  | .hbm, ⟨37, _⟩ => ⟨S28416, .i32⟩
  | .hbm, ⟨38, _⟩ => ⟨S28416x1, .i1⟩
  | .hbm, ⟨39, _⟩ => ⟨S28416x1, .i32⟩
  | .hbm, ⟨40, _⟩ => ⟨S32, .i32⟩
  | .hbm, ⟨41, _⟩ => ⟨S1x32, .i32⟩
  | .hbm, ⟨42, _⟩ => ⟨S28416x32, .i32⟩
  | .hbm, ⟨43, _⟩ => ⟨S28416x32, .i32⟩
  | .hbm, ⟨44, _⟩ => ⟨S28416x32, .i1⟩
  | .hbm, ⟨45, _⟩ => ⟨S28416x32, .i1⟩
  | .hbm, ⟨46, _⟩ => ⟨S28416x32, .i1⟩
  | .hbm, ⟨47, _⟩ => ⟨S_, .f32⟩
  | .hbm, ⟨48, _⟩ => ⟨S_, .f32⟩
  | .hbm, ⟨49, _⟩ => ⟨S28416x32, .f32⟩
  | .hbm, ⟨50, _⟩ => ⟨S28416x32, .f32⟩
  | .hbm, ⟨51, _⟩ => ⟨S28416x32, .f32⟩
  | .hbm, ⟨52, _⟩ => ⟨S28416x32x512, .f32⟩
  | .hbm, ⟨53, _⟩ => ⟨S28416x32x512, .f32⟩
  | .hbm, ⟨54, _⟩ => ⟨S28416x32x512, .f32⟩
  | .hbm, ⟨55, _⟩ => ⟨S_, .f32⟩
  | .hbm, ⟨56, _⟩ => ⟨S28416x32x512, .f32⟩
  | .hbm, ⟨57, _⟩ => ⟨S28416x32x512, .f32⟩
  | .hbm, ⟨58, _⟩ => ⟨S_, .f32⟩
  | .hbm, ⟨59, _⟩ => ⟨S28416x32x512, .f32⟩
  | .hbm, ⟨60, _⟩ => ⟨S28416x32x512, .f32⟩
  | .hbm, ⟨61, _⟩ => ⟨S28416x32x512, .f32⟩
  | .hbm, ⟨62, _⟩ => ⟨S28416x32x512, .f32⟩
  | .hbm, ⟨63, _⟩ => ⟨S28416x32x512, .f32⟩
  | .hbm, ⟨64, _⟩ => ⟨S28416x32x1, .f32⟩
  | .hbm, ⟨65, _⟩ => ⟨S28416x32x1, .f32⟩
  | .hbm, ⟨66, _⟩ => ⟨S28416x32x512, .f32⟩
  | .hbm, ⟨67, _⟩ => ⟨S28416x32x512, .f32⟩
  | .hbm, ⟨68, _⟩ => ⟨S28416x2048, .f32⟩
  | .hbm, ⟨69, _⟩ => ⟨S28416x2048, .bf16⟩
  | _, _ => ⟨S111, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_cst_2 : Ref sig .tc := ⟨.hbm, 48, rfl⟩
abbrev main_call1_v0 : Ref sig .tc := ⟨.hbm, 49, rfl⟩
abbrev main_call1_v1 : Ref sig .tc := ⟨.hbm, 50, rfl⟩
abbrev main_v22 : Ref sig .tc := ⟨.hbm, 51, rfl⟩
abbrev main_v23 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩

abbrev nD : Nat := 1
abbrev τ : Topo := Topo.v7x

variable {F : FTy → Type} [FloatOps F]
-- ==== Proj.lean ====
abbrev S2x4096x2048 : Shape := ⟨3, ![2, 4096, 2048]⟩
abbrev S6x40x2048 : Shape := ⟨3, ![6, 40, 2048]⟩
abbrev S2048 : Shape := ⟨1, ![2048]⟩
abbrev S2048x10240 : Shape := ⟨2, ![2048, 10240]⟩
abbrev S8x128 : Shape := ⟨2, ![8, 128]⟩
abbrev S6x2x2048 : Shape := ⟨3, ![6, 2, 2048]⟩
abbrev S6x2x64x2048 : Shape := ⟨4, ![6, 2, 64, 2048]⟩
abbrev S6x128x2048 : Shape := ⟨3, ![6, 128, 2048]⟩
abbrev S6x128x1x2048 : Shape := ⟨4, ![6, 128, 1, 2048]⟩
abbrev S1x1024 : Shape := ⟨2, ![1, 1024]⟩
abbrev S1x2048 : Shape := ⟨2, ![1, 2048]⟩
abbrev S128x64x2048 : Shape := ⟨3, ![128, 64, 2048]⟩
abbrev S8192x10240 : Shape := ⟨2, ![8192, 10240]⟩
abbrev S8192x1024 : Shape := ⟨2, ![8192, 1024]⟩
abbrev S8x64x2048 : Shape := ⟨3, ![8, 64, 2048]⟩
abbrev S1x8x1x2048 : Shape := ⟨4, ![1, 8, 1, 2048]⟩
abbrev S2048x512 : Shape := ⟨2, ![2048, 512]⟩
abbrev S1x512 : Shape := ⟨2, ![1, 512]⟩
abbrev S512x512 : Shape := ⟨2, ![512, 512]⟩
abbrev S512x2048 : Shape := ⟨2, ![512, 2048]⟩
abbrev S1x64x2048 : Shape := ⟨3, ![1, 64, 2048]⟩
abbrev S64x2048 : Shape := ⟨2, ![64, 2048]⟩
abbrev S1x1x1x2048 : Shape := ⟨4, ![1, 1, 1, 2048]⟩
abbrev S64 : Shape := ⟨1, ![64]⟩
abbrev S64x1 : Shape := ⟨2, ![64, 1]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 20
  | .vmem => 24
  | .smem => 0
  | _ => 0

abbrev bufTy : (tb : Table) → Fin (tcTables nBuf tb) → BufTy
  | .hbm, ⟨0, _⟩ => ⟨S2x4096x2048, .f32⟩
  | .hbm, ⟨1, _⟩ => ⟨S6x40x2048, .f32⟩
  | .hbm, ⟨2, _⟩ => ⟨S2048, .f32⟩
  | .hbm, ⟨3, _⟩ => ⟨S2048x10240, .f32⟩
  | .hbm, ⟨4, _⟩ => ⟨S8x128, .f32⟩
  | .hbm, ⟨5, _⟩ => ⟨S8x128, .f32⟩
  | .hbm, ⟨6, _⟩ => ⟨S6x2x2048, .f32⟩
  | .hbm, ⟨7, _⟩ => ⟨S6x2x64x2048, .f32⟩
  | .hbm, ⟨8, _⟩ => ⟨S6x128x2048, .f32⟩
  | .hbm, ⟨9, _⟩ => ⟨S6x128x1x2048, .f32⟩
  | .hbm, ⟨10, _⟩ => ⟨S2048x10240, .bf16⟩
  | .hbm, ⟨11, _⟩ => ⟨S1x1024, .f32⟩
  | .hbm, ⟨12, _⟩ => ⟨S1x1024, .f32⟩
  | .hbm, ⟨13, _⟩ => ⟨S1x2048, .f32⟩
  | .hbm, ⟨14, _⟩ => ⟨S128x64x2048, .f32⟩
  | .hbm, ⟨15, _⟩ => ⟨S8192x10240, .bf16⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .local _ .vmem, ⟨0, _⟩ => ⟨S8x64x2048, .f32⟩
  | .local _ .vmem, ⟨1, _⟩ => ⟨S8x64x2048, .f32⟩
  | .local _ .vmem, ⟨2, _⟩ => ⟨S1x2048, .f32⟩
  | .local _ .vmem, ⟨3, _⟩ => ⟨S1x8x1x2048, .f32⟩
  | .local _ .vmem, ⟨4, _⟩ => ⟨S1x8x1x2048, .f32⟩
  | .local _ .vmem, ⟨5, _⟩ => ⟨S1x8x1x2048, .f32⟩
  | .local _ .vmem, ⟨6, _⟩ => ⟨S1x8x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c8_i32 : BitVec 32 := 8#32
  let v45 : BitVec 32 := Scalar.addi c0_i32_19 c8_i32
  let c1_i32_20 : BitVec 32 := 1#32
  ⟨c0_i32_19, v45, c1_i32_20⟩
def k0_off1 (k0_t1 : Fin k0_t1_loop.trips) : Fin 3 → Nat :=
  let c0_i32_19 : BitVec 32 := 0#32
  let c1_i32_20 : BitVec 32 := 1#32
  let arg15 : BitVec 32 := Scf.iv c0_i32_19 c1_i32_20 k0_t1
  let v46 : Index := Scalar.indexCast arg15
  let c0_22 : Index := 0#32
  let c0_23 : Index := 0#32
  ![v46.toNat, 0, 0]
def k0_off2 (k0_t1 : Fin k0_t1_loop.trips) : Fin 4 → Nat :=
  let c0_26 : Index := 0#32
  let c0_i32_19 : BitVec 32 := 0#32
  let c1_i32_20 : BitVec 32 := 1#32
  let arg15 : BitVec 32 := Scf.iv c0_i32_19 c1_i32_20 k0_t1
  let v51 : Index := Scalar.indexCast arg15
  let c0_27 : Index := 0#32
  let c0_28 : Index := 0#32
  ![0, v51.toNat, 0, 0]
def k0_mult1 (k0_t1 : Fin k0_t1_loop.trips) : BitVec 32 :=
  let c0_i32_19 : BitVec 32 := 0#32
  let c1_i32_20 : BitVec 32 := 1#32
  let arg15 : BitVec 32 := Scf.iv c0_i32_19 c1_i32_20 k0_t1
  let c64_i32 : BitVec 32 := 64#32
  let v76 : BitVec 32 := Scalar.muli arg15 c64_i32
  v76
def k0_off3 (k0_t1 : Fin k0_t1_loop.trips) : Fin 2 → Nat :=
  let c0_i32_19 : BitVec 32 := 0#32
  let c1_i32_20 : BitVec 32 := 1#32
  let arg15 : BitVec 32 := Scf.iv c0_i32_19 c1_i32_20 k0_t1
  let c64_i32 : BitVec 32 := 64#32
  let v76 : BitVec 32 := Scalar.muli arg15 c64_i32
  let v77 : BitVec 32 := v76
  let v78 : Index := Scalar.indexCast v77
  let c0_36 : Index := 0#32
  ![v78.toNat, 0]
def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c0_i32_9 : BitVec 32 := 0#32
  let v24 : BitVec 1 := Scalar.cmpi .eq v23 c0_i32_9
  let v25 : BitVec 32 := Scalar.extui v24
  let c0_i32_10 : BitVec 32 := 0#32
  let v26 : BitVec 1 := Scalar.cmpi .ne v25 c0_i32_10
  v26

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c1_i32_11 : BitVec 32 := 1#32
  let v27 : BitVec 1 := Scalar.cmpi .eq v23 c1_i32_11
  let v28 : BitVec 32 := Scalar.extui v27
  let c0_i32_12 : BitVec 32 := 0#32
  let v29 : BitVec 1 := Scalar.cmpi .ne v28 c0_i32_12
  v29

def k0_cond4 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c2_i32_13 : BitVec 32 := 2#32
  let v30 : BitVec 1 := Scalar.cmpi .eq v23 c2_i32_13
  let v31 : BitVec 32 := Scalar.extui v30
  let c0_i32_14 : BitVec 32 := 0#32
  let v32 : BitVec 1 := Scalar.cmpi .ne v31 c0_i32_14
  v32

def k0_cond5 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c3_i32 : BitVec 32 := 3#32
  let v33 : BitVec 1 := Scalar.cmpi .eq v23 c3_i32
  let v34 : BitVec 32 := Scalar.extui v33
  let c0_i32_15 : BitVec 32 := 0#32
  let v35 : BitVec 1 := Scalar.cmpi .ne v34 c0_i32_15
  v35

def k0_cond6 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c4_i32 : BitVec 32 := 4#32
  let v36 : BitVec 1 := Scalar.cmpi .eq v23 c4_i32
  let v37 : BitVec 32 := Scalar.extui v36
  let c0_i32_16 : BitVec 32 := 0#32
  let v38 : BitVec 1 := Scalar.cmpi .ne v37 c0_i32_16
  v38

def k0_cond7 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c5_i32 : BitVec 32 := 5#32
  let v39 : BitVec 1 := Scalar.cmpi .eq v23 c5_i32
  let v40 : BitVec 32 := Scalar.extui v39
  let c0_i32_17 : BitVec 32 := 0#32
  let v41 : BitVec 1 := Scalar.cmpi .ne v40 c0_i32_17
  v41

def k0_cond8 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c6_i32 : BitVec 32 := 6#32
  let v42 : BitVec 1 := Scalar.cmpi .sge v23 c6_i32
  let v43 : BitVec 32 := Scalar.extui v42
  let c0_i32_18 : BitVec 32 := 0#32
  let v44 : BitVec 1 := Scalar.cmpi .ne v43 c0_i32_18
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 2 → Memref sig .tc .vmem S8x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjRefIdeal.lean ====
abbrev S2x4096x2048 : Shape := ⟨3, ![2, 4096, 2048]⟩
abbrev S6x40x2048 : Shape := ⟨3, ![6, 40, 2048]⟩
abbrev S2048 : Shape := ⟨1, ![2048]⟩
abbrev S2048x10240 : Shape := ⟨2, ![2048, 10240]⟩
abbrev S8x128 : Shape := ⟨2, ![8, 128]⟩
abbrev S1x2x2048 : Shape := ⟨3, ![1, 2, 2048]⟩
abbrev S2x2048 : Shape := ⟨2, ![2, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x10240 : Shape := ⟨3, ![2, 4096, 10240]⟩
abbrev S2x4096x1024 : Shape := ⟨3, ![2, 4096, 1024]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S1x1x8x128 : Shape := ⟨4, ![1, 1, 8, 128]⟩
abbrev S8192x10240 : Shape := ⟨2, ![8192, 10240]⟩
abbrev S8192x1024 : Shape := ⟨2, ![8192, 1024]⟩

abbrev nBuf : Space → Nat
  | .hbm => 93
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S6x40x2048, .f32⟩
  | .hbm, ⟨2, _⟩ => ⟨S2048, .f32⟩
  | .hbm, ⟨3, _⟩ => ⟨S2048x10240, .f32⟩
  | .hbm, ⟨4, _⟩ => ⟨S8x128, .f32⟩
  | .hbm, ⟨5, _⟩ => ⟨S8x128, .f32⟩
  | .hbm, ⟨6, _⟩ => ⟨S1x2x2048, .f32⟩
  | .hbm, ⟨7, _⟩ => ⟨S2x2048, .f32⟩
  | .hbm, ⟨8, _⟩ => ⟨S2x1x2048, .f32⟩
  | .hbm, ⟨9, _⟩ => ⟨S1x2x2048, .f32⟩
  | .hbm, ⟨10, _⟩ => ⟨S2x2048, .f32⟩
  | .hbm, ⟨11, _⟩ => ⟨S2x1x2048, .f32⟩
  | .hbm, ⟨12, _⟩ => ⟨S2x4096x2048, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1, .f32⟩
  | .hbm, ⟨23, _⟩ => ⟨S2x4096x2048, .f32⟩
  | .hbm, ⟨24, _⟩ => ⟨S2x4096x2048, .f32⟩
  | .hbm, ⟨25, _⟩ => ⟨S1x1x2048, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x10240, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x2048, .f32⟩
  | .hbm, ⟨43, _⟩ => ⟨S2x4096x2048, .f32⟩
  | .hbm, ⟨44, _⟩ => ⟨S2x4096x8x128, .f32⟩
  | .hbm, ⟨45, _⟩ => ⟨S2x4096x8x128, .f32⟩
  | .hbm, ⟨46, _⟩ => ⟨S_, .f32⟩
  | .hbm, ⟨47, _⟩ => ⟨S2x4096x8, .f32⟩
  | .hbm, ⟨48, _⟩ => ⟨S2x4096x8x1, .f32⟩
  | .hbm, ⟨49, _⟩ => ⟨S_, .f32⟩
  | .hbm, ⟨50, _⟩ => ⟨S2x4096x8x1, .f32⟩
  | .hbm, ⟨51, _⟩ => ⟨S2x4096x8x1, .f32⟩
  | .hbm, ⟨52, _⟩ => ⟨S_, .f32⟩
  | .hbm, ⟨53, _⟩ => ⟨S2x4096x8x1, .f32⟩
  | .hbm, ⟨54, _⟩ => ⟨S2x4096x8x1, .f32⟩
  | .hbm, ⟨55, _⟩ => ⟨S2x4096x8x1, .f32⟩
  | .hbm, ⟨56, _⟩ => ⟨S2x4096x8x128, .f32⟩
  | .hbm, ⟨57, _⟩ => ⟨S2x4096x8x128, .f32⟩
  | .hbm, ⟨58, _⟩ => ⟨S1x1x8x128, .f32⟩
  | .hbm, ⟨59, _⟩ => ⟨S2x4096x8x128, .f32⟩
  | .hbm, ⟨60, _⟩ => ⟨S2x4096x8x128, .f32⟩
  | .hbm, ⟨61, _⟩ => ⟨S2x4096x1024, .f32⟩
  | .hbm, ⟨62, _⟩ => ⟨S2x4096x8x128, .f32⟩
  | .hbm, ⟨63, _⟩ => ⟨S2x4096x8x128, .f32⟩
  | .hbm, ⟨64, _⟩ => ⟨S_, .f32⟩
  | .hbm, ⟨65, _⟩ => ⟨S2x4096x8, .f32⟩
  | .hbm, ⟨66, _⟩ => ⟨S2x4096x8x1, .f32⟩
  | .hbm, ⟨67, _⟩ => ⟨S_, .f32⟩
  | .hbm, ⟨68, _⟩ => ⟨S2x4096x8x1, .f32⟩
  | .hbm, ⟨69, _⟩ => ⟨S2x4096x8x1, .f32⟩
  | .hbm, ⟨70, _⟩ => ⟨S_, .f32⟩
  | .hbm, ⟨71, _⟩ => ⟨S2x4096x8x1, .f32⟩
  | .hbm, ⟨72, _⟩ => ⟨S2x4096x8x1, .f32⟩
  | .hbm, ⟨73, _⟩ => ⟨S2x4096x8x1, .f32⟩
  | .hbm, ⟨74, _⟩ => ⟨S2x4096x8x128, .f32⟩
  | .hbm, ⟨75, _⟩ => ⟨S2x4096x8x128, .f32⟩
  | .hbm, ⟨76, _⟩ => ⟨S1x1x8x128, .f32⟩
  | .hbm, ⟨77, _⟩ => ⟨S2x4096x8x128, .f32⟩
  | .hbm, ⟨78, _⟩ => ⟨S2x4096x8x128, .f32⟩
  | .hbm, ⟨79, _⟩ => ⟨S2x4096x1024, .f32⟩
  | .hbm, ⟨80, _⟩ => ⟨S_, .f32⟩
  | .hbm, ⟨81, _⟩ => ⟨S2x4096x1024, .f32⟩
  | .hbm, ⟨82, _⟩ => ⟨S2x4096x1024, .f32⟩
  | .hbm, ⟨83, _⟩ => ⟨S_, .f32⟩
  | .hbm, ⟨84, _⟩ => ⟨S2x4096x1024, .f32⟩
  | .hbm, ⟨85, _⟩ => ⟨S2x4096x1024, .f32⟩
  | .hbm, ⟨86, _⟩ => ⟨S2x4096x10240, .f32⟩
  | .hbm, ⟨87, _⟩ => ⟨S2x4096x10240, .bf16⟩
  | .hbm, ⟨88, _⟩ => ⟨S8192x10240, .bf16⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Ada.lean ====
abbrev S40x2048 : Shape := ⟨2, ![40, 2048]⟩
abbrev S2048x12288 : Shape := ⟨2, ![2048, 12288]⟩
abbrev S12288 : Shape := ⟨1, ![12288]⟩
abbrev S1x12288 : Shape := ⟨2, ![1, 12288]⟩
abbrev S6x40x2048 : Shape := ⟨3, ![6, 40, 2048]⟩
abbrev S2048x1024 : Shape := ⟨2, ![2048, 1024]⟩
abbrev S1x1024 : Shape := ⟨2, ![1, 1024]⟩
abbrev S1x40x1024 : Shape := ⟨3, ![1, 40, 1024]⟩
abbrev S40x1024 : Shape := ⟨2, ![40, 1024]⟩

abbrev nBuf : Space → Nat
  | .hbm => 5
  | .vmem => 7
  | .smem => 0
  | _ => 0

abbrev bufTy : (tb : Table) → Fin (tcTables nBuf tb) → BufTy
  | .hbm, ⟨0, _⟩ => ⟨S40x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S6x40x2048, .f32⟩
  | .local _ .vmem, ⟨0, _⟩ => ⟨S40x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S1x40x1024, .f32⟩
  | .local _ .vmem, ⟨6, _⟩ => ⟨S1x40x1024, .f32⟩
  | _, _ => ⟨S40x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S40x2048 : Shape := ⟨2, ![40, 2048]⟩
abbrev S2048x12288 : Shape := ⟨2, ![2048, 12288]⟩
abbrev S12288 : Shape := ⟨1, ![12288]⟩
abbrev S_ : Shape := ⟨0, ![]⟩
abbrev S40x12288 : Shape := ⟨2, ![40, 12288]⟩
abbrev S1x12288 : Shape := ⟨2, ![1, 12288]⟩
abbrev S40x6x2048 : Shape := ⟨3, ![40, 6, 2048]⟩
abbrev S6x40x2048 : Shape := ⟨3, ![6, 40, 2048]⟩

abbrev nBuf : Space → Nat
  | .hbm => 18
  | .vmem => 0
  | .smem => 0
  | _ => 0

abbrev bufTy : (tb : Table) → Fin (tcTables nBuf tb) → BufTy
  | .hbm, ⟨0, _⟩ => ⟨S40x2048, .f32⟩
  | .hbm, ⟨1, _⟩ => ⟨S2048x12288, .f32⟩
  | .hbm, ⟨2, _⟩ => ⟨S12288, .f32⟩
  | .hbm, ⟨3, _⟩ => ⟨S40x2048, .f32⟩
  | .hbm, ⟨4, _⟩ => ⟨S40x2048, .f32⟩
  | .hbm, ⟨5, _⟩ => ⟨S_, .f32⟩
  | .hbm, ⟨6, _⟩ => ⟨S40x2048, .f32⟩
  | .hbm, ⟨7, _⟩ => ⟨S40x2048, .f32⟩
  | .hbm, ⟨8, _⟩ => ⟨S_, .f32⟩
  | .hbm, ⟨9, _⟩ => ⟨S40x2048, .f32⟩
  | .hbm, ⟨10, _⟩ => ⟨S40x2048, .f32⟩
  | .hbm, ⟨11, _⟩ => ⟨S40x2048, .f32⟩
  | .hbm, ⟨12, _⟩ => ⟨S40x12288, .f32⟩
  | .hbm, ⟨13, _⟩ => ⟨S1x12288, .f32⟩
  | .hbm, ⟨14, _⟩ => ⟨S40x12288, .f32⟩
  | .hbm, ⟨15, _⟩ => ⟨S40x12288, .f32⟩
  | .hbm, ⟨16, _⟩ => ⟨S40x6x2048, .f32⟩
  | .hbm, ⟨17, _⟩ => ⟨S6x40x2048, .f32⟩
  | _, _ => ⟨S40x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Merge.lean ====
abbrev S8192x1024 : Shape := ⟨2, ![8192, 1024]⟩
abbrev S1024x2048 : Shape := ⟨2, ![1024, 2048]⟩
abbrev S8192x10240 : Shape := ⟨2, ![8192, 10240]⟩
abbrev S8192x2048 : Shape := ⟨2, ![8192, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S1024x2048, .f32⟩
  | .hbm, ⟨4, _⟩ => ⟨S8192x10240, .bf16⟩
  | .hbm, ⟨5, _⟩ => ⟨S1024x2048, .bf16⟩
  | .hbm, ⟨6, _⟩ => ⟨S1024x2048, .bf16⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x1024 : Shape := ⟨2, ![8192, 1024]⟩
abbrev S1024x2048 : Shape := ⟨2, ![1024, 2048]⟩
abbrev S8192x10240 : Shape := ⟨2, ![8192, 10240]⟩
abbrev S8192x4096 : Shape := ⟨2, ![8192, 4096]⟩
abbrev S8192x2048 : Shape := ⟨2, ![8192, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S1024x2048, .f32⟩
  | .hbm, ⟨4, _⟩ => ⟨S8192x10240, .bf16⟩
  | .hbm, ⟨5, _⟩ => ⟨S8192x4096, .bf16⟩
  | .hbm, ⟨6, _⟩ => ⟨S8192x4096, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Outproj.lean ====
abbrev S8192x2048 : Shape := ⟨2, ![8192, 2048]⟩
abbrev S2048x2048 : Shape := ⟨2, ![2048, 2048]⟩
abbrev S2x4096x2048 : Shape := ⟨3, ![2, 4096, 2048]⟩
abbrev S6x40x2048 : Shape := ⟨3, ![6, 40, 2048]⟩
abbrev S6x2x2048 : Shape := ⟨3, ![6, 2, 2048]⟩
abbrev S6x2x64x2048 : Shape := ⟨4, ![6, 2, 64, 2048]⟩
abbrev S6x128x2048 : Shape := ⟨3, ![6, 128, 2048]⟩
abbrev S6x128x1x2048 : Shape := ⟨4, ![6, 128, 1, 2048]⟩
abbrev S128x64x2048 : Shape := ⟨3, ![128, 64, 2048]⟩
abbrev S512x2048 : Shape := ⟨2, ![512, 2048]⟩
abbrev S2048x512 : Shape := ⟨2, ![2048, 512]⟩
abbrev S8x64x512 : Shape := ⟨3, ![8, 64, 512]⟩
abbrev S1x8x1x512 : Shape := ⟨4, ![1, 8, 1, 512]⟩
abbrev S512x512 : Shape := ⟨2, ![512, 512]⟩
abbrev S8x1x512 : Shape := ⟨3, ![8, 1, 512]⟩

abbrev nBuf : Space → Nat
  | .hbm => 11
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2x4096x2048, .f32⟩
  | .hbm, ⟨3, _⟩ => ⟨S6x40x2048, .f32⟩
  | .hbm, ⟨4, _⟩ => ⟨S6x2x2048, .f32⟩
  | .hbm, ⟨5, _⟩ => ⟨S6x2x64x2048, .f32⟩
  | .hbm, ⟨6, _⟩ => ⟨S6x128x2048, .f32⟩
  | .hbm, ⟨7, _⟩ => ⟨S6x128x1x2048, .f32⟩
  | .hbm, ⟨8, _⟩ => ⟨S2048x2048, .bf16⟩
  | .hbm, ⟨9, _⟩ => ⟨S128x64x2048, .f32⟩
  | .hbm, ⟨10, _⟩ => ⟨S128x64x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S8x64x512, .f32⟩
  | .local _ .vmem, ⟨5, _⟩ => ⟨S8x64x512, .f32⟩
  | .local _ .vmem, ⟨6, _⟩ => ⟨S1x8x1x512, .f32⟩
  | .local _ .vmem, ⟨7, _⟩ => ⟨S1x8x1x512, .f32⟩
  | .local _ .vmem, ⟨8, _⟩ => ⟨S8x64x512, .f32⟩
  | .local _ .vmem, ⟨9, _⟩ => ⟨S8x64x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutprojRefIdeal.lean ====
abbrev S8192x2048 : Shape := ⟨2, ![8192, 2048]⟩
abbrev S2048x2048 : Shape := ⟨2, ![2048, 2048]⟩
abbrev S2x4096x2048 : Shape := ⟨3, ![2, 4096, 2048]⟩
abbrev S6x40x2048 : Shape := ⟨3, ![6, 40, 2048]⟩
abbrev S1x2x2048 : Shape := ⟨3, ![1, 2, 2048]⟩
abbrev S2x2048 : Shape := ⟨2, ![2, 2048]⟩
abbrev S2x1x2048 : Shape := ⟨3, ![2, 1, 2048]⟩
abbrev S128x64x2048 : Shape := ⟨3, ![128, 64, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2x4096x2048, .f32⟩
  | .hbm, ⟨3, _⟩ => ⟨S6x40x2048, .f32⟩
  | .hbm, ⟨4, _⟩ => ⟨S1x2x2048, .f32⟩
  | .hbm, ⟨5, _⟩ => ⟨S2x2048, .f32⟩
  | .hbm, ⟨6, _⟩ => ⟨S2x1x2048, .f32⟩
  | .hbm, ⟨7, _⟩ => ⟨S8192x2048, .f32⟩
  | .hbm, ⟨8, _⟩ => ⟨S8192x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S128x64x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Final.lean ====
abbrev S128x64x2048 : Shape := ⟨3, ![128, 64, 2048]⟩
abbrev S8192x2048 : Shape := ⟨2, ![8192, 2048]⟩
abbrev S8192x128 : Shape := ⟨2, ![8192, 128]⟩
abbrev S6x40x2048 : Shape := ⟨3, ![6, 40, 2048]⟩
abbrev S6x2x2048 : Shape := ⟨3, ![6, 2, 2048]⟩
abbrev S6x2x64x2048 : Shape := ⟨4, ![6, 2, 64, 2048]⟩
abbrev S6x128x2048 : Shape := ⟨3, ![6, 128, 2048]⟩
abbrev S6x128x1x2048 : Shape := ⟨4, ![6, 128, 1, 2048]⟩
abbrev S128x64x128 : Shape := ⟨3, ![128, 64, 128]⟩
abbrev S8x64x1024 : Shape := ⟨3, ![8, 64, 1024]⟩
abbrev S8x64x128 : Shape := ⟨3, ![8, 64, 128]⟩
abbrev S1x8x1x1024 : Shape := ⟨4, ![1, 8, 1, 1024]⟩
abbrev S8x64x1 : Shape := ⟨3, ![8, 64, 1]⟩
abbrev S8x1x1024 : Shape := ⟨3, ![8, 1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S128x64x2048, .f32⟩
  | .hbm, ⟨1, _⟩ => ⟨S8192x2048, .bf16⟩
  | .hbm, ⟨2, _⟩ => ⟨S8192x2048, .bf16⟩
  | .hbm, ⟨3, _⟩ => ⟨S8192x128, .f32⟩
  | .hbm, ⟨4, _⟩ => ⟨S6x40x2048, .f32⟩
  | .hbm, ⟨5, _⟩ => ⟨S6x2x2048, .f32⟩
  | .hbm, ⟨6, _⟩ => ⟨S6x2x64x2048, .f32⟩
  | .hbm, ⟨7, _⟩ => ⟨S6x128x2048, .f32⟩
  | .hbm, ⟨8, _⟩ => ⟨S6x128x1x2048, .f32⟩
  | .hbm, ⟨9, _⟩ => ⟨S128x64x2048, .bf16⟩
  | .hbm, ⟨10, _⟩ => ⟨S128x64x2048, .bf16⟩
  | .hbm, ⟨11, _⟩ => ⟨S128x64x128, .f32⟩
  | .hbm, ⟨12, _⟩ => ⟨S128x64x2048, .f32⟩
  | .local _ .vmem, ⟨0, _⟩ => ⟨S8x64x1024, .f32⟩
  | .local _ .vmem, ⟨1, _⟩ => ⟨S8x64x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x128, .f32⟩
  | .local _ .vmem, ⟨7, _⟩ => ⟨S8x64x128, .f32⟩
  | .local _ .vmem, ⟨8, _⟩ => ⟨S1x8x1x1024, .f32⟩
  | .local _ .vmem, ⟨9, _⟩ => ⟨S1x8x1x1024, .f32⟩
  | .local _ .vmem, ⟨10, _⟩ => ⟨S8x64x1024, .f32⟩
  | .local _ .vmem, ⟨11, _⟩ => ⟨S8x64x1024, .f32⟩
  | _, _ => ⟨S128x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinalRefIdeal.lean ====
abbrev S128x64x2048 : Shape := ⟨3, ![128, 64, 2048]⟩
abbrev S8192x2048 : Shape := ⟨2, ![8192, 2048]⟩
abbrev S8192x128 : Shape := ⟨2, ![8192, 128]⟩
abbrev S6x40x2048 : Shape := ⟨3, ![6, 40, 2048]⟩
abbrev S2x4096x2048 : Shape := ⟨3, ![2, 4096, 2048]⟩
abbrev S1x2x2048 : Shape := ⟨3, ![1, 2, 2048]⟩
abbrev S2x2048 : Shape := ⟨2, ![2, 2048]⟩
abbrev S2x1x2048 : Shape := ⟨3, ![2, 1, 2048]⟩
abbrev S8192x2 : Shape := ⟨2, ![8192, 2]⟩
abbrev S8192x1x2048 : Shape := ⟨3, ![8192, 1, 2048]⟩
abbrev S8192x2x2048 : Shape := ⟨3, ![8192, 2, 2048]⟩

abbrev nBuf : Space → Nat
  | .hbm => 21
  | .vmem => 0
  | .smem => 0
  | _ => 0

abbrev bufTy : (tb : Table) → Fin (tcTables nBuf tb) → BufTy
  | .hbm, ⟨0, _⟩ => ⟨S128x64x2048, .f32⟩
  | .hbm, ⟨1, _⟩ => ⟨S8192x2048, .bf16⟩
  | .hbm, ⟨2, _⟩ => ⟨S8192x2048, .bf16⟩
  | .hbm, ⟨3, _⟩ => ⟨S8192x128, .f32⟩
  | .hbm, ⟨4, _⟩ => ⟨S6x40x2048, .f32⟩
  | .hbm, ⟨5, _⟩ => ⟨S2x4096x2048, .f32⟩
  | .hbm, ⟨6, _⟩ => ⟨S1x2x2048, .f32⟩
  | .hbm, ⟨7, _⟩ => ⟨S2x2048, .f32⟩
  | .hbm, ⟨8, _⟩ => ⟨S2x1x2048, .f32⟩
  | .hbm, ⟨9, _⟩ => ⟨S8192x2, .f32⟩
  | .hbm, ⟨10, _⟩ => ⟨S8192x2048, .f32⟩
  | .hbm, ⟨11, _⟩ => ⟨S8192x2048, .f32⟩
  | .hbm, ⟨12, _⟩ => ⟨S8192x1x2048, .f32⟩
  | .hbm, ⟨13, _⟩ => ⟨S8192x1x2048, .f32⟩
  | .hbm, ⟨14, _⟩ => ⟨S8192x2x2048, .f32⟩
  | .hbm, ⟨15, _⟩ => ⟨S8192x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S128x64x2048, .f32⟩
  | _, _ => ⟨S128x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== FinalStep.lean ====
abbrev S32x64x2048 : Shape := ⟨3, ![32, 64, 2048]⟩
abbrev S2048x2048 : Shape := ⟨2, ![2048, 2048]⟩
abbrev S2048x128 : Shape := ⟨2, ![2048, 128]⟩
abbrev S6x40x2048 : Shape := ⟨3, ![6, 40, 2048]⟩
abbrev S6x32x2048 : Shape := ⟨3, ![6, 32, 2048]⟩
abbrev S6x32x1x2048 : Shape := ⟨4, ![6, 32, 1, 2048]⟩
abbrev S32x64x128 : Shape := ⟨3, ![32, 64, 128]⟩
abbrev S8x64x1024 : Shape := ⟨3, ![8, 64, 1024]⟩
abbrev S8x64x128 : Shape := ⟨3, ![8, 64, 128]⟩
abbrev S1x8x1x1024 : Shape := ⟨4, ![1, 8, 1, 1024]⟩
abbrev S8x64x1 : Shape := ⟨3, ![8, 64, 1]⟩
abbrev S8x1x1024 : Shape := ⟨3, ![8, 1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S32x64x2048, .f32⟩
  | .hbm, ⟨1, _⟩ => ⟨S2048x2048, .bf16⟩
  | .hbm, ⟨2, _⟩ => ⟨S2048x2048, .bf16⟩
  | .hbm, ⟨3, _⟩ => ⟨S2048x128, .f32⟩
  | .hbm, ⟨4, _⟩ => ⟨S6x40x2048, .f32⟩
  | .hbm, ⟨5, _⟩ => ⟨S6x32x2048, .f32⟩
  | .hbm, ⟨6, _⟩ => ⟨S6x32x1x2048, .f32⟩
  | .hbm, ⟨7, _⟩ => ⟨S32x64x2048, .bf16⟩
  | .hbm, ⟨8, _⟩ => ⟨S32x64x2048, .bf16⟩
  | .hbm, ⟨9, _⟩ => ⟨S32x64x128, .f32⟩
  | .hbm, ⟨10, _⟩ => ⟨S32x64x2048, .f32⟩
  | .local _ .vmem, ⟨0, _⟩ => ⟨S8x64x1024, .f32⟩
  | .local _ .vmem, ⟨1, _⟩ => ⟨S8x64x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x128, .f32⟩
  | .local _ .vmem, ⟨7, _⟩ => ⟨S8x64x128, .f32⟩
  | .local _ .vmem, ⟨8, _⟩ => ⟨S1x8x1x1024, .f32⟩
  | .local _ .vmem, ⟨9, _⟩ => ⟨S1x8x1x1024, .f32⟩
  | .local _ .vmem, ⟨10, _⟩ => ⟨S8x64x1024, .f32⟩
  | .local _ .vmem, ⟨11, _⟩ => ⟨S8x64x1024, .f32⟩
  | _, _ => ⟨S32x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinalStepRefIdeal.lean ====
abbrev S32x64x2048 : Shape := ⟨3, ![32, 64, 2048]⟩
abbrev S2048x2048 : Shape := ⟨2, ![2048, 2048]⟩
abbrev S2048x128 : Shape := ⟨2, ![2048, 128]⟩
abbrev S6x40x2048 : Shape := ⟨3, ![6, 40, 2048]⟩
abbrev S1x32x2048 : Shape := ⟨3, ![1, 32, 2048]⟩
abbrev S32x2048 : Shape := ⟨2, ![32, 2048]⟩
abbrev S32x1x2048 : Shape := ⟨3, ![32, 1, 2048]⟩
abbrev S2048x2 : Shape := ⟨2, ![2048, 2]⟩
abbrev S2048x1x2048 : Shape := ⟨3, ![2048, 1, 2048]⟩
abbrev S2048x2x2048 : Shape := ⟨3, ![2048, 2, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32x64x2048, .f32⟩
  | .hbm, ⟨1, _⟩ => ⟨S2048x2048, .bf16⟩
  | .hbm, ⟨2, _⟩ => ⟨S2048x2048, .bf16⟩
  | .hbm, ⟨3, _⟩ => ⟨S2048x128, .f32⟩
  | .hbm, ⟨4, _⟩ => ⟨S6x40x2048, .f32⟩
  | .hbm, ⟨5, _⟩ => ⟨S1x32x2048, .f32⟩
  | .hbm, ⟨6, _⟩ => ⟨S32x2048, .f32⟩
  | .hbm, ⟨7, _⟩ => ⟨S32x1x2048, .f32⟩
  | .hbm, ⟨8, _⟩ => ⟨S2048x2, .f32⟩
  | .hbm, ⟨9, _⟩ => ⟨S2048x2048, .f32⟩
  | .hbm, ⟨10, _⟩ => ⟨S2048x2048, .f32⟩
  | .hbm, ⟨11, _⟩ => ⟨S2048x1x2048, .f32⟩
  | .hbm, ⟨12, _⟩ => ⟨S2048x1x2048, .f32⟩
  | .hbm, ⟨13, _⟩ => ⟨S2048x2x2048, .f32⟩
  | .hbm, ⟨14, _⟩ => ⟨S2048x2048, .f32⟩
  | .hbm, ⟨15, _⟩ => ⟨S32x64x2048, .f32⟩
  | .hbm, ⟨16, _⟩ => ⟨S32x64x2048, .f32⟩
  | .hbm, ⟨17, _⟩ => ⟨S32x64x2048, .f32⟩
  | .hbm, ⟨18, _⟩ => ⟨S32x64x2048, .f32⟩
  | _, _ => ⟨S32x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== BandStep.lean ====
abbrev S2048x10240 : Shape := ⟨2, ![2048, 10240]⟩
abbrev S32x512x8x128 : Shape := ⟨4, ![32, 512, 8, 128]⟩
abbrev S8x64x576 : Shape := ⟨3, ![8, 64, 576]⟩
abbrev S32x64x10240 : Shape := ⟨3, ![32, 64, 10240]⟩
abbrev S32x512x1024 : Shape := ⟨3, ![32, 512, 1024]⟩
abbrev S32x64x1024 : Shape := ⟨3, ![32, 64, 1024]⟩
abbrev S1x64x1024 : Shape := ⟨3, ![1, 64, 1024]⟩
abbrev S1x512x1024 : Shape := ⟨3, ![1, 512, 1024]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S64x512 : Shape := ⟨2, ![64, 512]⟩
abbrev S1x64x512 : Shape := ⟨3, ![1, 64, 512]⟩
abbrev S64x64 : Shape := ⟨2, ![64, 64]⟩
abbrev S1x64x64 : Shape := ⟨3, ![1, 64, 64]⟩
abbrev S64 : Shape := ⟨1, ![64]⟩
abbrev S64x1 : Shape := ⟨2, ![64, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x10240, .bf16⟩
  | .hbm, ⟨1, _⟩ => ⟨S32x512x8x128, .f32⟩
  | .hbm, ⟨2, _⟩ => ⟨S32x512x8x128, .f32⟩
  | .hbm, ⟨3, _⟩ => ⟨S8x64x576, .f32⟩
  | .hbm, ⟨4, _⟩ => ⟨S32x64x10240, .bf16⟩
  | .hbm, ⟨5, _⟩ => ⟨S32x512x1024, .f32⟩
  | .hbm, ⟨6, _⟩ => ⟨S32x512x1024, .f32⟩
  | .hbm, ⟨7, _⟩ => ⟨S32x64x1024, .bf16⟩
  | .local _ .vmem, ⟨0, _⟩ => ⟨S1x64x1024, .bf16⟩
  | .local _ .vmem, ⟨1, _⟩ => ⟨S1x64x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x64x576, .f32⟩
  | .local _ .vmem, ⟨11, _⟩ => ⟨S1x64x1024, .bf16⟩
  | .local _ .vmem, ⟨12, _⟩ => ⟨S1x64x1024, .bf16⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BandStepRefIdeal.lean ====
abbrev S2048x10240 : Shape := ⟨2, ![2048, 10240]⟩
abbrev S32x512x8x128 : Shape := ⟨4, ![32, 512, 8, 128]⟩
abbrev S8x64x576 : Shape := ⟨3, ![8, 64, 576]⟩
abbrev S32x64x10x8x128 : Shape := ⟨5, ![32, 64, 10, 8, 128]⟩
abbrev S32x64x1x8x128 : Shape := ⟨5, ![32, 64, 1, 8, 128]⟩
abbrev S32x64x8x128 : Shape := ⟨4, ![32, 64, 8, 128]⟩
abbrev S32x576x8x128 : Shape := ⟨4, ![32, 576, 8, 128]⟩
abbrev S32x8x64x576 : Shape := ⟨4, ![32, 8, 64, 576]⟩
abbrev S1x8x64x576 : Shape := ⟨4, ![1, 8, 64, 576]⟩
abbrev S_ : Shape := ⟨0, ![]⟩
abbrev S32x8x64 : Shape := ⟨3, ![32, 8, 64]⟩
abbrev S32x8x64x1 : Shape := ⟨4, ![32, 8, 64, 1]⟩
abbrev S32x8x128x64 : Shape := ⟨4, ![32, 8, 128, 64]⟩
abbrev S32x64x1024 : Shape := ⟨3, ![32, 64, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S32x512x8x128, .f32⟩
  | .hbm, ⟨2, _⟩ => ⟨S32x512x8x128, .f32⟩
  | .hbm, ⟨3, _⟩ => ⟨S8x64x576, .f32⟩
  | .hbm, ⟨4, _⟩ => ⟨S32x64x10x8x128, .bf16⟩
  | .hbm, ⟨5, _⟩ => ⟨S32x64x1x8x128, .bf16⟩
  | .hbm, ⟨6, _⟩ => ⟨S32x64x8x128, .bf16⟩
  | .hbm, ⟨7, _⟩ => ⟨S32x64x8x128, .f32⟩
  | .hbm, ⟨8, _⟩ => ⟨S32x64x1x8x128, .bf16⟩
  | .hbm, ⟨9, _⟩ => ⟨S32x64x8x128, .bf16⟩
  | .hbm, ⟨10, _⟩ => ⟨S32x64x1x8x128, .bf16⟩
  | .hbm, ⟨11, _⟩ => ⟨S32x64x8x128, .bf16⟩
  | .hbm, ⟨12, _⟩ => ⟨S32x64x8x128, .f32⟩
  | .hbm, ⟨13, _⟩ => ⟨S32x576x8x128, .f32⟩
  | .hbm, ⟨14, _⟩ => ⟨S32x64x8x128, .f32⟩
  | .hbm, ⟨15, _⟩ => ⟨S32x576x8x128, .f32⟩
  | .hbm, ⟨16, _⟩ => ⟨S32x8x64x576, .f32⟩
  | .hbm, ⟨17, _⟩ => ⟨S1x8x64x576, .f32⟩
  | .hbm, ⟨18, _⟩ => ⟨S32x8x64x576, .f32⟩
  | .hbm, ⟨19, _⟩ => ⟨S32x8x64x576, .f32⟩
  | .hbm, ⟨20, _⟩ => ⟨S_, .f32⟩
  | .hbm, ⟨21, _⟩ => ⟨S32x8x64, .f32⟩
  | .hbm, ⟨22, _⟩ => ⟨S_, .f32⟩
  | .hbm, ⟨23, _⟩ => ⟨S32x8x64, .f32⟩
  | .hbm, ⟨24, _⟩ => ⟨S32x8x64, .f32⟩
  | .hbm, ⟨25, _⟩ => ⟨S32x8x64x1, .f32⟩
  | .hbm, ⟨26, _⟩ => ⟨S32x8x64x576, .f32⟩
  | .hbm, ⟨27, _⟩ => ⟨S32x8x64x576, .f32⟩
  | .hbm, ⟨28, _⟩ => ⟨S32x8x64x576, .f32⟩
  | .hbm, ⟨29, _⟩ => ⟨S_, .f32⟩
  | .hbm, ⟨30, _⟩ => ⟨S32x8x64, .f32⟩
  | .hbm, ⟨31, _⟩ => ⟨S32x8x64x1, .f32⟩
  | .hbm, ⟨32, _⟩ => ⟨S32x8x64x576, .f32⟩
  | .hbm, ⟨33, _⟩ => ⟨S32x8x64x576, .f32⟩
  | .hbm, ⟨34, _⟩ => ⟨S32x8x128x64, .f32⟩
  | .hbm, ⟨35, _⟩ => ⟨S32x64x8x128, .f32⟩
  | .hbm, ⟨36, _⟩ => ⟨S32x64x1024, .f32⟩
  | .hbm, ⟨37, _⟩ => ⟨S32x64x1024, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== ProjStep.lean ====
abbrev S32x64x2048 : Shape := ⟨3, ![32, 64, 2048]⟩
abbrev S6x40x2048 : Shape := ⟨3, ![6, 40, 2048]⟩
abbrev S2048 : Shape := ⟨1, ![2048]⟩
abbrev S2048x10240 : Shape := ⟨2, ![2048, 10240]⟩
abbrev S8x128 : Shape := ⟨2, ![8, 128]⟩
abbrev S6x32x2048 : Shape := ⟨3, ![6, 32, 2048]⟩
abbrev S6x32x1x2048 : Shape := ⟨4, ![6, 32, 1, 2048]⟩
abbrev S1x1024 : Shape := ⟨2, ![1, 1024]⟩
abbrev S1x2048 : Shape := ⟨2, ![1, 2048]⟩
abbrev S2048x1024 : Shape := ⟨2, ![2048, 1024]⟩
abbrev S8x64x2048 : Shape := ⟨3, ![8, 64, 2048]⟩
abbrev S1x8x1x2048 : Shape := ⟨4, ![1, 8, 1, 2048]⟩
abbrev S2048x512 : Shape := ⟨2, ![2048, 512]⟩
abbrev S1x512 : Shape := ⟨2, ![1, 512]⟩
abbrev S512x512 : Shape := ⟨2, ![512, 512]⟩
abbrev S512x2048 : Shape := ⟨2, ![512, 2048]⟩
abbrev S1x64x2048 : Shape := ⟨3, ![1, 64, 2048]⟩
abbrev S64x2048 : Shape := ⟨2, ![64, 2048]⟩
abbrev S1x1x1x2048 : Shape := ⟨4, ![1, 1, 1, 2048]⟩
abbrev S64 : Shape := ⟨1, ![64]⟩
abbrev S64x1 : Shape := ⟨2, ![64, 1]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 17
  | .vmem => 24
  | .smem => 0
  | _ => 0

abbrev bufTy : (tb : Table) → Fin (tcTables nBuf tb) → BufTy
  | .hbm, ⟨0, _⟩ => ⟨S32x64x2048, .f32⟩
  | .hbm, ⟨1, _⟩ => ⟨S6x40x2048, .f32⟩
  | .hbm, ⟨2, _⟩ => ⟨S2048, .f32⟩
  | .hbm, ⟨3, _⟩ => ⟨S2048x10240, .f32⟩
  | .hbm, ⟨4, _⟩ => ⟨S8x128, .f32⟩
  | .hbm, ⟨5, _⟩ => ⟨S8x128, .f32⟩
  | .hbm, ⟨6, _⟩ => ⟨S6x32x2048, .f32⟩
  | .hbm, ⟨7, _⟩ => ⟨S6x32x1x2048, .f32⟩
  | .hbm, ⟨8, _⟩ => ⟨S2048x10240, .bf16⟩
  | .hbm, ⟨9, _⟩ => ⟨S1x1024, .f32⟩
  | .hbm, ⟨10, _⟩ => ⟨S1x1024, .f32⟩
  | .hbm, ⟨11, _⟩ => ⟨S1x2048, .f32⟩
  | .hbm, ⟨12, _⟩ => ⟨S2048x10240, .bf16⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .local _ .vmem, ⟨0, _⟩ => ⟨S8x64x2048, .f32⟩
  | .local _ .vmem, ⟨1, _⟩ => ⟨S8x64x2048, .f32⟩
  | .local _ .vmem, ⟨2, _⟩ => ⟨S1x2048, .f32⟩
  | .local _ .vmem, ⟨3, _⟩ => ⟨S1x8x1x2048, .f32⟩
  | .local _ .vmem, ⟨4, _⟩ => ⟨S1x8x1x2048, .f32⟩
  | .local _ .vmem, ⟨5, _⟩ => ⟨S1x8x1x2048, .f32⟩
  | .local _ .vmem, ⟨6, _⟩ => ⟨S1x8x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x2048, .bf16⟩
  | _, _ => ⟨S32x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c8_i32 : BitVec 32 := 8#32
  let v45 : BitVec 32 := Scalar.addi c0_i32_19 c8_i32
  let c1_i32_20 : BitVec 32 := 1#32
  ⟨c0_i32_19, v45, c1_i32_20⟩
def k0_off1 (k0_t1 : Fin k0_t1_loop.trips) : Fin 3 → Nat :=
  let c0_i32_19 : BitVec 32 := 0#32
  let c1_i32_20 : BitVec 32 := 1#32
  let arg15 : BitVec 32 := Scf.iv c0_i32_19 c1_i32_20 k0_t1
  let v46 : Index := Scalar.indexCast arg15
  let c0_22 : Index := 0#32
  let c0_23 : Index := 0#32
  ![v46.toNat, 0, 0]
def k0_off2 (k0_t1 : Fin k0_t1_loop.trips) : Fin 4 → Nat :=
  let c0_26 : Index := 0#32
  let c0_i32_19 : BitVec 32 := 0#32
  let c1_i32_20 : BitVec 32 := 1#32
  let arg15 : BitVec 32 := Scf.iv c0_i32_19 c1_i32_20 k0_t1
  let v51 : Index := Scalar.indexCast arg15
  let c0_27 : Index := 0#32
  let c0_28 : Index := 0#32
  ![0, v51.toNat, 0, 0]
def k0_mult1 (k0_t1 : Fin k0_t1_loop.trips) : BitVec 32 :=
  let c0_i32_19 : BitVec 32 := 0#32
  let c1_i32_20 : BitVec 32 := 1#32
  let arg15 : BitVec 32 := Scf.iv c0_i32_19 c1_i32_20 k0_t1
  let c64_i32 : BitVec 32 := 64#32
  let v76 : BitVec 32 := Scalar.muli arg15 c64_i32
  v76
def k0_off3 (k0_t1 : Fin k0_t1_loop.trips) : Fin 2 → Nat :=
  let c0_i32_19 : BitVec 32 := 0#32
  let c1_i32_20 : BitVec 32 := 1#32
  let arg15 : BitVec 32 := Scf.iv c0_i32_19 c1_i32_20 k0_t1
  let c64_i32 : BitVec 32 := 64#32
  let v76 : BitVec 32 := Scalar.muli arg15 c64_i32
  let v77 : BitVec 32 := v76
  let v78 : Index := Scalar.indexCast v77
  let c0_36 : Index := 0#32
  ![v78.toNat, 0]
def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c0_i32_9 : BitVec 32 := 0#32
  let v24 : BitVec 1 := Scalar.cmpi .eq v23 c0_i32_9
  let v25 : BitVec 32 := Scalar.extui v24
  let c0_i32_10 : BitVec 32 := 0#32
  let v26 : BitVec 1 := Scalar.cmpi .ne v25 c0_i32_10
  v26

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c1_i32_11 : BitVec 32 := 1#32
  let v27 : BitVec 1 := Scalar.cmpi .eq v23 c1_i32_11
  let v28 : BitVec 32 := Scalar.extui v27
  let c0_i32_12 : BitVec 32 := 0#32
  let v29 : BitVec 1 := Scalar.cmpi .ne v28 c0_i32_12
  v29

def k0_cond4 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c2_i32_13 : BitVec 32 := 2#32
  let v30 : BitVec 1 := Scalar.cmpi .eq v23 c2_i32_13
  let v31 : BitVec 32 := Scalar.extui v30
  let c0_i32_14 : BitVec 32 := 0#32
  let v32 : BitVec 1 := Scalar.cmpi .ne v31 c0_i32_14
  v32

def k0_cond5 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c3_i32 : BitVec 32 := 3#32
  let v33 : BitVec 1 := Scalar.cmpi .eq v23 c3_i32
  let v34 : BitVec 32 := Scalar.extui v33
  let c0_i32_15 : BitVec 32 := 0#32
  let v35 : BitVec 1 := Scalar.cmpi .ne v34 c0_i32_15
  v35

def k0_cond6 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c4_i32 : BitVec 32 := 4#32
  let v36 : BitVec 1 := Scalar.cmpi .eq v23 c4_i32
  let v37 : BitVec 32 := Scalar.extui v36
  let c0_i32_16 : BitVec 32 := 0#32
  let v38 : BitVec 1 := Scalar.cmpi .ne v37 c0_i32_16
  v38

def k0_cond7 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c5_i32 : BitVec 32 := 5#32
  let v39 : BitVec 1 := Scalar.cmpi .eq v23 c5_i32
  let v40 : BitVec 32 := Scalar.extui v39
  let c0_i32_17 : BitVec 32 := 0#32
  let v41 : BitVec 1 := Scalar.cmpi .ne v40 c0_i32_17
  v41

def k0_cond8 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c6_i32 : BitVec 32 := 6#32
  let v42 : BitVec 1 := Scalar.cmpi .sge v23 c6_i32
  let v43 : BitVec 32 := Scalar.extui v42
  let c0_i32_18 : BitVec 32 := 0#32
  let v44 : BitVec 1 := Scalar.cmpi .ne v43 c0_i32_18
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 2 → Memref sig .tc .vmem S8x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjStepRefIdeal.lean ====
abbrev S32x64x2048 : Shape := ⟨3, ![32, 64, 2048]⟩
abbrev S6x40x2048 : Shape := ⟨3, ![6, 40, 2048]⟩
abbrev S2048 : Shape := ⟨1, ![2048]⟩
abbrev S2048x10240 : Shape := ⟨2, ![2048, 10240]⟩
abbrev S8x128 : Shape := ⟨2, ![8, 128]⟩
abbrev S1x32x2048 : Shape := ⟨3, ![1, 32, 2048]⟩
abbrev S32x2048 : Shape := ⟨2, ![32, 2048]⟩
abbrev S32x1x2048 : Shape := ⟨3, ![32, 1, 2048]⟩
abbrev S_ : Shape := ⟨0, ![]⟩
abbrev S32x64 : Shape := ⟨2, ![32, 64]⟩
abbrev S32x64x1 : Shape := ⟨3, ![32, 64, 1]⟩
abbrev S1x1x2048 : Shape := ⟨3, ![1, 1, 2048]⟩
abbrev S32x64x10240 : Shape := ⟨3, ![32, 64, 10240]⟩
abbrev S32x64x1024 : Shape := ⟨3, ![32, 64, 1024]⟩
abbrev S32x64x8x128 : Shape := ⟨4, ![32, 64, 8, 128]⟩
abbrev S32x64x8 : Shape := ⟨3, ![32, 64, 8]⟩
abbrev S32x64x8x1 : Shape := ⟨4, ![32, 64, 8, 1]⟩
abbrev S1x1x8x128 : Shape := ⟨4, ![1, 1, 8, 128]⟩
abbrev S2048x1024 : Shape := ⟨2, ![2048, 1024]⟩

abbrev nBuf : Space → Nat
  | .hbm => 93
  | .vmem => 0
  | .smem => 0
  | _ => 0

abbrev bufTy : (tb : Table) → Fin (tcTables nBuf tb) → BufTy
  | .hbm, ⟨0, _⟩ => ⟨S32x64x2048, .f32⟩
  | .hbm, ⟨1, _⟩ => ⟨S6x40x2048, .f32⟩
  | .hbm, ⟨2, _⟩ => ⟨S2048, .f32⟩
  | .hbm, ⟨3, _⟩ => ⟨S2048x10240, .f32⟩
  | .hbm, ⟨4, _⟩ => ⟨S8x128, .f32⟩
  | .hbm, ⟨5, _⟩ => ⟨S8x128, .f32⟩
  | .hbm, ⟨6, _⟩ => ⟨S1x32x2048, .f32⟩
  | .hbm, ⟨7, _⟩ => ⟨S32x2048, .f32⟩
  | .hbm, ⟨8, _⟩ => ⟨S32x1x2048, .f32⟩
  | .hbm, ⟨9, _⟩ => ⟨S1x32x2048, .f32⟩
  | .hbm, ⟨10, _⟩ => ⟨S32x2048, .f32⟩
  | .hbm, ⟨11, _⟩ => ⟨S32x1x2048, .f32⟩
  | .hbm, ⟨12, _⟩ => ⟨S32x64x2048, .f32⟩
  | .hbm, ⟨13, _⟩ => ⟨S_, .f32⟩
  | .hbm, ⟨14, _⟩ => ⟨S32x64, .f32⟩
  | .hbm, ⟨15, _⟩ => ⟨S32x64x1, .f32⟩
  | .hbm, ⟨16, _⟩ => ⟨S_, .f32⟩
  | .hbm, ⟨17, _⟩ => ⟨S32x64x1, .f32⟩
  | .hbm, ⟨18, _⟩ => ⟨S32x64x1, .f32⟩
  | .hbm, ⟨19, _⟩ => ⟨S_, .f32⟩
  | .hbm, ⟨20, _⟩ => ⟨S32x64x1, .f32⟩
  | .hbm, ⟨21, _⟩ => ⟨S32x64x1, .f32⟩
  | .hbm, ⟨22, _⟩ => ⟨S32x64x1, .f32⟩
  | .hbm, ⟨23, _⟩ => ⟨S32x64x2048, .f32⟩
  | .hbm, ⟨24, _⟩ => ⟨S32x64x2048, .f32⟩
  | .hbm, ⟨25, _⟩ => ⟨S1x1x2048, .f32⟩
  | .hbm, ⟨26, _⟩ => ⟨S32x64x2048, .f32⟩
  | .hbm, ⟨27, _⟩ => ⟨S32x64x2048, .f32⟩
  | .hbm, ⟨28, _⟩ => ⟨S_, .f32⟩
  | .hbm, ⟨29, _⟩ => ⟨S32x1x2048, .f32⟩
  | .hbm, ⟨30, _⟩ => ⟨S32x1x2048, .f32⟩
  | .hbm, ⟨31, _⟩ => ⟨S32x64x2048, .f32⟩
  | .hbm, ⟨32, _⟩ => ⟨S32x64x2048, .f32⟩
  | .hbm, ⟨33, _⟩ => ⟨S32x64x2048, .f32⟩
  | .hbm, ⟨34, _⟩ => ⟨S32x64x2048, .f32⟩
  | .hbm, ⟨35, _⟩ => ⟨S32x64x10240, .f32⟩
  | .hbm, ⟨36, _⟩ => ⟨S32x64x1024, .f32⟩
  | .hbm, ⟨37, _⟩ => ⟨S32x64x1024, .f32⟩
  | .hbm, ⟨38, _⟩ => ⟨S32x64x1024, .f32⟩
  | .hbm, ⟨39, _⟩ => ⟨S32x64x1024, .f32⟩
  | .hbm, ⟨40, _⟩ => ⟨S32x64x1024, .f32⟩
  | .hbm, ⟨41, _⟩ => ⟨S32x64x1024, .f32⟩
  | .hbm, ⟨42, _⟩ => ⟨S32x64x2048, .f32⟩
  | .hbm, ⟨43, _⟩ => ⟨S32x64x2048, .f32⟩
  | .hbm, ⟨44, _⟩ => ⟨S32x64x8x128, .f32⟩
  | .hbm, ⟨45, _⟩ => ⟨S32x64x8x128, .f32⟩
  | .hbm, ⟨46, _⟩ => ⟨S_, .f32⟩
  | .hbm, ⟨47, _⟩ => ⟨S32x64x8, .f32⟩
  | .hbm, ⟨48, _⟩ => ⟨S32x64x8x1, .f32⟩
  | .hbm, ⟨49, _⟩ => ⟨S_, .f32⟩
  | .hbm, ⟨50, _⟩ => ⟨S32x64x8x1, .f32⟩
  | .hbm, ⟨51, _⟩ => ⟨S32x64x8x1, .f32⟩
  | .hbm, ⟨52, _⟩ => ⟨S_, .f32⟩
  | .hbm, ⟨53, _⟩ => ⟨S32x64x8x1, .f32⟩
  | .hbm, ⟨54, _⟩ => ⟨S32x64x8x1, .f32⟩
  | .hbm, ⟨55, _⟩ => ⟨S32x64x8x1, .f32⟩
  | .hbm, ⟨56, _⟩ => ⟨S32x64x8x128, .f32⟩
  | .hbm, ⟨57, _⟩ => ⟨S32x64x8x128, .f32⟩
  | .hbm, ⟨58, _⟩ => ⟨S1x1x8x128, .f32⟩
  | .hbm, ⟨59, _⟩ => ⟨S32x64x8x128, .f32⟩
  | .hbm, ⟨60, _⟩ => ⟨S32x64x8x128, .f32⟩
  | .hbm, ⟨61, _⟩ => ⟨S32x64x1024, .f32⟩
  | .hbm, ⟨62, _⟩ => ⟨S32x64x8x128, .f32⟩
  | .hbm, ⟨63, _⟩ => ⟨S32x64x8x128, .f32⟩
  | .hbm, ⟨64, _⟩ => ⟨S_, .f32⟩
  | .hbm, ⟨65, _⟩ => ⟨S32x64x8, .f32⟩
  | .hbm, ⟨66, _⟩ => ⟨S32x64x8x1, .f32⟩
  | .hbm, ⟨67, _⟩ => ⟨S_, .f32⟩
  | .hbm, ⟨68, _⟩ => ⟨S32x64x8x1, .f32⟩
  | .hbm, ⟨69, _⟩ => ⟨S32x64x8x1, .f32⟩
  | .hbm, ⟨70, _⟩ => ⟨S_, .f32⟩
  | .hbm, ⟨71, _⟩ => ⟨S32x64x8x1, .f32⟩
  | .hbm, ⟨72, _⟩ => ⟨S32x64x8x1, .f32⟩
  | .hbm, ⟨73, _⟩ => ⟨S32x64x8x1, .f32⟩
  | .hbm, ⟨74, _⟩ => ⟨S32x64x8x128, .f32⟩
  | .hbm, ⟨75, _⟩ => ⟨S32x64x8x128, .f32⟩
  | .hbm, ⟨76, _⟩ => ⟨S1x1x8x128, .f32⟩
  | .hbm, ⟨77, _⟩ => ⟨S32x64x8x128, .f32⟩
  | .hbm, ⟨78, _⟩ => ⟨S32x64x8x128, .f32⟩
  | .hbm, ⟨79, _⟩ => ⟨S32x64x1024, .f32⟩
  | .hbm, ⟨80, _⟩ => ⟨S_, .f32⟩
  | .hbm, ⟨81, _⟩ => ⟨S32x64x1024, .f32⟩
  | .hbm, ⟨82, _⟩ => ⟨S32x64x1024, .f32⟩
  | .hbm, ⟨83, _⟩ => ⟨S_, .f32⟩
  | .hbm, ⟨84, _⟩ => ⟨S32x64x1024, .f32⟩
  | .hbm, ⟨85, _⟩ => ⟨S32x64x1024, .f32⟩
  | .hbm, ⟨86, _⟩ => ⟨S32x64x10240, .f32⟩
  | .hbm, ⟨87, _⟩ => ⟨S32x64x10240, .bf16⟩
  | .hbm, ⟨88, _⟩ => ⟨S2048x10240, .bf16⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | _, _ => ⟨S32x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Proof.StickMath.lean ====
/- Stick-breaking attention over one query row, as real arithmetic: the softplus in the form both sides compute, the mass a
   key leaves to the keys before it, and the weighted sum of the values — whole, and block by block from the last key back. -/
module

public import Idealize.ShloMosaic.Lib.Pointwise

@[expose] public section

set_option maxRecDepth 16384

noncomputable section

namespace Cert.StickMath

open Idealize.ShloMosaic hiding ix1 ix2 ix3 eq_ix1

/-- A finite sum of reals is a real. -/
theorem coe_sum {ι : Type} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-! ## The softplus -/

/-- `log (1 + e^r)`, in the form that does not overflow. -/
def sp (r : ℝ) : ℝ := max r 0 + Real.log (1 + Real.exp (-|r|))

theorem sp_neg (r : ℝ) : sp (-r) = sp r - r := by
  unfold sp
  rw [abs_neg]
  rcases le_total r 0 with h | h
  · rw [max_eq_left (by linarith), max_eq_right h]; ring
  · rw [max_eq_right (by linarith), max_eq_left h]; ring

theorem abs_coe (r : ℝ) : max (r : EReal) (-(r : EReal)) = ((|r| : ℝ) : EReal) := by
  rw [← EReal.coe_neg, ← EReal.coe_strictMono.monotone.map_max]; rfl

theorem log_coe_pos (r : ℝ) (h : 0 < r) : Ideal.log (r : EReal) = (Real.log r : EReal) := by
  rw [Ideal.log_coe, if_neg (not_le.2 h)]

theorem log_part (r : ℝ) : Ideal.log (1 + Ideal.exp ((-|r| : ℝ) : EReal)) = (Real.log (1 + Real.exp (-|r|)) : EReal) := by
  rw [Ideal.exp_coe, ← EReal.coe_one, ← EReal.coe_add, log_coe_pos _ (by positivity)]

/-- The kernel's softplus of a real. -/
theorem sp_kernel (r : ℝ) : max (r : EReal) 0 + Ideal.log (1 + Ideal.exp (-max (r : EReal) (-(r : EReal)))) = (sp r : EReal) := by
  rw [abs_coe, ← EReal.coe_neg, log_part, ← EReal.coe_zero, ← EReal.coe_strictMono.monotone.map_max, ← EReal.coe_add]; rfl

/-! ## One row -/

/-- The score of key `s` for a row with query `q`. -/
def score (q : Fin 128 → ℝ) (k : ℕ → Fin 128 → ℝ) (s : ℕ) : ℝ := ∑ d, q d * k s d

/-- The softplus of the score of key `s`, where key `s` is before row `t`; 0 elsewhere. -/
def msp (t : ℕ) (z : ℕ → ℝ) (s : ℕ) : ℝ := if s < t then sp (z s) else 0

/-- What the keys after `j` take away, in all `n` keys. -/
def later (n t : ℕ) (z : ℕ → ℝ) (j : ℕ) : ℝ := ∑ s ∈ Finset.Ico (j + 1) n, msp t z s

/-- The weight of key `j` in row `t`. -/
def wt (n t : ℕ) (z : ℕ → ℝ) (j : ℕ) : ℝ := if j < t then Real.exp (z j - sp (z j) - later n t z j) else 0

/-- The weighted sum of the values of keys `lo … hi - 1`. -/
def part (n t : ℕ) (z : ℕ → ℝ) (v : ℕ → EReal) (lo hi : ℕ) : EReal := ∑ j ∈ Finset.Ico lo hi, (wt n t z j : EReal) * v j

theorem part_join (n t : ℕ) (z : ℕ → ℝ) (v : ℕ → EReal) {a b c : ℕ} (h1 : a ≤ b) (h2 : b ≤ c) :
    part n t z v b c + part n t z v a b = part n t z v a c := by
  unfold part
  rw [add_comm, Finset.sum_Ico_consecutive _ h1 h2]

theorem msp_eq_zero {t : ℕ} (z : ℕ → ℝ) {s : ℕ} (h : t ≤ s) : msp t z s = 0 := if_neg (not_lt.2 h)

/-- Keys from the row on have no weight. -/
theorem part_past (n t : ℕ) (z : ℕ → ℝ) (v : ℕ → EReal) {b : ℕ} (h1 : t ≤ b) (h2 : b ≤ n) :
    part n t z v 0 b = part n t z v 0 n := by
  unfold part
  rw [← Finset.sum_Ico_consecutive _ (Nat.zero_le b) h2,
    Finset.sum_eq_zero (s := Finset.Ico b n) (fun j hj => ?_), add_zero]
  rw [wt, if_neg (not_lt.2 (h1.trans (Finset.mem_Ico.1 hj).1)), EReal.coe_zero, zero_mul]

/-- The mass of all keys from `b` on. -/
def mass (n t : ℕ) (z : ℕ → ℝ) (b : ℕ) : ℝ := ∑ s ∈ Finset.Ico b n, msp t z s

theorem mass_past (n t : ℕ) (z : ℕ → ℝ) {b : ℕ} (h : t ≤ b) : mass n t z b = 0 :=
  Finset.sum_eq_zero fun s hs => msp_eq_zero z (h.trans (Finset.mem_Ico.1 hs).1)

/-! ## One block of keys -/

/-- The sum of a block's entries after entry `j`: the product with the strictly lower triangle of ones. -/
theorem tail_sum (T : ℕ) (f : ℕ → ℝ) (b : ℕ) (j : ℕ) (hj : j < T) :
    ∑ i : Fin T, f (b + i.val) * (if j < i.val then 1 else 0) = ∑ s ∈ Finset.Ico (b + j + 1) (b + T), f s := by
  rw [Fin.sum_univ_eq_sum_range (fun i => f (b + i) * (if j < i then 1 else 0)) T, Finset.sum_Ico_eq_sum_range,
    show b + T - (b + j + 1) = T - (j + 1) by omega, ← Finset.sum_range_add_sum_Ico _ (show j + 1 ≤ T by omega),
    Finset.sum_eq_zero (fun i hi => ?_), zero_add, Finset.sum_Ico_eq_sum_range]
  · refine Finset.sum_congr rfl fun i hi => ?_
    rw [if_pos (by omega), mul_one]
    congr 1; omega
  · rw [if_neg (by have := Finset.mem_range.1 hi; omega), mul_zero]

/-- A block's entries after entry `j`, then the mass past the block, is what all the keys after it take away. -/
theorem later_block (n t T : ℕ) (z : ℕ → ℝ) (b j : ℕ) (hj : j < T) (hn : b + T ≤ n) :
    (∑ s ∈ Finset.Ico (b + j + 1) (b + T), msp t z s) + mass n t z (b + T) = later n t z (b + j) :=
  Finset.sum_Ico_consecutive _ (by omega) hn

/-- The mass from a block on: the mass past it, the block's entries after its first, and its first. -/
theorem mass_block (n t T : ℕ) (z : ℕ → ℝ) (b : ℕ) (hT : 0 < T) (hn : b + T ≤ n) :
    mass n t z (b + T) + (∑ s ∈ Finset.Ico (b + 0 + 1) (b + T), msp t z s) + msp t z b = mass n t z b := by
  rw [show mass n t z b = msp t z b + ∑ s ∈ Finset.Ico (b + 1) n, msp t z s from
      Finset.sum_eq_sum_Ico_succ_bot (by omega) _,
    ← Finset.sum_Ico_consecutive _ (show b + 1 ≤ b + T by omega) hn]
  unfold mass; ring

/-- A block's weighted values, as a sum over the block. -/
theorem part_block (n t T : ℕ) (z : ℕ → ℝ) (v : ℕ → EReal) (b : ℕ) :
    part n t z v b (b + T) = ∑ i : Fin T, (wt n t z (b + i.val) : EReal) * v (b + i.val) := by
  unfold part
  rw [Finset.sum_Ico_eq_sum_range, Nat.add_sub_cancel_left,
    Fin.sum_univ_eq_sum_range (fun i => (wt n t z (b + i) : EReal) * v (b + i)) T]

end Cert.StickMath

end
-- ==== Proof.StickRefValue.lean ====
/- The attention reference's result, in closed form, where the queries and keys are finite: for every row the weighted sum of
   the values, each key's weight the exponential of its log-probability less the mass of the keys between it and the row. -/
module

public import proofs.«01_k».proof.Proof.Gen.StickRefIdeal.Read
public import proofs.«01_k».proof.Proof.StickMath
public import Idealize.ShloMosaic.Lib.StableHlo.Predicate

@[expose] public section

set_option maxRecDepth 16384

noncomputable section

namespace Cert.StickRefValue

open Idealize.ShloMosaic hiding ix1 ix2 ix3 ix4 eq_ix1
open Idealize.ShloMosaic.ValueIdx
open Cert.StickRefIdeal Cert.StickRefIdeal.Gen Cert.StickRefIdeal.Read Cert.StickMath

/-! ## The closed form -/

abbrev Arr := S2x4096x10240.Idx → EReal

/-- Column `base + 128 h + d` of the projections: `base` is 0 for the queries, 1024 for the keys, 2048 for the values. -/
def col (base : ℕ) (hb : base ≤ 2048) (h : Fin 8) (d : Fin 128) : Fin 10240 := ⟨base + h.val * 128 + d.val, by omega⟩

def qrow (x : Arr) (b : Fin 2) (h : Fin 8) (t : Fin 4096) (d : Fin 128) : ℝ := (x (ix3 b t (col 0 (by decide) h d))).toReal

def krow (x : Arr) (b : Fin 2) (h : Fin 8) (s : ℕ) (d : Fin 128) : ℝ :=
  if hs : s < 4096 then (x (ix3 b ⟨s, hs⟩ (col 1024 (by decide) h d))).toReal else 0

def vrow (x : Arr) (b : Fin 2) (h : Fin 8) (s : ℕ) (d : Fin 128) : EReal :=
  if hs : s < 4096 then x (ix3 b ⟨s, hs⟩ (col 2048 (by decide) h d)) else 0

/-- Batch `b`, head `h`, row `t`, column `d` of the attention's result. -/
def out (x : Arr) (b : Fin 2) (h : Fin 8) (t : Fin 4096) (d : Fin 128) : EReal :=
  part 4096 t.val (score (qrow x b h t) (krow x b h)) (fun s => vrow x b h s d) 0 4096

/-- The queries and keys are real numbers. -/
def Real2048 (x : Arr) : Prop := ∀ (b : Fin 2) (t : Fin 4096) (n : Fin 10240), n.val < 2048 → x (ix3 b t n) = ((x (ix3 b t n)).toReal : EReal)

/-! ## A running sum from the end -/

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window's position is its place along the last axis. -/
def lastEquiv : (⟨4, ![1, 1, 1, 4096]⟩ : Shape).Idx ≃ Fin 4096 where
  toFun w := w 3
  invFun s := ix4 0 0 0 s
  left_inv w := by
    funext a; match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv s := rfl

theorem window_sum (y : S2x8x4096x4096.Idx → EReal) (init : S_.Idx → EReal) (h0 : ∀ i, init i = 0)
    (b : Fin 2) (h : Fin 8) (t j : Fin 4096) (f : ℕ → EReal) (hf : ∀ s : Fin 4096, y (ix4 b h t s) = f s.val) :
    Host.reduceWindowAdd (F := Ideal) (φ := .f32) ![1, 1, 1, 4096] ![1, 1, 1, 1] ![0, 0, 0, 0] ![0, 0, 0, 4095] y init
      reduceWindows_S2x8x4096x4096_S2x8x4096x4096_w1s1p0_0_w1s1p0_0_w1s1p0_0_w4096s1p0_4095 h_S_ (ix4 b h t j)
      = ∑ s ∈ Finset.Ico j.val 4096, f s := by
  unfold Host.reduceWindowAdd
  show Ideal.hostReduceWindowAdd _ _ _ _ _ _ _ _ = _
  unfold Ideal.hostReduceWindowAdd
  rw [h0]
  unfold Host.reduceWindow
  dsimp only
  refine (foldl_add _ _ _).trans ?_
  rw [zero_add, ← Fin.sum_univ_def, ← Equiv.sum_comp (Shape.rowMajor (⟨4, ![1, 1, 1, 4096]⟩ : Shape)), ← Equiv.sum_comp lastEquiv.symm]
  simp only [Equiv.symm_apply_apply]
  rw [Finset.sum_congr rfl (g := fun s : Fin 4096 => if j.val + s.val < 4096 then f (j.val + s.val) else 0) (fun s _ => ?_)]
  · rw [Fin.sum_univ_eq_sum_range (fun s => if j.val + s < 4096 then f (j.val + s) else 0) 4096, Finset.sum_Ico_eq_sum_range,
      ← Finset.sum_range_add_sum_Ico _ (show 4096 - j.val ≤ 4096 by omega), Finset.sum_eq_zero (s := Finset.Ico _ _) (fun s hs => ?_), add_zero]
    · exact Finset.sum_congr rfl fun s hs => if_pos (by have := Finset.mem_range.1 hs; omega)
    · exact if_neg (by have := (Finset.mem_Ico.1 hs).1; omega)
  · have h1 := b.isLt; have h2 := h.isLt; have h3 := t.isLt
    by_cases hs : j.val + s.val < 4096
    · rw [if_pos hs]
      refine (dif_pos ?_).trans (Eq.trans (congrArg y ?_) (hf ⟨j.val + s.val, hs⟩))
      · intro a; match a with
        | ⟨0, _⟩ => exact ⟨Nat.zero_le _, by show b.val * 1 + 0 - 0 < 2; omega⟩
        | ⟨1, _⟩ => exact ⟨Nat.zero_le _, by show h.val * 1 + 0 - 0 < 8; omega⟩
        | ⟨2, _⟩ => exact ⟨Nat.zero_le _, by show t.val * 1 + 0 - 0 < 4096; omega⟩
        | ⟨3, _⟩ => exact ⟨Nat.zero_le _, by show j.val * 1 + s.val - 0 < 4096; omega⟩
      · funext a; apply Fin.ext; match a with
        | ⟨0, _⟩ => show b.val * 1 + 0 - 0 = b.val; omega
        | ⟨1, _⟩ => show h.val * 1 + 0 - 0 = h.val; omega
        | ⟨2, _⟩ => show t.val * 1 + 0 - 0 = t.val; omega
        | ⟨3, _⟩ => show j.val * 1 + s.val - 0 = j.val + s.val; omega
    · rw [if_neg hs]
      refine dif_neg fun hall => hs ?_
      have := (hall 3).2
      change j.val * 1 + s.val - 0 < 4096 at this
      omega

/-! ## Stage by stage -/

/-- The host's softplus of a real: the guard against NaN never fires. -/
theorem softplus_real (x : EReal) (r : ℝ) (hx : x = (r : EReal)) :
    Scalar.select (Ideal.cmp .une (x - 0) (x - 0)) (x + 0) (max x 0 + Ideal.log1p (Ideal.exp (-max (x - 0) (-(x - 0))))) = (sp r : EReal) := by
  subst hx
  have h0 : ((r : EReal) - 0) = (r : EReal) := sub_zero _
  rw [h0]
  refine Eq.trans ?_ (sp_kernel r)
  have : Ideal.cmp .une (r : EReal) (r : EReal) = 0#1 := by
    show BitVec.ofBool (decide ((r : EReal) ≠ (r : EReal))) = 0#1
    rw [decide_eq_false (fun hne => hne rfl)]; rfl
  rw [this]
  rfl

section Stages
variable (x : Arr) (hx : Real2048 x) (b : Fin 2) (h : Fin 8) (t : Fin 4096)

theorem v2_eq (d : Fin 128) : val_main_v2 (F := Ideal) x (ix4 b t h d) = x (ix3 b t (col 0 (by decide) h d)) := by
  rw [val_main_v2_apply, val_main_v1_apply]
  refine congrArg x (funext fun a => Fin.ext ?_)
  have h1 := b.isLt; have h2 := h.isLt; have h3 := t.isLt; have h4 := d.isLt
  match a with
  | ⟨0, _⟩ => show (((b.val * 4096 + t.val) * 8 + h.val) * 128 + d.val) / 4194304 = b.val; omega
  | ⟨1, _⟩ => show (((b.val * 4096 + t.val) * 8 + h.val) * 128 + d.val) / 1024 % 4096 = t.val; omega
  | ⟨2, _⟩ => show (((b.val * 4096 + t.val) * 8 + h.val) * 128 + d.val) % 1024 = 0 + h.val * 128 + d.val; omega

theorem v4_eq (d : Fin 128) : val_main_v4 (F := Ideal) x (ix4 b t h d) = x (ix3 b t (col 1024 (by decide) h d)) := by
  rw [val_main_v4_apply, val_main_v3_apply]
  refine congrArg x (funext fun a => Fin.ext ?_)
  have h1 := b.isLt; have h2 := h.isLt; have h3 := t.isLt; have h4 := d.isLt
  match a with
  | ⟨0, _⟩ => show (((b.val * 4096 + t.val) * 8 + h.val) * 128 + d.val) / 4194304 = b.val; omega
  | ⟨1, _⟩ => show (((b.val * 4096 + t.val) * 8 + h.val) * 128 + d.val) / 1024 % 4096 = t.val; omega
  | ⟨2, _⟩ => show 1024 + (((b.val * 4096 + t.val) * 8 + h.val) * 128 + d.val) % 1024 = 1024 + h.val * 128 + d.val; omega

theorem v6_eq (d : Fin 128) : val_main_v6 (F := Ideal) x (ix4 b t h d) = x (ix3 b t (col 2048 (by decide) h d)) := by
  rw [val_main_v6_apply, val_main_v5_apply]
  refine congrArg x (funext fun a => Fin.ext ?_)
  have h1 := b.isLt; have h2 := h.isLt; have h3 := t.isLt; have h4 := d.isLt
  match a with
  | ⟨0, _⟩ => show (((b.val * 4096 + t.val) * 8 + h.val) * 128 + d.val) / 4194304 = b.val; omega
  | ⟨1, _⟩ => show (((b.val * 4096 + t.val) * 8 + h.val) * 128 + d.val) / 1024 % 4096 = t.val; omega
  | ⟨2, _⟩ => show 2048 + (((b.val * 4096 + t.val) * 8 + h.val) * 128 + d.val) % 1024 = 2048 + h.val * 128 + d.val; omega

/-- The row's scores. -/
abbrev sc : ℕ → ℝ := score (qrow x b h t) (krow x b h)

include hx in
theorem v8_eq (j : Fin 4096) : val_main_v8 (F := Ideal) x (ix4 b h t j) = (sc x b h t j.val : EReal) := by
  rw [val_main_v8_apply, sc, score, coe_sum]
  refine Finset.sum_congr rfl fun d _ => ?_
  have el : lidx_main_v8 (ix4 b h t j) d = ix4 b t h d := by
    funext a; match a with | ⟨0, _⟩ => rfl | ⟨1, _⟩ => rfl | ⟨2, _⟩ => rfl | ⟨3, _⟩ => rfl
  have er : ridx_main_v8 (ix4 b h t j) d = ix4 b j h d := by
    funext a; match a with | ⟨0, _⟩ => rfl | ⟨1, _⟩ => rfl | ⟨2, _⟩ => rfl | ⟨3, _⟩ => rfl
  rw [el, er, v2_eq, v4_eq, EReal.coe_mul, qrow, krow, dif_pos j.isLt]
  have h2 := h.isLt; have h4 := d.isLt
  rw [← hx b t _ (by show 0 + h.val * 128 + d.val < 2048; omega), ← hx b j _ (by show 1024 + h.val * 128 + d.val < 2048; omega)]

theorem v13_eq (j : Fin 4096) : (val_main_v13 (F := Ideal) (ix2 t j) = 1#1) ↔ j.val < t.val := by
  rw [val_main_v13_apply, val_main_v11_apply, val_main_v9_apply, val_main_v12_apply, val_main_v10_apply]
  show (IntOp.cmpi .slt (BitVec.ofNat 32 j.val) (BitVec.ofNat 32 t.val) = 1#1) ↔ _
  have h3 := t.isLt; have h4 := j.isLt
  rw [IntOp.cmpi_slt, BitVec.toInt_eq_toNat_of_lt (by rw [BitVec.toNat_ofNat]; omega), BitVec.toInt_eq_toNat_of_lt (by rw [BitVec.toNat_ofNat]; omega),
    BitVec.toNat_ofNat, BitVec.toNat_ofNat]
  omega

theorem neg_coe (r : ℝ) : -(r : EReal) = ((-r : ℝ) : EReal) := (EReal.coe_neg r).symm

include hx in
theorem v15_eq (j : Fin 4096) : val_main_v15 (F := Ideal) x (ix4 b h t j) = ((-sp (sc x b h t j.val) : ℝ) : EReal) := by
  have hz : val_main_call0_v0 (F := Ideal) x (ix4 b h t j) = (sc x b h t j.val : EReal) := by
    show -(-(val_main_v8 (F := Ideal) x (ix4 b h t j))) = _
    rw [v8_eq x hx, neg_neg]
  refine Eq.trans ?_ ((congrArg (-·) (softplus_real _ _ hz)).trans (neg_coe _))
  rw [val_main_v15_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply]
  generalize val_main_call0_v0 (F := Ideal) x (ix4 b h t j) = z
  rw [show FloatOps.ofBits (F := Ideal) .f32 0x00000000#32 = (0 : EReal) from Ideal.ofBits_zero_f32]
  rfl

include hx in
theorem v19_eq (j : Fin 4096) : val_main_v19 (F := Ideal) x (ix4 b h t j) = ((sc x b h t j.val - sp (sc x b h t j.val) : ℝ) : EReal) := by
  have hz : val_main_call3_v0 (F := Ideal) x (ix4 b h t j) = ((-sc x b h t j.val : ℝ) : EReal) := by
    show -(val_main_v8 (F := Ideal) x (ix4 b h t j)) = _
    rw [v8_eq x hx, neg_coe]
  refine Eq.trans ?_ ((congrArg (-·) (softplus_real _ _ hz)).trans ((neg_coe _).trans (congrArg _ (by rw [sp_neg]; ring))))
  rw [val_main_v19_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply]
  generalize val_main_call3_v0 (F := Ideal) x (ix4 b h t j) = z
  rw [show FloatOps.ofBits (F := Ideal) .f32 0x00000000#32 = (0 : EReal) from Ideal.ofBits_zero_f32]
  rfl

theorem select_v13 (j : Fin 4096) (y z : EReal) : Scalar.select (val_main_v13 (F := Ideal) (ix2 t j)) y z = if j.val < t.val then y else z := by
  by_cases hj : j.val < t.val
  · rw [if_pos hj]; exact if_pos ((v13_eq t j).2 hj)
  · rw [if_neg hj]; exact if_neg (fun e => hj ((v13_eq t j).1 e))

include hx in
theorem v16_eq (j : Fin 4096) : val_main_v16 (F := Ideal) x (ix4 b h t j) = ((-msp t.val (sc x b h t) j.val : ℝ) : EReal) := by
  rw [val_main_v16_apply, val_main_call1_v1_apply, val_main_call1_v2_apply, val_main_call1_v0_apply, val_main_cst_apply,
    show idx_main_call1_v1 (ix4 b h t j) = ix2 t j from by funext a; match a with | ⟨0, _⟩ => rfl | ⟨1, _⟩ => rfl, select_v13, v15_eq x hx, msp]
  rw [show FloatOps.ofBits (F := Ideal) .f32 0x00000000#32 = (0 : EReal) from Ideal.ofBits_zero_f32]
  by_cases hj : j.val < t.val
  · rw [if_pos hj, if_pos hj]
  · rw [if_neg hj, if_neg hj, neg_zero, EReal.coe_zero]

include hx in
theorem v18_eq (j : Fin 4096) : val_main_v18 (F := Ideal) x (ix4 b h t j) = ((-later 4096 t.val (sc x b h t) j.val : ℝ) : EReal) := by
  rw [val_main_v18_apply]
  unfold val_main_v17
  rw [window_sum _ _ (fun i => by
      rw [val_main_call2_v0_apply, val_main_call2_cst_apply]; exact Ideal.ofBits_zero_f32) b h t j
      (fun s => ((-msp t.val (sc x b h t) s : ℝ) : EReal)) (fun s => v16_eq x hx b h t s), v16_eq x hx, ← coe_sum]
  show ((_ : ℝ) : EReal) - _ = _
  rw [← EReal.coe_sub]
  refine congrArg _ ?_
  rw [Finset.sum_eq_sum_Ico_succ_bot j.isLt, Finset.sum_neg_distrib, later]
  ring

include hx in
theorem v22_eq (j : Fin 4096) : val_main_v22 (F := Ideal) x (ix4 b h t j) = (wt 4096 t.val (sc x b h t) j.val : EReal) := by
  rw [val_main_v22_apply, val_main_call4_v1_apply, val_main_call4_v2_apply, val_main_call4_v0_apply, val_main_cst_0_apply,
    show idx_main_call4_v1 (ix4 b h t j) = ix2 t j from by funext a; match a with | ⟨0, _⟩ => rfl | ⟨1, _⟩ => rfl, select_v13, val_main_v21_apply,
    val_main_v20_apply, v18_eq x hx, v19_eq x hx, wt]
  rw [show FloatOps.ofBits (F := Ideal) .f32 0x00000000#32 = (0 : EReal) from Ideal.ofBits_zero_f32]
  by_cases hj : j.val < t.val
  · rw [if_pos hj, if_pos hj]
    show Ideal.exp (((_ : ℝ) : EReal) + ((_ : ℝ) : EReal)) = _
    rw [← EReal.coe_add, Ideal.exp_coe, ← sub_eq_add_neg]
  · rw [if_neg hj, if_neg hj, EReal.coe_zero]

include hx in
theorem v23_eq (d : Fin 128) : val_main_v23 (F := Ideal) x (ix4 b h d t) = out x b h t d := by
  rw [val_main_v23_apply, out, part, Nat.Ico_zero_eq_range,
    ← Fin.sum_univ_eq_sum_range (fun j => (wt 4096 t.val (score (qrow x b h t) (krow x b h)) j : EReal) * vrow x b h j d) 4096]
  refine Finset.sum_congr rfl fun j _ => ?_
  have el : lidx_main_v23 (ix4 b h d t) j = ix4 b j h d := by
    funext a; match a with | ⟨0, _⟩ => rfl | ⟨1, _⟩ => rfl | ⟨2, _⟩ => rfl | ⟨3, _⟩ => rfl
  have er : ridx_main_v23 (ix4 b h d t) j = ix4 b h t j := by
    funext a; match a with | ⟨0, _⟩ => rfl | ⟨1, _⟩ => rfl | ⟨2, _⟩ => rfl | ⟨3, _⟩ => rfl
  rw [el, er, v6_eq, v22_eq x hx, vrow, dif_pos j.isLt, mul_comm]

end Stages

/-- The reference's result. -/
theorem result (x : Arr) (hx : Real2048 x) (b : Fin 2) (t : Fin 4096) (h : Fin 8) (d : Fin 128) :
    val_main_v26 (F := Ideal) x (ix3 b t ⟨h.val * 128 + d.val, by omega⟩) = out x b h t d := by
  rw [val_main_v26_apply]
  show val_main_v25 (F := Ideal) x _ = _
  rw [val_main_v25_apply, val_main_v24_apply, ← v23_eq x hx]
  refine congrArg _ (funext fun a => Fin.ext ?_)
  have h1 := b.isLt; have h2 := h.isLt; have h3 := t.isLt; have h4 := d.isLt
  match a with
  | ⟨0, _⟩ => show ((b.val * 4096 + t.val) * 1024 + (h.val * 128 + d.val)) / 4194304 = b.val; omega
  | ⟨1, _⟩ => show ((b.val * 4096 + t.val) * 1024 + (h.val * 128 + d.val)) / 128 % 8 = h.val; omega
  | ⟨2, _⟩ => show ((b.val * 4096 + t.val) * 1024 + (h.val * 128 + d.val)) % 128 = d.val; omega
  | ⟨3, _⟩ => show ((b.val * 4096 + t.val) * 1024 + (h.val * 128 + d.val)) / 1024 % 4096 = t.val; omega

end Cert.StickRefValue

end
-- ==== Proof.StickPre.lean ====
/- The attention's precondition, read back: every query and key is a real number. -/
module

public import proofs.«01_k».proof.Pre_finite
public import proofs.«01_k».proof.Proof.StickRefValue
public import Idealize.ShloMosaic.Lib.ReduceAll

@[expose] public section

set_option maxRecDepth 16384

noncomputable section

namespace Cert.StickPre

open Cert.Pre_finite
open Idealize.ShloMosaic hiding ix1 ix2 ix3 ix4 eq_ix1
open Idealize.ShloMosaic.ValueIdx

variable [Cert.Pre_finite.Facts]

instance : Subsingleton S_.Idx := ⟨fun a b => funext fun i => i.elim0⟩

theorem top_const : Ideal.ofBits .f32 0x7F800000#32 = ⊤ := by
  simp [Ideal.ofBits, Ideal.ieee]

/-- A number whose absolute value is below infinity is a real number. -/
theorem real_of_abs {x : EReal} (h : max x (-x) < ⊤) : x = (x.toReal : EReal) := by
  refine (EReal.coe_toReal ?_ ?_).symm
  · rintro rfl; simp at h
  · rintro rfl; simp at h

theorem real_of_finite (x : S2x4096x10240.Idx → EReal) (h : Pre_finite.fn (F := Ideal) x = fun _ => 1#1) :
    Cert.StickRefValue.Real2048 x := by
  intro b t n hn
  have e := congrFun h (fun a => a.elim0)
  unfold Pre_finite.fn at e
  have ex := Host.reduce_andi_all _ _ _ _ _ e (ix3 b t (⟨n.val, hn⟩ : Fin 2048))
  have ec : Ideal.cmp .olt (max (x (ix3 b t n)) (-(x (ix3 b t n)))) (Ideal.ofBits .f32 0x7F800000#32) = 1#1 := by
    refine Eq.trans ?_ ex
    refine congrArg (fun i => Ideal.cmp .olt (max (x i) (-(x i))) (Ideal.ofBits .f32 0x7F800000#32)) ?_
    funext a
    apply Fin.ext
    match a with
    | ⟨0, _⟩ => show b.val = 0 + b.val; omega
    | ⟨1, _⟩ => show t.val = 0 + t.val; omega
    | ⟨2, _⟩ => show n.val = 0 + n.val; omega
  rw [top_const] at ec
  refine real_of_abs ?_
  by_contra hc
  simp [Ideal.cmp, hc] at ec

end Cert.StickPre
-- ==== Proof.StickPay.lean ====
/- What the kernel's block step computes, entry by entry: scores, softplus, the mass inside the block, weights, carry. -/
module

public import proofs.«01_k».proof.Proof.Gen.StickIdeal.Value
public import proofs.«01_k».proof.Proof.StickMath
public import Idealize.ShloMosaic.Lib.TwoAxisContraction

@[expose] public section

set_option maxRecDepth 16384

noncomputable section

namespace Cert.StickPay

open Idealize.ShloMosaic hiding ix1 ix2 ix3 eq_ix1
open Idealize.ShloMosaic.ValueIdx
open Cert.StickIdeal Cert.StickIdeal.Gen

theorem pay4_apply (v1 : FVec Ideal S256x128 .bf16) (v70 : Vec Ideal S1x256x128 .bf16) (r j : Fin 256) :
    k0_pay4 v1 v70 (ix2 r j) = ∑ d : Fin 128, v1 (ix2 r d) * v70 (ix3 0 j d) := by
  unfold k0_pay4; pointwise; rfl

theorem pay5_apply (v1 : FVec Ideal S256x128 .bf16) (v70 : Vec Ideal S1x256x128 .bf16) (x : S256x256.Idx) :
    k0_pay5 v1 v70 x = max (k0_pay4 v1 v70 x) 0 + Ideal.log (1 + Ideal.exp (-max (k0_pay4 v1 v70 x) (-k0_pay4 v1 v70 x))) := by
  unfold k0_pay5; generalize k0_pay4 v1 v70 = p; pointwise; simp only [zero_sub]; rfl

theorem pay6_apply (v1 : FVec Ideal S256x128 .bf16) (v8 : FVec Ideal S256x256 .bf16) (v70 : Vec Ideal S1x256x128 .bf16) (r j : Fin 256) :
    k0_pay6 v1 v8 v70 (ix2 r j) = (∑ i : Fin 256, k0_pay5 v1 v70 (ix2 r i) * v8 (ix2 i j))
      + ∑ i : Fin 256, (k0_pay5 v1 v70 (ix2 r i) - k0_pay5 v1 v70 (ix2 r i)) * v8 (ix2 i j) := by
  unfold k0_pay6; generalize k0_pay5 v1 v70 = p; pointwise; rfl

theorem pay7_apply (v1 : FVec Ideal S256x128 .bf16) (v8 : FVec Ideal S256x256 .bf16) (c : FVec Ideal S256x1 .f32) (v70 : Vec Ideal S1x256x128 .bf16) (r : Fin 256) :
    k0_pay7 v1 v8 c v70 (ix2 r 0) = c (ix2 r 0) + k0_pay6 v1 v8 v70 (ix2 r 0) + k0_pay5 v1 v70 (ix2 r 0) := by
  unfold k0_pay7; generalize k0_pay5 v1 v70 = p; generalize k0_pay6 v1 v8 v70 = p'; pointwise; rfl

theorem pay8_apply (v1 : FVec Ideal S256x128 .bf16) (v8 : FVec Ideal S256x256 .bf16) (a : FVec Ideal S256x128 .f32) (c : FVec Ideal S256x1 .f32)
    (v70 v73 : Vec Ideal S1x256x128 .bf16) (r : Fin 256) (d : Fin 128) :
    k0_pay8 v1 v8 a c v70 v73 (ix2 r d) = a (ix2 r d) + ∑ j : Fin 256, Ideal.exp (k0_pay4 v1 v70 (ix2 r j) - k0_pay5 v1 v70 (ix2 r j)
      - k0_pay6 v1 v8 v70 (ix2 r j) - c (ix2 r 0)) * v73 (ix3 0 j d) := by
  unfold k0_pay8; generalize k0_pay4 v1 v70 = p4; generalize k0_pay5 v1 v70 = p; generalize k0_pay6 v1 v8 v70 = p'; pointwise; rfl

theorem pay15_apply (v0 : Vec Ideal S1x256x128 .bf16) (r : Fin 256) (d : Fin 128) : k0_pay15 v0 (ix2 r d) = v0 (ix3 0 r d) := by
  unfold k0_pay15; pointwise; rfl

theorem pay17_apply (v0 : Vec Ideal S1x256x128 .bf16) (r : Fin 256) (d : Fin 128) : k0_pay17 v0 (ix2 r d) = v0 (ix3 0 r d) := by
  unfold k0_pay17; pointwise; rfl

theorem pay14_apply (a : FVec Ideal S256x128 .f32) (r : Fin 256) (d : Fin 128) : k0_pay14 a (ix3 0 r d) = a (ix2 r d) := by
  unfold k0_pay14; pointwise; rfl

theorem pay18_apply (r : Fin 256) : k0_pay18 (F := Ideal) (ix2 r 0) = 0 := by
  unfold k0_pay18; pointwise

theorem word_lt (a b : Fin 256) : (IntOp.cmpi .slt (BitVec.ofNat 32 a.val) (BitVec.ofNat 32 b.val) = 1#1) ↔ a.val < b.val := by
  rw [IntOp.cmpi_slt, BitVec.toInt_eq_toNat_of_lt (by rw [BitVec.toNat_ofNat]; omega), BitVec.toInt_eq_toNat_of_lt (by rw [BitVec.toNat_ofNat]; omega),
    BitVec.toNat_ofNat, BitVec.toNat_ofNat]
  omega

/-- Whether key `j` of the diagonal block is before row `r`. -/
theorem pay20_apply (r j : Fin 256) : (k0_pay20 (ix2 r j) = 1#1) ↔ j.val < r.val := by
  unfold k0_pay20; pointwise; rw [← word_lt]

theorem pay16_apply (i j : Fin 256) : k0_pay16 (F := Ideal) (ix2 i j) = (((if j.val < i.val then 1 else 0 : ℝ)) : EReal) := by
  unfold k0_pay16; pointwise
  show (if IntOp.cmpi .sgt (BitVec.ofNat 32 i.val) (BitVec.ofNat 32 j.val) = 1#1 then (1 : EReal) else 0) = _
  have h : (IntOp.cmpi .sgt (BitVec.ofNat 32 i.val) (BitVec.ofNat 32 j.val) = 1#1) ↔ j.val < i.val := word_lt j i
  by_cases hji : j.val < i.val
  · rw [if_pos (h.2 hji), if_pos hji, EReal.coe_one]
  · rw [if_neg (fun e => hji (h.1 e)), if_neg hji, EReal.coe_zero]

theorem pay19_apply (v0 v12 : Vec Ideal S1x256x128 .bf16) (r j : Fin 256) :
    k0_pay19 v0 v12 (ix2 r j) = ∑ d : Fin 128, v0 (ix3 0 r d) * v12 (ix3 0 j d) := by
  unfold k0_pay19; pointwise; exact Finset.sum_congr rfl fun d _ => congrArg (· * v12 (ix3 0 j d)) (pay15_apply v0 r d)

theorem pay21_apply (v0 v12 : Vec Ideal S1x256x128 .bf16) (x : S256x256.Idx) :
    k0_pay21 v0 v12 x = if k0_pay20 x = 1#1 then max (k0_pay19 v0 v12 x) 0 + Ideal.log (1 + Ideal.exp (-max (k0_pay19 v0 v12 x) (-k0_pay19 v0 v12 x))) else 0 := by
  unfold k0_pay21; generalize k0_pay19 v0 v12 = p; generalize k0_pay20 = p'; pointwise; simp only [zero_sub]; rfl

theorem pay23_apply (v0 v12 : Vec Ideal S1x256x128 .bf16) (x : S256x256.Idx) : k0_pay23 v0 v12 x = k0_pay21 v0 v12 x - k0_pay21 v0 v12 x := by
  unfold k0_pay23 k0_pay22; generalize k0_pay21 v0 v12 = p; pointwise

theorem pay24_apply (v0 v12 : Vec Ideal S1x256x128 .bf16) (r j : Fin 256) :
    k0_pay24 v0 v12 (ix2 r j) = ∑ i : Fin 256, k0_pay21 v0 v12 (ix2 r i) * k0_pay16 (F := Ideal) (ix2 i j) := by
  unfold k0_pay24 k0_pay22; generalize k0_pay21 v0 v12 = p; generalize k0_pay16 (F := Ideal) = u; pointwise; rfl

theorem pay1_apply (v8 v37 : FVec Ideal S256x256 .bf16) (v38 : FVec Ideal S256x256 .f32) (r j : Fin 256) :
    k0_pay1 v8 v37 v38 (constant S256x256 .f32 0x00000000#32) (ix2 r j) = v38 (ix2 r j) + ∑ i : Fin 256, v37 (ix2 r i) * v8 (ix2 i j) := by
  unfold k0_pay1; pointwise; rfl

theorem pay3_apply (v8 v37 : FVec Ideal S256x256 .bf16) (v17 : FVec Ideal S256x1 .f32) (v33 v38 : FVec Ideal S256x256 .f32) (z : FVec Ideal S256x256 .f32) (r : Fin 256) :
    k0_pay3 v8 v17 v33 v37 v38 z (ix2 r 0) = v17 (ix2 r 0) + k0_pay1 v8 v37 v38 z (ix2 r 0) + v33 (ix2 r 0) := by
  unfold k0_pay3; generalize k0_pay1 v8 v37 v38 z = p; pointwise; rfl

theorem pay2_apply (v8 : FVec Ideal S256x256 .bf16) (v16 : FVec Ideal S256x128 .bf16) (v17 : FVec Ideal S256x1 .f32) (v18 : FVec Ideal S256x256 .f32)
    (v31 : IVec S256x256 1) (v33 : FVec Ideal S256x256 .f32) (v37 : FVec Ideal S256x256 .bf16) (v38 z : FVec Ideal S256x256 .f32) (r : Fin 256) (d : Fin 128) :
    k0_pay2 v8 v16 v17 v18 v31 v33 v37 v38 z (ix2 r d) = ∑ j : Fin 256, Ideal.exp (if v31 (ix2 r j) = 1#1 then
      v18 (ix2 r j) - v33 (ix2 r j) - k0_pay1 v8 v37 v38 z (ix2 r j) - v17 (ix2 r 0) else ⊥) * v16 (ix2 j d) := by
  unfold k0_pay2; generalize k0_pay1 v8 v37 v38 z = p; pointwise; rfl

end Cert.StickPay

end
-- ==== Proof.StickBody.lean ====
/- One point of the kernel's grid: the diagonal block of keys, then the blocks before it, carry the mass and the weighted
   values of all the keys seen so far; after the last block the row is the closed form over all the keys. -/
module

public import proofs.«01_k».proof.Proof.StickPay
public import Idealize.ShloMosaic.Lib.WholeRead

@[expose] public section

set_option maxRecDepth 16384

noncomputable section

namespace Cert.StickBody

open Idealize.ShloMosaic hiding ix1 ix2 ix3 eq_ix1
open Idealize.ShloMosaic.ValueIdx Idealize.ShloMosaic.TcCoe
open Cert.StickIdeal Cert.StickIdeal.Gen Cert.StickMath Cert.StickPay

/-! ## A block before the row's own -/

section Step
variable (v1 : FVec Ideal S256x128 .bf16) (kb vb : Vec Ideal S1x256x128 .bf16) (r : Fin 256) (q : Fin 128 → ℝ) (k : ℕ → Fin 128 → ℝ)
  (v : ℕ → Fin 128 → EReal) (b t : ℕ)
  (hq : ∀ d, v1 (ix2 r d) = (q d : EReal)) (hk : ∀ (j : Fin 256) d, kb (ix3 0 j d) = (k (b + j.val) d : EReal))
  (hv : ∀ (j : Fin 256) d, vb (ix3 0 j d) = v (b + j.val) d) (hb : b + 256 ≤ t) (ht : t ≤ 4096)

include hq hk in
theorem score_eq (j : Fin 256) : k0_pay4 v1 kb (ix2 r j) = (score q k (b + j.val) : EReal) := by
  rw [pay4_apply, score, coe_sum]
  exact Finset.sum_congr rfl fun d _ => by rw [hq, hk, EReal.coe_mul]

include hq hk in
theorem sp_eq (j : Fin 256) : k0_pay5 v1 kb (ix2 r j) = (sp (score q k (b + j.val)) : EReal) := by
  rw [pay5_apply, score_eq v1 kb r q k b hq hk, sp_kernel]

/-- The product with the triangle of ones, and with what rounding dropped — nothing — the same. -/
theorem tail_eq (p : FVec Ideal S256x256 .f32) (f : ℕ → ℝ) (hp : ∀ i : Fin 256, p (ix2 r i) = (f (b + i.val) : EReal)) (j : Fin 256) :
    (∑ i : Fin 256, p (ix2 r i) * k0_pay16 (F := Ideal) (ix2 i j)) + ∑ i : Fin 256, (p (ix2 r i) - p (ix2 r i)) * k0_pay16 (F := Ideal) (ix2 i j)
      = ((∑ s ∈ Finset.Ico (b + j.val + 1) (b + 256), f s : ℝ) : EReal) := by
  rw [Finset.sum_eq_zero (f := fun i : Fin 256 => (p (ix2 r i) - p (ix2 r i)) * k0_pay16 (F := Ideal) (ix2 i j)) (fun i _ => ?_), add_zero,
    ← tail_sum 256 f b j.val j.isLt, coe_sum]
  · exact Finset.sum_congr rfl fun i _ => by rw [hp, pay16_apply, EReal.coe_mul]
  · rw [hp, ← EReal.coe_sub, sub_self, EReal.coe_zero, zero_mul]

include hb in
theorem msp_before (z : ℕ → ℝ) (j : Fin 256) : sp (z (b + j.val)) = msp t z (b + j.val) := by
  rw [msp, if_pos (by have := j.isLt; omega)]

include hq hk hb in
theorem tail_before (j : Fin 256) : k0_pay6 v1 (k0_pay16 (F := Ideal)) kb (ix2 r j)
    = ((∑ s ∈ Finset.Ico (b + j.val + 1) (b + 256), msp t (score q k) s : ℝ) : EReal) := by
  rw [pay6_apply]
  exact tail_eq r b _ (msp t (score q k)) (fun i => by rw [sp_eq v1 kb r q k b hq hk, msp_before b t hb]) j

include hq hk hb ht in
theorem carry_step (c : FVec Ideal S256x1 .f32) (hc : c (ix2 r 0) = (mass 4096 t (score q k) (b + 256) : EReal)) :
    k0_pay7 v1 (k0_pay16 (F := Ideal)) c kb (ix2 r 0) = (mass 4096 t (score q k) b : EReal) := by
  rw [pay7_apply, hc, tail_before v1 kb r q k b t hq hk hb, sp_eq v1 kb r q k b hq hk, msp_before b t hb, ← EReal.coe_add, ← EReal.coe_add]
  exact congrArg _ (mass_block 4096 t 256 (score q k) b (by decide) (by omega))

include hq hk hv hb ht in
theorem acc_step (a : FVec Ideal S256x128 .f32) (c : FVec Ideal S256x1 .f32) (hc : c (ix2 r 0) = (mass 4096 t (score q k) (b + 256) : EReal)) (d : Fin 128) :
    k0_pay8 v1 (k0_pay16 (F := Ideal)) a c kb vb (ix2 r d) = a (ix2 r d) + part 4096 t (score q k) (fun s => v s d) b (b + 256) := by
  rw [pay8_apply, part_block]
  refine congrArg (a (ix2 r d) + ·) (Finset.sum_congr rfl fun j _ => ?_)
  rw [hc, tail_before v1 kb r q k b t hq hk hb, sp_eq v1 kb r q k b hq hk, score_eq v1 kb r q k b hq hk, hv, ← EReal.coe_sub, ← EReal.coe_sub,
    ← EReal.coe_sub, Ideal.exp_coe, wt, if_pos (by have := j.isLt; omega), ← later_block 4096 t 256 (score q k) b j.val j.isLt (by omega), ← sub_sub]

end Step

/-! ## The row's own block -/

section Diag
variable (q0 kb vb : Vec Ideal S1x256x128 .bf16) (r : Fin 256) (q : Fin 128 → ℝ) (k : ℕ → Fin 128 → ℝ)
  (v : ℕ → Fin 128 → EReal) (b : ℕ)
  (hq : ∀ d, q0 (ix3 0 r d) = (q d : EReal)) (hk : ∀ (j : Fin 256) d, kb (ix3 0 j d) = (k (b + j.val) d : EReal))
  (hv : ∀ (j : Fin 256) d, vb (ix3 0 j d) = v (b + j.val) d) (hb : b + 256 ≤ 4096)

include hq hk in
theorem diag_score (j : Fin 256) : k0_pay19 q0 kb (ix2 r j) = (score q k (b + j.val) : EReal) := by
  rw [pay19_apply, score, coe_sum]
  exact Finset.sum_congr rfl fun d _ => by rw [hq, hk, EReal.coe_mul]

include hq hk in
theorem diag_sp (j : Fin 256) : k0_pay21 q0 kb (ix2 r j) = (msp (b + r.val) (score q k) (b + j.val) : EReal) := by
  rw [pay21_apply, diag_score q0 kb r q k b hq hk, sp_kernel, msp]
  by_cases h : j.val < r.val
  · rw [if_pos ((pay20_apply r j).2 h), if_pos (by omega)]
  · rw [if_neg (fun e => h ((pay20_apply r j).1 e)), if_neg (by omega), EReal.coe_zero]

include hq hk in
theorem diag_tail (j : Fin 256) :
    k0_pay1 (k0_pay16 (F := Ideal)) (k0_pay23 q0 kb) (k0_pay24 q0 kb) (constant S256x256 .f32 0x00000000#32) (ix2 r j)
      = ((∑ s ∈ Finset.Ico (b + j.val + 1) (b + 256), msp (b + r.val) (score q k) s : ℝ) : EReal) := by
  rw [pay1_apply, pay24_apply]
  refine Eq.trans (congrArg _ (Finset.sum_congr rfl fun i _ => congrArg (· * _) (pay23_apply q0 kb (ix2 r i)))) ?_
  exact tail_eq r b _ (msp (b + r.val) (score q k)) (diag_sp q0 kb r q k b hq hk) j

include hq hk hb in
theorem carry_diag :
    k0_pay3 (k0_pay16 (F := Ideal)) (k0_pay18 (F := Ideal)) (k0_pay21 q0 kb) (k0_pay23 q0 kb) (k0_pay24 q0 kb) (constant S256x256 .f32 0x00000000#32) (ix2 r 0)
      = (mass 4096 (b + r.val) (score q k) b : EReal) := by
  rw [pay3_apply, pay18_apply, diag_tail q0 kb r q k b hq hk, diag_sp q0 kb r q k b hq hk, zero_add, ← EReal.coe_add,
    ← mass_block 4096 (b + r.val) 256 (score q k) b (by decide) hb, mass_past 4096 (b + r.val) (score q k) (b := b + 256) (by have := r.isLt; omega), zero_add]
  rfl

include hq hk hv hb in
theorem acc_diag (d : Fin 128) :
    k0_pay2 (k0_pay16 (F := Ideal)) (k0_pay17 vb) (k0_pay18 (F := Ideal)) (k0_pay19 q0 kb) k0_pay20 (k0_pay21 q0 kb) (k0_pay23 q0 kb) (k0_pay24 q0 kb)
        (constant S256x256 .f32 0x00000000#32) (ix2 r d)
      = part 4096 (b + r.val) (score q k) (fun s => v s d) b (b + 256) := by
  rw [pay2_apply, part_block]
  refine Finset.sum_congr rfl fun j _ => ?_
  rw [pay17_apply, hv, pay18_apply, diag_tail q0 kb r q k b hq hk, diag_sp q0 kb r q k b hq hk, diag_score q0 kb r q k b hq hk, wt]
  by_cases h : j.val < r.val
  · rw [if_pos ((pay20_apply r j).2 h), if_pos (by omega), sub_zero, ← EReal.coe_sub, ← EReal.coe_sub, Ideal.exp_coe,
      ← later_block 4096 (b + r.val) 256 (score q k) b j.val j.isLt hb, mass_past 4096 (b + r.val) (score q k) (b := b + 256) (by have := r.isLt; omega),
      add_zero, msp, if_pos (by omega)]
  · rw [if_neg (fun e => h ((pay20_apply r j).1 e)), if_neg (by omega), EReal.coe_zero, Ideal.exp_bot]

end Diag

end Cert.StickBody

end
-- ==== Proof.StickPoint.lean ====
/- What one grid point stores: the closed form of its 256 rows, for its batch and head. -/
module

public import proofs.«01_k».proof.Proof.StickBody

@[expose] public section

set_option maxRecDepth 16384

noncomputable section

namespace Cert.StickPoint

open Idealize.ShloMosaic hiding ix1 ix2 ix3 eq_ix1
open Idealize.ShloMosaic.ValueIdx Idealize.ShloMosaic.TcCoe
open Cert.StickIdeal Cert.StickIdeal.Gen Cert.StickMath Cert.StickPay Cert.StickBody

/-! ## Words -/

theorem diag_word : ∀ q : Fin 16, (Scalar.indexCast (Scalar.muli (BitVec.ofNat 32 q.val) 256#32)).toNat = 256 * q.val := by decide

theorem trips_word : ∀ q : Fin 16, Scf.trips (0#32) (Scalar.addi (0#32) (Scalar.muli (Scalar.divsi (Scalar.subi (BitVec.ofNat 32 q.val) 0#32) 1#32) 1#32)) 1#32 = q.val := by
  decide

theorem rest_word : ∀ q : Fin 16, Scf.trips (Scalar.addi (0#32) (Scalar.muli (Scalar.divsi (Scalar.subi (BitVec.ofNat 32 q.val) 0#32) 1#32) 1#32))
    (Scalar.addi (0#32) (Scalar.subi (BitVec.ofNat 32 q.val) 0#32)) 1#32 = 0 := by
  decide

theorem step_word : ∀ q k : Fin 16, k.val < q.val →
    (Scalar.indexCast (Scalar.muli (Scalar.subi (Scalar.subi (BitVec.ofNat 32 q.val) 1#32) (Scf.iv (0#32) (1#32) k.val)) 256#32)).toNat = 256 * (q.val - 1 - k.val) := by
  decide

theorem qi_lt (i : grid0.Coords) : (i 2).val < 16 := (i 2).isLt

theorem t1_trips (i : grid0.Coords) : (k0_t1_loop i).trips = (i 2).val := trips_word ⟨(i 2).val, qi_lt i⟩

theorem off1_eq (i : grid0.Coords) : k0_off1 i = ![0, 256 * (i 2).val, 0] :=
  congrArg (fun n => ![0, n, 0]) (diag_word ⟨(i 2).val, qi_lt i⟩)

theorem off2_eq (i : grid0.Coords) (k : Fin (k0_t1_loop i).trips) : k0_off2 i k = ![0, 256 * ((i 2).val - 1 - k.val), 0] := by
  have hk : k.val < (i 2).val := lt_of_lt_of_eq k.isLt (t1_trips i)
  exact congrArg (fun n => ![0, n, 0]) (step_word ⟨(i 2).val, qi_lt i⟩ ⟨k.val, hk.trans (qi_lt i)⟩ hk)

/-- A load of 256 rows of a staged array. -/
theorem rows_load (a : Memref sig .tc .vmem S1x4096x128 .bf16) (ha : a.IsWhole) (X : Vec Ideal S1x4096x128 .bf16) (off : Fin 3 → ℕ) (b : ℕ) (ho : off = ![0, b, 0])
    (inb : ∀ x, off x + (![1, 256, 128] : Fin 3 → ℕ) x ≤ S1x4096x128.size x) (j : Fin 256) (d : Fin 128) (hj : b + j.val < 4096) :
    (View.readAt (Elt Ideal) a.view (Rect.unit (s := S1x4096x128) off ![1, 256, 128] inb).toLoadRect (ha.unread X) : Vec Ideal S1x256x128 .bf16) (ix3 0 j d) = X (ix3 0 ⟨b + j.val, hj⟩ d) := by
  subst ho
  refine (ha.readAt_unread X _ _).trans (congrArg X (funext fun x => Fin.ext ?_))
  match x with
  | ⟨0, _⟩ => rfl
  | ⟨1, _⟩ => show b + 1 * j.val = b + j.val; omega
  | ⟨2, _⟩ => show 0 + 1 * d.val = d.val; omega

section Point
variable (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole)
  (x0 : Vec Ideal S1x256x128 .bf16) (x1 x2 : Vec Ideal S1x4096x128 .bf16)
  (q : Fin 256 → Fin 128 → ℝ) (k : ℕ → Fin 128 → ℝ) (v : ℕ → Fin 128 → EReal)
  (hq : ∀ r d, x0 (ix3 0 r d) = (q r d : EReal)) (hk : ∀ (j : Fin 4096) d, x1 (ix3 0 j d) = (k j.val d : EReal))
  (hv : ∀ (j : Fin 4096) d, x2 (ix3 0 j d) = v j.val d)

include hq hk hv in
/-- Before trip `n` the loop carries, for each row, the mass and the weighted values of the keys from block `qi - n` on. -/
theorem loop (𝒱 : Variants) (bd : Option 𝒱.V) (v1 : FVec Ideal S256x128 .bf16) (hv1 : ∀ r d, v1 (ix2 r d) = (q r d : EReal)) (init : FVec Ideal S256x128 .f32 × FVec Ideal S256x1 .f32)
    (h1 : ∀ r d, init.1 (ix2 r d) = part 4096 (256 * (i 2).val + r.val) (score (q r) k) (fun s => v s d) (256 * (i 2).val) (256 * (i 2).val + 256))
    (h2 : ∀ r, init.2 (ix2 r 0) = (mass 4096 (256 * (i 2).val + r.val) (score (q r) k) (256 * (i 2).val) : EReal)) (n : ℕ) (hn : n ≤ (i 2).val) :
    (∀ r d, (st_k0_t1 𝒱 c bd i arg3 harg3 arg4 harg4 arg5 harg5 arg6 harg6 v1 (k0_pay16 (F := Ideal)) (harg4.unread x1) (harg5.unread x2) init n).1 (ix2 r d)
        = part 4096 (256 * (i 2).val + r.val) (score (q r) k) (fun s => v s d) (256 * ((i 2).val - n)) (256 * (i 2).val + 256))
    ∧ ∀ r, (st_k0_t1 𝒱 c bd i arg3 harg3 arg4 harg4 arg5 harg5 arg6 harg6 v1 (k0_pay16 (F := Ideal)) (harg4.unread x1) (harg5.unread x2) init n).2 (ix2 r 0)
        = (mass 4096 (256 * (i 2).val + r.val) (score (q r) k) (256 * ((i 2).val - n)) : EReal) := by
  induction n with
  | zero => exact ⟨h1, h2⟩
  | succ n ih =>
    obtain ⟨ih1, ih2⟩ := ih (by omega)
    have hi := qi_lt i
    have hn' : n < (k0_t1_loop i).trips := by rw [t1_trips]; omega
    have hb : 256 * ((i 2).val - n) = 256 * ((i 2).val - (n + 1)) + 256 := by omega
    have hkb : ∀ inb (j : Fin 256) d, (View.readAt (Elt Ideal) arg4.view (Rect.unit (s := S1x4096x128) (k0_off2 i ⟨n, hn'⟩) ![1, 256, 128] inb).toLoadRect (harg4.unread x1) : Vec Ideal S1x256x128 .bf16) (ix3 0 j d)
        = (k (256 * ((i 2).val - (n + 1)) + j.val) d : EReal) := fun inb j d => by
      have hj := j.isLt
      refine (rows_load arg4 harg4 x1 _ (256 * ((i 2).val - (n + 1))) ((off2_eq i ⟨n, hn'⟩).trans ?_) inb j d (by omega)).trans (hk _ d)
      exact congrArg (fun m => ![0, 256 * m, 0]) (by show (i 2).val - 1 - n = _; omega)
    have hvb : ∀ inb (j : Fin 256) d, (View.readAt (Elt Ideal) arg5.view (Rect.unit (s := S1x4096x128) (k0_off2 i ⟨n, hn'⟩) ![1, 256, 128] inb).toLoadRect (harg5.unread x2) : Vec Ideal S1x256x128 .bf16) (ix3 0 j d)
        = v (256 * ((i 2).val - (n + 1)) + j.val) d := fun inb j d => by
      have hj := j.isLt
      refine (rows_load arg5 harg5 x2 _ (256 * ((i 2).val - (n + 1))) ((off2_eq i ⟨n, hn'⟩).trans ?_) inb j d (by omega)).trans (hv _ d)
      exact congrArg (fun m => ![0, 256 * m, 0]) (by show (i 2).val - 1 - n = _; omega)
    have hs := st_k0_t1_succ (F := Ideal) 𝒱 c bd i arg3 harg3 arg4 harg4 arg5 harg5 arg6 harg6 v1 (k0_pay16 (F := Ideal)) (harg4.unread x1) (harg5.unread x2) init ⟨n, hn'⟩
    unfold tripR_k0_t1 trip_k0_t1 at hs
    dsimp only at hs
    rw [hs]
    refine ⟨fun r d => ?_, fun r => ?_⟩
    · have hr := r.isLt
      refine (acc_step v1 _ _ r (q r) k v (256 * ((i 2).val - (n + 1))) (256 * (i 2).val + r.val) (hv1 r) (hkb _) (hvb _) (by omega) (by omega) _ _ (by rw [← hb]; exact ih2 r) d).trans ?_
      rw [ih1, hb]
      exact part_join _ _ _ _ (by omega) (by omega)
    · have hr := r.isLt
      exact carry_step v1 _ r (q r) k (256 * ((i 2).val - (n + 1))) (256 * (i 2).val + r.val) (hv1 r) (hkb _) (by omega) (by omega) _ (by rw [← hb]; exact ih2 r)

include hq hk hv in
/-- What the point stores. -/
theorem point (r : Fin 256) (d : Fin 128) :
    out0_A_3 c i arg3 harg3 arg4 harg4 arg5 harg5 arg6 harg6 x0 x1 x2 (ix3 0 r d)
      = part 4096 (256 * (i 2).val + r.val) (score (q r) k) (fun s => v s d) 0 4096 := by
  have hi := qi_lt i
  unfold out0_A_3
  rw [View.read_writes_eq_canon _ _ _ (cover0_A_3 c i arg3 harg3 arg4 harg4 arg5 harg5 arg6 harg6 x0 x1 x2)]
  unfold kernelRun0_A
  dsimp only
  rw [rest_word ⟨(i 2).val, hi⟩, st_k0_t2_zero, trips_word ⟨(i 2).val, hi⟩]
  refine (congrFun (View.canon_unit_zero (S := S1x256x128) (by funext a; match a with | ⟨0, _⟩ => rfl | ⟨1, _⟩ => rfl | ⟨2, _⟩ => rfl) _ _) (ix3 0 r d)).trans ?_
  refine (pay14_apply _ r d).trans ?_
  have hkb : ∀ inb (j : Fin 256) d, (View.readAt (Elt Ideal) arg4.view (Rect.unit (s := S1x4096x128) (k0_off1 i) ![1, 256, 128] inb).toLoadRect (harg4.unread x1) : Vec Ideal S1x256x128 .bf16) (ix3 0 j d)
      = (k (256 * (i 2).val + j.val) d : EReal) := fun inb j d => by
    have hj := j.isLt
    exact (rows_load arg4 harg4 x1 _ _ (off1_eq i) inb j d (by omega)).trans (hk _ d)
  have hvb : ∀ inb (j : Fin 256) d, (View.readAt (Elt Ideal) arg5.view (Rect.unit (s := S1x4096x128) (k0_off1 i) ![1, 256, 128] inb).toLoadRect (harg5.unread x2) : Vec Ideal S1x256x128 .bf16) (ix3 0 j d)
      = v (256 * (i 2).val + j.val) d := fun inb j d => by
    have hj := j.isLt
    exact (rows_load arg5 harg5 x2 _ _ (off1_eq i) inb j d (by omega)).trans (hv _ d)
  have hqb : ∀ inb (r : Fin 256) d, (View.readAt (Elt Ideal) arg3.view (Rect.unit (s := S1x256x128) ![0, 0, 0] ![1, 256, 128] inb).toLoadRect (harg3.unread x0) : Vec Ideal S1x256x128 .bf16) (ix3 0 r d)
      = (q r d : EReal) := fun inb r d => by
    refine (harg3.readAt_unread x0 _ _).trans ((congrArg x0 (funext fun x => Fin.ext ?_)).trans (hq r d))
    match x with
    | ⟨0, _⟩ => rfl
    | ⟨1, _⟩ => show 0 + 1 * r.val = r.val; omega
    | ⟨2, _⟩ => show 0 + 1 * d.val = d.val; omega
  refine ((loop c i arg3 harg3 arg4 harg4 arg5 harg5 arg6 harg6 x0 x1 x2 q k v hq hk hv _ _ _ ?_ _ ?_ ?_ (i 2).val le_rfl).1 r d).trans ?_
  · intro r d
    exact (pay15_apply _ r d).trans (hqb _ r d)
  · intro r d
    exact acc_diag _ _ _ r (q r) k v (256 * (i 2).val) (hqb _ r) (hkb _) (hvb _) (by omega) d
  · intro r
    exact carry_diag _ _ r (q r) k (256 * (i 2).val) (hqb _ r) (hkb _) (by omega)
  · rw [Nat.sub_self, Nat.mul_zero]
    exact part_past _ _ _ _ (by have := r.isLt; omega) (by omega)

end Point

end Cert.StickPoint

end
-- ==== Proof.StickValue.lean ====
/- The attention kernel's result array: grid point (b, h, i) writes the rows 256 i … 256 i + 255 of head h of batch b, each the
   closed form of the reference, and the blocks tile the array. -/
module

public import proofs.«01_k».proof.Proof.Gen.StickIdeal.Value
public import proofs.«01_k».proof.Proof.StickPoint
public import proofs.«01_k».proof.Proof.StickRefValue
public import Idealize.ShloMosaic.Lib.Pipeline.ValueKit

@[expose] public section

set_option maxRecDepth 16384

noncomputable section

namespace Cert.StickValue

open Cert.StickIdeal Cert.StickIdeal.Gen
open Idealize.ShloMosaic hiding ix1 ix2 ix3 ix4 eq_ix1
open Idealize.ShloMosaic.TcCoe
open Idealize.SL.Sem
open Idealize.ShloMosaic.ValueIdx
open Idealize.ShloMosaic.Pipeline (Dat Cfg Window)
open Cert.StickMath

/-! ## The windows' blocks -/

theorem index_0 : ∀ t : Fin cfg0.N, (cfg0.win 0).index t = ![(grid0.coords t 0).val, (grid0.coords t 2).val, (grid0.coords t 1).val] := by
  decide +kernel
theorem index_1 : ∀ t : Fin cfg0.N, (cfg0.win 1).index t = ![(grid0.coords t 0).val, 0, 8 + (grid0.coords t 1).val] := by
  decide +kernel
theorem index_2 : ∀ t : Fin cfg0.N, (cfg0.win 2).index t = ![(grid0.coords t 0).val, 0, 16 + (grid0.coords t 1).val] := by
  decide +kernel
theorem index_3 : ∀ t : Fin cfg0.N, (cfg0.win 3).index t = ![(grid0.coords t 0).val, (grid0.coords t 2).val, (grid0.coords t 1).val] := by
  decide +kernel

/-- A grid point's batch, head and row. -/
def bat (t : Fin cfg0.N) : Fin 2 := ⟨(grid0.coords t 0).val, (grid0.coords t 0).isLt⟩
def head (t : Fin cfg0.N) : Fin 8 := ⟨(grid0.coords t 1).val, (grid0.coords t 1).isLt⟩
theorem qi_lt (t : Fin cfg0.N) : (grid0.coords t 2).val < 16 := (grid0.coords t 2).isLt
def row (t : Fin cfg0.N) (r : Fin 256) : Fin 4096 := ⟨256 * (grid0.coords t 2).val + r.val, by have := qi_lt t; omega⟩

variable (m : (ℓ : Loc nD τ sig) → Buf (Elt Ideal) ℓ) (c : Dev nD)

abbrev X : Cert.StickRefValue.Arr := m ((c : Thread nD τ).loc main_arg0)

theorem iblk_0 (t : Fin cfg0.N) (r : Fin 256) (d : Fin 128) :
    (iblk m c 0 t : S1x256x128.Idx → EReal) (ix3 0 r d) = X m c (ix3 (bat t) (row t r) (Cert.StickRefValue.col 0 (by decide) (head t) d)) := by
  refine congrArg (X m c) (funext fun a => Fin.ext ?_)
  match a with
  | ⟨0, _⟩ => show (cfg0.win 0).index t 0 * 1 + 1 * 0 = _; rw [index_0]; show (grid0.coords t 0).val * 1 + 1 * 0 = (grid0.coords t 0).val; omega
  | ⟨1, _⟩ => show (cfg0.win 0).index t 1 * 256 + 1 * r.val = _; rw [index_0]; show (grid0.coords t 2).val * 256 + 1 * r.val = 256 * (grid0.coords t 2).val + r.val; omega
  | ⟨2, _⟩ => show (cfg0.win 0).index t 2 * 128 + 1 * d.val = _; rw [index_0]; show (grid0.coords t 1).val * 128 + 1 * d.val = 0 + (grid0.coords t 1).val * 128 + d.val; omega

theorem iblk_1 (t : Fin cfg0.N) (s : Fin 4096) (d : Fin 128) :
    (iblk m c 1 t : S1x4096x128.Idx → EReal) (ix3 0 s d) = X m c (ix3 (bat t) s (Cert.StickRefValue.col 1024 (by decide) (head t) d)) := by
  refine congrArg (X m c) (funext fun a => Fin.ext ?_)
  match a with
  | ⟨0, _⟩ => show (cfg0.win 1).index t 0 * 1 + 1 * 0 = _; rw [index_1]; show (grid0.coords t 0).val * 1 + 1 * 0 = (grid0.coords t 0).val; omega
  | ⟨1, _⟩ => show (cfg0.win 1).index t 1 * 4096 + 1 * s.val = _; rw [index_1]; show 0 * 4096 + 1 * s.val = s.val; omega
  | ⟨2, _⟩ => show (cfg0.win 1).index t 2 * 128 + 1 * d.val = _; rw [index_1]; show (8 + (grid0.coords t 1).val) * 128 + 1 * d.val = 1024 + (grid0.coords t 1).val * 128 + d.val; omega

theorem iblk_2 (t : Fin cfg0.N) (s : Fin 4096) (d : Fin 128) :
    (iblk m c 2 t : S1x4096x128.Idx → EReal) (ix3 0 s d) = X m c (ix3 (bat t) s (Cert.StickRefValue.col 2048 (by decide) (head t) d)) := by
  refine congrArg (X m c) (funext fun a => Fin.ext ?_)
  match a with
  | ⟨0, _⟩ => show (cfg0.win 2).index t 0 * 1 + 1 * 0 = _; rw [index_2]; show (grid0.coords t 0).val * 1 + 1 * 0 = (grid0.coords t 0).val; omega
  | ⟨1, _⟩ => show (cfg0.win 2).index t 1 * 4096 + 1 * s.val = _; rw [index_2]; show 0 * 4096 + 1 * s.val = s.val; omega
  | ⟨2, _⟩ => show (cfg0.win 2).index t 2 * 128 + 1 * d.val = _; rw [index_2]; show (16 + (grid0.coords t 1).val) * 128 + 1 * d.val = 2048 + (grid0.coords t 1).val * 128 + d.val; omega

/-! ## A block of the result -/

theorem block (hx : Cert.StickRefValue.Real2048 (X m c)) (t : Fin cfg0.N) (r : Fin 256) (d : Fin 128) :
    out0_A_3 c (grid0.coords t) (ms0_0 t) (hs0_0 t) (ms0_1 t) (hs0_1 t) (ms0_2 t) (hs0_2 t) (ms0_3 t) (hs0_3 t)
        (iblk m c 0 t) (iblk m c 1 t) (iblk m c 2 t) (ix3 0 r d)
      = Cert.StickRefValue.out (X m c) (bat t) (head t) (row t r) d := by
  refine (Cert.StickPoint.point c (grid0.coords t) (ms0_0 t) (hs0_0 t) (ms0_1 t) (hs0_1 t) (ms0_2 t) (hs0_2 t) (ms0_3 t) (hs0_3 t)
    (iblk m c 0 t) (iblk m c 1 t) (iblk m c 2 t) (fun r => Cert.StickRefValue.qrow (X m c) (bat t) (head t) (row t r))
    (Cert.StickRefValue.krow (X m c) (bat t) (head t)) (Cert.StickRefValue.vrow (X m c) (bat t) (head t)) ?_ ?_ ?_ r d).trans rfl
  · intro r d
    exact (iblk_0 m c t r d).trans (hx _ _ _ (by show 0 + (head t).val * 128 + d.val < 2048; have := (head t).isLt; omega))
  · intro j d
    refine (iblk_1 m c t j d).trans ((hx _ _ _ (by show 1024 + (head t).val * 128 + d.val < 2048; have := (head t).isLt; omega)).trans ?_)
    unfold Cert.StickRefValue.krow
    rw [dif_pos j.isLt]
  · intro j d
    refine (iblk_2 m c t j d).trans ?_
    unfold Cert.StickRefValue.vrow
    rw [dif_pos j.isLt]

/-! ## The array -/

/-- Column `n` of the result belongs to head `n / 128`. -/
def headOf (n : Fin 1024) : Fin 8 := ⟨n.val / 128, by omega⟩
def laneOf (n : Fin 1024) : Fin 128 := ⟨n.val % 128, by omega⟩

theorem result (hx : Cert.StickRefValue.Real2048 (X m c)) :
    (dats m 0 c).arrAt 3 cfg0.N = fun i : S2x4096x1024.Idx => Cert.StickRefValue.out (X m c) (i 0) (headOf (i 2)) (i 1) (laneOf (i 2)) := by
  refine (dats m 0 c).arrAt_eq_of_covers 3 _ (by decide +kernel) fun t hf y => ?_
  obtain ⟨r, d, rfl⟩ : ∃ (r : Fin 256) (d : Fin 128), y = (ix3 0 r d : S1x256x128.Idx) :=
    ⟨y 1, y 2, by funext a; match a with | ⟨0, _⟩ => exact Subsingleton.elim (α := Fin 1) _ _ | ⟨1, _⟩ => rfl | ⟨2, _⟩ => rfl⟩
  have e0 : (((cfg0.win 3).blk t).view.emb (ix3 0 r d : S1x256x128.Idx) : S2x4096x1024.Idx)
      = ix3 (bat t) (row t r) ⟨(head t).val * 128 + d.val, by have := (head t).isLt; omega⟩ := by
    funext a
    apply Fin.ext
    match a with
    | ⟨0, _⟩ => show (cfg0.win 3).index t 0 * 1 + 1 * 0 = _; rw [index_3]; show (grid0.coords t 0).val * 1 + 1 * 0 = (grid0.coords t 0).val; omega
    | ⟨1, _⟩ => show (cfg0.win 3).index t 1 * 256 + 1 * r.val = _; rw [index_3]; show (grid0.coords t 2).val * 256 + 1 * r.val = 256 * (grid0.coords t 2).val + r.val; omega
    | ⟨2, _⟩ => show (cfg0.win 3).index t 2 * 128 + 1 * d.val = _; rw [index_3]; show (grid0.coords t 1).val * 128 + 1 * d.val = (grid0.coords t 1).val * 128 + d.val; omega
  have e1 : headOf ⟨(head t).val * 128 + d.val, by have := (head t).isLt; omega⟩ = head t := Fin.ext (by
    show ((head t).val * 128 + d.val) / 128 = _; omega)
  have e2 : laneOf ⟨(head t).val * 128 + d.val, by have := (head t).isLt; omega⟩ = d := Fin.ext (by
    show ((head t).val * 128 + d.val) % 128 = _; omega)
  rw [e0]
  refine (congrFun (Cert.StickIdeal.Value.flushed3_A m c t) _).trans ((block m c hx t r d).trans ?_)
  show _ = Cert.StickRefValue.out (X m c) (bat t) (headOf ⟨(head t).val * 128 + d.val, _⟩) (row t r) (laneOf ⟨(head t).val * 128 + d.val, _⟩)
  rw [e1, e2]

end Cert.StickValue
-- ==== Proof.StickClaims.lean ====
/- The claims about the stick-breaking attention: its frames at both readings of the floats, its reference's frame, the one
   named constant of its idealization, and that kernel and reference leave the same result. -/
module

public import proofs.«01_k».proof.Defs
public import proofs.«01_k».proof.Proof.Gen.Stick.Frame
public import proofs.«01_k».proof.Proof.Gen.StickIdeal.Frame
public import proofs.«01_k».proof.Proof.Gen.StickRefIdeal.Run
public import proofs.«01_k».proof.Proof.Gen.Pre_finite
public import proofs.«01_k».proof.Proof.StickPre
public import proofs.«01_k».proof.Proof.StickValue

@[expose] public section

set_option maxRecDepth 16384

noncomputable section

namespace Cert.StickClaims

open Idealize.ShloMosaic Idealize.SL.Sem

theorem frame_bits : Cert.quiescent_Stick := fun m ρ _ => Cert.Stick.Gen.frame m ρ

theorem frame_ideal : Cert.quiescent_StickIdeal := fun m ρ _ => Cert.StickIdeal.Gen.frame m ρ

theorem frame_ref : Cert.quiescent_StickRefIdeal := fun m ρ _ =>
  (θ_run Cert.StickRefIdeal.defs _ _).mono (fun r h => ⟨fun c => (h c).2,
      Idealize.ShloMosaic.sem_eq_zero_of_no_sems (by decide) r.2⟩)
    (Cert.StickRefIdeal.Value.run (F := Ideal) m ρ)

/-- The mask is named: minus infinity at the ideal reading. -/
theorem preserves : Cert.preserves_Stick_StickIdeal :=
  IdealRules.named_const.statement Cert.StickIdeal.κ "mask" .f32 0xF149F2CA#32 ⊥ rfl

theorem frame_ideal_finite : Cert.quiescent_StickIdeal_pre_finite := fun m ρ _ => Cert.StickIdeal.Gen.frame m ρ

theorem frame_ref_finite : Cert.quiescent_StickRefIdeal_pre_finite := fun m ρ _ => frame_ref m ρ trivial

/-- From finite queries and keys the kernel and the reference leave the same array. -/
theorem algebraic : Cert.algebraic_StickIdeal_StickRefIdeal_pre_finite := fun m ρ m' ρ' h hag => by
  have hx : ∀ c : Dev Cert.StickIdeal.nD, Cert.StickRefValue.Real2048 (Cert.StickValue.X m c) := fun c => Cert.StickPre.real_of_finite _ (h c)
  refine ⟨fun c => fun i : Cert.StickIdeal.S2x4096x1024.Idx => Cert.StickRefValue.out (Cert.StickValue.X m c) (i 0)
      (Cert.StickValue.headOf (i 2)) (i 1) (Cert.StickValue.laneOf (i 2)), ?_, ?_⟩
  · exact (θ_run Cert.StickIdeal.defs _ _).mono (fun r hq c => ⟨(hq c).1.trans (Cert.StickValue.result m c (hx c)), (hq c).2⟩)
      (Cert.StickIdeal.Value.run_blocks m ρ)
  · refine (θ_run Cert.StickRefIdeal.defs _ _).mono (fun r hq c => ?_) (Cert.StickRefIdeal.Value.run (F := Ideal) m' ρ')
    refine ⟨(hq c).1.trans ?_, (hq c).2⟩
    rw [Cert.StickRefIdeal.Read.val_main_v26_eq]
    have a0 := hag c
    rw [a0]
    funext i
    obtain ⟨b, t, n, rfl⟩ : ∃ (b : Fin 2) (t : Fin 4096) (n : Fin 1024), i = Idealize.ShloMosaic.ValueIdx.ix3 b t n :=
      ⟨i 0, i 1, i 2, by funext a; match a with | ⟨0, _⟩ => rfl | ⟨1, _⟩ => rfl | ⟨2, _⟩ => rfl⟩
    have hn : n = ⟨(Cert.StickValue.headOf n).val * 128 + (Cert.StickValue.laneOf n).val, by
        have := (Cert.StickValue.headOf n).isLt; have := (Cert.StickValue.laneOf n).isLt; omega⟩ := Fin.ext (by
      show n.val = n.val / 128 * 128 + n.val % 128; omega)
    refine Eq.trans ?_ (Cert.StickRefValue.result (Cert.StickValue.X m c) (hx c) b t (Cert.StickValue.headOf n) (Cert.StickValue.laneOf n))
    exact congrArg (fun n => Cert.StickRefIdeal.Read.val_main_v26 (F := Ideal) (Cert.StickValue.X m c) (Idealize.ShloMosaic.ValueIdx.ix3 b t n)) hn

end Cert.StickClaims
-- ==== Proof.MoePre.lean ====
/- The precondition on the expert kernel's tables, decoded from its printed predicate: every word of the first names an
   expert below 32, and the second counts between 1 and 111 live tiles. -/
module

public import proofs.«01_k».proof.Pre_tables
public import proofs.«01_k».proof.Proof.Gen.Pre_tables
public import Idealize.ShloMosaic.Lib.ReduceAll
public import Idealize.ShloMosaic.Lib.ValueIdxCore

@[expose] public section

noncomputable section

namespace Cert.MoePre

open Idealize.ShloMosaic Idealize.ShloMosaic.ValueIdx
open Cert.Pre_tables

instance : Subsingleton S_.Idx := ⟨fun a b => funext fun x => x.elim0⟩

theorem idx1 (x y : S1.Idx) : x = y := by
  rw [eq_ix1 x, eq_ix1 y]; congr 1
  exact Subsingleton.elim (α := Fin 1) _ _

/-- A word between 0 and a small bound, read signed, is below it read unsigned. -/
theorem toNat_of_toInt {w : BitVec 32} (h0 : 0 ≤ w.toInt) : (w.toNat : ℤ) = w.toInt := by
  have h : 2 * w.toNat < 2 ^ 32 := by
    by_contra hc
    rw [BitVec.toInt_eq_toNat_cond, if_neg hc] at h0
    have := w.isLt
    omega
  rw [BitVec.toInt_eq_toNat_of_lt h]

theorem range_of_tables {F : FTy → Type} [FloatOps F] (x0 : IVec S111 32) (x1 : IVec S1 32) (x2 : FVec F S28416x2048 .bf16)
    (x3 x4 : FVec F S32x2048x512 .f32) (x5 : FVec F S32x512x2048 .f32)
    (h : Pre_tables.fn (F := F) x0 x1 x2 x3 x4 x5 = fun _ => 1#1) :
    (∀ x, (x0 x).toNat < 32) ∧ (∀ x, 1 ≤ (x1 x).toNat ∧ (x1 x).toNat ≤ 111) := by
  have e := congrFun h (fun a => a.elim0)
  unfold Pre_tables.fn at e
  obtain ⟨e1, e3⟩ := IntOp.andi_eq_one.1 e
  obtain ⟨e1, e2⟩ := IntOp.andi_eq_one.1 e1
  have a2 := IntOp.cmpi_sge.1 e2
  have a3 := IntOp.cmpi_sle.1 e3
  constructor
  · intro x
    have ex := Host.reduce_andi_all _ _ _ _ _ e1 x
    obtain ⟨l, u⟩ := IntOp.andi_eq_one.1 ex
    have l' : (0#32 : BitVec 32).toInt ≤ (x0 x).toInt := IntOp.cmpi_sge.1 l
    have u' : (x0 x).toInt < (32#32 : BitVec 32).toInt := IntOp.cmpi_slt.1 u
    rw [show (0#32 : BitVec 32).toInt = 0 from by decide] at l'
    rw [show (32#32 : BitVec 32).toInt = 32 from by decide] at u'
    have := toNat_of_toInt l'
    omega
  · intro x
    have l' : (1#32 : BitVec 32).toInt ≤ (x1 x).toInt := by rw [idx1 x _]; exact a2
    have u' : (x1 x).toInt ≤ (111#32 : BitVec 32).toInt := by rw [idx1 x _]; exact a3
    rw [show (1#32 : BitVec 32).toInt = 1 from by decide] at l'
    rw [show (111#32 : BitVec 32).toInt = 111 from by decide] at u'
    have := toNat_of_toInt (w := x1 x) (by omega)
    omega

end Cert.MoePre
-- ==== Proof.MoeBody.lean ====
/- The expert kernel's BODY at one grid point, at any tables. The body re-casts the expert's three weight blocks into
   its scratches when the expert changed since the point before, then stores the rows' expert output (a live tile) or
   zeros (a dead one). `body_run` states it with the scratches holding the casts of the CURRENT blocks afterwards in
   either case: where the expert did not change they are assumed to hold them already. -/
module

public import proofs.«01_k».proof.Proof.Gen.MoeIdeal.Launch
public import proofs.«01_k».proof.Proof.Gen.MoeIdeal.Skeleton
public import Idealize.ShloMosaic.Lib.Claim
public import Idealize.ShloMosaic.Lib.Pipeline.TableIdle
public import Idealize.ShloMosaic.Lib.Pipeline.Value
public import Idealize.ShloMosaic.Lib.Ring

@[expose] public section

set_option maxRecDepth 16384

noncomputable section

namespace Cert.MoeIdeal.Hand

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables and the scratches, whole. -/
abbrev tab0 : Memref sig .tc .smem S111 .i32 := Memref.whole main_arg0
abbrev tab1 : Memref sig .tc .smem S1 .i32 := Memref.whole main_arg1
abbrev scr0 : Memref sig .tc .vmem S2048x512 .bf16 := Memref.whole cc0_scratch0
abbrev scr1 : Memref sig .tc .vmem S2048x512 .bf16 := Memref.whole cc0_scratch1
abbrev scr2 : Memref sig .tc .vmem S512x2048 .bf16 := Memref.whole cc0_scratch2

/-- The expert word the body reads at a point, and the one of the point before (the same point's at point 0). -/
abbrev wordAt (T0 : S111.Idx → BitVec 32) (i : grid0.Coords) : BitVec 32 :=
  View.readAt (Elt F) (tab0).view (Rect.unit (s := S111) (k0_off1 i) S1.size (k0_off1_inb i)).toLoadRect T0 (Shape.Idx.first (numel1_S1.symm ▸ Nat.one_pos))
abbrev wordBefore (T0 : S111.Idx → BitVec 32) (i : grid0.Coords) : BitVec 32 :=
  View.readAt (Elt F) (tab0).view (Rect.unit (s := S111) (k0_off2 i) S1.size (k0_off2_inb i)).toLoadRect T0 (Shape.Idx.first (numel1_S1.symm ▸ Nat.one_pos))
/-- The number of live tiles, as the body reads it. -/
abbrev liveWord (T1 : S1.Idx → BitVec 32) : BitVec 32 :=
  View.readAt (Elt F) (tab1).view (Rect.unit (s := S1) ![0] S1.size inb_S1_S1_0).toLoadRect T1 (Shape.Idx.first (numel1_S1.symm ▸ Nat.one_pos))

/-- "The expert changed, or this is the first point", as the body decides it. -/
abbrev Changed (T0 : S111.Idx → BitVec 32) (i : grid0.Coords) : Prop :=
  (Scalar.cmpi .ne (Scalar.extui (Scalar.ori (Scalar.cmpi .eq (BitVec.ofNat 32 (i 0).val) 0#32) (Scalar.cmpi .ne (wordAt (F := F) T0 i) (wordBefore (F := F) T0 i)))) 0#32) = 1#1

/-- A tile is dead exactly when it is not live. -/
theorem dead_iff (i : grid0.Coords) (w : BitVec 32) : k0_cond3 i w = 1#1 ↔ ¬ k0_cond2 i w = 1#1 := by
  unfold k0_cond2 k0_cond3
  simp only [Scalar.cmpi, Scalar.extui, IntOp.cmpi, BitVec.sle_eq_not_slt]
  cases BitVec.slt (BitVec.ofNat 32 (i 0).val) w <;> decide

/-- A store through the whole rectangle leaves its payload. -/
theorem read_store_whole {sig : RefSig} {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  funext x
  have e := View.read_writes_cons_emb v f (Rect.unit (fun _ => 0) S.size inb) w [] x
  rwa [show (Rect.unit (fun _ => 0) S.size inb).emb x = x from Rect.emb_whole_apply S x] at e

theorem off2_zero : (![0, 0] : Fin 2 → Nat) = fun _ => 0 := by decide
theorem off3_zero : (![0, 0, 0] : Fin 3 → Nat) = fun _ => 0 := by decide

/-- A load through the whole rectangle of a buffer at known contents reads them. -/
theorem readAt_rep {sig : RefSig} {κ : Kind} {sp : Space} {S : Shape} {e : EltTy} (v : View sig κ sp S e) (X : S.Idx → Elt F e)
    {off : Fin S.rank → Nat} (h : off = fun _ => 0) (inb : ∀ a, off a + S.size a ≤ S.size a) :
    v.readAt (Elt F) (Rect.unit off S.size inb).toLoadRect (v.rep X) = X :=
  (View.ld_unit_zero h inb _).trans (View.read_rep v X)

theorem readAt_read {sig : RefSig} {κ : Kind} {sp : Space} {S : Shape} {e : EltTy} (v : View sig κ sp S e) (f : v.ty.Contents (Elt F)) {X : S.Idx → Elt F e}
    (hX : v.read (Elt F) f = X) {off : Fin S.rank → Nat} (h : off = fun _ => 0) (inb : ∀ a, off a + S.size a ≤ S.size a) :
    v.readAt (Elt F) (Rect.unit off S.size inb).toLoadRect f = X :=
  (View.ld_unit_zero h inb _).trans hX

/-- What the body leaves in the output's staging buffer. -/
def outAt (i : grid0.Coords) (T1 : S1.Idx → BitVec 32) (x0 : S256x2048.Idx → Elt F .bf16) (x1 x2 : S1x2048x512.Idx → Elt F .f32) (x3 : S1x512x2048.Idx → Elt F .f32) :
    S256x2048.Idx → Elt F .bf16 :=
  if k0_cond2 i (liveWord (F := F) T1) = 1#1 then k0_pay4 (F := F) x0 (k0_pay1 x1) (k0_pay2 x2) (k0_pay3 x3) else k0_pay5 (F := F)

set_option maxHeartbeats 4000000 in
/-- THE BODY at a point. Beforehand: the inputs' blocks `x0 … x3`, the tables, the output's buffer at anything, the
    scratches at `s0 s1 s2` — the casts of the current blocks wherever the expert has not changed. Afterwards: the scratches
    hold the casts of the current blocks, the output's buffer `outAt`. -/
theorem body_run (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole)
    (T0 : S111.Idx → BitVec 32) (T1 : S1.Idx → BitVec 32)
    (x0 : S256x2048.Idx → Elt F .bf16) (x1 x2 : S1x2048x512.Idx → Elt F .f32) (x3 : S1x512x2048.Idx → Elt F .f32)
    (s0 s1 : S2048x512.Idx → Elt F .bf16) (s2 : S512x2048.Idx → Elt F .bf16)
    (hs : ¬ Changed (F := F) T0 i → s0 = k0_pay1 x1 ∧ s1 = k0_pay2 x2 ∧ s2 = k0_pay3 x3) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tab0.view.loc (c : Thread nD τ) ↦{fullShare.right} T0)
          ∗ (tab1.view.loc (c : Thread nD τ) ↦{fullShare.right} T1)
          ∗ (∃ d, owns (c : Thread nD τ) arg7 fullShare d)
          ∗ owns (c : Thread nD τ) scr0 fullShare s0
          ∗ owns (c : Thread nD τ) scr1 fullShare s1
          ∗ owns (c : Thread nD τ) scr2 fullShare s2
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tab0.view.loc (c : Thread nD τ) ↦{fullShare.right} T0)
              ∗ (tab1.view.loc (c : Thread nD τ) ↦{fullShare.right} T1)
              ∗ owns (c : Thread nD τ) arg7 fullShare (outAt i T1 x0 x1 x2 x3)
              ∗ owns (c : Thread nD τ) scr0 fullShare (k0_pay1 x1)
              ∗ owns (c : Thread nD τ) scr1 fullShare (k0_pay2 x2)
              ∗ owns (c : Thread nD τ) scr2 fullShare (k0_pay3 x3)) -∗ K ⟨⟩))
      ⊢ wp frame (wpE (defs₀ (F := F)) Variants.none c none) Set.univ (cc0_moe i tab0 (Memref.isWhole_whole _) tab1 (Memref.isWhole_whole _) arg3 harg3 arg4 harg4 arg5 harg5 arg6 harg6 arg7 harg7 scr0 (Memref.isWhole_whole _) scr1 (Memref.isWhole_whole _) scr2 (Memref.isWhole_whole _)) K := by
  have hS0 : scr0.IsWhole := Memref.isWhole_whole _
  have hS1 : scr1.IsWhole := Memref.isWhole_whole _
  have hS2 : scr2.IsWhole := Memref.isWhole_whole _
  have hT0 : tab0.IsWhole := Memref.isWhole_whole _
  have hT1 : tab1.IsWhole := Memref.isWhole_whole _
  by_cases hc0 : Changed (F := F) T0 i <;> by_cases h2 : k0_cond2 i (liveWord (F := F) T1) = 1#1
  · have h3 : ¬ k0_cond3 i (liveWord (F := F) T1) = 1#1 := fun h => (dead_iff i _).1 h h2
    unfold owns
    rw [cc0_moe_eq_skeleton]; unfold cc0_moe_skel
    iintro ⟨H0, H1, H2, H3, HT0, HT1, ⟨%d4, %f4, -, HO4⟩, ⟨%g0, %e0, HS0⟩, ⟨%g1, %e1, HS1⟩, ⟨%g2, %e2, HS2⟩, Hk⟩
    sl_exec! (disch := first | (guard_target = Scalar.cmpi = _; exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro
        unfold outAt
        rw [if_pos h2]
        sl_unfold_words
        refine (read_store_whole _ _ off2_zero _ _).trans ?_; rw [readAt_rep _ _ off2_zero, readAt_rep _ _ off3_zero, readAt_rep _ _ off3_zero, readAt_rep _ _ off3_zero, View.readCov_unit_zero _ off2_zero, View.readCov_unit_zero _ off2_zero, View.readCov_unit_zero _ off2_zero]
    isplitl [HS0]
    · iexists _; isplitr; swap
      · iexact HS0
      · ipureintro
        sl_unfold_words; refine (read_store_whole _ _ off2_zero _ _).trans ?_; rw [readAt_rep _ _ off3_zero]
    isplitl [HS1]
    · iexists _; isplitr; swap
      · iexact HS1
      · ipureintro
        sl_unfold_words; refine (read_store_whole _ _ off2_zero _ _).trans ?_; rw [readAt_rep _ _ off3_zero]
    iexists _; isplitr; swap
    · iexact HS2
    · ipureintro
      sl_unfold_words; refine (read_store_whole _ _ off2_zero _ _).trans ?_; rw [readAt_rep _ _ off3_zero]
  · have h3 : k0_cond3 i (liveWord (F := F) T1) = 1#1 := (dead_iff i _).2 h2
    unfold owns
    rw [cc0_moe_eq_skeleton]; unfold cc0_moe_skel
    iintro ⟨H0, H1, H2, H3, HT0, HT1, ⟨%d4, %f4, -, HO4⟩, ⟨%g0, %e0, HS0⟩, ⟨%g1, %e1, HS1⟩, ⟨%g2, %e2, HS2⟩, Hk⟩
    sl_exec! (disch := first | (guard_target = Scalar.cmpi = _; exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro
        unfold outAt
        rw [if_neg h2]
        sl_unfold_words
        exact read_store_whole _ _ off2_zero _ _
    isplitl [HS0]
    · iexists _; isplitr; swap
      · iexact HS0
      · ipureintro
        sl_unfold_words; refine (read_store_whole _ _ off2_zero _ _).trans ?_; rw [readAt_rep _ _ off3_zero]
    isplitl [HS1]
    · iexists _; isplitr; swap
      · iexact HS1
      · ipureintro
        sl_unfold_words; refine (read_store_whole _ _ off2_zero _ _).trans ?_; rw [readAt_rep _ _ off3_zero]
    iexists _; isplitr; swap
    · iexact HS2
    · ipureintro
      sl_unfold_words; refine (read_store_whole _ _ off2_zero _ _).trans ?_; rw [readAt_rep _ _ off3_zero]
  · have h3 : ¬ k0_cond3 i (liveWord (F := F) T1) = 1#1 := fun h => (dead_iff i _).1 h h2
    obtain ⟨e0', e1', e2'⟩ := hs hc0
    subst e0' e1' e2'
    unfold owns
    rw [cc0_moe_eq_skeleton]; unfold cc0_moe_skel
    iintro ⟨H0, H1, H2, H3, HT0, HT1, ⟨%d4, %f4, -, HO4⟩, ⟨%g0, %e0, HS0⟩, ⟨%g1, %e1, HS1⟩, ⟨%g2, %e2, HS2⟩, Hk⟩
    sl_exec! (disch := first | (guard_target = ¬(Scalar.cmpi = _); exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro
        unfold outAt
        rw [if_pos h2]
        sl_unfold_words
        refine (read_store_whole _ _ off2_zero _ _).trans ?_; rw [readAt_rep _ _ off2_zero, readAt_read _ _ e0 off2_zero, readAt_read _ _ e1 off2_zero, readAt_read _ _ e2 off2_zero]
    isplitl [HS0]
    · iexists _; isplitr; swap
      · iexact HS0
      · ipureintro
        exact e0
    isplitl [HS1]
    · iexists _; isplitr; swap
      · iexact HS1
      · ipureintro
        exact e1
    iexists _; isplitr; swap
    · iexact HS2
    · ipureintro
      exact e2
  · have h3 : k0_cond3 i (liveWord (F := F) T1) = 1#1 := (dead_iff i _).2 h2
    obtain ⟨e0', e1', e2'⟩ := hs hc0
    subst e0' e1' e2'
    unfold owns
    rw [cc0_moe_eq_skeleton]; unfold cc0_moe_skel
    iintro ⟨H0, H1, H2, H3, HT0, HT1, ⟨%d4, %f4, -, HO4⟩, ⟨%g0, %e0, HS0⟩, ⟨%g1, %e1, HS1⟩, ⟨%g2, %e2, HS2⟩, Hk⟩
    sl_exec! (disch := first | (guard_target = ¬(Scalar.cmpi = _); exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro
        unfold outAt
        rw [if_neg h2]
        sl_unfold_words
        exact read_store_whole _ _ off2_zero _ _
    isplitl [HS0]
    · iexists _; isplitr; swap
      · iexact HS0
      · ipureintro
        exact e0
    isplitl [HS1]
    · iexists _; isplitr; swap
      · iexact HS1
      · ipureintro
        exact e1
    iexists _; isplitr; swap
    · iexact HS2
    · ipureintro
      exact e2

end Cert.MoeIdeal.Hand
-- ==== Proof.MoeFrame.lean ====
/- The expert kernel's RUN at any tables in range: the tables name experts below 32 and between 1 and 111 live tiles.
   Every weakly fair execution ends, the arguments unchanged, the result holding, tile by tile, what the body leaves. -/
module

public import proofs.«01_k».proof.Proof.MoeBody
public import proofs.«01_k».proof.Proof.Gen.MoeIdeal.Launch
public import Idealize.ShloMosaic.Lib.ValueIdxCore

@[expose] public section

set_option maxRecDepth 16384

noncomputable section

namespace Cert.MoeIdeal.Hand

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

/-! ## The tables -/

/-- The tables are in range: every word of the first names an expert, the second counts live tiles. -/
structure InRange (T0 : S111.Idx → BitVec 32) (T1 : S1.Idx → BitVec 32) : Prop where
  expert : ∀ x, (T0 x).toNat < 32
  live : ∀ x, 1 ≤ (T1 x).toNat ∧ (T1 x).toNat ≤ 111

/-- The tables as the launch memory holds them. -/
def tbl (m : (ℓ : Loc nD τ sig) → Buf (Elt F) ℓ) : pre0.Contents (Elt F) := fun j => m (((0 : Dev nD) : Thread nD τ).loc (pre0.ref j))

abbrev T0of (pf : pre0.Contents (Elt F)) : S111.Idx → BitVec 32 := pf 0
abbrev T1of (pf : pre0.Contents (Elt F)) : S1.Idx → BitVec 32 := pf 1

/-- The tile a point reads its rows from: itself, or the last live one. -/
def tileOf (T1 : S1.Idx → BitVec 32) (n : ℕ) : ℕ := min n ((T1 (ix1 0)).toNat - 1)

theorem coord_lt (i : grid0.Coords) : (i 0).val < 111 := (i 0).isLt

theorem toNat_ofNat_coord (i : grid0.Coords) : (BitVec.ofNat 32 (i 0).val).toNat = (i 0).val := by
  have := coord_lt i
  rw [BitVec.toNat_ofNat]; omega

theorem idx111 {x y : S111.Idx} (h : (x 0).val = (y 0).val) : x = y := by
  rw [eq_ix1 x, eq_ix1 y, Fin.ext h]
theorem idx1 (x y : S1.Idx) : x = y := by
  rw [eq_ix1 x, eq_ix1 y]; congr 1
  exact Subsingleton.elim (α := Fin 1) _ _

/-- The element of the first table at a point. -/
abbrev at111 (n : ℕ) (h : n < 111) : S111.Idx := ix1 ⟨n, h⟩

theorem word_eq (pf : pre0.Contents (Elt F)) (i : grid0.Coords) :
    pf.at 0 (Rect.unit (s := S111) ![(Scalar.indexCast (BitVec.ofNat 32 (i 0).val)).toNat] S1.size (k0_off1_inb i)) numel1_S1
      = T0of pf (at111 (i 0).val (coord_lt i)) := by
  refine congrArg (T0of pf) (idx111 ?_)
  show (BitVec.ofNat 32 (i 0).val).toNat + 1 * 0 = (i 0).val
  rw [toNat_ofNat_coord]; rfl

theorem live_eq (pf : pre0.Contents (Elt F)) :
    pf.at 1 (Rect.unit (s := S1) ![0] S1.size inb_S1_S1_0) numel1_S1 = T1of pf (ix1 0) :=
  congrArg (T1of pf) (idx1 _ _)

theorem tile_toNat {T0 : S111.Idx → BitVec 32} {T1 : S1.Idx → BitVec 32} (h : InRange T0 T1) (i : grid0.Coords) :
    (Scalar.minsi (BitVec.ofNat 32 (i 0).val) (Scalar.subi (T1 (ix1 0)) 1#32)).toNat = tileOf T1 (i 0).val := by
  obtain ⟨h1, h2⟩ := h.live (ix1 0)
  have h0 := coord_lt i
  have e : (T1 (ix1 0) - 1#32).toNat = (T1 (ix1 0)).toNat - 1 := by
    rw [BitVec.toNat_sub]; simp; omega
  have ei := toNat_ofNat_coord i
  unfold tileOf
  show (if (BitVec.ofNat 32 (i 0).val).slt (T1 (ix1 0) - 1#32) then BitVec.ofNat 32 (i 0).val else T1 (ix1 0) - 1#32).toNat = _
  have hs : (BitVec.ofNat 32 (i 0).val).slt (T1 (ix1 0) - 1#32) = decide ((i 0).val < (T1 (ix1 0)).toNat - 1) := by
    rw [BitVec.slt_eq_decide, BitVec.toInt_eq_toNat_of_lt (by omega), BitVec.toInt_eq_toNat_of_lt (by omega), ei, e]
    simp
  rw [hs]
  by_cases hc : (i 0).val < (T1 (ix1 0)).toNat - 1
  · rw [if_pos (by simpa using hc), ei]; omega
  · rw [if_neg (by simpa using hc), e]; omega

theorem tr0_eq (pf : pre0.Contents (Elt F)) (h : InRange (T0of pf) (T1of pf)) (i : grid0.Coords) :
    cc0_transform_0 inb_S1_S1_0 numel1_S1 pf i = ![tileOf (T1of pf) (i 0).val, 0] := by
  have e := tile_toNat h i
  rw [← live_eq pf] at e
  funext a
  match a with
  | ⟨0, _⟩ => exact e
  | ⟨1, _⟩ => rfl

theorem tr1_eq (pf : pre0.Contents (Elt F)) (i : grid0.Coords) :
    cc0_transform_1 k0_off1_inb numel1_S1 pf i = ![(T0of pf (at111 (i 0).val (coord_lt i))).toNat, 0, 0] := by
  exact congrArg (fun w : BitVec 32 => (![w.toNat, 0, 0] : Fin 3 → ℕ)) (word_eq pf i)
theorem tr2_eq (pf : pre0.Contents (Elt F)) (i : grid0.Coords) :
    cc0_transform_2 k0_off1_inb numel1_S1 pf i = ![(T0of pf (at111 (i 0).val (coord_lt i))).toNat, 0, 0] := by
  exact congrArg (fun w : BitVec 32 => (![w.toNat, 0, 0] : Fin 3 → ℕ)) (word_eq pf i)
theorem tr3_eq (pf : pre0.Contents (Elt F)) (i : grid0.Coords) :
    cc0_transform_3 k0_off1_inb numel1_S1 pf i = ![(T0of pf (at111 (i 0).val (coord_lt i))).toNat, 0, 0] := by
  exact congrArg (fun w : BitVec 32 => (![w.toNat, 0, 0] : Fin 3 → ℕ)) (word_eq pf i)

theorem tile_coord (n : ℕ) (h : n < 111) : ∃ i' : grid0.Coords, cc0_transform_4 i' = ![n, 0] := by
  refine ⟨grid0.coords ⟨n, by rw [N_0]; exact h⟩, ?_⟩
  have : ∀ t : Fin grid0.N, cc0_transform_4 (grid0.coords t) = ![t.val, 0] := by decide +kernel
  exact this _

/-- The blocks the region reads through the tables are inside their arrays. -/
theorem ok_of_range (pf : pre0.Contents (Elt F)) (h : InRange (T0of pf) (T1of pf)) : ok0 (F := F) pf := by
  have hw : ∀ i : grid0.Coords, (T0of pf (at111 (i 0).val (coord_lt i))).toNat < 32 := fun i => h.expert _
  refine ⟨fun i => ?_, fun i => ?_, fun i => ?_, fun i => ?_⟩
  · rw [tr0_eq pf h i]
    have h1 := h.live (ix1 0)
    have hlt : tileOf (T1of pf) (i 0).val < 111 := by have := coord_lt i; unfold tileOf; omega
    obtain ⟨i', hi'⟩ := tile_coord _ hlt
    rw [← hi']
    exact ⟨hinb0_4 i', hwx0_4 i'⟩
  · refine ⟨?_, .inl rfl⟩
    rw [tr1_eq]; have := hw i
    intro a
    match a with
    | ⟨0, _⟩ => show ((T0of pf (at111 (i 0).val (coord_lt i))).toNat + 1) * 1 ≤ 32; omega
    | ⟨1, _⟩ => show (0 + 1) * 2048 ≤ 2048; omega
    | ⟨2, _⟩ => show (0 + 1) * 512 ≤ 512; omega
  · refine ⟨?_, .inl rfl⟩
    rw [tr2_eq]; have := hw i
    intro a
    match a with
    | ⟨0, _⟩ => show ((T0of pf (at111 (i 0).val (coord_lt i))).toNat + 1) * 1 ≤ 32; omega
    | ⟨1, _⟩ => show (0 + 1) * 2048 ≤ 2048; omega
    | ⟨2, _⟩ => show (0 + 1) * 512 ≤ 512; omega
  · refine ⟨?_, .inl rfl⟩
    rw [tr3_eq]; have := hw i
    intro a
    match a with
    | ⟨0, _⟩ => show ((T0of pf (at111 (i 0).val (coord_lt i))).toNat + 1) * 1 ≤ 32; omega
    | ⟨1, _⟩ => show (0 + 1) * 512 ≤ 512; omega
    | ⟨2, _⟩ => show (0 + 1) * 2048 ≤ 2048; omega

/-! ## The pipeline at tables in range -/

variable (m : (ℓ : Loc nD τ sig) → Buf (Elt F) ℓ) (ρ : Dev nD → PrngReg) (hr : InRange (T0of (tbl m)) (T1of (tbl m)))

def adm : (pcfg0 (F := F)).Adm := ⟨tbl m, ok_of_range (tbl m) hr⟩
abbrev cfgA : Pipeline.Cfg sig Λ₀ := cfg0 (F := F) (adm m hr)
abbrev pcs : Fin 1 → Pipeline.Cfg sig Λ₀ := Pipeline.pin (pcfgs (F := F)) fun _ => adm m hr

abbrev crd (t : Fin (cfgA m hr).N) : grid0.Coords := (cfgA m hr).grid.coords t
abbrev ms0_0 (t : Fin (cfgA m hr).N) : Memref sig .tc .vmem S256x2048 .bf16 := spec0_0.stage ((cfgA m hr).slots t (0 : Fin 5))
abbrev hs0_0 (t : Fin (cfgA m hr).N) : (ms0_0 m hr t).IsWhole := hstage0_0 (((cfgA m hr).slots t (0 : Fin 5)).cast nbuf0_0)
abbrev ms0_1 (t : Fin (cfgA m hr).N) : Memref sig .tc .vmem S1x2048x512 .f32 := spec0_1.stage ((cfgA m hr).slots t (1 : Fin 5))
abbrev hs0_1 (t : Fin (cfgA m hr).N) : (ms0_1 m hr t).IsWhole := hstage0_1 (((cfgA m hr).slots t (1 : Fin 5)).cast nbuf0_1)
abbrev ms0_2 (t : Fin (cfgA m hr).N) : Memref sig .tc .vmem S1x2048x512 .f32 := spec0_2.stage ((cfgA m hr).slots t (2 : Fin 5))
abbrev hs0_2 (t : Fin (cfgA m hr).N) : (ms0_2 m hr t).IsWhole := hstage0_2 (((cfgA m hr).slots t (2 : Fin 5)).cast nbuf0_2)
abbrev ms0_3 (t : Fin (cfgA m hr).N) : Memref sig .tc .vmem S1x512x2048 .f32 := spec0_3.stage ((cfgA m hr).slots t (3 : Fin 5))
abbrev hs0_3 (t : Fin (cfgA m hr).N) : (ms0_3 m hr t).IsWhole := hstage0_3 (((cfgA m hr).slots t (3 : Fin 5)).cast nbuf0_3)
abbrev ms0_4 (t : Fin (cfgA m hr).N) : Memref sig .tc .vmem S256x2048 .bf16 := spec0_4.stage ((cfgA m hr).slots t (4 : Fin 5))
abbrev hs0_4 (t : Fin (cfgA m hr).N) : (ms0_4 m hr t).IsWhole := hstage0_4 (((cfgA m hr).slots t (4 : Fin 5)).cast nbuf0_4)

/-- Window `w`'s block at point `t`, read off its array at launch. -/
def iblk (c : Dev nD) (w : Fin (cfgA m hr).W) (t : Fin (cfgA m hr).N) : (((cfgA m hr).win w).xblock (crd m hr t)).Idx → Elt F ((cfgA m hr).win w).elt :=
  (((cfgA m hr).win w).blk t).view.read (Elt F) ((s₀ m ρ).mem (((cfgA m hr).win w).arr.view.loc (c : Thread nD τ)))

theorem crd_val (t : Fin (cfgA m hr).N) : (crd m hr t 0).val = t.val := by
  have : ∀ t : Fin grid0.N, ((grid0.coords t) 0).val = t.val := by decide +kernel
  exact this t

theorem t_lt (t : Fin (cfgA m hr).N) : t.val < 111 := lt_of_lt_of_eq t.isLt N_0

/-- The expert of tile `n`. -/
def expertOf (n : ℕ) (h : n < 111) : Fin 32 := ⟨(T0of (tbl m) (at111 n h)).toNat, hr.expert _⟩

theorem tile_lt (n : ℕ) (h : n < 111) : tileOf (T1of (tbl m)) n < 111 := by unfold tileOf; omega

theorem row_lt {a b : ℕ} (ha : a < 111) (hb : b < 256) : a * 256 + b < 28416 := by omega

/-- Window 0's block: the rows of the point's tile. -/
theorem iblk_0 (c : Dev nD) (t : Fin (cfgA m hr).N) (y : S256x2048.Idx) :
    (iblk m ρ hr c (0 : Fin 5) t : S256x2048.Idx → Elt F .bf16) y
      = m ((c : Thread nD τ).loc main_arg2) (ix2 (⟨tileOf (T1of (tbl m)) t.val * 256 + (y 0).val, row_lt (tile_lt m t.val (t_lt m hr t)) (y 0).isLt⟩ : Fin 28416) (y 1)) := by
  have e := tr0_eq (tbl m) hr (crd m hr t)
  rw [crd_val] at e
  refine congrArg (m ((c : Thread nD τ).loc main_arg2)) (funext fun a => Fin.ext ?_)
  match a with
  | ⟨0, _⟩ =>
    show cc0_transform_0 inb_S1_S1_0 numel1_S1 (tbl m) (crd m hr t) 0 * 256 + 1 * (y 0).val = _
    rw [e, Nat.one_mul]; rfl
  | ⟨1, _⟩ =>
    show cc0_transform_0 inb_S1_S1_0 numel1_S1 (tbl m) (crd m hr t) 1 * 2048 + 1 * (y 1).val = (y 1).val
    rw [e, Nat.one_mul]; show 0 * 2048 + _ = _; omega

/-- Windows 1, 2, 3: the weights of the point's expert. -/
theorem iblk_1 (c : Dev nD) (t : Fin (cfgA m hr).N) (y : S1x2048x512.Idx) :
    (iblk m ρ hr c (1 : Fin 5) t : S1x2048x512.Idx → Elt F .f32) y
      = m ((c : Thread nD τ).loc main_arg3) (ix3 (expertOf m hr t.val (t_lt m hr t)) (y 1) (y 2)) := by
  have e := tr1_eq (tbl m) (crd m hr t)
  have h0 : (y 0).val = 0 := by have : (y 0).val < 1 := (y 0).isLt; omega
  refine congrArg (m ((c : Thread nD τ).loc main_arg3)) (funext fun a => Fin.ext ?_)
  match a with
  | ⟨0, _⟩ =>
    show cc0_transform_1 k0_off1_inb numel1_S1 (tbl m) (crd m hr t) 0 * 1 + 1 * (y 0).val = _
    rw [e, h0]; show _ * 1 + 1 * 0 = _
    rw [Nat.mul_one, Nat.mul_zero, Nat.add_zero]
    exact congrArg (fun x => (T0of (tbl m) x).toNat) (idx111 (crd_val m hr t))
  | ⟨1, _⟩ =>
    show cc0_transform_1 k0_off1_inb numel1_S1 (tbl m) (crd m hr t) 1 * 2048 + 1 * (y 1).val = (y 1).val
    rw [e, Nat.one_mul]; show 0 * 2048 + _ = _; omega
  | ⟨2, _⟩ =>
    show cc0_transform_1 k0_off1_inb numel1_S1 (tbl m) (crd m hr t) 2 * 512 + 1 * (y 2).val = (y 2).val
    rw [e, Nat.one_mul]; show 0 * 512 + _ = _; omega

theorem iblk_2 (c : Dev nD) (t : Fin (cfgA m hr).N) (y : S1x2048x512.Idx) :
    (iblk m ρ hr c (2 : Fin 5) t : S1x2048x512.Idx → Elt F .f32) y
      = m ((c : Thread nD τ).loc main_arg4) (ix3 (expertOf m hr t.val (t_lt m hr t)) (y 1) (y 2)) := by
  have e := tr2_eq (tbl m) (crd m hr t)
  have h0 : (y 0).val = 0 := by have : (y 0).val < 1 := (y 0).isLt; omega
  refine congrArg (m ((c : Thread nD τ).loc main_arg4)) (funext fun a => Fin.ext ?_)
  match a with
  | ⟨0, _⟩ =>
    show cc0_transform_2 k0_off1_inb numel1_S1 (tbl m) (crd m hr t) 0 * 1 + 1 * (y 0).val = _
    rw [e, h0]; show _ * 1 + 1 * 0 = _
    rw [Nat.mul_one, Nat.mul_zero, Nat.add_zero]
    exact congrArg (fun x => (T0of (tbl m) x).toNat) (idx111 (crd_val m hr t))
  | ⟨1, _⟩ =>
    show cc0_transform_2 k0_off1_inb numel1_S1 (tbl m) (crd m hr t) 1 * 2048 + 1 * (y 1).val = (y 1).val
    rw [e, Nat.one_mul]; show 0 * 2048 + _ = _; omega
  | ⟨2, _⟩ =>
    show cc0_transform_2 k0_off1_inb numel1_S1 (tbl m) (crd m hr t) 2 * 512 + 1 * (y 2).val = (y 2).val
    rw [e, Nat.one_mul]; show 0 * 512 + _ = _; omega

theorem iblk_3 (c : Dev nD) (t : Fin (cfgA m hr).N) (y : S1x512x2048.Idx) :
    (iblk m ρ hr c (3 : Fin 5) t : S1x512x2048.Idx → Elt F .f32) y
      = m ((c : Thread nD τ).loc main_arg5) (ix3 (expertOf m hr t.val (t_lt m hr t)) (y 1) (y 2)) := by
  have e := tr3_eq (tbl m) (crd m hr t)
  have h0 : (y 0).val = 0 := by have : (y 0).val < 1 := (y 0).isLt; omega
  refine congrArg (m ((c : Thread nD τ).loc main_arg5)) (funext fun a => Fin.ext ?_)
  match a with
  | ⟨0, _⟩ =>
    show cc0_transform_3 k0_off1_inb numel1_S1 (tbl m) (crd m hr t) 0 * 1 + 1 * (y 0).val = _
    rw [e, h0]; show _ * 1 + 1 * 0 = _
    rw [Nat.mul_one, Nat.mul_zero, Nat.add_zero]
    exact congrArg (fun x => (T0of (tbl m) x).toNat) (idx111 (crd_val m hr t))
  | ⟨1, _⟩ =>
    show cc0_transform_3 k0_off1_inb numel1_S1 (tbl m) (crd m hr t) 1 * 512 + 1 * (y 1).val = (y 1).val
    rw [e, Nat.one_mul]; show 0 * 512 + _ = _; omega
  | ⟨2, _⟩ =>
    show cc0_transform_3 k0_off1_inb numel1_S1 (tbl m) (crd m hr t) 2 * 2048 + 1 * (y 2).val = (y 2).val
    rw [e, Nat.one_mul]; show 0 * 2048 + _ = _; omega

/-! ## The invariant: after a point the scratches hold the casts of its expert's weights -/

/-- What the scratches hold before position `n`, where a point came before. -/
def Kept (c : Dev nD) (n : ℕ) (s0 s1 : S2048x512.Idx → Elt F .bf16) (s2 : S512x2048.Idx → Elt F .bf16) : Prop :=
  ∀ t : Fin (cfgA m hr).N, n = t.val + 1 →
    s0 = k0_pay1 (iblk m ρ hr c (1 : Fin 5) t) ∧ s1 = k0_pay2 (iblk m ρ hr c (2 : Fin 5) t) ∧ s2 = k0_pay3 (iblk m ρ hr c (3 : Fin 5) t)

/-- THE INVARIANT before a point: the scratches, and the body's halves of the tables. -/
def Phi (c : Dev nD) (t : Fin ((cfgA m hr).N + 1)) : sProp 𝕄 :=
  iprop((∃ s0, ∃ s1, ∃ s2, ⌜Kept m ρ hr c t.val s0 s1 s2⌝ ∗ owns (c : Thread nD τ) scr0 fullShare s0 ∗ owns (c : Thread nD τ) scr1 fullShare s1 ∗ owns (c : Thread nD τ) scr2 fullShare s2)
    ∗ (tab0.view.loc (c : Thread nD τ) ↦{fullShare.right} T0of (tbl m)) ∗ (tab1.view.loc (c : Thread nD τ) ↦{fullShare.right} T1of (tbl m)))

/-- What the body leaves in the result's staging buffer at point `t`. -/
def outBlk (c : Dev nD) (t : Fin (cfgA m hr).N) : S256x2048.Idx → Elt F .bf16 :=
  outAt (crd m hr t) (T1of (tbl m)) (iblk m ρ hr c (0 : Fin 5) t) (iblk m ρ hr c (1 : Fin 5) t) (iblk m ρ hr c (2 : Fin 5) t) (iblk m ρ hr c (3 : Fin 5) t)

def dats (_ : Fin 1) (c : Dev nD) : Dat τ (Elt F) Unit ℕ (UR sig nD τ) ℕ (cfgA m hr) c where
  A w := (s₀ m ρ).mem (((cfgA m hr).win w).arr.view.loc (c : Thread nD τ))
  after w t := match w with
    | ⟨0, _⟩ => iblk m ρ hr c (0 : Fin 5) t
    | ⟨1, _⟩ => iblk m ρ hr c (1 : Fin 5) t
    | ⟨2, _⟩ => iblk m ρ hr c (2 : Fin 5) t
    | ⟨3, _⟩ => iblk m ρ hr c (3 : Fin 5) t
    | ⟨4, _⟩ => outBlk m ρ hr c t
  Φ t := Phi m ρ hr c t
  q _ := fullShare
  owed _ := 0

theorem after0_4 (c : Dev nD) (t : Fin (cfgA m hr).N) : (dats m ρ hr 0 c).after (4 : Fin 5) t = outBlk m ρ hr c t := rfl
theorem after0_0 (c : Dev nD) (t : Fin (cfgA m hr).N) : (dats m ρ hr 0 c).after (0 : Fin 5) t = iblk m ρ hr c (0 : Fin 5) t := rfl
theorem before0_0 (c : Dev nD) (t : Fin (cfgA m hr).N) (d) : (dats m ρ hr 0 c).before (0 : Fin 5) t d = iblk m ρ hr c (0 : Fin 5) t :=
  ((dats m ρ hr 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem after0_1 (c : Dev nD) (t : Fin (cfgA m hr).N) : (dats m ρ hr 0 c).after (1 : Fin 5) t = iblk m ρ hr c (1 : Fin 5) t := rfl
theorem before0_1 (c : Dev nD) (t : Fin (cfgA m hr).N) (d) : (dats m ρ hr 0 c).before (1 : Fin 5) t d = iblk m ρ hr c (1 : Fin 5) t :=
  ((dats m ρ hr 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem after0_2 (c : Dev nD) (t : Fin (cfgA m hr).N) : (dats m ρ hr 0 c).after (2 : Fin 5) t = iblk m ρ hr c (2 : Fin 5) t := rfl
theorem before0_2 (c : Dev nD) (t : Fin (cfgA m hr).N) (d) : (dats m ρ hr 0 c).before (2 : Fin 5) t d = iblk m ρ hr c (2 : Fin 5) t :=
  ((dats m ρ hr 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem after0_3 (c : Dev nD) (t : Fin (cfgA m hr).N) : (dats m ρ hr 0 c).after (3 : Fin 5) t = iblk m ρ hr c (3 : Fin 5) t := rfl
theorem before0_3 (c : Dev nD) (t : Fin (cfgA m hr).N) (d) : (dats m ρ hr 0 c).before (3 : Fin 5) t d = iblk m ρ hr c (3 : Fin 5) t :=
  ((dats m ρ hr 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The result's window is idle nowhere: a tile is live or dead. -/
theorem not_idle (t : Fin (cfgA m hr).N) : (cfgA m hr).idle (4 : Fin 5) ((cfgA m hr).grid.coords t) = false := by
  show (!(k0_cond2 (crd m hr t) _ == 1#1) && !(k0_cond3 (crd m hr t) _ == 1#1)) = false
  have h := dead_iff (crd m hr t) ((adm m hr).1.atD 1 ![0])
  generalize k0_cond2 (crd m hr t) ((adm m hr).1.atD 1 ![0]) = u at h ⊢
  generalize k0_cond3 (crd m hr t) ((adm m hr).1.atD 1 ![0]) = v at h ⊢
  revert u v; decide

theorem off2_val (t : Fin (cfgA m hr).N) : k0_off2 (crd m hr t) 0 = t.val - 1 := by
  have : ∀ t : Fin grid0.N, k0_off2 (grid0.coords t) 0 = t.val - 1 := by decide +kernel
  exact this t

theorem wordAt_eq (t : Fin (cfgA m hr).N) : wordAt (F := F) (T0of (tbl m)) (crd m hr t) = T0of (tbl m) (at111 t.val (t_lt m hr t)) := by
  refine congrArg (T0of (tbl m)) (idx111 ?_)
  show (BitVec.ofNat 32 (crd m hr t 0).val).toNat + 1 * 0 = t.val
  rw [toNat_ofNat_coord, crd_val]; rfl

theorem wordBefore_eq (t : Fin (cfgA m hr).N) :
    wordBefore (F := F) (T0of (tbl m)) (crd m hr t) = T0of (tbl m) (at111 (t.val - 1) (by have := t_lt m hr t; omega)) := by
  refine congrArg (T0of (tbl m)) (idx111 ?_)
  show k0_off2 (crd m hr t) 0 + 1 * 0 = t.val - 1
  rw [off2_val]; rfl

/-- Where the body finds the expert unchanged, the scratches hold the casts of its weights already. -/
theorem kept_of_unchanged (c : Dev nD) (t : Fin (cfgA m hr).N) {s0 s1 : S2048x512.Idx → Elt F .bf16} {s2 : S512x2048.Idx → Elt F .bf16}
    (hk : Kept m ρ hr c t.castSucc.val s0 s1 s2) (hc : ¬ Changed (F := F) (T0of (tbl m)) (crd m hr t)) :
    s0 = k0_pay1 (iblk m ρ hr c (1 : Fin 5) t) ∧ s1 = k0_pay2 (iblk m ρ hr c (2 : Fin 5) t) ∧ s2 = k0_pay3 (iblk m ρ hr c (3 : Fin 5) t) := by
  have hne : t.val ≠ 0 ∧ wordAt (F := F) (T0of (tbl m)) (crd m hr t) = wordBefore (F := F) (T0of (tbl m)) (crd m hr t) := by
    constructor
    · intro h0
      apply hc
      unfold Changed
      rw [crd_val, h0]
      generalize Scalar.cmpi .ne (wordAt (F := F) (T0of (tbl m)) (crd m hr t)) (wordBefore (F := F) (T0of (tbl m)) (crd m hr t)) = w
      revert w; decide
    · by_contra hw
      apply hc
      unfold Changed
      have : Scalar.cmpi .ne (wordAt (F := F) (T0of (tbl m)) (crd m hr t)) (wordBefore (F := F) (T0of (tbl m)) (crd m hr t)) = 1#1 := by
        show BitVec.ofBool (_ != _) = 1#1
        rw [bne_iff_ne.2 hw]; rfl
      rw [this]
      generalize Scalar.cmpi .eq (BitVec.ofNat 32 (crd m hr t 0).val) 0#32 = w
      revert w; decide
  obtain ⟨hn, hw⟩ := hne
  obtain ⟨n, hlt⟩ := t
  obtain ⟨n, rfl⟩ : ∃ k, n = k + 1 := ⟨n - 1, by simp only at hn; omega⟩
  have hlt' : n < (cfgA m hr).N := by omega
  obtain ⟨e0, e1, e2⟩ := hk ⟨n, hlt'⟩ rfl
  have hx : expertOf m hr n (t_lt m hr ⟨n, hlt'⟩) = expertOf m hr (n + 1) (t_lt m hr ⟨n + 1, hlt⟩) := by
    rw [wordAt_eq, wordBefore_eq] at hw
    have e2 : T0of (tbl m) (at111 n (t_lt m hr ⟨n, hlt'⟩)) = T0of (tbl m) (at111 (n + 1) (t_lt m hr ⟨n + 1, hlt⟩)) := hw.symm
    refine Fin.ext ?_
    show (T0of (tbl m) (at111 n (t_lt m hr ⟨n, hlt'⟩))).toNat = (T0of (tbl m) (at111 (n + 1) (t_lt m hr ⟨n + 1, hlt⟩))).toNat
    rw [e2]
  have b1 : (iblk m ρ hr c (1 : Fin 5) ⟨n, hlt'⟩ : S1x2048x512.Idx → Elt F .f32) = iblk m ρ hr c (1 : Fin 5) ⟨n + 1, hlt⟩ := by
    funext y; rw [iblk_1, iblk_1]; exact congrArg (fun e => m ((c : Thread nD τ).loc main_arg3) (ix3 e (y 1) (y 2))) hx
  have b2 : (iblk m ρ hr c (2 : Fin 5) ⟨n, hlt'⟩ : S1x2048x512.Idx → Elt F .f32) = iblk m ρ hr c (2 : Fin 5) ⟨n + 1, hlt⟩ := by
    funext y; rw [iblk_2, iblk_2]; exact congrArg (fun e => m ((c : Thread nD τ).loc main_arg4) (ix3 e (y 1) (y 2))) hx
  have b3 : (iblk m ρ hr c (3 : Fin 5) ⟨n, hlt'⟩ : S1x512x2048.Idx → Elt F .f32) = iblk m ρ hr c (3 : Fin 5) ⟨n + 1, hlt⟩ := by
    funext y; rw [iblk_3, iblk_3]; exact congrArg (fun e => m ((c : Thread nD τ).loc main_arg5) (ix3 e (y 1) (y 2))) hx
  refine ⟨e0.trans (congrArg k0_pay1 b1), e1.trans (congrArg k0_pay2 b2), e2.trans (congrArg k0_pay3 b3)⟩

/-- The body at point `t` on its staging memrefs, as the pipeline calls it. -/
abbrev bodyAt0 (t : Fin (cfgA m hr).N) : Prog (TpuEff nD τ sig (Elt F) Λ₀ .tc) PUnit :=
  cc0_moe (crd m hr t) (Memref.whole main_arg0) (Memref.isWhole_whole _) (Memref.whole main_arg1) (Memref.isWhole_whole _) (ms0_0 m hr t) (hs0_0 m hr t) (ms0_1 m hr t) (hs0_1 m hr t) (ms0_2 m hr t) (hs0_2 m hr t) (ms0_3 m hr t) (hs0_3 m hr t) (ms0_4 m hr t) (hs0_4 m hr t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`. -/
theorem sound_body (c : Dev nD) (t : Fin (cfgA m hr).N) :
    iprop((dats m ρ hr 0 c).Φ t.castSucc ∗ (dats m ρ hr 0 c).owesAt () t.castSucc
        ∗ (∃ d, owns (c : Thread nD τ) (ms0_0 m hr t) fullShare ((dats m ρ hr 0 c).before (0 : Fin 5) t d))
        ∗ (∃ d, owns (c : Thread nD τ) (ms0_1 m hr t) fullShare ((dats m ρ hr 0 c).before (1 : Fin 5) t d))
        ∗ (∃ d, owns (c : Thread nD τ) (ms0_2 m hr t) fullShare ((dats m ρ hr 0 c).before (2 : Fin 5) t d))
        ∗ (∃ d, owns (c : Thread nD τ) (ms0_3 m hr t) fullShare ((dats m ρ hr 0 c).before (3 : Fin 5) t d))
        ∗ (∃ d, owns (c : Thread nD τ) (ms0_4 m hr t) fullShare ((dats m ρ hr 0 c).before (4 : Fin 5) t d)))
      ⊢ wp frame (wpE (defs₀ (F := F)) Variants.none c none) Set.univ (bodyAt0 m hr t) fun _ =>
          iprop((dats m ρ hr 0 c).Φ t.succ ∗ (dats m ρ hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m ρ hr 0 c).before w t d))
                  | true => owns (c : Thread nD τ) (((cfgA m hr).win w).stage ((cfgA m hr).slots t w)) fullShare ((dats m ρ hr 0 c).after w t)
                | false => owns (c : Thread nD τ) (((cfgA m hr).win w).stage ((cfgA m hr).slots t w)) fullShare ((dats m ρ hr 0 c).after w t)) := by
  rw [bigSep_W0]
  have i4 := not_idle m hr t
  rewrite [i4]
  simp only [before0_0, before0_1, before0_2, before0_3, after0_0, after0_1, after0_2, after0_3, after0_4]
  rewrite [show (dats m ρ hr 0 c).Φ t.succ = Phi m ρ hr c t.succ from rfl, show (dats m ρ hr 0 c).Φ t.castSucc = Phi m ρ hr c t.castSucc from rfl,
    show (dats m ρ hr 0 c).owesAt () t.succ = (dats m ρ hr 0 c).owesAt () t.castSucc from rfl]
  unfold Phi
  iintro ⟨⟨⟨%s0, %s1, %s2, %hk, HS0, HS1, HS2⟩, HT0, HT1⟩, Ho, ⟨%d0, H0⟩, ⟨%d1, H1⟩, ⟨%d2, H2⟩, ⟨%d3, H3⟩, ⟨%d4, H4⟩⟩
  iapply (body_run (F := F) c (crd m hr t) (ms0_0 m hr t) (hs0_0 m hr t) (ms0_1 m hr t) (hs0_1 m hr t) (ms0_2 m hr t) (hs0_2 m hr t) (ms0_3 m hr t) (hs0_3 m hr t) (ms0_4 m hr t) (hs0_4 m hr t) (T0of (tbl m)) (T1of (tbl m)) (iblk m ρ hr c (0 : Fin 5) t) (iblk m ρ hr c (1 : Fin 5) t) (iblk m ρ hr c (2 : Fin 5) t) (iblk m ρ hr c (3 : Fin 5) t) s0 s1 s2 (kept_of_unchanged m ρ hr c t hk) _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0 HS1 HS2]
    · iexists _; iexists _; iexists _
      isplitr; swap
      · isplitl [HS0]; · iexact HS0
        isplitl [HS1]; · iexact HS1
        iexact HS2
      · ipureintro
        intro t' ht'
        have : t' = t := Fin.ext (by simp only [Fin.val_succ] at ht'; omega)
        subst this
        exact ⟨rfl, rfl, rfl⟩
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

/-- The library's body obligation, at every point. -/
theorem body_obligation (c : Dev nD) : BodyObligation (dats m ρ hr 0 c) (defs₀ (F := F)) Variants.none () Set.univ := fun t => by
  rw [bigSep_W0]
  exact sound_body m ρ hr c t

/-! ## The launch -/

/-- The rounds library's launch element. -/
def u₀ : UR sig nD τ :=
  initOf (Pipeline.cells (pcs m hr) ((launch0 (F := F)).cellOf_inj fun _ => adm m hr))
    (Pipeline.launchToks (pcs m hr) ((launch0 (F := F)).cellOf_inj fun _ => adm m hr))

theorem share_eq (c : Dev nD) (w : Fin (cfgA m hr).W) : (dats m ρ hr 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- A whole buffer at contents `f` is its memref owned at `f`. -/
theorem owns_scr (c : Dev nD) (b : Ref sig .tc) (f : Buf (Elt F) ((c : Thread nD τ).loc b)) :
    (((c : Thread nD τ).loc b) ↦{fullShare} f) ⊢ (owns (c : Thread nD τ) (Memref.whole b) fullShare f : sProp 𝕄) := by
  unfold owns
  iintro H
  iexists f
  isplitr; swap
  · rw [show (Memref.whole b).view.set = Finset.univ from View.set_whole b]; iexact H
  · ipureintro; rfl

theorem scr_owns (c : Dev nD) (b : Ref sig .tc) (f : Buf (Elt F) ((c : Thread nD τ).loc b)) :
    (owns (c : Thread nD τ) (Memref.whole b) fullShare f : sProp 𝕄) ⊢ (((c : Thread nD τ).loc b) ↦{fullShare} f) := by
  unfold owns
  iintro ⟨%g, %hg, H⟩
  rw [show (Memref.whole b).view.set = Finset.univ from View.set_whole b]
  rw [show f = g from hg.symm]
  iexact H

/-- The invariant at the first point from the tables and the scratch buffers; -/
theorem phi0_intro (c : Dev nD) :
    iprop(BI.emp ∗ Pipeline.prefHeld pre0 c (fun _ => fullShare.right) (adm m hr).1 ∗ Pipeline.scopedRest spec0 c) ⊢ (dats m ρ hr 0 c).Φ 0 := by
  rw [prefHeld_eq, scopedRest0_eq, show (dats m ρ hr 0 c).Φ 0 = Phi m ρ hr c 0 from rfl]
  unfold Phi
  iintro ⟨-, ⟨HT0, HT1⟩, ⟨%a0, HS0⟩, ⟨%a1, HS1⟩, ⟨%a2, HS2⟩⟩
  isplitl [HS0 HS1 HS2]
  · iexists a0; iexists a1; iexists a2
    isplitr; swap
    · isplitl [HS0]; · iapply owns_scr; iexact HS0
      isplitl [HS1]; · iapply owns_scr; iexact HS1
      iapply owns_scr; iexact HS2
    · ipureintro; intro t ht; exact absurd ht (Nat.succ_ne_zero _).symm
  isplitl [HT0]
  · iexact HT0
  iexact HT1

/-- at the last point it gives the scratch buffers back, the tables let go. -/
theorem phiN_exit (c : Dev nD) : (dats m ρ hr 0 c).Φ (Fin.last (cfgA m hr).N) ⊢ iprop(BI.emp ∗ Pipeline.scopedRest spec0 c) := by
  rw [scopedRest0_eq, show (dats m ρ hr 0 c).Φ (Fin.last (cfgA m hr).N) = Phi m ρ hr c (Fin.last _) from rfl]
  unfold Phi
  iintro ⟨⟨%a0, %a1, %a2, -, HS0, HS1, HS2⟩, -, -⟩
  isplitr; · iempintro
  isplitl [HS0]
  · iexists a0; iapply scr_owns; iexact HS0
  isplitl [HS1]
  · iexists a1; iapply scr_owns; iexact HS1
  iexists a2; iapply scr_owns; iexact HS2

/-- The physical post: every array at what the library computes, every table at what the pipeline ran at. -/
def QC : PUnit × MemSt nD τ sig (Elt F) → Prop := fun r =>
  ∀ c : Dev nD, (∀ w : Fin (cfgA m hr).W, r.2.mem (((cfgA m hr).win w).arr.view.loc (c : Thread nD τ)) = (dats m ρ hr 0 c).arrAt w (cfgA m hr).N)
    ∧ ∀ j, r.2.mem ((c : Thread nD τ).loc (pre0.ref j)) = (adm m hr).1 j

theorem dev_zero (c : Dev nD) : c = 0 := Subsingleton.elim (α := Fin 1) c 0

theorem V_pre (c : Dev nD) (j : Fin 2) : m ((c : Thread nD τ).loc (pre0.ref j)) = (adm m hr).1 j := by
  rw [dev_zero c]; rfl

set_option backward.isDefEq.respectTransparency.types false in
set_option maxHeartbeats 4000000 in
/-- From any memory with zero counters whose tables are in range, every weakly fair execution of @main terminates, and
    every final state has each array at the computed contents and every semaphore counter at zero. -/
theorem run_main_quiescent : θ_run (defs (F := F)) (onTc (τ := τ) (main (F := F))) (s₀ m ρ) (fun r => QC m ρ hr r ∧ r.2.sem = fun _ => 0) :=
  Pipeline.θ_run_region_noSem_pf_quiescent pcfgs (fun _ => adm m hr) (dats m ρ hr) () ((launch0 (F := F)).cellOf_inj fun _ => adm m hr) (0 : Fin 1)
    (launch0 (F := F)).win.to₀ (launch0 (F := F)).pre EP defs₀ Variants.none m ρ main
    (hbody := fun c => (body_obligation m ρ hr c).loose) (hne := (launch0 (F := F)).block_pos)
    (harr := (launch0 (F := F)).arr_whole) (hstage := (launch0 (F := F)).stage_whole) (howed := fun _ _ => rfl)
    (u₀ := u₀ m hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hr) (dats m ρ hr) 0 (launch0 (F := F)).win.arr_inj c (launch0 (F := F)).arr_whole
      (share_eq m ρ hr c) _ _ fun _ => rfl)
    (hpf := V_pre m hr)
    (X := fun _ => iprop(emp)) (Y := fun _ => iprop(emp)) (Z := fun _ => iprop(emp))
    (hX := fun c => by rw [unscopedRestP0_eq]; iintro -; isplitr <;> iempintro)
    (hin := phi0_intro m ρ hr)
    (hout := phiN_exit m ρ hr)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged and the result holds the pipeline's blocks. -/
theorem run_values :
    θ_run (defs (F := F)) (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats m ρ hr 0 c).arrAt (4 : Fin 5) (cfgA m hr).N) :=
  (θ_run defs _ _).mono (fun _ h c => ⟨⟨((h.1 c).2 0).trans (V_pre m hr c 0).symm, ((h.1 c).2 1).trans (V_pre m hr c 1).symm, ((h.1 c).1 (0 : Fin 5)).trans ((dats m ρ hr 0 c).arrAt_in (0 : Fin 5) rfl _), ((h.1 c).1 (1 : Fin 5)).trans ((dats m ρ hr 0 c).arrAt_in (1 : Fin 5) rfl _), ((h.1 c).1 (2 : Fin 5)).trans ((dats m ρ hr 0 c).arrAt_in (2 : Fin 5) rfl _), ((h.1 c).1 (3 : Fin 5)).trans ((dats m ρ hr 0 c).arrAt_in (3 : Fin 5) rfl _)⟩, (h.1 c).1 (4 : Fin 5)⟩) (run_main_quiescent m ρ hr)

include hr in
/-- THE FRAME, at tables in range. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).1) (run_values m ρ hr)) ((θ_run defs _ _).mono (fun _ h => h.2) (run_main_quiescent m ρ hr))

end Cert.MoeIdeal.Hand
-- ==== Proof.MoeRefValue.lean ====
/- The expert reference's result, in closed form: a row of a live tile is its tile's expert applied to it, a row of a dead
   tile is zero. The one-hot combine weights leave of the sum over all 32 experts the one of the row's tile. -/
module

public import proofs.«01_k».proof.Proof.Gen.MoeRefIdeal.Read
public import Idealize.ShloMosaic.Lib.StableHlo.Predicate
public import Idealize.ShloMosaic.Lib.TwoAxisContraction
public import Idealize.ShloMosaic.Lib.Pointwise

@[expose] public section

set_option maxRecDepth 16384

noncomputable section

namespace Cert.MoeRefValue

open Idealize.ShloMosaic hiding ix1 ix2 ix3 eq_ix1
open Idealize.ShloMosaic.ValueIdx
open Cert.MoeRefIdeal Cert.MoeRefIdeal.Gen Cert.MoeRefIdeal.Read

/-! ## The rows' tiles -/

section Words
variable {F : FTy → Type} [FloatOps F]

theorem divsi_256 (u : ArithUnit) (w : BitVec 32) (hw : w.toNat < 2 ^ 31) : (IntOp.divsi u w 256#32).toNat = w.toNat / 256 := by
  have hc : ¬ IntOp.SDivCorner w 256#32 := IntOp.not_corner_of_pos (by decide)
  have hm : w.msb = false := BitVec.msb_eq_false_iff_two_mul_lt.mpr (by omega)
  simp only [IntOp.divsi, if_neg hc, BitVec.sdiv_eq, hm, show (256#32 : BitVec 32).msb = false from by decide, BitVec.udiv_eq,
    BitVec.toNat_udiv, BitVec.toNat_ofNat]

/-- Floor division by 256 of a row's number, in jax's words: the sign correction never applies. -/
theorem tile_word (i : S28416.Idx) : val_main_v2 (F := F) i = BitVec.ofNat 32 ((i 0).val / 256) := by
  have hi : (i 0).val < 28416 := (i 0).isLt
  have hn : (BitVec.ofNat 32 (i 0).val).toNat = (i 0).val := by rw [BitVec.toNat_ofNat]; omega
  rw [val_main_v2_apply, val_main_call0_v11_apply, val_main_call0_v6_apply, val_main_call0_v10_apply, val_main_call0_v13_apply,
    val_main_call0_v2_apply, val_main_call0_v8_apply, val_main_call0_v9_apply, val_main_call0_v5_apply, val_main_call0_v7_apply,
    val_main_call0_v12_apply, val_main_call0_v1_apply, val_main_call0_c_apply]
  have hq : IntOp.divsi .host (val_main_v1 (F := F) i) (256#32) = BitVec.ofNat 32 ((i 0).val / 256) := by
    apply BitVec.eq_of_toNat_eq
    rw [show val_main_v1 (F := F) i = BitVec.ofNat 32 (i 0).val from rfl, divsi_256 _ _ (by omega), hn, BitVec.toNat_ofNat]
    omega
  have hz : IntOp.andi (IntOp.cmpi .ne (val_main_call0_v3 (F := F) i) (1#32)) (IntOp.cmpi .ne (IntOp.remsi .host (val_main_v1 (F := F) i) 256#32) 0#32) = 0#1 := by
    by_cases h0 : (i 0).val = 0
    · rw [show val_main_v1 (F := F) i = BitVec.ofNat 32 (i 0).val from rfl, h0]
      rw [show IntOp.remsi .host (BitVec.ofNat 32 0) 256#32 = 0#32 from by decide]
      generalize IntOp.cmpi .ne (val_main_call0_v3 (F := F) i) (1#32) = w
      revert w; decide
    · have hs : val_main_call0_v3 (F := F) i = 1#32 := by
        show (if BitVec.ofNat 32 (i 0).val = 0 then (0 : BitVec 32) else if (BitVec.ofNat 32 (i 0).val).msb then -1 else 1) = 1#32
        rw [if_neg (fun h => h0 (by have := congrArg BitVec.toNat h; rw [hn] at this; simpa using this)),
          BitVec.msb_eq_false_iff_two_mul_lt.mpr (by omega)]
        rfl
      rw [hs]
      generalize IntOp.cmpi .ne (IntOp.remsi .host (val_main_v1 (F := F) i) 256#32) 0#32 = w
      revert w; decide
  have h4 : val_main_call0_v4 (F := F) (idx_main_call0_v5 i) = 1#32 := by
    show (if (256#32 : BitVec 32) = 0 then (0 : BitVec 32) else if (256#32 : BitVec 32).msb then -1 else 1) = 1#32
    decide
  rw [h4]
  show Scalar.select (IntOp.andi (IntOp.cmpi .ne (val_main_call0_v3 (F := F) i) (1#32)) (IntOp.cmpi .ne (IntOp.remsi .host (val_main_v1 (F := F) i) 256#32) 0#32)) _ (IntOp.divsi .host (val_main_v1 (F := F) i) (256#32)) = _
  rw [hz, hq]; rfl

/-- A row is in a live tile. -/
theorem live_word (x1 : S1.Idx → BitVec 32) (h1 : ∀ x, (x1 x).toNat ≤ 111) (i : S28416.Idx) :
    val_main_v5 (F := F) x1 i = 1#1 ↔ (i 0).val / 256 < (x1 (ix1 0)).toNat := by
  have hi : (i 0).val < 28416 := (i 0).isLt
  have e : val_main_v4 (F := F) x1 i = x1 (ix1 0) := by
    rw [val_main_v4_apply]
    refine congrArg x1 ?_
    refine (eq_ix1 _).trans ?_
    exact congrArg ix1 (Subsingleton.elim (α := Fin 1) _ _)
  have := h1 (ix1 0)
  rw [val_main_v5_apply, e, tile_word, IntOp.cmpi_slt, BitVec.toInt_eq_toNat_of_lt (by rw [BitVec.toNat_ofNat]; omega),
    BitVec.toInt_eq_toNat_of_lt (by omega), BitVec.toNat_ofNat]
  omega

theorem tile_lt (i : S28416.Idx) : (i 0).val / 256 < 111 := by
  have hi : (i 0).val < 28416 := (i 0).isLt
  omega

/-- The row's expert word. -/
theorem expert_word (x0 : S111.Idx → BitVec 32) (i : S28416.Idx) :
    val_main_v12 (F := F) x0 i = x0 (ix1 ⟨(i 0).val / 256, tile_lt i⟩) := by
  have hl := tile_lt i
  have hi : (i 0).val < 28416 := (i 0).isLt
  unfold val_main_v12
  have ei : i = Shape.Idx.ofFin (n := 28416) (i 0) := by
    funext a; match a with | ⟨0, _⟩ => rfl
  refine (congrArg (Host.gather gather_S111_S28416x1_S28416_n_0_n_n_0_1_1 x0 (val_main_v11 (F := F))) ei).trans ?_
  refine (StableHlo.Predicate.gather_take (N := 111) (n := 28416) gather_S111_S28416x1_S28416_n_0_n_n_0_1_1 rfl rfl rfl rfl x0 (val_main_v11 (F := F)) (i 0) (by decide)).trans ?_
  refine congrArg x0 ?_
  funext a
  match a with
  | ⟨0, _⟩ =>
    apply Fin.ext
    show min (val_main_v11 (F := F) (StableHlo.Predicate.ixP (i 0))).toInt.toNat (111 - 1) = (i 0).val / 256
    have e11 : val_main_v11 (F := F) (StableHlo.Predicate.ixP (i 0)) = BitVec.ofNat 32 ((i 0).val / 256) := by
      rw [val_main_v11_apply, val_main_v10_apply, val_main_v7_apply, val_main_v6_apply, val_main_c_0_apply, tile_word]
      have : IntOp.cmpi .slt (BitVec.ofNat 32 ((idx_main_v11 (StableHlo.Predicate.ixP (i 0)) 0).val / 256)) 0#32 = 0#1 := by
        have h : ¬ IntOp.cmpi .slt (BitVec.ofNat 32 ((idx_main_v11 (StableHlo.Predicate.ixP (i 0)) 0).val / 256)) 0#32 = 1#1 := by
          rw [IntOp.cmpi_slt, BitVec.toInt_eq_toNat_of_lt (by rw [BitVec.toNat_ofNat]; show 2 * (((i 0).val / 256) % _) < _; omega)]
          rw [show (0#32 : BitVec 32).toInt = 0 from by decide]; omega
        generalize IntOp.cmpi .slt (BitVec.ofNat 32 ((idx_main_v11 (StableHlo.Predicate.ixP (i 0)) 0).val / 256)) 0#32 = w at h ⊢
        revert w; decide
      rw [this]; rfl
    rw [e11, BitVec.toInt_eq_toNat_of_lt (by rw [BitVec.toNat_ofNat]; omega), BitVec.toNat_ofNat]
    omega

end Words

/-! ## The weights and the experts -/

/-- The combine weight of a row and an expert. -/
theorem weight_eq (x0 : S111.Idx → BitVec 32) (x1 : S1.Idx → BitVec 32) (h0 : ∀ x, (x0 x).toNat < 32) (h1 : ∀ x, (x1 x).toNat ≤ 111)
    (n : Fin 28416) (e : Fin 32) :
    val_main_v22 (F := Ideal) x0 x1 (ix2 n e)
      = if n.val / 256 < (x1 (ix1 0)).toNat ∧ (x0 (ix1 ⟨n.val / 256, tile_lt (ix1 n)⟩)).toNat = e.val then (1 : EReal) else 0 := by
  rw [val_main_v22_apply, val_main_v21_apply, val_main_v20_apply, val_main_v19_apply, val_main_v13_apply, val_main_v17_apply,
    val_main_v18_apply, val_main_v14_apply, val_main_v16_apply, val_main_call1_v0_apply, val_main_call1_v1_apply]
  have hl := live_word (F := Ideal) x1 h1 (idx_main_v13 (idx_main_v20 (ix2 n e)))
  have hx := expert_word (F := Ideal) x0 (idx_main_v14 (idx_main_v17 (ix2 n e)))
  rw [hx]
  have he : val_main_v15 (F := Ideal) (idx_main_v16 (idx_main_v18 (ix2 n e))) = BitVec.ofNat 32 e.val := rfl
  rw [he]
  have hc : IntOp.cmpi .eq (x0 (ix1 ⟨n.val / 256, tile_lt (ix1 n)⟩)) (BitVec.ofNat 32 e.val) = 1#1
      ↔ (x0 (ix1 ⟨n.val / 256, tile_lt (ix1 n)⟩)).toNat = e.val := by
    rw [StableHlo.Predicate.cmpi_eq_iff, ← BitVec.toNat_inj, BitVec.toNat_ofNat]
    have := e.isLt
    omega
  have hall : IntOp.andi (val_main_v5 (F := Ideal) x1 (idx_main_v13 (idx_main_v20 (ix2 n e)))) (IntOp.cmpi .eq (x0 (ix1 ⟨n.val / 256, tile_lt (ix1 n)⟩)) (BitVec.ofNat 32 e.val)) = 1#1
      ↔ n.val / 256 < (x1 (ix1 0)).toNat ∧ (x0 (ix1 ⟨n.val / 256, tile_lt (ix1 n)⟩)).toNat = e.val := by
    rw [IntOp.andi_eq_one, hl, hc]
  have c1 : val_main_cst (F := Ideal) (idx_main_call1_v0 (ix2 n e)) = (1 : EReal) := by
    show Ideal.ofBits .f32 0x3F800000#32 = 1
    exact Ideal.ofBits_one_f32
  have c2 : val_main_cst_2 (F := Ideal) (idx_main_call1_v1 (ix2 n e)) = (0 : EReal) := by
    show Ideal.ofBits .f32 0x00000000#32 = 0
    exact Ideal.ofBits_zero_f32
  rw [c1, c2]
  by_cases h : n.val / 256 < (x1 (ix1 0)).toNat ∧ (x0 (ix1 ⟨n.val / 256, tile_lt (ix1 n)⟩)).toNat = e.val
  · rw [if_pos h]; exact if_pos (hall.2 h)
  · rw [if_neg h]; exact if_neg (fun hh => h (hall.1 hh))

/-- One expert's hidden unit at a row: the row's gate product, gated by its own logistic, times the row's up product. -/
def hid (x : S28416x2048.Idx → EReal) (wg wu : S32x2048x512.Idx → EReal) (n : Fin 28416) (e : Fin 32) (f : Fin 512) : EReal :=
  (∑ k : Fin 2048, x (ix2 n k) * wg (ix3 e k f)) * Ideal.div 1 (1 + Ideal.exp (-(∑ k : Fin 2048, x (ix2 n k) * wg (ix3 e k f))))
    * ∑ k : Fin 2048, x (ix2 n k) * wu (ix3 e k f)

/-- An expert applied to a row. -/
def ffn (x : S28416x2048.Idx → EReal) (wg wu : S32x2048x512.Idx → EReal) (wd : S32x512x2048.Idx → EReal) (n : Fin 28416) (e : Fin 32) (d : Fin 2048) : EReal :=
  ∑ f : Fin 512, hid x wg wu n e f * wd (ix3 e f d)

/-- THE RESULT's closed form: a row of a live tile through its tile's expert, zero on the other rows. -/
def out (x0 : S111.Idx → BitVec 32) (x1 : S1.Idx → BitVec 32) (x : S28416x2048.Idx → EReal) (wg wu : S32x2048x512.Idx → EReal)
    (wd : S32x512x2048.Idx → EReal) (h0 : ∀ x, (x0 x).toNat < 32) (n : Fin 28416) (d : Fin 2048) : EReal :=
  if n.val / 256 < (x1 (ix1 0)).toNat then ffn x wg wu wd n ⟨(x0 (ix1 ⟨n.val / 256, tile_lt (ix1 n)⟩)).toNat, h0 _⟩ d else 0

theorem hid_eq (x2 : S28416x2048.Idx → EReal) (x3 x4 : S32x2048x512.Idx → EReal) (n : Fin 28416) (e : Fin 32) (f : Fin 512) :
    val_main_v26 (F := Ideal) x2 x3 x4 (ix3 n e f) = hid x2 x3 x4 n e f := by
  have a1 : val_main_v23 (F := Ideal) x2 x3 (ix3 n e f) = ∑ k : Fin 2048, x2 (ix2 n k) * x3 (ix3 e k f) := by
    rw [val_main_v23_apply]
    refine Finset.sum_congr rfl fun k _ => ?_
    exact congrArg₂ (· * ·) (congrArg x2 (by funext a; match a with | ⟨0, _⟩ => rfl | ⟨1, _⟩ => rfl))
      (congrArg x3 (by funext a; match a with | ⟨0, _⟩ => rfl | ⟨1, _⟩ => rfl | ⟨2, _⟩ => rfl))
  have a2 : val_main_v25 (F := Ideal) x2 x4 (ix3 n e f) = ∑ k : Fin 2048, x2 (ix2 n k) * x4 (ix3 e k f) := by
    rw [val_main_v25_apply]
    refine Finset.sum_congr rfl fun k _ => ?_
    exact congrArg₂ (· * ·) (congrArg x2 (by funext a; match a with | ⟨0, _⟩ => rfl | ⟨1, _⟩ => rfl))
      (congrArg x4 (by funext a; match a with | ⟨0, _⟩ => rfl | ⟨1, _⟩ => rfl | ⟨2, _⟩ => rfl))
  have c1 : val_main_call2_v2 (F := Ideal) (ix3 n e f) = (1 : EReal) := by
    rw [val_main_call2_v2_apply]; exact Ideal.ofBits_one_f32
  have c2 : val_main_call2_v4 (F := Ideal) (ix3 n e f) = (1 : EReal) := by
    rw [val_main_call2_v4_apply]; exact Ideal.ofBits_one_f32
  rw [val_main_v26_apply, val_main_v24_apply, val_main_call2_v5_apply, val_main_call2_v3_apply, val_main_call2_v1_apply,
    val_main_call2_v0_apply, a1, a2, c1, c2]
  rfl

/-- The last product, its two contracted axes as a double sum. -/
theorem down_apply (y : S28416x32x512.Idx → EReal) (x5 : S32x512x2048.Idx → EReal) (n : Fin 28416) (d : Fin 2048) :
    (Host.dotGeneral (F := Ideal) (φ₁ := .f32) (φ₂ := .f32) dot_S28416x32x512_S32x512x2048_S28416x2048_12_01_0_2_n_n none y x5) (ix2 n d)
      = ∑ e : Fin 32, ∑ f : Fin 512, y (ix3 n e f) * x5 (ix3 e f d) := by
  simp only [Host.dotGeneral]
  rw [Ideal.dotGeneral_apply, DotDims.sum_contr₂ _ (a := 1) (b := 2) rfl (K₁ := 32) (K₂ := 512) rfl rfl]
  refine Finset.sum_congr rfl fun e _ => Finset.sum_congr rfl fun f _ => ?_
  refine congrArg₂ (· * ·) (congrArg y ?_) (congrArg x5 ?_)
  · funext a; match a with | ⟨0, _⟩ => rfl | ⟨1, _⟩ => rfl | ⟨2, _⟩ => rfl
  · funext a; match a with | ⟨0, _⟩ => rfl | ⟨1, _⟩ => rfl | ⟨2, _⟩ => rfl

theorem ref_value (x0 : S111.Idx → BitVec 32) (x1 : S1.Idx → BitVec 32) (x2 : S28416x2048.Idx → EReal) (x3 x4 : S32x2048x512.Idx → EReal)
    (x5 : S32x512x2048.Idx → EReal) (h0 : ∀ x, (x0 x).toNat < 32) (h1 : ∀ x, (x1 x).toNat ≤ 111) (n : Fin 28416) (d : Fin 2048) :
    val_main_v32 (F := Ideal) x0 x1 x2 x3 x4 x5 (ix2 n d) = out x0 x1 x2 x3 x4 x5 h0 n d := by
  rw [val_main_v32_apply]
  show val_main_v31 (F := Ideal) x0 x1 x2 x3 x4 x5 (ix2 n d) = _
  unfold val_main_v31
  rw [down_apply]
  have hw : ∀ (e : Fin 32) (f : Fin 512), val_main_v30 (F := Ideal) x0 x1 x2 x3 x4 (ix3 n e f)
      = hid x2 x3 x4 n e f * (if n.val / 256 < (x1 (ix1 0)).toNat ∧ (x0 (ix1 ⟨n.val / 256, tile_lt (ix1 n)⟩)).toNat = e.val then (1 : EReal) else 0) := by
    intro e f
    rw [val_main_v30_apply, hid_eq, val_main_v29_apply, val_main_v28_apply, val_main_v27_apply, ← weight_eq x0 x1 h0 h1 n e]
    refine congrArg (fun w => hid x2 x3 x4 n e f * val_main_v22 (F := Ideal) x0 x1 w) ?_
    funext a; match a with | ⟨0, _⟩ => rfl | ⟨1, _⟩ => rfl
  simp only [hw]
  unfold out
  by_cases hl : n.val / 256 < (x1 (ix1 0)).toNat
  · rw [if_pos hl, Finset.sum_eq_single (⟨(x0 (ix1 ⟨n.val / 256, tile_lt (ix1 n)⟩)).toNat, h0 _⟩ : Fin 32)]
    · unfold ffn
      refine Finset.sum_congr rfl fun f _ => ?_
      rw [if_pos ⟨hl, rfl⟩, mul_one]
    · intro e _ he
      refine Finset.sum_eq_zero fun f _ => ?_
      rw [if_neg (fun h => he (Fin.ext h.2.symm)), mul_zero, zero_mul]
    · intro h; exact absurd (Finset.mem_univ _) h
  · rw [if_neg hl]
    refine Finset.sum_eq_zero fun e _ => Finset.sum_eq_zero fun f _ => ?_
    rw [if_neg (fun h => hl h.1), mul_zero, zero_mul]

end Cert.MoeRefValue
-- ==== Proof.MoeValue.lean ====
/- What the expert kernel computes: the result array is, row by row, the closed form of the reference. A live tile's block
   is its expert's feed-forward map of the tile's rows; a dead tile's block is zero. -/
module

public import proofs.«01_k».proof.Proof.MoeFrame
public import proofs.«01_k».proof.Proof.MoeRefValue
public import Idealize.ShloMosaic.Lib.Pipeline.ValueKit

@[expose] public section

set_option maxRecDepth 16384

noncomputable section

namespace Cert.MoeIdeal.Hand

open Cert.MoeIdeal Cert.MoeIdeal.Gen
open Idealize.ShloMosaic hiding ix1 ix2 ix3 eq_ix1
open Idealize.ShloMosaic.TcCoe
open Idealize.SL.Sem
open Idealize.ShloMosaic.ValueIdx
open Idealize.ShloMosaic.Pipeline (Dat Cfg Window)

/-- The weights' casts change nothing: a scratch holds the block's matrix. -/
theorem pay1_apply (w : S1x2048x512.Idx → EReal) (k : Fin 2048) (f : Fin 512) :
    k0_pay1 (F := Ideal) w (ix2 k f) = w (ix3 0 k f) := by
  unfold k0_pay1; pointwise; rfl
theorem pay2_apply (w : S1x2048x512.Idx → EReal) (k : Fin 2048) (f : Fin 512) :
    k0_pay2 (F := Ideal) w (ix2 k f) = w (ix3 0 k f) := by
  unfold k0_pay2; pointwise; rfl
theorem pay3_apply (w : S1x512x2048.Idx → EReal) (f : Fin 512) (d : Fin 2048) :
    k0_pay3 (F := Ideal) w (ix2 f d) = w (ix3 0 f d) := by
  unfold k0_pay3; pointwise; rfl

/-- The live branch's payload, entrywise. -/
theorem pay4_apply (x : S256x2048.Idx → EReal) (a b : S2048x512.Idx → EReal) (w : S512x2048.Idx → EReal) (r : Fin 256) (d : Fin 2048) :
    k0_pay4 (F := Ideal) x a b w (ix2 r d)
      = ∑ f : Fin 512, ((∑ k : Fin 2048, x (ix2 r k) * a (ix2 k f)) * Ideal.div 1 (1 + Ideal.exp (-(∑ k : Fin 2048, x (ix2 r k) * a (ix2 k f))))
          * ∑ k : Fin 2048, x (ix2 r k) * b (ix2 k f)) * w (ix2 f d) := by
  unfold k0_pay4
  pointwise
  simp only [zero_sub]
  rfl

theorem pay5_apply (y : S256x2048.Idx) : k0_pay5 (F := Ideal) y = (0 : EReal) := by
  unfold k0_pay5
  pointwise

variable (m : (ℓ : Loc nD τ sig) → Buf (Elt Ideal) ℓ) (ρ : Dev nD → PrngReg) (hr : InRange (T0of (tbl m)) (T1of (tbl m)))

theorem liveWord_eq (T1 : S1.Idx → BitVec 32) : liveWord (F := Ideal) T1 = T1 (ix1 0) :=
  congrArg T1 (idx1 _ _)

/-- A point is live when it is below the count. -/
theorem live_iff (i : grid0.Coords) (w : BitVec 32) (hw : w.toNat ≤ 111) (hi : (i 0).val < 111) :
    k0_cond2 i w = 1#1 ↔ (i 0).val < w.toNat := by
  unfold k0_cond2
  have h : ∀ b : BitVec 1, (Scalar.cmpi .ne (Scalar.extui b) 0#32) = 1#1 ↔ b = 1#1 := by decide
  refine (h _).trans ?_
  refine (IntOp.cmpi_slt).trans ?_
  rw [BitVec.toInt_eq_toNat_of_lt (by rw [BitVec.toNat_ofNat]; omega), BitVec.toInt_eq_toNat_of_lt (by omega), BitVec.toNat_ofNat]
  omega

/-- The body's block at a point: the closed form at the tile's rows. -/
theorem block (h0 : ∀ x, (T0of (tbl m) x).toNat < 32) (c : Dev nD) (t : Fin (cfgA m hr).N) (y : S256x2048.Idx) :
    outBlk m ρ hr c t y
      = Cert.MoeRefValue.out (T0of (tbl m)) (T1of (tbl m)) (m ((c : Thread nD τ).loc main_arg2))
          (m ((c : Thread nD τ).loc main_arg3)) (m ((c : Thread nD τ).loc main_arg4)) (m ((c : Thread nD τ).loc main_arg5)) h0
          ⟨t.val * 256 + (y 0).val, row_lt (t_lt m hr t) (y 0).isLt⟩ (y 1) := by
  have ht := t_lt m hr t
  have hy : (y 0).val < 256 := (y 0).isLt
  obtain ⟨r, d, rfl⟩ : ∃ (r : Fin 256) (d : Fin 2048), y = ix2 r d := ⟨y 0, y 1, by funext a; match a with | ⟨0, _⟩ => rfl | ⟨1, _⟩ => rfl⟩
  have hdiv : (t.val * 256 + r.val) / 256 = t.val := by have := r.isLt; omega
  unfold outBlk outAt Cert.MoeRefValue.out
  rw [liveWord_eq]
  have hl := live_iff (crd m hr t) (T1of (tbl m) (ix1 0)) (hr.live _).2 (by rw [crd_val]; exact ht)
  rw [crd_val] at hl
  by_cases h : t.val < (T1of (tbl m) (ix1 0)).toNat
  · refine (congrFun (if_pos (hl.2 h)) _).trans (Eq.trans ?_ (if_pos (lt_of_eq_of_lt hdiv h)).symm)
    have htile : tileOf (T1of (tbl m)) t.val = t.val := by unfold tileOf; omega
    have hE : (expertOf m hr t.val ht) = ⟨(T0of (tbl m) (ix1 ⟨(t.val * 256 + r.val) / 256, Cert.MoeRefValue.tile_lt (ix1 ⟨t.val * 256 + r.val, row_lt ht r.isLt⟩)⟩)).toNat, h0 _⟩ := by
      apply Fin.ext
      exact congrArg (fun x => (T0of (tbl m) x).toNat) (funext fun a => Fin.ext (by match a with | ⟨0, _⟩ => exact hdiv.symm))
    refine Eq.trans ?_ (congrArg (fun e => Cert.MoeRefValue.ffn _ _ _ _ _ e d) hE)
    rw [pay4_apply]
    unfold Cert.MoeRefValue.ffn Cert.MoeRefValue.hid
    have hx : ∀ k : Fin 2048, (iblk m ρ hr c (0 : Fin 5) t : S256x2048.Idx → EReal) (ix2 r k)
        = m ((c : Thread nD τ).loc main_arg2) (ix2 (⟨t.val * 256 + r.val, row_lt ht r.isLt⟩ : Fin 28416) k) := fun k => by
      refine (iblk_0 m ρ hr c t (ix2 r k)).trans (congrArg (m ((c : Thread nD τ).loc main_arg2)) ?_)
      funext a; apply Fin.ext
      match a with
      | ⟨0, _⟩ => show tileOf _ t.val * 256 + r.val = t.val * 256 + r.val; rw [htile]
      | ⟨1, _⟩ => rfl
    refine Finset.sum_congr rfl fun f _ => ?_
    have hg : ∀ k : Fin 2048, k0_pay1 (F := Ideal) (iblk m ρ hr c (1 : Fin 5) t) (ix2 k f) = m ((c : Thread nD τ).loc main_arg3) (ix3 (expertOf m hr t.val ht) k f) :=
      fun k => (pay1_apply _ k f).trans (iblk_1 m ρ hr c t (ix3 0 k f))
    have hu : ∀ k : Fin 2048, k0_pay2 (F := Ideal) (iblk m ρ hr c (2 : Fin 5) t) (ix2 k f) = m ((c : Thread nD τ).loc main_arg4) (ix3 (expertOf m hr t.val ht) k f) :=
      fun k => (pay2_apply _ k f).trans (iblk_2 m ρ hr c t (ix3 0 k f))
    have hd : k0_pay3 (F := Ideal) (iblk m ρ hr c (3 : Fin 5) t) (ix2 f d) = m ((c : Thread nD τ).loc main_arg5) (ix3 (expertOf m hr t.val ht) f d) :=
      (pay3_apply _ f d).trans (iblk_3 m ρ hr c t (ix3 0 f d))
    simp only [hx, hg, hu, hd]
  · refine (congrFun (if_neg (fun hh => h (hl.1 hh))) _).trans (Eq.trans ?_ (if_neg (fun hh => h (lt_of_eq_of_lt hdiv.symm hh))).symm)
    exact pay5_apply _

/-- The result array. -/
theorem result (h0 : ∀ x, (T0of (tbl m) x).toNat < 32) (c : Dev nD) :
    (dats m ρ hr 0 c).arrAt (4 : Fin 5) (cfgA m hr).N
      = fun i : S28416x2048.Idx => Cert.MoeRefValue.out (T0of (tbl m)) (T1of (tbl m)) (m ((c : Thread nD τ).loc main_arg2))
          (m ((c : Thread nD τ).loc main_arg3)) (m ((c : Thread nD τ).loc main_arg4)) (m ((c : Thread nD τ).loc main_arg5)) h0 (i 0) (i 1) := by
  have hidx : ∀ t : Fin (cfgA m hr).N, ((cfgA m hr).win (4 : Fin 5)).index t = ![t.val, 0] := fun t => by
    have := crd_val m hr t
    show cc0_transform_4 (crd m hr t) = _
    unfold cc0_transform_4
    rw [this]
    exact congrArg (fun n => ![n, 0]) ((BitVec.toNat_ofNat ..).trans (Nat.mod_eq_of_lt (by have := t_lt m hr t; omega)))
  have hn0 : ((cfgA m hr).win (4 : Fin 5)).nblk (0 : Fin 2) = 111 := by
    show (28416 + 256 - 1) / 256 = 111; decide
  have hn1 : ((cfgA m hr).win (4 : Fin 5)).nblk (1 : Fin 2) = 1 := by
    show (2048 + 2048 - 1) / 2048 = 1; decide
  refine (dats m ρ hr 0 c).arrAt_eq_of_covers (4 : Fin 5) _ ⟨?_, ?_⟩ fun t hf y => ?_
  · intro a; match a with | ⟨0, _⟩ => exact (by decide : 0 < 256) | ⟨1, _⟩ => exact (by decide : 0 < 2048)
  · intro β
    have hb0 : (β (0 : Fin 2)).val < 111 := lt_of_lt_of_eq (β (0 : Fin 2)).isLt hn0
    have hb1 : (β (1 : Fin 2)).val < 1 := lt_of_lt_of_eq (β (1 : Fin 2)).isLt hn1
    refine ⟨⟨(β (0 : Fin 2)).val, lt_of_lt_of_eq hb0 N_0.symm⟩, ?_, ?_⟩
    · unfold Window.flush
      have : ∀ t : Fin (cfgA m hr).N, decide (∃ h : t.val + 1 < (cfgA m hr).N, ((cfgA m hr).win (4 : Fin 5)).index ⟨t.val + 1, h⟩ ≠ ((cfgA m hr).win (4 : Fin 5)).index t) = decide (t.val + 1 < (cfgA m hr).N) := fun t => by
        refine decide_eq_decide.2 ⟨fun ⟨h, _⟩ => h, fun h => ⟨h, ?_⟩⟩
        rw [hidx, hidx]
        intro hh
        have := congrFun hh 0
        simp at this
      have ho : ((cfgA m hr).win (4 : Fin 5)).isOut = true := rfl
      rw [this, ho, Bool.true_and, Bool.or_eq_true, decide_eq_true_iff, decide_eq_true_iff]
      have hN : (cfgA m hr).grid.N = 111 := N_0
      have hN' : (cfgA m hr).N = 111 := N_0
      show (β (0 : Fin 2)).val + 1 = _ ∨ (β (0 : Fin 2)).val + 1 < _
      omega
    · intro a
      rw [hidx]
      match a with
      | ⟨0, _⟩ => exact ⟨rfl, Or.inl rfl⟩
      | ⟨1, _⟩ => exact ⟨by show 0 = (β (1 : Fin 2)).val; omega, Or.inl rfl⟩
  · have e0 : ((((cfgA m hr).win (4 : Fin 5)).blk t).view.emb y : S28416x2048.Idx)
        = ix2 ⟨t.val * 256 + ((y : S256x2048.Idx) 0).val, row_lt (t_lt m hr t) ((y : S256x2048.Idx) 0).isLt⟩ ((y : S256x2048.Idx) 1) := by
      funext a
      apply Fin.ext
      match a with
      | ⟨0, _⟩ =>
        show ((cfgA m hr).win (4 : Fin 5)).index t 0 * 256 + 1 * (y 0).val = _
        rw [hidx, Nat.one_mul]; rfl
      | ⟨1, _⟩ =>
        show ((cfgA m hr).win (4 : Fin 5)).index t 1 * 2048 + 1 * (y 1).val = _
        rw [hidx, Nat.one_mul]; show 0 * 2048 + _ = _; rw [Nat.zero_mul, Nat.zero_add]
    rw [e0]
    show (dats m ρ hr 0 c).after (4 : Fin 5) t y = _
    rw [after0_4]
    exact block m ρ hr h0 c t y

end Cert.MoeIdeal.Hand
-- ==== Proof.MoeClaims.lean ====
/- The claims about the expert kernel: its frames at both readings of the floats, its reference's frame, and the equality of
   the two results. -/
module

public import proofs.«01_k».proof.Defs
public import proofs.«01_k».proof.Proof.MoePre
public import proofs.«01_k».proof.Proof.Gen.Moe.Launch
public import proofs.«01_k».proof.Proof.MoeFrame
public import proofs.«01_k».proof.Proof.MoeValue
public import proofs.«01_k».proof.Proof.Gen.MoeRefIdeal.Run

@[expose] public section

set_option maxRecDepth 16384

noncomputable section

namespace Cert.MoeClaims

open Idealize.ShloMosaic Idealize.SL.Sem

theorem in_range_bits (m : (ℓ : Loc Cert.MoeIdeal.nD Cert.MoeIdeal.τ Cert.MoeIdeal.sig) → Buf (Elt Bits) ℓ) (h : Cert.Pre_Moe m) :
    Cert.MoeIdeal.Hand.InRange (Cert.MoeIdeal.Hand.T0of (Cert.MoeIdeal.Hand.tbl m)) (Cert.MoeIdeal.Hand.T1of (Cert.MoeIdeal.Hand.tbl m)) :=
  ⟨(Cert.MoePre.range_of_tables _ _ _ _ _ _ (h 0)).1, (Cert.MoePre.range_of_tables _ _ _ _ _ _ (h 0)).2⟩

theorem in_range (m : (ℓ : Loc Cert.MoeIdeal.nD Cert.MoeIdeal.τ Cert.MoeIdeal.sig) → Buf (Elt Ideal) ℓ) (h : Cert.Pre_MoeIdeal m) :
    Cert.MoeIdeal.Hand.InRange (Cert.MoeIdeal.Hand.T0of (Cert.MoeIdeal.Hand.tbl m)) (Cert.MoeIdeal.Hand.T1of (Cert.MoeIdeal.Hand.tbl m)) :=
  ⟨(Cert.MoePre.range_of_tables _ _ _ _ _ _ (h 0)).1, (Cert.MoePre.range_of_tables _ _ _ _ _ _ (h 0)).2⟩

/-- The kernel's program has the same body table at the bit-exact reading whether it is read as it is or as the ideal one. -/
theorem bodies_eq : Cert.Moe.defs₀ (F := Bits) = Cert.MoeIdeal.defs₀ (F := Bits) := by
  refine congrArg Defs.onTc (funext fun ℓ => funext fun a => ?_)
  match ℓ, a with
  | ⟨0, _⟩, (_, _) => rfl
  | ⟨n + 1, h⟩, _ => exact absurd h (Nat.not_lt.2 (Nat.le_add_left _ _))

theorem defs_eq : Cert.Moe.defs (F := Bits) = Cert.MoeIdeal.defs (F := Bits) :=
  congrArg (Pipeline.defs (Cert.MoeIdeal.pcfgs (F := Bits))) bodies_eq

theorem frame_bits : Cert.quiescent_Moe := by
  intro m ρ h
  rw [defs_eq]
  exact Cert.MoeIdeal.Hand.frame (F := Bits) m ρ (in_range_bits m h)

theorem frame_ideal : Cert.quiescent_MoeIdeal := fun m ρ h => Cert.MoeIdeal.Hand.frame m ρ (in_range m h)

theorem frame_ref : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

theorem frame_ref_tables : Cert.quiescent_MoeRefIdeal_pre_tables := fun m ρ _ => frame_ref m ρ trivial

/-- Row by row, both programs' results are the closed form of the arguments. -/
theorem algebraic : Cert.algebraic_MoeIdeal_MoeRefIdeal := fun m ρ m' ρ' h hag => by
  have hr := in_range m h
  refine ⟨fun c => fun i : Cert.MoeIdeal.S28416x2048.Idx => Cert.MoeRefValue.out (Cert.MoeIdeal.Hand.T0of (Cert.MoeIdeal.Hand.tbl m)) (Cert.MoeIdeal.Hand.T1of (Cert.MoeIdeal.Hand.tbl m))
      (m (c.tc.loc Cert.MoeIdeal.main_arg2)) (m (c.tc.loc Cert.MoeIdeal.main_arg3)) (m (c.tc.loc Cert.MoeIdeal.main_arg4)) (m (c.tc.loc Cert.MoeIdeal.main_arg5)) hr.expert (i 0) (i 1), ?_, ?_⟩
  · exact (θ_run Cert.MoeIdeal.defs _ _).mono (fun r hq c => ⟨(hq c).2.trans (Cert.MoeIdeal.Hand.result m ρ hr hr.expert c), (hq c).1⟩)
      (Cert.MoeIdeal.Hand.run_values m ρ hr)
  · refine (θ_run Cert.MoeRefIdeal.defs _ _).mono (fun r hq c => ?_) (Cert.MoeRefIdeal.Value.run (F := Ideal) m' ρ')
    refine ⟨(hq c).1.trans ?_, (hq c).2⟩
    rw [Cert.MoeRefIdeal.Read.val_main_v32_eq]
    obtain ⟨a0, a1, a2, a3, a4, a5⟩ := hag c
    have hc : c = 0 := Subsingleton.elim (α := Fin 1) c 0
    rw [a0, a1, a2, a3, a4, a5]
    subst hc
    funext i
    obtain ⟨n, d, rfl⟩ : ∃ (n : Fin 28416) (d : Fin 2048), i = Idealize.ShloMosaic.ValueIdx.ix2 n d :=
      ⟨i 0, i 1, by funext a; match a with | ⟨0, _⟩ => rfl | ⟨1, _⟩ => rfl⟩
    exact Cert.MoeRefValue.ref_value _ _ _ _ _ _ hr.expert (fun x => (hr.live x).2) n d

end Cert.MoeClaims
-- ==== Proof.ProjRows.lean ====
/- The projection kernel's BODY at one grid point. At the first column block the body normalises and modulates its 512
   rows, 64 at a time, into a scratch; at every column block it multiplies the scratch by the block of weights and stores
   the product — scaled, normed head by head, or plain, as the column block's section asks — to the whole projection, and
   for the keys' and values' sections to their own array too. `body_run` states it, with what it leaves everywhere. -/
module

public import proofs.«01_k».proof.Proof.Gen.ProjIdeal.Launch
public import proofs.«01_k».proof.Proof.Gen.ProjIdeal.Skeleton
public import proofs.«01_k».proof.Proof.Gen.ProjIdeal.Loops
public import proofs.«01_k».proof.Proof.Gen.ProjIdeal.Points
public import Idealize.ShloMosaic.Lib.Claim
public import Idealize.ShloMosaic.Lib.WholeRead
public import Idealize.ShloMosaic.Lib.WritesUnit
public import Idealize.ShloMosaic.Lib.ValueIdx
public import Idealize.ShloMosaic.Lib.Ring

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- A store through the whole rectangle leaves its payload. -/
theorem read_store_whole {sig : RefSig} {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  funext x
  have e := View.read_writes_cons_emb v f (Rect.unit (fun _ => 0) S.size inb) w [] x
  rwa [show (Rect.unit (fun _ => 0) S.size inb).emb x = x from Rect.emb_whole_apply S x] at e

theorem off2_zero : (![0, 0] : Fin 2 → Nat) = fun _ => 0 := by decide

/-- A load through the whole rectangle of a buffer that reads `X` is `X`. -/
theorem readAt_read {sig : RefSig} {κ : Kind} {sp : Space} {S : Shape} {e : EltTy} (v : View sig κ sp S e) (f : v.ty.Contents (Elt F)) {X : S.Idx → Elt F e}
    (hX : v.read (Elt F) f = X) {off : Fin S.rank → Nat} (h : off = fun _ => 0) (inb : ∀ a, off a + S.size a ≤ S.size a) :
    v.readAt (Elt F) (Rect.unit off S.size inb).toLoadRect f = X :=
  (View.ld_unit_zero h inb _).trans hX

/-! ## What the body computes -/

/-- Group `k` of 64 rows of the block of rows, and of the block of modulations. -/
def rowsOf (x0 : S8x64x2048.Idx → Elt F .f32) (k : Fin 8) : Vec F S1x64x2048 .f32 := fun z => x0 (ix3 k (z 1) (z 2))
def modOf (x : S1x8x1x2048.Idx → Elt F .f32) (k : Fin 8) : Vec F S1x1x1x2048 .f32 := fun z => x (ix4 0 k 0 (z 3))

/-- The 512 normalised and modulated rows. -/
def hAt (x0 : S8x64x2048.Idx → Elt F .f32) (x1 : S1x2048.Idx → Elt F .f32) (x2 x3 : S1x8x1x2048.Idx → Elt F .f32) : S512x2048.Idx → Elt F .bf16 :=
  fun y => k0_pay12 (rowsOf x0 ⟨(y 0).val / 64, Nat.div_lt_of_lt_mul (show (y 0).val < 64 * 8 from (y 0).isLt)⟩) x1 (modOf x2 ⟨(y 0).val / 64, Nat.div_lt_of_lt_mul (show (y 0).val < 64 * 8 from (y 0).isLt)⟩) (modOf x3 ⟨(y 0).val / 64, Nat.div_lt_of_lt_mul (show (y 0).val < 64 * 8 from (y 0).isLt)⟩)
    (ix2 ⟨(y 0).val % 64, Nat.mod_lt _ (by norm_num)⟩ (y 1))

/-- What the scratch holds after the body: those rows at the first column block, what it held at the others. -/
def hNow (i : grid0.Coords) (s : S512x2048.Idx → Elt F .bf16) (x0 : S8x64x2048.Idx → Elt F .f32) (x1 : S1x2048.Idx → Elt F .f32) (x2 x3 : S1x8x1x2048.Idx → Elt F .f32) :
    S512x2048.Idx → Elt F .bf16 := if k0_cond1 i = 1#1 then hAt x0 x1 x2 x3 else s

/-- The gains of the four heads of a block. -/
def gain0 (x : S1x512.Idx → Elt F .f32) : Vec F S1x128 .f32 := fun z => x ((Rect.unit (s := S1x512) ![0, 0] S1x128.size inb_S1x512_S1x128_0_0).toLoadRect.idx z)
def gain1 (x : S1x512.Idx → Elt F .f32) : Vec F S1x128 .f32 := fun z => x ((Rect.unit (s := S1x512) ![0, 128] S1x128.size inb_S1x512_S1x128_0_128).toLoadRect.idx z)
def gain2 (x : S1x512.Idx → Elt F .f32) : Vec F S1x128 .f32 := fun z => x ((Rect.unit (s := S1x512) ![0, 256] S1x128.size inb_S1x512_S1x128_0_256).toLoadRect.idx z)
def gain3 (x : S1x512.Idx → Elt F .f32) : Vec F S1x128 .f32 := fun z => x ((Rect.unit (s := S1x512) ![0, 384] S1x128.size inb_S1x512_S1x128_0_384).toLoadRect.idx z)

/-- The band's queries of a block: normed, scaled, rounded; the band's keys, normed, and rounded. -/
def qNormed (acc : FVec F S512x512 .f32) (x5 : S1x512.Idx → Elt F .f32) : FVec F S512x512 .bf16 :=
  k0_pay1 acc (k0_pay6 acc (gain0 x5)) (k0_pay7 acc (gain1 x5)) (k0_pay8 acc (gain2 x5)) (gain3 x5)
def kNormed (acc : FVec F S512x512 .f32) (x6 : S1x512.Idx → Elt F .f32) : FVec F S512x512 .f32 :=
  k0_pay2 acc (k0_pay9 acc (gain0 x6)) (k0_pay10 acc (gain1 x6)) (k0_pay11 acc (gain2 x6)) (gain3 x6)
def kRounded (acc : FVec F S512x512 .f32) (x6 : S1x512.Idx → Elt F .f32) : FVec F S512x512 .bf16 :=
  k0_pay3 acc (k0_pay9 acc (gain0 x6)) (k0_pay10 acc (gain1 x6)) (k0_pay11 acc (gain2 x6)) (gain3 x6)

/-- What the body leaves in the block of the whole projection. -/
def outAt (i : grid0.Coords) (h : S512x2048.Idx → Elt F .bf16) (x4 : S2048x512.Idx → Elt F .bf16) (x5 x6 : S1x512.Idx → Elt F .f32) : S512x512.Idx → Elt F .bf16 :=
  if k0_cond2 i = 1#1 then k0_pay14 h x4 else if k0_cond5 i = 1#1 then qNormed (k0_pay13 h x4) x5
  else if k0_cond6 i = 1#1 then kRounded (k0_pay13 h x4) x6 else k0_pay15 h x4

/-- The column blocks' sections: exactly one of the branches is taken, the first column block being in the first. -/
def Branch (i : grid0.Coords) : Prop :=
  (k0_cond1 i = 1#1 ∧ k0_cond2 i = 1#1 ∧ ¬ k0_cond3 i = 1#1 ∧ ¬ k0_cond4 i = 1#1 ∧ ¬ k0_cond5 i = 1#1 ∧ ¬ k0_cond6 i = 1#1 ∧ ¬ k0_cond7 i = 1#1 ∧ ¬ k0_cond8 i = 1#1)
  ∨ (¬ k0_cond1 i = 1#1 ∧ k0_cond2 i = 1#1 ∧ ¬ k0_cond3 i = 1#1 ∧ ¬ k0_cond4 i = 1#1 ∧ ¬ k0_cond5 i = 1#1 ∧ ¬ k0_cond6 i = 1#1 ∧ ¬ k0_cond7 i = 1#1 ∧ ¬ k0_cond8 i = 1#1)
  ∨ (¬ k0_cond1 i = 1#1 ∧ ¬ k0_cond2 i = 1#1 ∧ k0_cond3 i = 1#1 ∧ ¬ k0_cond4 i = 1#1 ∧ ¬ k0_cond5 i = 1#1 ∧ ¬ k0_cond6 i = 1#1 ∧ ¬ k0_cond7 i = 1#1 ∧ ¬ k0_cond8 i = 1#1)
  ∨ (¬ k0_cond1 i = 1#1 ∧ ¬ k0_cond2 i = 1#1 ∧ ¬ k0_cond3 i = 1#1 ∧ k0_cond4 i = 1#1 ∧ ¬ k0_cond5 i = 1#1 ∧ ¬ k0_cond6 i = 1#1 ∧ ¬ k0_cond7 i = 1#1 ∧ ¬ k0_cond8 i = 1#1)
  ∨ (¬ k0_cond1 i = 1#1 ∧ ¬ k0_cond2 i = 1#1 ∧ ¬ k0_cond3 i = 1#1 ∧ ¬ k0_cond4 i = 1#1 ∧ k0_cond5 i = 1#1 ∧ ¬ k0_cond6 i = 1#1 ∧ ¬ k0_cond7 i = 1#1 ∧ ¬ k0_cond8 i = 1#1)
  ∨ (¬ k0_cond1 i = 1#1 ∧ ¬ k0_cond2 i = 1#1 ∧ ¬ k0_cond3 i = 1#1 ∧ ¬ k0_cond4 i = 1#1 ∧ ¬ k0_cond5 i = 1#1 ∧ k0_cond6 i = 1#1 ∧ ¬ k0_cond7 i = 1#1 ∧ ¬ k0_cond8 i = 1#1)
  ∨ (¬ k0_cond1 i = 1#1 ∧ ¬ k0_cond2 i = 1#1 ∧ ¬ k0_cond3 i = 1#1 ∧ ¬ k0_cond4 i = 1#1 ∧ ¬ k0_cond5 i = 1#1 ∧ ¬ k0_cond6 i = 1#1 ∧ k0_cond7 i = 1#1 ∧ ¬ k0_cond8 i = 1#1)
  ∨ (¬ k0_cond1 i = 1#1 ∧ ¬ k0_cond2 i = 1#1 ∧ ¬ k0_cond3 i = 1#1 ∧ ¬ k0_cond4 i = 1#1 ∧ ¬ k0_cond5 i = 1#1 ∧ ¬ k0_cond6 i = 1#1 ∧ ¬ k0_cond7 i = 1#1 ∧ k0_cond8 i = 1#1)

/-- Where each branch is taken: by the column block `t % 20`. -/
theorem cond1_iff : ∀ t : Fin cfg0.N, k0_cond1 (grid0.coords t) = 1#1 ↔ t.val % 20 = 0 :=
  (by decide +kernel : ∀ t : Fin grid0.N, k0_cond1 (grid0.coords t) = 1#1 ↔ t.val % 20 = 0)
theorem cond2_iff : ∀ t : Fin cfg0.N, k0_cond2 (grid0.coords t) = 1#1 ↔ t.val % 20 / 2 = 0 :=
  (by decide +kernel : ∀ t : Fin grid0.N, k0_cond2 (grid0.coords t) = 1#1 ↔ t.val % 20 / 2 = 0)
theorem cond3_iff : ∀ t : Fin cfg0.N, k0_cond3 (grid0.coords t) = 1#1 ↔ t.val % 20 / 2 = 1 :=
  (by decide +kernel : ∀ t : Fin grid0.N, k0_cond3 (grid0.coords t) = 1#1 ↔ t.val % 20 / 2 = 1)
theorem cond4_iff : ∀ t : Fin cfg0.N, k0_cond4 (grid0.coords t) = 1#1 ↔ t.val % 20 / 2 = 2 :=
  (by decide +kernel : ∀ t : Fin grid0.N, k0_cond4 (grid0.coords t) = 1#1 ↔ t.val % 20 / 2 = 2)
theorem cond5_iff : ∀ t : Fin cfg0.N, k0_cond5 (grid0.coords t) = 1#1 ↔ t.val % 20 / 2 = 3 :=
  (by decide +kernel : ∀ t : Fin grid0.N, k0_cond5 (grid0.coords t) = 1#1 ↔ t.val % 20 / 2 = 3)
theorem cond6_iff : ∀ t : Fin cfg0.N, k0_cond6 (grid0.coords t) = 1#1 ↔ t.val % 20 / 2 = 4 :=
  (by decide +kernel : ∀ t : Fin grid0.N, k0_cond6 (grid0.coords t) = 1#1 ↔ t.val % 20 / 2 = 4)
theorem cond7_iff : ∀ t : Fin cfg0.N, k0_cond7 (grid0.coords t) = 1#1 ↔ t.val % 20 / 2 = 5 :=
  (by decide +kernel : ∀ t : Fin grid0.N, k0_cond7 (grid0.coords t) = 1#1 ↔ t.val % 20 / 2 = 5)
theorem cond8_iff : ∀ t : Fin cfg0.N, k0_cond8 (grid0.coords t) = 1#1 ↔ 6 ≤ t.val % 20 / 2 :=
  (by decide +kernel : ∀ t : Fin grid0.N, k0_cond8 (grid0.coords t) = 1#1 ↔ 6 ≤ t.val % 20 / 2)

theorem branch (t : Fin cfg0.N) : Branch (grid0.coords t) := by
  unfold Branch
  simp only [cond1_iff, cond2_iff, cond3_iff, cond4_iff, cond5_iff, cond6_iff, cond7_iff, cond8_iff]
  have h : t.val % 20 < 20 := Nat.mod_lt _ (by norm_num)
  generalize t.val % 20 = x at h
  interval_cases x <;> simp

/-! ## The loop over the groups of rows -/

theorem trips_eq : k0_t1_loop.trips = 8 := by decide
theorem off1_eq : ∀ k : Fin k0_t1_loop.trips, k0_off1 k = ![k.val, 0, 0] := by decide +kernel
theorem off2_eq : ∀ k : Fin k0_t1_loop.trips, k0_off2 k = ![0, k.val, 0, 0] := by decide +kernel
theorem off3_eq : ∀ k : Fin k0_t1_loop.trips, k0_off3 k = ![64 * k.val, 0] := by decide +kernel

set_option maxHeartbeats 1000000 in
/-- After `n` groups the scratch holds the first `64 * n` normalised and modulated rows, whatever it held before. -/
theorem rows_written (𝒱 : Variants) (c : Dev nD) (bd : Option 𝒱.V) (i : grid0.Coords) (arg2 : Memref sig .tc .vmem S8x64x2048 .f32) (harg2 : arg2.IsWhole) (arg3 : Memref sig .tc .vmem S1x2048 .f32) (harg3 : arg3.IsWhole) (arg4 : Memref sig .tc .vmem S1x8x1x2048 .f32) (harg4 : arg4.IsWhole) (arg5 : Memref sig .tc .vmem S1x8x1x2048 .f32) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x2048 .bf16) (harg14 : arg14.IsWhole) (h1 : k0_cond1 i = 1#1)
    (x0 : S8x64x2048.Idx → Elt F .f32) (x1 : S1x2048.Idx → Elt F .f32) (x2 x3 : S1x8x1x2048.Idx → Elt F .f32)
    (G : BufTy.Contents (Elt F) arg14.view.ty) (n : ℕ) (hn : n ≤ 8) (y : S512x2048.Idx) (hy : (y 0).val < 64 * n) :
    arg14.view.read (Elt F) (arg14.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h1 (harg2.unread x0) (harg3.unread x1) (harg4.unread x2) (harg5.unread x3) n)) y = hAt x0 x1 x2 x3 y := by
  induction n with
  | zero => omega
  | succ n ih =>
    have hn' : n < k0_t1_loop.trips := by rw [trips_eq]; omega
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 h1 (harg2.unread x0) (harg3.unread x1) (harg4.unread x2) (harg5.unread x3) ⟨n, hn'⟩
    unfold tripL_k0_t1 trip_k0_t1 at hs
    dsimp only at hs
    rw [hs]
    by_cases h : (y 0).val < 64 * n
    · refine (View.read_writes_cons_rows_of_not_mem arg14.view G _ _ _ y (off3_eq ⟨n, hn'⟩) rfl (Or.inl h)).trans (ih (by omega) h)
    · have e : (y 0).val / 64 = n := by omega
      refine (View.read_writes_cons_rows_of_mem arg14.view G _ _ _ y (ix2 ⟨(y 0).val % 64, Nat.mod_lt _ (by norm_num)⟩ (y 1)) (off3_eq ⟨n, hn'⟩) ?_ rfl).trans ?_
      · show (y 0).val = 64 * n + (y 0).val % 64
        omega
      unfold hAt
      have ek : (⟨(y 0).val / 64, Nat.div_lt_of_lt_mul (show (y 0).val < 64 * 8 from (y 0).isLt)⟩ : Fin 8) = ⟨n, by omega⟩ := Fin.ext e
      rw [ek]
      have a0 : ∀ inb, (View.readAt (Elt F) arg2.view (Rect.unit (s := S8x64x2048) (k0_off1 ⟨n, hn'⟩) S1x64x2048.size inb).toLoadRect (harg2.unread x0) : Vec F S1x64x2048 .f32) = rowsOf x0 ⟨n, by omega⟩ := fun inb => by
        funext z
        refine (harg2.readAt_unread x0 _ z).trans (congrArg x0 (funext fun a => Fin.ext ?_))
        have z0 : (z (0 : Fin 3)).val < 1 := (z (0 : Fin 3)).isLt
        match a with
        | ⟨0, _⟩ => show k0_off1 ⟨n, hn'⟩ 0 + 1 * (z (0 : Fin 3)).val = n; rw [show k0_off1 ⟨n, hn'⟩ 0 = _ from congrFun (off1_eq ⟨n, hn'⟩) 0]; show n + 1 * (z (0 : Fin 3)).val = n; omega
        | ⟨1, _⟩ => show k0_off1 ⟨n, hn'⟩ 1 + 1 * (z (1 : Fin 3)).val = (z (1 : Fin 3)).val; rw [show k0_off1 ⟨n, hn'⟩ 1 = _ from congrFun (off1_eq ⟨n, hn'⟩) 1]; exact (Nat.zero_add _).trans (Nat.one_mul _)
        | ⟨2, _⟩ => show k0_off1 ⟨n, hn'⟩ 2 + 1 * (z (2 : Fin 3)).val = (z (2 : Fin 3)).val; rw [show k0_off1 ⟨n, hn'⟩ 2 = _ from congrFun (off1_eq ⟨n, hn'⟩) 2]; exact (Nat.zero_add _).trans (Nat.one_mul _)
      have am : ∀ (m : Memref sig .tc .vmem S1x8x1x2048 .f32) (hm : m.IsWhole) (x : S1x8x1x2048.Idx → Elt F .f32) inb,
          (View.readAt (Elt F) m.view (Rect.unit (s := S1x8x1x2048) (k0_off2 ⟨n, hn'⟩) S1x1x1x2048.size inb).toLoadRect (hm.unread x) : Vec F S1x1x1x2048 .f32) = modOf x ⟨n, by omega⟩ := fun m hm x inb => by
        funext z
        refine (hm.readAt_unread x _ z).trans (congrArg x (funext fun a => Fin.ext ?_))
        have z0 : (z (0 : Fin 4)).val < 1 := (z (0 : Fin 4)).isLt
        have z1 : (z (1 : Fin 4)).val < 1 := (z (1 : Fin 4)).isLt
        have z2 : (z (2 : Fin 4)).val < 1 := (z (2 : Fin 4)).isLt
        match a with
        | ⟨0, _⟩ => show k0_off2 ⟨n, hn'⟩ 0 + 1 * (z (0 : Fin 4)).val = 0; rw [show k0_off2 ⟨n, hn'⟩ 0 = _ from congrFun (off2_eq ⟨n, hn'⟩) 0]; show 0 + 1 * (z (0 : Fin 4)).val = 0; omega
        | ⟨1, _⟩ => show k0_off2 ⟨n, hn'⟩ 1 + 1 * (z (1 : Fin 4)).val = n; rw [show k0_off2 ⟨n, hn'⟩ 1 = _ from congrFun (off2_eq ⟨n, hn'⟩) 1]; show n + 1 * (z (1 : Fin 4)).val = n; omega
        | ⟨2, _⟩ => show k0_off2 ⟨n, hn'⟩ 2 + 1 * (z (2 : Fin 4)).val = 0; rw [show k0_off2 ⟨n, hn'⟩ 2 = _ from congrFun (off2_eq ⟨n, hn'⟩) 2]; show 0 + 1 * (z (2 : Fin 4)).val = 0; omega
        | ⟨3, _⟩ => show k0_off2 ⟨n, hn'⟩ 3 + 1 * (z (3 : Fin 4)).val = (z (3 : Fin 4)).val; rw [show k0_off2 ⟨n, hn'⟩ 3 = _ from congrFun (off2_eq ⟨n, hn'⟩) 3]; exact (Nat.zero_add _).trans (Nat.one_mul _)
      rw [a0, am, am, readAt_read arg3.view _ (harg3.read_unread x1) off2_zero]
      rfl

/-- All eight groups: the scratch reads the 512 normalised and modulated rows. -/
theorem read_rows (𝒱 : Variants) (c : Dev nD) (bd : Option 𝒱.V) (i : grid0.Coords) (arg2 : Memref sig .tc .vmem S8x64x2048 .f32) (harg2 : arg2.IsWhole) (arg3 : Memref sig .tc .vmem S1x2048 .f32) (harg3 : arg3.IsWhole) (arg4 : Memref sig .tc .vmem S1x8x1x2048 .f32) (harg4 : arg4.IsWhole) (arg5 : Memref sig .tc .vmem S1x8x1x2048 .f32) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x2048 .bf16) (harg14 : arg14.IsWhole) (h1 : k0_cond1 i = 1#1)
    (x0 : S8x64x2048.Idx → Elt F .f32) (x1 : S1x2048.Idx → Elt F .f32) (x2 x3 : S1x8x1x2048.Idx → Elt F .f32)
    (G : BufTy.Contents (Elt F) arg14.view.ty) :
    arg14.view.read (Elt F) (arg14.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h1 (harg2.unread x0) (harg3.unread x1) (harg4.unread x2) (harg5.unread x3) (Scf.trips k0_t1_loop.lb k0_t1_loop.ub k0_t1_loop.st))) = hAt x0 x1 x2 x3 :=
  funext fun y => rows_written 𝒱 c bd i arg2 harg2 arg3 harg3 arg4 harg4 arg5 harg5 arg6 harg6 arg7 harg7 arg8 harg8 arg9 harg9 arg10 harg10 arg11 harg11 arg12 harg12 arg13 harg13 arg14 harg14 h1 x0 x1 x2 x3 G _ trips_eq.le y (by
    have : (y 0).val < 64 * 8 := (y 0).isLt
    show (y 0).val < 64 * k0_t1_loop.trips
    rw [trips_eq]; exact this)

/-- THE BODY at a point. Beforehand: the inputs' blocks `x0 … x6`, the block of the whole projection at anything, the blocks
    of the keys and values at `y8 … y11`, the scratch at `s`. Afterwards the inputs as they were, the scratch at `hNow`, the
    block of the whole projection at `outAt`, and the keys' or values' block of the section, if any, at its product. -/
def Runs (i : grid0.Coords) : Prop :=
  ∀ (c : Dev nD) (arg2 : Memref sig .tc .vmem S8x64x2048 .f32) (harg2 : arg2.IsWhole) (arg3 : Memref sig .tc .vmem S1x2048 .f32) (harg3 : arg3.IsWhole) (arg4 : Memref sig .tc .vmem S1x8x1x2048 .f32) (harg4 : arg4.IsWhole) (arg5 : Memref sig .tc .vmem S1x8x1x2048 .f32) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x2048 .bf16) (harg14 : arg14.IsWhole)
    (x0 : S8x64x2048.Idx → Elt F .f32) (x1 : S1x2048.Idx → Elt F .f32) (x2 x3 : S1x8x1x2048.Idx → Elt F .f32) (x4 : S2048x512.Idx → Elt F .bf16) (x5 x6 : S1x512.Idx → Elt F .f32)
    (y8 y9 y10 y11 : S512x512.Idx → Elt F .f32) (s : S512x2048.Idx → Elt F .bf16) (K : PUnit → sProp 𝕄),
    iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ (∃ d, owns (c : Thread nD τ) arg9 fullShare d)
    ∗ owns (c : Thread nD τ) arg10 fullShare y8
    ∗ owns (c : Thread nD τ) arg11 fullShare y9
    ∗ owns (c : Thread nD τ) arg12 fullShare y10
    ∗ owns (c : Thread nD τ) arg13 fullShare y11
    ∗ owns (c : Thread nD τ) arg14 fullShare s
    ∗ (iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare (outAt i (hNow i s x0 x1 x2 x3) x4 x5 x6)
    ∗ owns (c : Thread nD τ) arg10 fullShare (if k0_cond3 i = 1#1 then k0_pay13 (hNow i s x0 x1 x2 x3) x4 else y8)
    ∗ owns (c : Thread nD τ) arg11 fullShare (if k0_cond4 i = 1#1 then k0_pay13 (hNow i s x0 x1 x2 x3) x4 else y9)
    ∗ owns (c : Thread nD τ) arg12 fullShare (if k0_cond6 i = 1#1 then kNormed (k0_pay13 (hNow i s x0 x1 x2 x3) x4) x6 else y10)
    ∗ owns (c : Thread nD τ) arg13 fullShare (if k0_cond7 i = 1#1 then k0_pay13 (hNow i s x0 x1 x2 x3) x4 else y11)
    ∗ owns (c : Thread nD τ) arg14 fullShare (hNow i s x0 x1 x2 x3)) -∗ K ⟨⟩))
    ⊢ wp frame (wpE (defs₀ (F := F)) Variants.none c none) Set.univ (cc0_proj i arg2 harg2 arg3 harg3 arg4 harg4 arg5 harg5 arg6 harg6 arg7 harg7 arg8 harg8 arg9 harg9 arg10 harg10 arg11 harg11 arg12 harg12 arg13 harg13 arg14 harg14) K

end Cert.ProjIdeal.Hand
-- ==== Proof.ProjEntry.lean ====
/- The projection kernel's LAUNCH up to its region: what the host operations leave, and each window's block read off its
   array. -/
module

public import proofs.«01_k».proof.Proof.ProjRows
public import proofs.«01_k».proof.Proof.Gen.ProjIdeal.Launch
public import proofs.«01_k».proof.Proof.Gen.ProjIdeal.Points

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations -/

/-- The buffers of core `c` when the region starts: as launched, then the host operations. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t` of what its array holds at the start. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem index_0 : ∀ t : Fin cfg0.N, (cfg0.win 0).index t = ![t.val / 20, 0, 0] := by decide +kernel
theorem index_1 : ∀ t : Fin cfg0.N, (cfg0.win 1).index t = ![0, 0] := by decide +kernel
theorem index_2 : ∀ t : Fin cfg0.N, (cfg0.win 2).index t = ![1, t.val / 20, 0, 0] := by decide +kernel
theorem index_3 : ∀ t : Fin cfg0.N, (cfg0.win 3).index t = ![0, t.val / 20, 0, 0] := by decide +kernel
theorem index_4 : ∀ t : Fin cfg0.N, (cfg0.win 4).index t = ![0, t.val % 20] := by decide +kernel
theorem index_5 : ∀ t : Fin cfg0.N, (cfg0.win 5).index t = ![0, min (t.val % 20 - 6) 1] := by decide +kernel
theorem index_6 : ∀ t : Fin cfg0.N, (cfg0.win 6).index t = ![0, min (t.val % 20 - 8) 1] := by decide +kernel
theorem index_7 : ∀ t : Fin cfg0.N, (cfg0.win 7).index t = ![t.val / 20, t.val % 20] := by decide +kernel
theorem index_8 : ∀ t : Fin cfg0.N, (cfg0.win 8).index t = ![t.val / 20, min (t.val % 20 - 2) 1] := by decide +kernel
theorem index_9 : ∀ t : Fin cfg0.N, (cfg0.win 9).index t = ![t.val / 20, min (t.val % 20 - 4) 1] := by decide +kernel
theorem index_10 : ∀ t : Fin cfg0.N, (cfg0.win 10).index t = ![t.val / 20, min (t.val % 20 - 8) 1] := by decide +kernel
theorem index_11 : ∀ t : Fin cfg0.N, (cfg0.win 11).index t = ![t.val / 20, min (t.val % 20 - 10) 1] := by decide +kernel

theorem lt_320 (t : Fin cfg0.N) : t.val < 320 := lt_of_lt_of_eq t.isLt N_0

/-- Sequence row `y` of a point's tile of eight. -/
def seqOf (t : Fin cfg0.N) (y : Fin 8) : Fin 128 := ⟨8 * (t.val / 20) + y.val, by have := lt_320 t; omega⟩
/-- Column `y` of a point's 512 weight columns. -/
def colOf (t : Fin cfg0.N) (y : Fin 512) : Fin 10240 := ⟨512 * (t.val % 20) + y.val, by omega⟩
/-- Lane `y` of one of the two gain blocks. -/
def gainOf (lo : ℕ) (t : Fin cfg0.N) (y : Fin 512) : Fin 1024 := ⟨512 * min (t.val % 20 - lo) 1 + y.val, by omega⟩

theorem iblk_0 (c : Dev nD) (t : Fin cfg0.N) (y : S8x64x2048.Idx) : iblk m c 0 t y = V m c main_v8 (ix3 (seqOf t (y 0)) (y 1) (y 2)) := by
  refine congrArg (V m c main_v8) (funext fun a => Fin.ext ?_)
  match a with
  | ⟨0, _⟩ => show (cfg0.win 0).index t 0 * 8 + 1 * (y 0).val = _; rw [index_0]; show t.val / 20 * 8 + 1 * (y 0).val = 8 * (t.val / 20) + (y 0).val; omega
  | ⟨1, _⟩ => show (cfg0.win 0).index t 1 * 64 + 1 * (y 1).val = _; rw [index_0]; show 0 * 64 + 1 * (y 1).val = (y 1).val; omega
  | ⟨2, _⟩ => show (cfg0.win 0).index t 2 * 2048 + 1 * (y 2).val = _; rw [index_0]; show 0 * 2048 + 1 * (y 2).val = (y 2).val; omega

theorem iblk_1 (c : Dev nD) (t : Fin cfg0.N) (y : S1x2048.Idx) : iblk m c 1 t y = V m c main_v7 (y) := by
  refine congrArg (V m c main_v7) (funext fun a => Fin.ext ?_)
  match a with
  | ⟨0, _⟩ => show (cfg0.win 1).index t 0 * 1 + 1 * (y 0).val = _; rw [index_1]; show 0 * 1 + 1 * (y 0).val = (y 0).val; omega
  | ⟨1, _⟩ => show (cfg0.win 1).index t 1 * 2048 + 1 * (y 1).val = _; rw [index_1]; show 0 * 2048 + 1 * (y 1).val = (y 1).val; omega

theorem iblk_2 (c : Dev nD) (t : Fin cfg0.N) (y : S1x8x1x2048.Idx) : iblk m c 2 t y = V m c main_v3 (ix4 1 (seqOf t (y 1)) (y 2) (y 3)) := by
  refine congrArg (V m c main_v3) (funext fun a => Fin.ext ?_)
  match a with
  | ⟨0, _⟩ => show (cfg0.win 2).index t 0 * 1 + 1 * (y 0).val = _; rw [index_2]; have h : (y 0).val < 1 := (y 0).isLt; show 1 * 1 + 1 * (y 0).val = 1; omega
  | ⟨1, _⟩ => show (cfg0.win 2).index t 1 * 8 + 1 * (y 1).val = _; rw [index_2]; show t.val / 20 * 8 + 1 * (y 1).val = 8 * (t.val / 20) + (y 1).val; omega
  | ⟨2, _⟩ => show (cfg0.win 2).index t 2 * 1 + 1 * (y 2).val = _; rw [index_2]; show 0 * 1 + 1 * (y 2).val = (y 2).val; omega
  | ⟨3, _⟩ => show (cfg0.win 2).index t 3 * 2048 + 1 * (y 3).val = _; rw [index_2]; show 0 * 2048 + 1 * (y 3).val = (y 3).val; omega

theorem iblk_3 (c : Dev nD) (t : Fin cfg0.N) (y : S1x8x1x2048.Idx) : iblk m c 3 t y = V m c main_v3 (ix4 0 (seqOf t (y 1)) (y 2) (y 3)) := by
  refine congrArg (V m c main_v3) (funext fun a => Fin.ext ?_)
  match a with
  | ⟨0, _⟩ => show (cfg0.win 3).index t 0 * 1 + 1 * (y 0).val = _; rw [index_3]; have h : (y 0).val < 1 := (y 0).isLt; show 0 * 1 + 1 * (y 0).val = 0; omega
  | ⟨1, _⟩ => show (cfg0.win 3).index t 1 * 8 + 1 * (y 1).val = _; rw [index_3]; show t.val / 20 * 8 + 1 * (y 1).val = 8 * (t.val / 20) + (y 1).val; omega
  | ⟨2, _⟩ => show (cfg0.win 3).index t 2 * 1 + 1 * (y 2).val = _; rw [index_3]; show 0 * 1 + 1 * (y 2).val = (y 2).val; omega
  | ⟨3, _⟩ => show (cfg0.win 3).index t 3 * 2048 + 1 * (y 3).val = _; rw [index_3]; show 0 * 2048 + 1 * (y 3).val = (y 3).val; omega

theorem iblk_4 (c : Dev nD) (t : Fin cfg0.N) (y : S2048x512.Idx) : iblk m c 4 t y = V m c main_v4 (ix2 (y 0) (colOf t (y 1))) := by
  refine congrArg (V m c main_v4) (funext fun a => Fin.ext ?_)
  match a with
  | ⟨0, _⟩ => show (cfg0.win 4).index t 0 * 2048 + 1 * (y 0).val = _; rw [index_4]; show 0 * 2048 + 1 * (y 0).val = (y 0).val; omega
  | ⟨1, _⟩ => show (cfg0.win 4).index t 1 * 512 + 1 * (y 1).val = _; rw [index_4]; show t.val % 20 * 512 + 1 * (y 1).val = 512 * (t.val % 20) + (y 1).val; omega

theorem iblk_5 (c : Dev nD) (t : Fin cfg0.N) (y : S1x512.Idx) : iblk m c 5 t y = V m c main_v5 (ix2 (y 0) (gainOf 6 t (y 1))) := by
  refine congrArg (V m c main_v5) (funext fun a => Fin.ext ?_)
  match a with
  | ⟨0, _⟩ => show (cfg0.win 5).index t 0 * 1 + 1 * (y 0).val = _; rw [index_5]; show 0 * 1 + 1 * (y 0).val = (y 0).val; omega
  | ⟨1, _⟩ => show (cfg0.win 5).index t 1 * 512 + 1 * (y 1).val = _; rw [index_5]; show min (t.val % 20 - 6) 1 * 512 + 1 * (y 1).val = 512 * min (t.val % 20 - 6) 1 + (y 1).val; omega

theorem iblk_6 (c : Dev nD) (t : Fin cfg0.N) (y : S1x512.Idx) : iblk m c 6 t y = V m c main_v6 (ix2 (y 0) (gainOf 8 t (y 1))) := by
  refine congrArg (V m c main_v6) (funext fun a => Fin.ext ?_)
  match a with
  | ⟨0, _⟩ => show (cfg0.win 6).index t 0 * 1 + 1 * (y 0).val = _; rw [index_6]; show 0 * 1 + 1 * (y 0).val = (y 0).val; omega
  | ⟨1, _⟩ => show (cfg0.win 6).index t 1 * 512 + 1 * (y 1).val = _; rw [index_6]; show min (t.val % 20 - 8) 1 * 512 + 1 * (y 1).val = 512 * min (t.val % 20 - 8) 1 + (y 1).val; omega

theorem iblk_0_row (c : Dev nD) (t t' : Fin cfg0.N) (h : t.val / 20 = t'.val / 20) : iblk m c 0 t = iblk m c 0 t' := by
  funext y
  rw [iblk_0, iblk_0]
  rw [show seqOf t = seqOf t' from funext fun y => Fin.ext (by show 8 * (t.val / 20) + y.val = 8 * (t'.val / 20) + y.val; rw [h])]
theorem iblk_1_row (c : Dev nD) (t t' : Fin cfg0.N) (h : t.val / 20 = t'.val / 20) : iblk m c 1 t = iblk m c 1 t' := by
  funext y
  rw [iblk_1, iblk_1]
theorem iblk_2_row (c : Dev nD) (t t' : Fin cfg0.N) (h : t.val / 20 = t'.val / 20) : iblk m c 2 t = iblk m c 2 t' := by
  funext y
  rw [iblk_2, iblk_2]
  rw [show seqOf t = seqOf t' from funext fun y => Fin.ext (by show 8 * (t.val / 20) + y.val = 8 * (t'.val / 20) + y.val; rw [h])]
theorem iblk_3_row (c : Dev nD) (t t' : Fin cfg0.N) (h : t.val / 20 = t'.val / 20) : iblk m c 3 t = iblk m c 3 t' := by
  funext y
  rw [iblk_3, iblk_3]
  rw [show seqOf t = seqOf t' from funext fun y => Fin.ext (by show 8 * (t.val / 20) + y.val = 8 * (t'.val / 20) + y.val; rw [h])]

/-- The normalised rows of a point's tile. -/
def hblk (c : Dev nD) (t : Fin cfg0.N) : S512x2048.Idx → Elt F .bf16 := hAt (iblk m c 0 t) (iblk m c 1 t) (iblk m c 2 t) (iblk m c 3 t)

/-- They are the same at all the points of a row of the grid. -/
theorem hblk_row (c : Dev nD) (t t' : Fin cfg0.N) (h : t.val / 20 = t'.val / 20) : hblk m c t = hblk m c t' := by
  unfold hblk
  rw [iblk_0_row m c t t' h, iblk_1_row m c t t' h, iblk_2_row m c t t' h, iblk_3_row m c t t' h]

end Cert.ProjIdeal.Hand
-- ==== Proof.ProjBodyA.lean ====
/- The projection kernel's BODY at one grid point, branch A. -/
module

public import proofs.«01_k».proof.Proof.ProjRows

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 0 and the column block the first. -/
theorem body_A (i : grid0.Coords) (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_pos h2, show hNow i s x0 x1 x2 x3 = hAt x0 x1 x2 x3 from (if_pos h1), readAt_read arg14.view _ (read_rows _ _ _ _ _ _ _ _ _ _ _ _ _ _ _ _ _ _ _ _ _ _ _ _ _ _ _ _ _ _ h1 x0 x1 x2 x3 _) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = hAt x0 x1 x2 x3 from (if_pos h1)]
    exact read_rows _ _ _ _ _ _ _ _ _ _ _ _ _ _ _ _ _ _ _ _ _ _ _ _ _ _ _ _ _ _ h1 x0 x1 x2 x3 _

end Cert.ProjIdeal.Hand
-- ==== Proof.ProjBodyB.lean ====
/- The projection kernel's BODY at one grid point, branch B. -/
module

public import proofs.«01_k».proof.Proof.ProjRows

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 0 and the column block not the first. -/
theorem body_B (i : grid0.Coords) (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_pos h2, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjIdeal.Hand
-- ==== Proof.ProjBodyC.lean ====
/- The projection kernel's BODY at one grid point, branch C. -/
module

public import proofs.«01_k».proof.Proof.ProjRows

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 1. -/
theorem body_C (i : grid0.Coords) (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_neg h6, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      sl_unfold_words
      refine (read_store_whole _ _ off2_zero _ _).trans ?_
      rw [if_pos h3, show hNow i s x0 x1 x2 x3 = s from (if_neg h1), readAt_read arg14.view _ (harg14.read_unread s) off2_zero, readAt_read arg6.view _ (harg6.read_unread x4) off2_zero]
      try rfl
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjIdeal.Hand
-- ==== Proof.ProjBodyD.lean ====
/- The projection kernel's BODY at one grid point, branch D. -/
module

public import proofs.«01_k».proof.Proof.ProjRows

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 2. -/
theorem body_D (i : grid0.Coords) (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_neg h6, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      sl_unfold_words
      refine (read_store_whole _ _ off2_zero _ _).trans ?_
      rw [if_pos h4, show hNow i s x0 x1 x2 x3 = s from (if_neg h1), readAt_read arg14.view _ (harg14.read_unread s) off2_zero, readAt_read arg6.view _ (harg6.read_unread x4) off2_zero]
      try rfl
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjIdeal.Hand
-- ==== Proof.ProjBodyE.lean ====
/- The projection kernel's BODY at one grid point, branch E. -/
module

public import proofs.«01_k».proof.Proof.ProjRows

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 3. -/
theorem body_E (i : grid0.Coords) (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_pos h5, show hNow i s x0 x1 x2 x3 = s from (if_neg h1), readAt_read arg14.view _ (harg14.read_unread s) off2_zero, readAt_read arg6.view _ (harg6.read_unread x4) off2_zero, show View.readAt (Elt F) arg7.view (Rect.unit (s := S1x512) ![0, 0] S1x128.size inb_S1x512_S1x128_0_0).toLoadRect (harg7.unread x5) = gain0 x5 from funext fun z => harg7.readAt_unread x5 _ z, show View.readAt (Elt F) arg7.view (Rect.unit (s := S1x512) ![0, 128] S1x128.size inb_S1x512_S1x128_0_128).toLoadRect (harg7.unread x5) = gain1 x5 from funext fun z => harg7.readAt_unread x5 _ z, show View.readAt (Elt F) arg7.view (Rect.unit (s := S1x512) ![0, 256] S1x128.size inb_S1x512_S1x128_0_256).toLoadRect (harg7.unread x5) = gain2 x5 from funext fun z => harg7.readAt_unread x5 _ z, show View.readAt (Elt F) arg7.view (Rect.unit (s := S1x512) ![0, 384] S1x128.size inb_S1x512_S1x128_0_384).toLoadRect (harg7.unread x5) = gain3 x5 from funext fun z => harg7.readAt_unread x5 _ z]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjIdeal.Hand
-- ==== Proof.ProjBodyF.lean ====
/- The projection kernel's BODY at one grid point, branch F. -/
module

public import proofs.«01_k».proof.Proof.ProjRows

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 4. -/
theorem body_F (i : grid0.Coords) (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_pos h6, show hNow i s x0 x1 x2 x3 = s from (if_neg h1), readAt_read arg14.view _ (harg14.read_unread s) off2_zero, readAt_read arg6.view _ (harg6.read_unread x4) off2_zero, show View.readAt (Elt F) arg8.view (Rect.unit (s := S1x512) ![0, 0] S1x128.size inb_S1x512_S1x128_0_0).toLoadRect (harg8.unread x6) = gain0 x6 from funext fun z => harg8.readAt_unread x6 _ z, show View.readAt (Elt F) arg8.view (Rect.unit (s := S1x512) ![0, 128] S1x128.size inb_S1x512_S1x128_0_128).toLoadRect (harg8.unread x6) = gain1 x6 from funext fun z => harg8.readAt_unread x6 _ z, show View.readAt (Elt F) arg8.view (Rect.unit (s := S1x512) ![0, 256] S1x128.size inb_S1x512_S1x128_0_256).toLoadRect (harg8.unread x6) = gain2 x6 from funext fun z => harg8.readAt_unread x6 _ z, show View.readAt (Elt F) arg8.view (Rect.unit (s := S1x512) ![0, 384] S1x128.size inb_S1x512_S1x128_0_384).toLoadRect (harg8.unread x6) = gain3 x6 from funext fun z => harg8.readAt_unread x6 _ z]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      sl_unfold_words
      refine (read_store_whole _ _ off2_zero _ _).trans ?_
      rw [if_pos h6, show hNow i s x0 x1 x2 x3 = s from (if_neg h1), readAt_read arg14.view _ (harg14.read_unread s) off2_zero, readAt_read arg6.view _ (harg6.read_unread x4) off2_zero, show View.readAt (Elt F) arg8.view (Rect.unit (s := S1x512) ![0, 0] S1x128.size inb_S1x512_S1x128_0_0).toLoadRect (harg8.unread x6) = gain0 x6 from funext fun z => harg8.readAt_unread x6 _ z, show View.readAt (Elt F) arg8.view (Rect.unit (s := S1x512) ![0, 128] S1x128.size inb_S1x512_S1x128_0_128).toLoadRect (harg8.unread x6) = gain1 x6 from funext fun z => harg8.readAt_unread x6 _ z, show View.readAt (Elt F) arg8.view (Rect.unit (s := S1x512) ![0, 256] S1x128.size inb_S1x512_S1x128_0_256).toLoadRect (harg8.unread x6) = gain2 x6 from funext fun z => harg8.readAt_unread x6 _ z, show View.readAt (Elt F) arg8.view (Rect.unit (s := S1x512) ![0, 384] S1x128.size inb_S1x512_S1x128_0_384).toLoadRect (harg8.unread x6) = gain3 x6 from funext fun z => harg8.readAt_unread x6 _ z]
      try rfl
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjIdeal.Hand
-- ==== Proof.ProjBodyG.lean ====
/- The projection kernel's BODY at one grid point, branch G. -/
module

public import proofs.«01_k».proof.Proof.ProjRows

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 5. -/
theorem body_G (i : grid0.Coords) (h1 : ¬ k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_neg h6, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      sl_unfold_words
      refine (read_store_whole _ _ off2_zero _ _).trans ?_
      rw [if_pos h7, show hNow i s x0 x1 x2 x3 = s from (if_neg h1), readAt_read arg14.view _ (harg14.read_unread s) off2_zero, readAt_read arg6.view _ (harg6.read_unread x4) off2_zero]
      try rfl
  iexists _; isplitr; swap
  · iexact HS
  · ipureintro
    rw [show hNow i s x0 x1 x2 x3 = s from (if_neg h1)]
    exact harg14.read_unread s

end Cert.ProjIdeal.Hand
-- ==== Proof.ProjBodyH.lean ====
/- The projection kernel's BODY at one grid point, branch H. -/
module

public import proofs.«01_k».proof.Proof.ProjRows

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 6. -/
theorem body_H (i : grid0.Coords) (h1 : ¬ k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_neg h6, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjIdeal.Hand
-- ==== Proof.ProjBody.lean ====
/- The projection kernel's BODY at one grid point, every branch together. -/
module

public import proofs.«01_k».proof.Proof.ProjBodyA
public import proofs.«01_k».proof.Proof.ProjBodyB
public import proofs.«01_k».proof.Proof.ProjBodyC
public import proofs.«01_k».proof.Proof.ProjBodyD
public import proofs.«01_k».proof.Proof.ProjBodyE
public import proofs.«01_k».proof.Proof.ProjBodyF
public import proofs.«01_k».proof.Proof.ProjBodyG
public import proofs.«01_k».proof.Proof.ProjBodyH

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-! ## The body -/

/-- The body at a point, whichever its branch. -/
theorem body_run (i : grid0.Coords) (hb : Branch i) : Runs (F := F) i := by
  rcases hb with ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩
  · exact body_A i h1 h2 h3 h4 h5 h6 h7 h8
  · exact body_B i h1 h2 h3 h4 h5 h6 h7 h8
  · exact body_C i h1 h2 h3 h4 h5 h6 h7 h8
  · exact body_D i h1 h2 h3 h4 h5 h6 h7 h8
  · exact body_E i h1 h2 h3 h4 h5 h6 h7 h8
  · exact body_F i h1 h2 h3 h4 h5 h6 h7 h8
  · exact body_G i h1 h2 h3 h4 h5 h6 h7 h8
  · exact body_H i h1 h2 h3 h4 h5 h6 h7 h8

end Cert.ProjIdeal.Hand
-- ==== Proof.ProjFrame.lean ====
/- The projection kernel's RUN: what every grid point leaves, the body's obligation, and the launch.  A key or value
   buffer is written at two points of a row of the grid, and sent at the first and at the row's last point. -/
module

public import proofs.«01_k».proof.Proof.ProjEntry
public import proofs.«01_k».proof.Proof.ProjBody

@[expose] public section

set_option maxRecDepth 16384

noncomputable section

namespace Cert.ProjIdeal.Hand

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The point of the same row of the grid whose store a buffer holds: of the two points `lo` and `lo + 1`, the later one
    reached, or the first. -/
def tk (lo : Fin 11) (t : Fin cfg0.N) : Fin cfg0.N :=
  ⟨20 * (t.val / 20) + max lo.val (min (t.val % 20) (lo.val + 1)), by have := lt_320 t; have := lo.isLt; have : cfg0.N = 320 := N_0; omega⟩

theorem tk_of_mem (lo : Fin 11) (t : Fin cfg0.N) (h : t.val % 20 / 2 * 2 = lo.val) : tk lo t = t :=
  Fin.ext (by show 20 * (t.val / 20) + max lo.val (min (t.val % 20) (lo.val + 1)) = t.val; omega)

theorem tk_succ (lo : Fin 11) (t t' : Fin cfg0.N) (h : t.val = t'.val + 1) (hl : lo.val + 1 < t.val % 20) : tk lo t' = tk lo t :=
  Fin.ext (by show 20 * (t'.val / 20) + max lo.val (min (t'.val % 20) (lo.val + 1)) = 20 * (t.val / 20) + max lo.val (min (t.val % 20) (lo.val + 1)); omega)

/-- A point's 512 by 512 product. -/
def acc (c : Dev nD) (t : Fin cfg0.N) : S512x512.Idx → Elt F .f32 := k0_pay13 (hblk m c t) (iblk m c 4 t)

def left7 (c : Dev nD) (t : Fin cfg0.N) : S512x512.Idx → Elt F .bf16 :=
  outAt (grid0.coords t) (hblk m c t) (iblk m c 4 t) (iblk m c 5 t) (iblk m c 6 t)
def left8 (c : Dev nD) (t : Fin cfg0.N) : S512x512.Idx → Elt F .f32 := acc m c (tk 2 t)
def left9 (c : Dev nD) (t : Fin cfg0.N) : S512x512.Idx → Elt F .f32 := acc m c (tk 4 t)
def left10 (c : Dev nD) (t : Fin cfg0.N) : S512x512.Idx → Elt F .f32 := kNormed (acc m c (tk 8 t)) (iblk m c 6 (tk 8 t))
def left11 (c : Dev nD) (t : Fin cfg0.N) : S512x512.Idx → Elt F .f32 := acc m c (tk 10 t)

/-- Before point `n` the scratch rows are those the point before left. -/
def Kept (c : Dev nD) (n : ℕ) (s : S512x2048.Idx → Elt F .bf16) : Prop := ∀ t : Fin cfg0.N, n = t.val + 1 → s = hblk m c t

abbrev scM0_0 : Memref sig .tc .vmem S512x2048 .bf16 := Memref.whole cc0_scratch0

def Phi (c : Dev nD) (t : Fin (cfg0.N + 1)) : sProp 𝕄 :=
  iprop(iprop(∃ s, ⌜Kept m c t.val s⌝ ∗ owns (c : Thread nD τ) scM0_0 fullShare s) ∗ (∃ r, prngReg c r))

/-- The rows at a point, whether it writes them or finds them. -/
theorem hNow_eq (c : Dev nD) (t : Fin cfg0.N) (s : S512x2048.Idx → Elt F .bf16) (hs : Kept m c t.val s) :
    hNow (grid0.coords t) s (iblk m c 0 t) (iblk m c 1 t) (iblk m c 2 t) (iblk m c 3 t) = hblk m c t := by
  unfold hNow
  by_cases h : k0_cond1 (grid0.coords t) = 1#1
  · rw [if_pos h]; rfl
  · rw [if_neg h]
    have h0 : t.val % 20 ≠ 0 := fun e => h ((cond1_iff t).mpr e)
    have hlt := lt_320 t
    have hN : cfg0.N = 320 := N_0
    rw [hs ⟨t.val - 1, by omega⟩ (by show t.val = t.val - 1 + 1; omega)]
    exact hblk_row m c _ _ (by show (t.val - 1) / 20 = t.val / 20; omega)

theorem Phi_intro (c : Dev nD) (t : Fin cfg0.N) : Kept m c t.succ.val (hblk m c t) := fun t' h => by
  have : t' = t := Fin.ext (by simp only [Fin.val_succ] at h; omega)
  rw [this]

def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 m c t
    | ⟨8, _⟩ => left8 m c t
    | ⟨9, _⟩ => left9 m c t
    | ⟨10, _⟩ => left10 m c t
    | ⟨11, _⟩ => left11 m c t
  Φ t := Phi m c t
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = left7 m c t := by dsimp only [dats]
theorem after0_8 (c : Dev nD) (t : Fin cfg0.N) : (dats m 0 c).after 8 t = left8 m c t := by dsimp only [dats]
theorem after0_9 (c : Dev nD) (t : Fin cfg0.N) : (dats m 0 c).after 9 t = left9 m c t := by dsimp only [dats]
theorem after0_10 (c : Dev nD) (t : Fin cfg0.N) : (dats m 0 c).after 10 t = left10 m c t := by dsimp only [dats]
theorem after0_11 (c : Dev nD) (t : Fin cfg0.N) : (dats m 0 c).after 11 t = left11 m c t := by dsimp only [dats]

/-! ## The staging buffers -/

abbrev ms0_0 (t : Fin cfg0.N) : Memref sig .tc .vmem S8x64x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .f32 := win0_11.stage (cfg0.slots t 11)
abbrev hs0_11 (t : Fin cfg0.N) : (ms0_11 t).IsWhole := hstage0_11 ((cfg0.slots t 11).cast nbuf0_11)

/-! ## When a key or value buffer is written and sent -/

theorem idle_8 (t : Fin cfg0.N) (h : ¬ k0_cond3 (grid0.coords t) = 1#1) : cfg0.idle 8 (grid0.coords t) = true := by
  show (!(k0_cond3 (grid0.coords t) == 1#1)) = true
  simp [h]
theorem live_8 (t : Fin cfg0.N) (h : k0_cond3 (grid0.coords t) = 1#1) : cfg0.idle 8 (grid0.coords t) = false := by
  show (!(k0_cond3 (grid0.coords t) == 1#1)) = false
  simp [h]
theorem flush_8 : ∀ t : Fin cfg0.N, (cfg0.win 8).flush t = true ↔ t.val % 20 = 2 ∨ t.val % 20 = 19 := by decide +kernel

/-- Past its two points the buffer of window 8 holds what the second left. -/
theorem keep_8 (c : Dev nD) : ∀ (n : ℕ) (t : Fin cfg0.N), t.val = n → 2 + 1 < t.val % 20 → ∀ d, (dats m 0 c).before 8 t d = left8 m c t := by
  intro n
  induction n with
  | zero => intro t h0 h1; omega
  | succ n ih =>
    intro t hn hl d
    have hlt := lt_320 t
    have hN : cfg0.N = 320 := N_0
    rw [(dats m 0 c).before_of_pos 8 t (by omega) rfl d]
    have hp : (⟨t.val - 1, by omega⟩ : Fin cfg0.N) = (⟨n, by omega⟩ : Fin cfg0.N) := Fin.ext (by show t.val - 1 = n; omega)
    rw [hp]
    have hf : (cfg0.win 8).flush (⟨n, by omega⟩ : Fin cfg0.N) = false := by
      rw [Bool.eq_false_iff]; intro h
      have h' : n % 20 = 2 ∨ n % 20 = 19 := (flush_8 _).mp h
      omega
    have hs : left8 m c (⟨n, by omega⟩ : Fin cfg0.N) = left8 m c t := by
      unfold left8
      rw [tk_succ 2 t ⟨n, by omega⟩ hn (by show 2 + 1 < _; omega)]
    rw [if_neg (by rw [hf]; decide)]
    unfold Dat.left
    by_cases hc : k0_cond3 (grid0.coords (⟨n, by omega⟩ : Fin cfg0.N)) = 1#1
    · rw [show cfg0.idle 8 (cfg0.grid.coords (⟨n, by omega⟩ : Fin cfg0.N)) = false from live_8 _ hc]
      refine Eq.trans ?_ hs
      unfold Dat.kept; dsimp only [dats]; rfl
    · rw [show cfg0.idle 8 (cfg0.grid.coords (⟨n, by omega⟩ : Fin cfg0.N)) = true from idle_8 _ hc]
      have h' : ¬ n % 20 / 2 = 1 := fun e => hc ((cond3_iff _).mpr e)
      exact (ih ⟨n, by omega⟩ rfl (by show 2 + 1 < n % 20; omega) _).trans hs

/-- What the body leaves of window 8's buffer is what the run expects of it. -/
theorem leaves_8 (c : Dev nD) (t : Fin cfg0.N) (d) :
    (owns (c : Thread nD τ) (ms0_8 t) fullShare (if k0_cond3 (grid0.coords t) = 1#1 then acc m c t else (dats m 0 c).before 8 t d) : sProp 𝕄)
      ⊢ (dats m 0 c).leavesExact 8 t := by
  unfold Dat.leavesExact
  by_cases hc : k0_cond3 (grid0.coords t) = 1#1
  · rw [if_pos hc, show cfg0.idle 8 (cfg0.grid.coords t) = false from live_8 t hc]
    have h' := (cond3_iff t).mp hc
    have e : left8 m c t = acc m c t := by unfold left8; rw [tk_of_mem 2 t (by show _ = 2; omega)]
    show _ ⊢ owns (c : Thread nD τ) (ms0_8 t) fullShare ((dats m 0 c).after 8 t)
    rw [after0_8, e]
  · rw [if_neg hc, show cfg0.idle 8 (cfg0.grid.coords t) = true from idle_8 t hc]
    have h' : ¬ t.val % 20 / 2 = 1 := fun e => hc ((cond3_iff t).mpr e)
    cases hf : (cfg0.win 8).flush t with
    | false =>
      show _ ⊢ iprop(∃ d, owns (c : Thread nD τ) (ms0_8 t) fullShare ((dats m 0 c).before 8 t d))
      iintro H
      iexists d
      iexact H
    | true =>
      show _ ⊢ owns (c : Thread nD τ) (ms0_8 t) fullShare ((dats m 0 c).after 8 t)
      have h2 := (flush_8 t).mp hf
      rw [after0_8, keep_8 m c _ t rfl (by omega) d]

theorem idle_9 (t : Fin cfg0.N) (h : ¬ k0_cond4 (grid0.coords t) = 1#1) : cfg0.idle 9 (grid0.coords t) = true := by
  show (!(k0_cond4 (grid0.coords t) == 1#1)) = true
  simp [h]
theorem live_9 (t : Fin cfg0.N) (h : k0_cond4 (grid0.coords t) = 1#1) : cfg0.idle 9 (grid0.coords t) = false := by
  show (!(k0_cond4 (grid0.coords t) == 1#1)) = false
  simp [h]
theorem flush_9 : ∀ t : Fin cfg0.N, (cfg0.win 9).flush t = true ↔ t.val % 20 = 4 ∨ t.val % 20 = 19 := by decide +kernel

/-- Past its two points the buffer of window 9 holds what the second left. -/
theorem keep_9 (c : Dev nD) : ∀ (n : ℕ) (t : Fin cfg0.N), t.val = n → 4 + 1 < t.val % 20 → ∀ d, (dats m 0 c).before 9 t d = left9 m c t := by
  intro n
  induction n with
  | zero => intro t h0 h1; omega
  | succ n ih =>
    intro t hn hl d
    have hlt := lt_320 t
    have hN : cfg0.N = 320 := N_0
    rw [(dats m 0 c).before_of_pos 9 t (by omega) rfl d]
    have hp : (⟨t.val - 1, by omega⟩ : Fin cfg0.N) = (⟨n, by omega⟩ : Fin cfg0.N) := Fin.ext (by show t.val - 1 = n; omega)
    rw [hp]
    have hf : (cfg0.win 9).flush (⟨n, by omega⟩ : Fin cfg0.N) = false := by
      rw [Bool.eq_false_iff]; intro h
      have h' : n % 20 = 4 ∨ n % 20 = 19 := (flush_9 _).mp h
      omega
    have hs : left9 m c (⟨n, by omega⟩ : Fin cfg0.N) = left9 m c t := by
      unfold left9
      rw [tk_succ 4 t ⟨n, by omega⟩ hn (by show 4 + 1 < _; omega)]
    rw [if_neg (by rw [hf]; decide)]
    unfold Dat.left
    by_cases hc : k0_cond4 (grid0.coords (⟨n, by omega⟩ : Fin cfg0.N)) = 1#1
    · rw [show cfg0.idle 9 (cfg0.grid.coords (⟨n, by omega⟩ : Fin cfg0.N)) = false from live_9 _ hc]
      refine Eq.trans ?_ hs
      unfold Dat.kept; dsimp only [dats]; rfl
    · rw [show cfg0.idle 9 (cfg0.grid.coords (⟨n, by omega⟩ : Fin cfg0.N)) = true from idle_9 _ hc]
      have h' : ¬ n % 20 / 2 = 2 := fun e => hc ((cond4_iff _).mpr e)
      exact (ih ⟨n, by omega⟩ rfl (by show 4 + 1 < n % 20; omega) _).trans hs

/-- What the body leaves of window 9's buffer is what the run expects of it. -/
theorem leaves_9 (c : Dev nD) (t : Fin cfg0.N) (d) :
    (owns (c : Thread nD τ) (ms0_9 t) fullShare (if k0_cond4 (grid0.coords t) = 1#1 then acc m c t else (dats m 0 c).before 9 t d) : sProp 𝕄)
      ⊢ (dats m 0 c).leavesExact 9 t := by
  unfold Dat.leavesExact
  by_cases hc : k0_cond4 (grid0.coords t) = 1#1
  · rw [if_pos hc, show cfg0.idle 9 (cfg0.grid.coords t) = false from live_9 t hc]
    have h' := (cond4_iff t).mp hc
    have e : left9 m c t = acc m c t := by unfold left9; rw [tk_of_mem 4 t (by show _ = 4; omega)]
    show _ ⊢ owns (c : Thread nD τ) (ms0_9 t) fullShare ((dats m 0 c).after 9 t)
    rw [after0_9, e]
  · rw [if_neg hc, show cfg0.idle 9 (cfg0.grid.coords t) = true from idle_9 t hc]
    have h' : ¬ t.val % 20 / 2 = 2 := fun e => hc ((cond4_iff t).mpr e)
    cases hf : (cfg0.win 9).flush t with
    | false =>
      show _ ⊢ iprop(∃ d, owns (c : Thread nD τ) (ms0_9 t) fullShare ((dats m 0 c).before 9 t d))
      iintro H
      iexists d
      iexact H
    | true =>
      show _ ⊢ owns (c : Thread nD τ) (ms0_9 t) fullShare ((dats m 0 c).after 9 t)
      have h2 := (flush_9 t).mp hf
      rw [after0_9, keep_9 m c _ t rfl (by omega) d]

theorem idle_10 (t : Fin cfg0.N) (h : ¬ k0_cond6 (grid0.coords t) = 1#1) : cfg0.idle 10 (grid0.coords t) = true := by
  show (!(k0_cond6 (grid0.coords t) == 1#1)) = true
  simp [h]
theorem live_10 (t : Fin cfg0.N) (h : k0_cond6 (grid0.coords t) = 1#1) : cfg0.idle 10 (grid0.coords t) = false := by
  show (!(k0_cond6 (grid0.coords t) == 1#1)) = false
  simp [h]
theorem flush_10 : ∀ t : Fin cfg0.N, (cfg0.win 10).flush t = true ↔ t.val % 20 = 8 ∨ t.val % 20 = 19 := by decide +kernel

/-- Past its two points the buffer of window 10 holds what the second left. -/
theorem keep_10 (c : Dev nD) : ∀ (n : ℕ) (t : Fin cfg0.N), t.val = n → 8 + 1 < t.val % 20 → ∀ d, (dats m 0 c).before 10 t d = left10 m c t := by
  intro n
  induction n with
  | zero => intro t h0 h1; omega
  | succ n ih =>
    intro t hn hl d
    have hlt := lt_320 t
    have hN : cfg0.N = 320 := N_0
    rw [(dats m 0 c).before_of_pos 10 t (by omega) rfl d]
    have hp : (⟨t.val - 1, by omega⟩ : Fin cfg0.N) = (⟨n, by omega⟩ : Fin cfg0.N) := Fin.ext (by show t.val - 1 = n; omega)
    rw [hp]
    have hf : (cfg0.win 10).flush (⟨n, by omega⟩ : Fin cfg0.N) = false := by
      rw [Bool.eq_false_iff]; intro h
      have h' : n % 20 = 8 ∨ n % 20 = 19 := (flush_10 _).mp h
      omega
    have hs : left10 m c (⟨n, by omega⟩ : Fin cfg0.N) = left10 m c t := by
      unfold left10
      rw [tk_succ 8 t ⟨n, by omega⟩ hn (by show 8 + 1 < _; omega)]
    rw [if_neg (by rw [hf]; decide)]
    unfold Dat.left
    by_cases hc : k0_cond6 (grid0.coords (⟨n, by omega⟩ : Fin cfg0.N)) = 1#1
    · rw [show cfg0.idle 10 (cfg0.grid.coords (⟨n, by omega⟩ : Fin cfg0.N)) = false from live_10 _ hc]
      refine Eq.trans ?_ hs
      unfold Dat.kept; dsimp only [dats]; rfl
    · rw [show cfg0.idle 10 (cfg0.grid.coords (⟨n, by omega⟩ : Fin cfg0.N)) = true from idle_10 _ hc]
      have h' : ¬ n % 20 / 2 = 4 := fun e => hc ((cond6_iff _).mpr e)
      exact (ih ⟨n, by omega⟩ rfl (by show 8 + 1 < n % 20; omega) _).trans hs

/-- What the body leaves of window 10's buffer is what the run expects of it. -/
theorem leaves_10 (c : Dev nD) (t : Fin cfg0.N) (d) :
    (owns (c : Thread nD τ) (ms0_10 t) fullShare (if k0_cond6 (grid0.coords t) = 1#1 then kNormed (acc m c t) (iblk m c 6 t) else (dats m 0 c).before 10 t d) : sProp 𝕄)
      ⊢ (dats m 0 c).leavesExact 10 t := by
  unfold Dat.leavesExact
  by_cases hc : k0_cond6 (grid0.coords t) = 1#1
  · rw [if_pos hc, show cfg0.idle 10 (cfg0.grid.coords t) = false from live_10 t hc]
    have h' := (cond6_iff t).mp hc
    have e : left10 m c t = kNormed (acc m c t) (iblk m c 6 t) := by unfold left10; rw [tk_of_mem 8 t (by show _ = 8; omega)]
    show _ ⊢ owns (c : Thread nD τ) (ms0_10 t) fullShare ((dats m 0 c).after 10 t)
    rw [after0_10, e]
  · rw [if_neg hc, show cfg0.idle 10 (cfg0.grid.coords t) = true from idle_10 t hc]
    have h' : ¬ t.val % 20 / 2 = 4 := fun e => hc ((cond6_iff t).mpr e)
    cases hf : (cfg0.win 10).flush t with
    | false =>
      show _ ⊢ iprop(∃ d, owns (c : Thread nD τ) (ms0_10 t) fullShare ((dats m 0 c).before 10 t d))
      iintro H
      iexists d
      iexact H
    | true =>
      show _ ⊢ owns (c : Thread nD τ) (ms0_10 t) fullShare ((dats m 0 c).after 10 t)
      have h2 := (flush_10 t).mp hf
      rw [after0_10, keep_10 m c _ t rfl (by omega) d]

theorem idle_11 (t : Fin cfg0.N) (h : ¬ k0_cond7 (grid0.coords t) = 1#1) : cfg0.idle 11 (grid0.coords t) = true := by
  show (!(k0_cond7 (grid0.coords t) == 1#1)) = true
  simp [h]
theorem live_11 (t : Fin cfg0.N) (h : k0_cond7 (grid0.coords t) = 1#1) : cfg0.idle 11 (grid0.coords t) = false := by
  show (!(k0_cond7 (grid0.coords t) == 1#1)) = false
  simp [h]
theorem flush_11 : ∀ t : Fin cfg0.N, (cfg0.win 11).flush t = true ↔ t.val % 20 = 10 ∨ t.val % 20 = 19 := by decide +kernel

/-- Past its two points the buffer of window 11 holds what the second left. -/
theorem keep_11 (c : Dev nD) : ∀ (n : ℕ) (t : Fin cfg0.N), t.val = n → 10 + 1 < t.val % 20 → ∀ d, (dats m 0 c).before 11 t d = left11 m c t := by
  intro n
  induction n with
  | zero => intro t h0 h1; omega
  | succ n ih =>
    intro t hn hl d
    have hlt := lt_320 t
    have hN : cfg0.N = 320 := N_0
    rw [(dats m 0 c).before_of_pos 11 t (by omega) rfl d]
    have hp : (⟨t.val - 1, by omega⟩ : Fin cfg0.N) = (⟨n, by omega⟩ : Fin cfg0.N) := Fin.ext (by show t.val - 1 = n; omega)
    rw [hp]
    have hf : (cfg0.win 11).flush (⟨n, by omega⟩ : Fin cfg0.N) = false := by
      rw [Bool.eq_false_iff]; intro h
      have h' : n % 20 = 10 ∨ n % 20 = 19 := (flush_11 _).mp h
      omega
    have hs : left11 m c (⟨n, by omega⟩ : Fin cfg0.N) = left11 m c t := by
      unfold left11
      rw [tk_succ 10 t ⟨n, by omega⟩ hn (by show 10 + 1 < _; omega)]
    rw [if_neg (by rw [hf]; decide)]
    unfold Dat.left
    by_cases hc : k0_cond7 (grid0.coords (⟨n, by omega⟩ : Fin cfg0.N)) = 1#1
    · rw [show cfg0.idle 11 (cfg0.grid.coords (⟨n, by omega⟩ : Fin cfg0.N)) = false from live_11 _ hc]
      refine Eq.trans ?_ hs
      unfold Dat.kept; dsimp only [dats]; rfl
    · rw [show cfg0.idle 11 (cfg0.grid.coords (⟨n, by omega⟩ : Fin cfg0.N)) = true from idle_11 _ hc]
      have h' : ¬ n % 20 / 2 = 5 := fun e => hc ((cond7_iff _).mpr e)
      exact (ih ⟨n, by omega⟩ rfl (by show 10 + 1 < n % 20; omega) _).trans hs

/-- What the body leaves of window 11's buffer is what the run expects of it. -/
theorem leaves_11 (c : Dev nD) (t : Fin cfg0.N) (d) :
    (owns (c : Thread nD τ) (ms0_11 t) fullShare (if k0_cond7 (grid0.coords t) = 1#1 then acc m c t else (dats m 0 c).before 11 t d) : sProp 𝕄)
      ⊢ (dats m 0 c).leavesExact 11 t := by
  unfold Dat.leavesExact
  by_cases hc : k0_cond7 (grid0.coords t) = 1#1
  · rw [if_pos hc, show cfg0.idle 11 (cfg0.grid.coords t) = false from live_11 t hc]
    have h' := (cond7_iff t).mp hc
    have e : left11 m c t = acc m c t := by unfold left11; rw [tk_of_mem 10 t (by show _ = 10; omega)]
    show _ ⊢ owns (c : Thread nD τ) (ms0_11 t) fullShare ((dats m 0 c).after 11 t)
    rw [after0_11, e]
  · rw [if_neg hc, show cfg0.idle 11 (cfg0.grid.coords t) = true from idle_11 t hc]
    have h' : ¬ t.val % 20 / 2 = 5 := fun e => hc ((cond7_iff t).mpr e)
    cases hf : (cfg0.win 11).flush t with
    | false =>
      show _ ⊢ iprop(∃ d, owns (c : Thread nD τ) (ms0_11 t) fullShare ((dats m 0 c).before 11 t d))
      iintro H
      iexists d
      iexact H
    | true =>
      show _ ⊢ owns (c : Thread nD τ) (ms0_11 t) fullShare ((dats m 0 c).after 11 t)
      have h2 := (flush_11 t).mp hf
      rw [after0_11, keep_11 m c _ t rfl (by omega) d]

theorem live_7 (t : Fin cfg0.N) : cfg0.idle 7 (grid0.coords t) = false := by
  rcases branch t with h | h | h | h | h | h | h | h <;> obtain ⟨h1, h2, h3, h4, h5, h6, h7, h8⟩ := h <;>
    simp [cfg0, idle0, h2, h3, h4, h5, h6, h7, h8]

/-! ## The body obligation -/

set_option maxHeartbeats 2000000 in
theorem sound_body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d))
        ∗ (∃ d, owns (c : Thread nD τ) (ms0_9 t) fullShare ((dats m 0 c).before 9 t d))
        ∗ (∃ d, owns (c : Thread nD τ) (ms0_10 t) fullShare ((dats m 0 c).before 10 t d))
        ∗ (∃ d, owns (c : Thread nD τ) (ms0_11 t) fullShare ((dats m 0 c).before 11 t d)))
      ⊢ wp frame (wpE (defs₀ (F := F)) Variants.none c none) Set.univ (bodyAt0 t) fun _ =>
          iprop((dats m 0 c).Φ t.succ ∗ (dats m 0 c).owesAt () t.succ
            ∗ (dats m 0 c).leavesExact 0 t
            ∗ (dats m 0 c).leavesExact 1 t
            ∗ (dats m 0 c).leavesExact 2 t
            ∗ (dats m 0 c).leavesExact 3 t
            ∗ (dats m 0 c).leavesExact 4 t
            ∗ (dats m 0 c).leavesExact 5 t
            ∗ (dats m 0 c).leavesExact 6 t
            ∗ (dats m 0 c).leavesExact 7 t
            ∗ (dats m 0 c).leavesExact 8 t
            ∗ (dats m 0 c).leavesExact 9 t
            ∗ (dats m 0 c).leavesExact 10 t
            ∗ (dats m 0 c).leavesExact 11 t) := by
  simp only [before0_0, before0_1, before0_2, before0_3, before0_4, before0_5, before0_6]
  rewrite [show (dats m 0 c).leavesExact 0 t = owns (c : Thread nD τ) (ms0_0 t) fullShare ((dats m 0 c).after 0 t) from by
    unfold Dat.leavesExact; rw [show cfg0.idle 0 (cfg0.grid.coords t) = false from rfl], after0_0]
  rewrite [show (dats m 0 c).leavesExact 1 t = owns (c : Thread nD τ) (ms0_1 t) fullShare ((dats m 0 c).after 1 t) from by
    unfold Dat.leavesExact; rw [show cfg0.idle 1 (cfg0.grid.coords t) = false from rfl], after0_1]
  rewrite [show (dats m 0 c).leavesExact 2 t = owns (c : Thread nD τ) (ms0_2 t) fullShare ((dats m 0 c).after 2 t) from by
    unfold Dat.leavesExact; rw [show cfg0.idle 2 (cfg0.grid.coords t) = false from rfl], after0_2]
  rewrite [show (dats m 0 c).leavesExact 3 t = owns (c : Thread nD τ) (ms0_3 t) fullShare ((dats m 0 c).after 3 t) from by
    unfold Dat.leavesExact; rw [show cfg0.idle 3 (cfg0.grid.coords t) = false from rfl], after0_3]
  rewrite [show (dats m 0 c).leavesExact 4 t = owns (c : Thread nD τ) (ms0_4 t) fullShare ((dats m 0 c).after 4 t) from by
    unfold Dat.leavesExact; rw [show cfg0.idle 4 (cfg0.grid.coords t) = false from rfl], after0_4]
  rewrite [show (dats m 0 c).leavesExact 5 t = owns (c : Thread nD τ) (ms0_5 t) fullShare ((dats m 0 c).after 5 t) from by
    unfold Dat.leavesExact; rw [show cfg0.idle 5 (cfg0.grid.coords t) = false from rfl], after0_5]
  rewrite [show (dats m 0 c).leavesExact 6 t = owns (c : Thread nD τ) (ms0_6 t) fullShare ((dats m 0 c).after 6 t) from by
    unfold Dat.leavesExact; rw [show cfg0.idle 6 (cfg0.grid.coords t) = false from rfl], after0_6]
  rewrite [show (dats m 0 c).leavesExact 7 t = owns (c : Thread nD τ) (ms0_7 t) fullShare ((dats m 0 c).after 7 t) from by
    unfold Dat.leavesExact; rw [show cfg0.idle 7 (cfg0.grid.coords t) = false from live_7 t], after0_7]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  iintro ⟨⟨⟨%s, %hk, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hh := hNow_eq m c t s hk
  unfold bodyAt0
  iapply (body_run (F := F) (grid0.coords t) (branch t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (iblk m c 0 t) (iblk m c 1 t) (iblk m c 2 t) (iblk m c 3 t) (iblk m c 4 t) (iblk m c 5 t) (iblk m c 6 t)
    ((dats m 0 c).before 8 t d8) ((dats m 0 c).before 9 t d9) ((dats m 0 c).before 10 t d10) ((dats m 0 c).before 11 t d11) s)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [HS]; · iexact HS
  rewrite [hh]
  iintro ⟨H0, H1, H2, H3, H4, H5, H6, H7, H8, H9, H10, H11, HS⟩
  isplitl [HS Hr]
  · isplitl [HS]
    · iexists _
      isplitr; swap
      · iexact HS
      · ipureintro
        exact Phi_intro m c t
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_8 m c t d8); iexact H8
  isplitl [H9]; · iapply (leaves_9 m c t d9); iexact H9
  isplitl [H10]; · iapply (leaves_10 m c t d10); iexact H10
  iapply (leaves_11 m c t d11); iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem PhiA0_eq (c : Dev nD) :
    (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

theorem hin (c : Dev nD) : Pipeline.ΦA spec0 c ⊢ (dats m 0 c).Φ 0 := by
  rw [show (dats m 0 c).Φ 0 = Phi m c 0 from rfl, PhiA0_eq]
  unfold Phi
  iintro ⟨⟨%d, HS⟩, Hr⟩
  isplitl [HS]
  · iexists d
    isplitr; swap
    · iexact HS
    · ipureintro
      intro t h
      exact absurd h (by simp)
  iexact Hr

theorem hout (c : Dev nD) : (dats m 0 c).Φ (Fin.last cfg0.N) ⊢ Pipeline.ΦA spec0 c := by
  rw [show (dats m 0 c).Φ (Fin.last cfg0.N) = Phi m c (Fin.last cfg0.N) from rfl, PhiA0_eq]
  unfold Phi
  iintro ⟨⟨%s, %hk, HS⟩, Hr⟩
  isplitl [HS]
  · iexists s; iexact HS
  iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends, with its counters at zero, the arguments unchanged and the five results at what the blocks written
    make of them. -/
theorem run_values : θ_run defs (onTc (τ := τ) (main (F := F))) ⟨m, fun _ => 0, ρ⟩ (fun r => (∀ c : Dev nD,
      r.2.mem ((c.tc : Thread nD τ).loc (Pipeline.arrRef spec0 7)) = (dats m 0 c).arrAt 7 cfg0.N
        ∧ r.2.mem ((c.tc : Thread nD τ).loc (Pipeline.arrRef spec0 8)) = (dats m 0 c).arrAt 8 cfg0.N
        ∧ r.2.mem ((c.tc : Thread nD τ).loc (Pipeline.arrRef spec0 9)) = (dats m 0 c).arrAt 9 cfg0.N
        ∧ r.2.mem ((c.tc : Thread nD τ).loc (Pipeline.arrRef spec0 10)) = (dats m 0 c).arrAt 10 cfg0.N
        ∧ r.2.mem ((c.tc : Thread nD τ).loc (Pipeline.arrRef spec0 11)) = (dats m 0 c).arrAt 11 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run defs _ _).mono (fun _ h => ⟨fun c => ⟨(h.1 c).1 7, (h.1 c).1 8, (h.1 c).1 9, (h.1 c).1 10, (h.1 c).1 11,
      ((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c),
      ((h.1 c).2 main_arg4 (Pipeline.mem_restRefs_of main_arg4 (by decide) (by decide))).trans (V_arg4 m c),
      ((h.1 c).2 main_arg5 (Pipeline.mem_restRefs_of main_arg5 (by decide) (by decide))).trans (V_arg5 m c)⟩, h.2⟩) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run defs _ _).mono (fun _ h => ⟨fun c => (h.1 c).2.2.2.2.2, h.2⟩) (run_values m ρ)

end Cert.ProjIdeal.Hand
-- ==== Proof.ProjMath.lean ====
/- The projection's arithmetic on rows: the root-mean-square norm, its modulation, and a head's norm with its gain. -/
module

public import Idealize.ShloMosaic.Lib.ValueIdx
public import Idealize.ShloMosaic.PureOps.Ideal.Laws

@[expose] public section

noncomputable section

namespace Cert.ProjMath

open Idealize.ShloMosaic

/-- A row over the root of its mean square (its length given as the word dividing the sum). -/
def rms {n : ℕ} (len : BitVec 32) (v : Fin n → EReal) (k : Fin n) : EReal :=
  v k * Ideal.rsqrt (Ideal.div (∑ j : Fin n, v j * v j) (Ideal.ofBits .f32 len) + Ideal.ofBits .f32 0x358637BD#32)

/-- The normalised row times a gain, scaled and shifted. -/
def modulated (x g sc sh : Fin 2048 → EReal) (k : Fin 2048) : EReal := rms 0x45000000#32 x k * g k * (1 + sc k) + sh k

/-- Lane `l` of head `n / 128` among 1024 lanes. -/
def lane (n : Fin 1024) (l : Fin 128) : Fin 1024 := ⟨128 * (n.val / 128) + l.val, by omega⟩
def headOf (n : Fin 1024) : Fin 8 := ⟨n.val / 128, by omega⟩
def laneOf (n : Fin 1024) : Fin 128 := ⟨n.val % 128, by omega⟩

/-- Each head of 1024 lanes normalised, times its gain. -/
def headed (f : Fin 1024 → EReal) (g : Fin 8 → Fin 128 → EReal) (n : Fin 1024) : EReal :=
  rms 0x43000000#32 (fun l : Fin 128 => f (lane n l)) (laneOf n) * g (headOf n) (laneOf n)

/-- The queries' scale. -/
def scale : EReal := Ideal.ofBits .f32 0x3DB504F3#32

end Cert.ProjMath
-- ==== Proof.ProjHost.lean ====
/- What the projection kernel's host operations hand its region: the arguments re-laid. -/
module

public import proofs.«01_k».proof.Proof.ProjEntry
public import Idealize.ShloMosaic.Lib.StableHlo.RunRead
public import proofs.«01_k».proof.Proof.ProjMath

@[expose] public section

set_option maxRecDepth 16384

noncomputable section

namespace Cert.ProjIdeal.Hand

open Cert.ProjIdeal Cert.ProjIdeal.Gen
open Idealize.ShloMosaic
open Idealize.ShloMosaic.TcCoe
open Idealize.ShloMosaic.ValueIdx
open Idealize.SL.Sem

/-! ## The layouts -/

theorem cast8 (x : (⟨S2x4096x2048, .f32⟩ : BufTy).Contents (Elt Ideal)) (g : Fin 128) (r : Fin 64) (k : Fin 2048) :
    shapeCast S128x64x2048 x shapeCasts_S2x4096x2048_S128x64x2048 (ix3 g r k)
      = x (ix3 ⟨g.val / 64, by omega⟩ ⟨64 * (g.val % 64) + r.val, by omega⟩ k) := by
  refine shapeCast_apply _ _ _ _ ?_
  rewrite [Shape.rowMajor_val_three, Shape.rowMajor_val_three]
  show (g.val / 64 * 4096 + (64 * (g.val % 64) + r.val)) * 2048 + k.val = (g.val * 64 + r.val) * 2048 + k.val
  omega

theorem cast7 (x : (⟨S2048, .f32⟩ : BufTy).Contents (Elt Ideal)) (k : Fin 2048) :
    shapeCast S1x2048 x shapeCasts_S2048_S1x2048 (ix2 0 k) = x (ix1 k) := by
  refine shapeCast_apply _ _ _ _ ?_
  rewrite [Shape.rowMajor_val_one, Shape.rowMajor_val_two]
  show k.val = 0 * 2048 + k.val
  omega

theorem cast5 (x : (⟨S8x128, .f32⟩ : BufTy).Contents (Elt Ideal)) (n : Fin 1024) :
    shapeCast S1x1024 x shapeCasts_S8x128_S1x1024 (ix2 0 n) = x (ix2 (Cert.ProjMath.headOf n) (Cert.ProjMath.laneOf n)) := by
  refine shapeCast_apply _ _ _ _ ?_
  rewrite [Shape.rowMajor_val_two, Shape.rowMajor_val_two]
  show n.val / 128 * 128 + n.val % 128 = 0 * 1024 + n.val
  omega

theorem mods3 (x : (⟨S6x40x2048, .f32⟩ : BufTy).Contents (Elt Ideal)) (a : Fin 6) (g : Fin 128) (k : Fin 2048) :
    broadcastInDim S6x128x1x2048 ![0, 1, 3] bcast_S6x128x2048_S6x128x1x2048_0_1_3
      (shapeCast S6x128x2048 (broadcastInDim S6x2x64x2048 ![0, 1, 3] bcast_S6x2x2048_S6x2x64x2048_0_1_3
        (extractStridedSlice S6x2x2048 ![0, 0, 0] x slices_S6x40x2048_S6x2x2048_0_0_0)) shapeCasts_S6x2x64x2048_S6x128x2048) (ix4 a g 0 k)
      = x (ix3 a ⟨g.val / 64, by omega⟩ k) := by
  refine (broadcastInDim_apply _ bcast_S6x128x2048_S6x128x1x2048_0_1_3 _ _ (ix3 a g k) (fun d => match d with
    | ⟨0, _⟩ => by show a.val = if (6 : Nat) = 1 then 0 else a.val; rw [if_neg (by decide)]
    | ⟨1, _⟩ => by show g.val = if (128 : Nat) = 1 then 0 else g.val; rw [if_neg (by decide)]
    | ⟨2, _⟩ => by show k.val = if (2048 : Nat) = 1 then 0 else k.val; rw [if_neg (by decide)])).trans ?_
  refine (shapeCast_apply _ shapeCasts_S6x2x64x2048_S6x128x2048 _ (ix4 a ⟨g.val / 64, by omega⟩ ⟨g.val % 64, by omega⟩ k) ?_).trans ?_
  · rewrite [Shape.rowMajor_val_four, Shape.rowMajor_val_three]
    show ((a.val * 2 + g.val / 64) * 64 + g.val % 64) * 2048 + k.val = (a.val * 128 + g.val) * 2048 + k.val
    omega
  refine (broadcastInDim_apply _ bcast_S6x2x2048_S6x2x64x2048_0_1_3 _ _ (ix3 a ⟨g.val / 64, by omega⟩ k) (fun d => match d with
    | ⟨0, _⟩ => by show a.val = if (6 : Nat) = 1 then 0 else a.val; rw [if_neg (by decide)]
    | ⟨1, _⟩ => by show g.val / 64 = if (2 : Nat) = 1 then 0 else g.val / 64; rw [if_neg (by decide)]
    | ⟨2, _⟩ => by show k.val = if (2048 : Nat) = 1 then 0 else k.val; rw [if_neg (by decide)])).trans ?_
  exact extractStridedSlice_apply ![0, 0, 0] x slices_S6x40x2048_S6x2x2048_0_0_0 _ (ix3 a ⟨g.val / 64, by omega⟩ k) (fun d => match d with
    | ⟨0, _⟩ => by show a.val = 0 + a.val; omega
    | ⟨1, _⟩ => by show g.val / 64 = 0 + g.val / 64; omega
    | ⟨2, _⟩ => by show k.val = 0 + k.val; omega)

/-! ## The buffers at the region's start -/

variable (m : (ℓ : Loc nD τ sig) → Buf (Elt Ideal) ℓ) (c : Dev nD)

theorem V_v8 (g : Fin 128) (r : Fin 64) (k : Fin 2048) : V m c main_v8 (ix3 g r k) = m ((c : Thread nD τ).loc main_arg0) (ix3 ⟨g.val / 64, by omega⟩ ⟨64 * (g.val % 64) + r.val, by omega⟩ k) := by
  have e : V m c main_v8 = shapeCast S128x64x2048 (m ((c : Thread nD τ).loc main_arg0)) shapeCasts_S2x4096x2048_S128x64x2048 := by
    unfold V
    after_results
    rfl
  rw [e]
  exact cast8 _ g r k

theorem V_v7 (k : Fin 2048) : V m c main_v7 (ix2 0 k) = m ((c : Thread nD τ).loc main_arg2) (ix1 k) := by
  have e : V m c main_v7 = shapeCast S1x2048 (m ((c : Thread nD τ).loc main_arg2)) shapeCasts_S2048_S1x2048 := by
    unfold V
    after_results
    rfl
  rw [e]
  exact cast7 _ k

theorem V_v5 (n : Fin 1024) : V m c main_v5 (ix2 0 n) = m ((c : Thread nD τ).loc main_arg4) (ix2 (Cert.ProjMath.headOf n) (Cert.ProjMath.laneOf n)) := by
  have e : V m c main_v5 = shapeCast S1x1024 (m ((c : Thread nD τ).loc main_arg4)) shapeCasts_S8x128_S1x1024 := by
    unfold V
    after_results
    rfl
  rw [e]
  exact cast5 _ n

theorem V_v6 (n : Fin 1024) : V m c main_v6 (ix2 0 n) = m ((c : Thread nD τ).loc main_arg5) (ix2 (Cert.ProjMath.headOf n) (Cert.ProjMath.laneOf n)) := by
  have e : V m c main_v6 = shapeCast S1x1024 (m ((c : Thread nD τ).loc main_arg5)) shapeCasts_S8x128_S1x1024 := by
    unfold V
    after_results
    rfl
  rw [e]
  exact cast5 _ n

theorem V_v4 (k : Fin 2048) (n : Fin 10240) : V m c main_v4 (ix2 k n) = (m ((c : Thread nD τ).loc main_arg3) : S2048x10240.Idx → EReal) (ix2 k n) := by
  have e : (V m c main_v4 : S2048x10240.Idx → EReal) = (m ((c : Thread nD τ).loc main_arg3) : S2048x10240.Idx → EReal) := by
    unfold V
    after_results
    rfl
  exact congrFun e _

theorem V_v3 (a : Fin 6) (g : Fin 128) (k : Fin 2048) : V m c main_v3 (ix4 a g 0 k) = m ((c : Thread nD τ).loc main_arg1) (ix3 a ⟨g.val / 64, by omega⟩ k) := by
  have e : V m c main_v3 = broadcastInDim S6x128x1x2048 ![0, 1, 3] bcast_S6x128x2048_S6x128x1x2048_0_1_3
      (shapeCast S6x128x2048 (broadcastInDim S6x2x64x2048 ![0, 1, 3] bcast_S6x2x2048_S6x2x64x2048_0_1_3
        (extractStridedSlice S6x2x2048 ![0, 0, 0] (m ((c : Thread nD τ).loc main_arg1)) slices_S6x40x2048_S6x2x2048_0_0_0)) shapeCasts_S6x2x64x2048_S6x128x2048) := by
    unfold V
    after_results
    rfl
  rw [e]
  exact mods3 _ a g k

end Cert.ProjIdeal.Hand
-- ==== Proof.ProjPay.lean ====
/- What the projection kernel's blocks are, entry by entry: the normalised rows, the product, and the normed heads. -/
module

public import proofs.«01_k».proof.Proof.ProjRows
public import proofs.«01_k».proof.Proof.ProjMath
public import Idealize.ShloMosaic.Lib.Pointwise
public import Idealize.ShloMosaic.Lib.TwoAxisContraction

@[expose] public section

set_option maxRecDepth 16384

noncomputable section

namespace Cert.ProjIdeal.Hand

open Cert.ProjIdeal Cert.ProjIdeal.Gen
open Idealize.ShloMosaic hiding ix1 ix2 ix3 ix4
open Idealize.ShloMosaic.ValueIdx
open Cert.ProjMath (rms modulated scale)

theorem pay12 (x : Vec Ideal S1x64x2048 .f32) (g : Vec Ideal S1x2048 .f32) (sc sh : Vec Ideal S1x1x1x2048 .f32) (r : Fin 64) (k : Fin 2048) :
    k0_pay12 (F := Ideal) x g sc sh (ix2 r k)
      = modulated (fun k => x (ix3 0 r k)) (fun k => g (ix2 0 k)) (fun k => sc (ix4 0 0 0 k)) (fun k => sh (ix4 0 0 0 k)) k := by
  unfold k0_pay12
  pointwise
  rfl

theorem pay13 (h : Vec Ideal S512x2048 .bf16) (w : Vec Ideal S2048x512 .bf16) (r : Fin 512) (n : Fin 512) :
    k0_pay13 (F := Ideal) h w (ix2 r n) = ∑ k : Fin 2048, h (ix2 r k) * w (ix2 k n) := by
  unfold k0_pay13
  pointwise
  rfl

theorem pay14 (h : Vec Ideal S512x2048 .bf16) (w : Vec Ideal S2048x512 .bf16) (x : S512x512.Idx) :
    k0_pay14 (F := Ideal) h w x = k0_pay13 (F := Ideal) h w x * scale := by
  unfold k0_pay14
  generalize k0_pay13 (F := Ideal) h w = p
  pointwise
  rfl

theorem pay15 (h : Vec Ideal S512x2048 .bf16) (w : Vec Ideal S2048x512 .bf16) (x : S512x512.Idx) :
    k0_pay15 (F := Ideal) h w x = k0_pay13 (F := Ideal) h w x := by
  unfold k0_pay15
  generalize k0_pay13 (F := Ideal) h w = p
  pointwise

theorem pay9 (a : FVec Ideal S512x512 .f32) (g : Vec Ideal S1x128 .f32) (r : Fin 512) (l : Fin 128) :
    k0_pay9 (F := Ideal) a g (ix2 r l) = rms 0x43000000#32 (fun l : Fin 128 => a (ix2 r ⟨0 + l.val, by omega⟩)) l * g (ix2 0 l) := by
  unfold k0_pay9
  pointwise
  rfl

theorem pay10 (a : FVec Ideal S512x512 .f32) (g : Vec Ideal S1x128 .f32) (r : Fin 512) (l : Fin 128) :
    k0_pay10 (F := Ideal) a g (ix2 r l) = rms 0x43000000#32 (fun l : Fin 128 => a (ix2 r ⟨128 + l.val, by omega⟩)) l * g (ix2 0 l) := by
  unfold k0_pay10
  pointwise
  rfl

theorem pay11 (a : FVec Ideal S512x512 .f32) (g : Vec Ideal S1x128 .f32) (r : Fin 512) (l : Fin 128) :
    k0_pay11 (F := Ideal) a g (ix2 r l) = rms 0x43000000#32 (fun l : Fin 128 => a (ix2 r ⟨256 + l.val, by omega⟩)) l * g (ix2 0 l) := by
  unfold k0_pay11
  pointwise
  rfl

/-- A head of a block, its lane and its gain named by the column. -/
theorem piece (a : FVec Ideal S512x512 .f32) (x : S1x512.Idx → EReal) (g : Vec Ideal S1x128 .f32) (r n : Fin 512) (off : ℕ) (hb : ∀ l : Fin 128, off + l.val < 512)
    (ho : off = 128 * (n.val / 128)) (l : Fin 128) (hl : l.val = n.val % 128) (hg : g (ix2 0 l) = x (ix2 0 n)) :
    rms 0x43000000#32 (fun l : Fin 128 => a (ix2 r ⟨off + l.val, hb l⟩)) l * g (ix2 0 l)
      = rms 0x43000000#32 (fun l : Fin 128 => a (ix2 r ⟨128 * (n.val / 128) + l.val, by omega⟩)) ⟨n.val % 128, by omega⟩ * x (ix2 0 n) := by
  subst ho
  rw [hg]
  obtain ⟨l, h⟩ := l
  dsimp only at hl
  subst hl
  rfl

theorem gain0_apply (x : S1x512.Idx → EReal) (l : Fin 128) (n : Fin 512) (h : n.val = 0 + l.val) : gain0 (F := Ideal) x (ix2 0 l) = x (ix2 0 n) := by
  refine congrArg x (funext fun d => Fin.ext ?_)
  match d with
  | ⟨0, _⟩ => rfl
  | ⟨1, _⟩ => show 0 + 1 * l.val = n.val; omega

theorem gain1_apply (x : S1x512.Idx → EReal) (l : Fin 128) (n : Fin 512) (h : n.val = 128 + l.val) : gain1 (F := Ideal) x (ix2 0 l) = x (ix2 0 n) := by
  refine congrArg x (funext fun d => Fin.ext ?_)
  match d with
  | ⟨0, _⟩ => rfl
  | ⟨1, _⟩ => show 128 + 1 * l.val = n.val; omega

theorem gain2_apply (x : S1x512.Idx → EReal) (l : Fin 128) (n : Fin 512) (h : n.val = 256 + l.val) : gain2 (F := Ideal) x (ix2 0 l) = x (ix2 0 n) := by
  refine congrArg x (funext fun d => Fin.ext ?_)
  match d with
  | ⟨0, _⟩ => rfl
  | ⟨1, _⟩ => show 256 + 1 * l.val = n.val; omega

theorem gain3_apply (x : S1x512.Idx → EReal) (l : Fin 128) (n : Fin 512) (h : n.val = 384 + l.val) : gain3 (F := Ideal) x (ix2 0 l) = x (ix2 0 n) := by
  refine congrArg x (funext fun d => Fin.ext ?_)
  match d with
  | ⟨0, _⟩ => rfl
  | ⟨1, _⟩ => show 384 + 1 * l.val = n.val; omega

theorem kNormed_apply (a : FVec Ideal S512x512 .f32) (x : S1x512.Idx → EReal) (r n : Fin 512) :
    kNormed (F := Ideal) a x (ix2 r n)
      = rms 0x43000000#32 (fun l : Fin 128 => a (ix2 r ⟨128 * (n.val / 128) + l.val, by omega⟩)) ⟨n.val % 128, by omega⟩ * x (ix2 0 n) := by
  have e : ∀ (p q s : FVec Ideal S512x128 .f32) (g : Vec Ideal S1x128 .f32), k0_pay2 (F := Ideal) a p q s g (ix2 r n)
      = if h : n.val < 128 then p (ix2 r ⟨n.val, h⟩) else if h : n.val - 128 < 128 then q (ix2 r ⟨n.val - 128, h⟩)
        else if h : n.val - 128 - 128 < 128 then s (ix2 r ⟨n.val - 128 - 128, h⟩)
        else rms 0x43000000#32 (fun l : Fin 128 => a (ix2 r ⟨384 + l.val, by omega⟩)) ⟨n.val - 128 - 128 - 128, by omega⟩ * g (ix2 0 ⟨n.val - 128 - 128 - 128, by omega⟩) := by
    intro p q s g
    unfold k0_pay2
    pointwise
    rfl
  unfold kNormed
  rw [e]
  by_cases h0 : n.val < 128
  · rw [dif_pos h0, pay9]
    exact piece a x _ r n 0 (by omega) (by omega) _ (by show n.val = _; omega) (gain0_apply x _ n (by show n.val = 0 + n.val; omega))
  rw [dif_neg h0]
  by_cases h1 : n.val - 128 < 128
  · rw [dif_pos h1, pay10]
    exact piece a x _ r n 128 (by omega) (by omega) _ (by show n.val - 128 = _; omega) (gain1_apply x _ n (by show n.val = 128 + (n.val - 128); omega))
  rw [dif_neg h1]
  by_cases h2 : n.val - 128 - 128 < 128
  · rw [dif_pos h2, pay11]
    exact piece a x _ r n 256 (by omega) (by omega) _ (by show n.val - 128 - 128 = _; omega) (gain2_apply x _ n (by show n.val = 256 + (n.val - 128 - 128); omega))
  rw [dif_neg h2]
  exact piece a x _ r n 384 (by omega) (by omega) _ (by show n.val - 128 - 128 - 128 = _; omega) (gain3_apply x _ n (by show n.val = 384 + (n.val - 128 - 128 - 128); omega))

theorem kRounded_apply (a : FVec Ideal S512x512 .f32) (x : S1x512.Idx → EReal) (i : S512x512.Idx) :
    kRounded (F := Ideal) a x i = kNormed (F := Ideal) a x i := rfl

theorem qNormed_apply (a : FVec Ideal S512x512 .f32) (x : S1x512.Idx → EReal) (i : S512x512.Idx) :
    qNormed (F := Ideal) a x i = kNormed (F := Ideal) a x i * scale := rfl

end Cert.ProjIdeal.Hand
-- ==== Proof.ProjRefValue.lean ====
/- The projection reference's results in closed form: the hidden rows (normalised, modulated) times the weights, the band's
   queries and keys normalised head by head, the queries scaled. -/
module

public import proofs.«01_k».proof.Proof.Gen.ProjRefIdeal.Read
public import proofs.«01_k».proof.Proof.ProjMath
public import Idealize.ShloMosaic.Lib.Pointwise

@[expose] public section

set_option maxRecDepth 16384

noncomputable section

namespace Cert.ProjRefValue

open Idealize.ShloMosaic hiding ix1 ix2 ix3 ix4 eq_ix1 eq_ix2 eq_ix3 eq_ix4
open Idealize.ShloMosaic.ValueIdx
open Cert.ProjRefIdeal Cert.ProjRefIdeal.Gen Cert.ProjRefIdeal.Read Cert.ProjMath

/-! ## The closed form -/

variable (X : S2x4096x2048.Idx → EReal) (M : S6x40x2048.Idx → EReal) (G : S2048.Idx → EReal) (W : S2048x10240.Idx → EReal) (Q K : S8x128.Idx → EReal)

/-- The hidden row `s` of sequence `b`: its row normalised, times the gain, scaled and shifted by the sequence's modulation. -/
def hid (b : Fin 2) (s : Fin 4096) (k : Fin 2048) : EReal :=
  modulated (fun k => X (ix3 b s k)) (fun k => G (ix1 k)) (fun k => M (ix3 1 ⟨b.val, by omega⟩ k)) (fun k => M (ix3 0 ⟨b.val, by omega⟩ k)) k

/-- That row times column `n` of the weights. -/
def dot (b : Fin 2) (s : Fin 4096) (n : Fin 10240) : EReal := ∑ k : Fin 2048, hid X M G b s k * W (ix2 k n)

/-- 1024 columns of the projection from column `lo` on. -/
def part (lo : ℕ) (hlo : lo ≤ 9216) (b : Fin 2) (s : Fin 4096) (n : Fin 1024) : EReal := dot X M G W b s ⟨lo + n.val, by omega⟩

/-- The same with every head of 128 columns normalised, times its gain. -/
def normed (lo : ℕ) (hlo : lo ≤ 9216) (g : S8x128.Idx → EReal) (b : Fin 2) (s : Fin 4096) (n : Fin 1024) : EReal :=
  headed (part X M G W lo hlo b s) (fun h l => g (ix2 h l)) n

/-- The whole projection: the attention's queries scaled, the band's queries normalised and scaled, its keys normalised. -/
def whole (b : Fin 2) (s : Fin 4096) (n : Fin 10240) : EReal :=
  if n.val < 1024 then dot X M G W b s n * scale
  else if h : 3072 ≤ n.val ∧ n.val < 4096 then normed X M G W 3072 (by decide) Q b s ⟨n.val - 3072, by omega⟩ * scale
  else if h : 4096 ≤ n.val ∧ n.val < 5120 then normed X M G W 4096 (by decide) K b s ⟨n.val - 4096, by omega⟩
  else dot X M G W b s n

/-- The sequence and the position of one of the 8192 rows. -/
def seqR (r : Fin 8192) : Fin 2 := ⟨r.val / 4096, by omega⟩
def posR (r : Fin 8192) : Fin 4096 := ⟨r.val % 4096, by omega⟩

/-! ## The hidden rows -/

theorem v7 (b : Fin 2) (s : Fin 4096) : val_main_v7 (F := Ideal) X (ix2 b s) = ∑ k : Fin 2048, X (ix3 b s k) * X (ix3 b s k) := by
  rw [val_main_v7_apply, val_main_cst_apply, show FloatOps.ofBits (F := Ideal) .f32 0x00000000#32 = (0 : EReal) from Ideal.ofBits_zero_f32, zero_add]
  refine Finset.sum_congr rfl fun k _ => ?_
  rw [val_main_v6_apply, eq_ix3 (idx_main_v7 (ix2 b s) k)]
  rfl

theorem v14 (b : Fin 2) (s : Fin 4096) (k : Fin 2048) : val_main_v14 (F := Ideal) X (ix3 b s k)
    = Ideal.rsqrt (Ideal.div (∑ k : Fin 2048, X (ix3 b s k) * X (ix3 b s k)) (Ideal.ofBits .f32 0x45000000#32) + Ideal.ofBits .f32 0x358637BD#32) := by
  rw [val_main_v14_apply, val_main_v13_apply, val_main_v12_apply, val_main_v10_apply, val_main_v8_apply, val_main_v9_apply, val_main_v11_apply,
    val_main_cst_0_apply, val_main_cst_1_apply, eq_ix2 (idx_main_v8 (idx_main_v14 (ix3 b s k)))]
  rw [show ix2 (idx_main_v8 (idx_main_v14 (ix3 b s k)) 0) (idx_main_v8 (idx_main_v14 (ix3 b s k)) 1) = ix2 b s from rfl, v7]
  rfl

theorem v17 (b : Fin 2) (s : Fin 4096) (k : Fin 2048) : val_main_v17 (F := Ideal) G (ix3 b s k) = G (ix1 k) := by
  rw [val_main_v17_apply, val_main_v16_apply, eq_ix1 (idx_main_v16 (idx_main_v17 (ix3 b s k)))]
  rfl

theorem v23 (b : Fin 2) (s : Fin 4096) (k : Fin 2048) : val_main_v23 (F := Ideal) M (ix3 b s k) = M (ix3 0 ⟨b.val, by omega⟩ k) := by
  rw [val_main_v23_apply, val_main_v2_apply, val_main_v1_apply, val_main_v0_apply]
  refine congrArg M (funext fun a => Fin.ext ?_)
  match a with
  | ⟨0, _⟩ => rfl
  | ⟨1, _⟩ => show (b.val * 2048 + k.val) / 2048 % 2 = b.val; omega
  | ⟨2, _⟩ => show (b.val * 2048 + k.val) % 2048 = k.val; omega

theorem v21 (b : Fin 2) (s : Fin 4096) (k : Fin 2048) : val_main_v21 (F := Ideal) M (ix3 b s k) = 1 + M (ix3 1 ⟨b.val, by omega⟩ k) := by
  rw [val_main_v21_apply, val_main_v20_apply, val_main_v19_apply, val_main_cst_2_apply, val_main_v5_apply, val_main_v4_apply, val_main_v3_apply]
  refine congrArg₂ (fun p q : EReal => p + q) (by first | rfl | exact Ideal.ofBits_one_f32) (congrArg M (funext fun a => Fin.ext ?_))
  match a with
  | ⟨0, _⟩ => rfl
  | ⟨1, _⟩ => show (b.val * 2048 + k.val) / 2048 % 2 = b.val; omega
  | ⟨2, _⟩ => show (b.val * 2048 + k.val) % 2048 = k.val; omega

theorem v24 (b : Fin 2) (s : Fin 4096) (k : Fin 2048) : val_main_v24 (F := Ideal) X M G (ix3 b s k) = hid X M G b s k := by
  rw [val_main_v24_apply, val_main_v22_apply, val_main_v18_apply, val_main_v15_apply, v14, v17, v21, v23]
  rfl

theorem v25 (b : Fin 2) (s : Fin 4096) (n : Fin 10240) : val_main_v25 (F := Ideal) X M G W (ix3 b s n) = dot X M G W b s n := by
  rw [val_main_v25_apply]
  refine Finset.sum_congr rfl fun k _ => ?_
  rw [eq_ix3 (lidx_main_v25 (ix3 b s n) k), eq_ix2 (ridx_main_v25 (ix3 b s n) k)]
  exact congrArg (fun p : EReal => p * W (ix2 k n)) (v24 X M G b s k)

/-! ## The columns -/

theorem v26 (b : Fin 2) (s : Fin 4096) (n : Fin 1024) : val_main_v26 (F := Ideal) X M G W (ix3 b s n) = part X M G W 0 (by decide) b s n := by
  rw [val_main_v26_apply, eq_ix3 (idx_main_v26 (ix3 b s n))]
  refine (v25 X M G W _ _ _).trans (congrArg (dot X M G W b s) (Fin.ext ?_))
  show n.val = 0 + n.val
  omega

theorem v27 (b : Fin 2) (s : Fin 4096) (n : Fin 1024) : val_main_v27 (F := Ideal) X M G W (ix3 b s n) = part X M G W 1024 (by decide) b s n := by
  rw [val_main_v27_apply, eq_ix3 (idx_main_v27 (ix3 b s n))]
  refine (v25 X M G W _ _ _).trans (congrArg (dot X M G W b s) (Fin.ext ?_))
  show 1024 + n.val = 1024 + n.val
  omega

theorem v28 (b : Fin 2) (s : Fin 4096) (n : Fin 1024) : val_main_v28 (F := Ideal) X M G W (ix3 b s n) = part X M G W 2048 (by decide) b s n := by
  rw [val_main_v28_apply, eq_ix3 (idx_main_v28 (ix3 b s n))]
  refine (v25 X M G W _ _ _).trans (congrArg (dot X M G W b s) (Fin.ext ?_))
  show 2048 + n.val = 2048 + n.val
  omega

theorem v29 (b : Fin 2) (s : Fin 4096) (n : Fin 1024) : val_main_v29 (F := Ideal) X M G W (ix3 b s n) = part X M G W 3072 (by decide) b s n := by
  rw [val_main_v29_apply, eq_ix3 (idx_main_v29 (ix3 b s n))]
  refine (v25 X M G W _ _ _).trans (congrArg (dot X M G W b s) (Fin.ext ?_))
  show 3072 + n.val = 3072 + n.val
  omega

theorem v30 (b : Fin 2) (s : Fin 4096) (n : Fin 1024) : val_main_v30 (F := Ideal) X M G W (ix3 b s n) = part X M G W 4096 (by decide) b s n := by
  rw [val_main_v30_apply, eq_ix3 (idx_main_v30 (ix3 b s n))]
  refine (v25 X M G W _ _ _).trans (congrArg (dot X M G W b s) (Fin.ext ?_))
  show 4096 + n.val = 4096 + n.val
  omega

theorem v31 (b : Fin 2) (s : Fin 4096) (n : Fin 1024) : val_main_v31 (F := Ideal) X M G W (ix3 b s n) = part X M G W 5120 (by decide) b s n := by
  rw [val_main_v31_apply, eq_ix3 (idx_main_v31 (ix3 b s n))]
  refine (v25 X M G W _ _ _).trans (congrArg (dot X M G W b s) (Fin.ext ?_))
  show 5120 + n.val = 5120 + n.val
  omega

theorem v32 (b : Fin 2) (s : Fin 4096) (n : Fin 2048) : val_main_v32 (F := Ideal) X M G W (ix3 b s n) = dot X M G W b s ⟨6144 + n.val, by omega⟩ := by
  rw [val_main_v32_apply, eq_ix3 (idx_main_v32 (ix3 b s n))]
  refine (v25 X M G W _ _ _).trans (congrArg (dot X M G W b s) (Fin.ext ?_))
  show 6144 + n.val = 6144 + n.val
  omega

theorem v33 (b : Fin 2) (s : Fin 4096) (n : Fin 2048) : val_main_v33 (F := Ideal) X M G W (ix3 b s n) = dot X M G W b s ⟨8192 + n.val, by omega⟩ := by
  rw [val_main_v33_apply, eq_ix3 (idx_main_v33 (ix3 b s n))]
  refine (v25 X M G W _ _ _).trans (congrArg (dot X M G W b s) (Fin.ext ?_))
  show 8192 + n.val = 8192 + n.val
  omega

/-! ## The heads -/

theorem v34 (b : Fin 2) (s : Fin 4096) (h : Fin 8) (l : Fin 128) : val_main_v34 (F := Ideal) X M G W (ix4 b s h l)
    = part X M G W 3072 (by decide) b s ⟨128 * h.val + l.val, by omega⟩ := by
  rw [val_main_v34_apply, ← v29]
  refine congrArg (val_main_v29 (F := Ideal) X M G W) (funext fun a => Fin.ext ?_)
  match a with
  | ⟨0, _⟩ => show (((b.val * 4096 + s.val) * 8 + h.val) * 128 + l.val) / 4194304 = b.val; omega
  | ⟨1, _⟩ => show (((b.val * 4096 + s.val) * 8 + h.val) * 128 + l.val) / 1024 % 4096 = s.val; omega
  | ⟨2, _⟩ => show (((b.val * 4096 + s.val) * 8 + h.val) * 128 + l.val) % 1024 = 128 * h.val + l.val; omega

theorem v36 (b : Fin 2) (s : Fin 4096) (h : Fin 8) : val_main_v36 (F := Ideal) X M G W (ix3 b s h)
    = ∑ l : Fin 128, part X M G W 3072 (by decide) b s ⟨128 * h.val + l.val, by omega⟩ * part X M G W 3072 (by decide) b s ⟨128 * h.val + l.val, by omega⟩ := by
  rw [val_main_v36_apply, val_main_cst_3_apply, show FloatOps.ofBits (F := Ideal) .f32 0x00000000#32 = (0 : EReal) from Ideal.ofBits_zero_f32, zero_add]
  refine Finset.sum_congr rfl fun l _ => ?_
  rw [val_main_v35_apply, eq_ix4 (idx_main_v36 (ix3 b s h) l), ← v34]
  rfl

theorem v43 (b : Fin 2) (s : Fin 4096) (h : Fin 8) (l : Fin 128) : val_main_v43 (F := Ideal) X M G W (ix4 b s h l)
    = Ideal.rsqrt (Ideal.div (∑ l : Fin 128, part X M G W 3072 (by decide) b s ⟨128 * h.val + l.val, by omega⟩ * part X M G W 3072 (by decide) b s ⟨128 * h.val + l.val, by omega⟩)
        (Ideal.ofBits .f32 0x43000000#32) + Ideal.ofBits .f32 0x358637BD#32) := by
  rw [val_main_v43_apply, val_main_v42_apply, val_main_v41_apply, val_main_v39_apply, val_main_v37_apply, val_main_v38_apply, val_main_v40_apply,
    val_main_cst_4_apply, val_main_cst_5_apply, eq_ix3 (idx_main_v37 (idx_main_v43 (ix4 b s h l)))]
  rw [show ix3 (idx_main_v37 (idx_main_v43 (ix4 b s h l)) 0) (idx_main_v37 (idx_main_v43 (ix4 b s h l)) 1) (idx_main_v37 (idx_main_v43 (ix4 b s h l)) 2) = ix3 b s h from rfl, v36]
  rfl

theorem v46 (b : Fin 2) (s : Fin 4096) (h : Fin 8) (l : Fin 128) : val_main_v46 (F := Ideal) Q (ix4 b s h l) = Q (ix2 h l) := by
  rw [val_main_v46_apply, val_main_v45_apply, eq_ix2 (idx_main_v45 (idx_main_v46 (ix4 b s h l)))]
  rfl

theorem v48 (b : Fin 2) (s : Fin 4096) (n : Fin 1024) : val_main_v48 (F := Ideal) X M G W Q (ix3 b s n) = normed X M G W 3072 (by decide) Q b s n := by
  have e : idx_main_v48 (ix3 b s n) = ix4 b s (headOf n) (laneOf n) := by
    funext a
    apply Fin.ext
    match a with
    | ⟨0, _⟩ => show ((b.val * 4096 + s.val) * 1024 + n.val) / 4194304 = b.val; omega
    | ⟨1, _⟩ => show ((b.val * 4096 + s.val) * 1024 + n.val) / 1024 % 4096 = s.val; omega
    | ⟨2, _⟩ => show ((b.val * 4096 + s.val) * 1024 + n.val) / 128 % 8 = n.val / 128; omega
    | ⟨3, _⟩ => show ((b.val * 4096 + s.val) * 1024 + n.val) % 128 = n.val % 128; omega
  rw [val_main_v48_apply, e, val_main_v47_apply, val_main_v44_apply, v34, v43, v46]
  rfl

theorem v49 (b : Fin 2) (s : Fin 4096) (h : Fin 8) (l : Fin 128) : val_main_v49 (F := Ideal) X M G W (ix4 b s h l)
    = part X M G W 4096 (by decide) b s ⟨128 * h.val + l.val, by omega⟩ := by
  rw [val_main_v49_apply, ← v30]
  refine congrArg (val_main_v30 (F := Ideal) X M G W) (funext fun a => Fin.ext ?_)
  match a with
  | ⟨0, _⟩ => show (((b.val * 4096 + s.val) * 8 + h.val) * 128 + l.val) / 4194304 = b.val; omega
  | ⟨1, _⟩ => show (((b.val * 4096 + s.val) * 8 + h.val) * 128 + l.val) / 1024 % 4096 = s.val; omega
  | ⟨2, _⟩ => show (((b.val * 4096 + s.val) * 8 + h.val) * 128 + l.val) % 1024 = 128 * h.val + l.val; omega

theorem v51 (b : Fin 2) (s : Fin 4096) (h : Fin 8) : val_main_v51 (F := Ideal) X M G W (ix3 b s h)
    = ∑ l : Fin 128, part X M G W 4096 (by decide) b s ⟨128 * h.val + l.val, by omega⟩ * part X M G W 4096 (by decide) b s ⟨128 * h.val + l.val, by omega⟩ := by
  rw [val_main_v51_apply, val_main_cst_6_apply, show FloatOps.ofBits (F := Ideal) .f32 0x00000000#32 = (0 : EReal) from Ideal.ofBits_zero_f32, zero_add]
  refine Finset.sum_congr rfl fun l _ => ?_
  rw [val_main_v50_apply, eq_ix4 (idx_main_v51 (ix3 b s h) l), ← v49]
  rfl

theorem v58 (b : Fin 2) (s : Fin 4096) (h : Fin 8) (l : Fin 128) : val_main_v58 (F := Ideal) X M G W (ix4 b s h l)
    = Ideal.rsqrt (Ideal.div (∑ l : Fin 128, part X M G W 4096 (by decide) b s ⟨128 * h.val + l.val, by omega⟩ * part X M G W 4096 (by decide) b s ⟨128 * h.val + l.val, by omega⟩)
        (Ideal.ofBits .f32 0x43000000#32) + Ideal.ofBits .f32 0x358637BD#32) := by
  rw [val_main_v58_apply, val_main_v57_apply, val_main_v56_apply, val_main_v54_apply, val_main_v52_apply, val_main_v53_apply, val_main_v55_apply,
    val_main_cst_7_apply, val_main_cst_8_apply, eq_ix3 (idx_main_v52 (idx_main_v58 (ix4 b s h l)))]
  rw [show ix3 (idx_main_v52 (idx_main_v58 (ix4 b s h l)) 0) (idx_main_v52 (idx_main_v58 (ix4 b s h l)) 1) (idx_main_v52 (idx_main_v58 (ix4 b s h l)) 2) = ix3 b s h from rfl, v51]
  rfl

theorem v61 (b : Fin 2) (s : Fin 4096) (h : Fin 8) (l : Fin 128) : val_main_v61 (F := Ideal) K (ix4 b s h l) = K (ix2 h l) := by
  rw [val_main_v61_apply, val_main_v60_apply, eq_ix2 (idx_main_v60 (idx_main_v61 (ix4 b s h l)))]
  rfl

theorem v63 (b : Fin 2) (s : Fin 4096) (n : Fin 1024) : val_main_v63 (F := Ideal) X M G W K (ix3 b s n) = normed X M G W 4096 (by decide) K b s n := by
  have e : idx_main_v63 (ix3 b s n) = ix4 b s (headOf n) (laneOf n) := by
    funext a
    apply Fin.ext
    match a with
    | ⟨0, _⟩ => show ((b.val * 4096 + s.val) * 1024 + n.val) / 4194304 = b.val; omega
    | ⟨1, _⟩ => show ((b.val * 4096 + s.val) * 1024 + n.val) / 1024 % 4096 = s.val; omega
    | ⟨2, _⟩ => show ((b.val * 4096 + s.val) * 1024 + n.val) / 128 % 8 = n.val / 128; omega
    | ⟨3, _⟩ => show ((b.val * 4096 + s.val) * 1024 + n.val) % 128 = n.val % 128; omega
  rw [val_main_v63_apply, e, val_main_v62_apply, val_main_v59_apply, v49, v58, v61]
  rfl

/-! ## The results -/

theorem v65 (b : Fin 2) (s : Fin 4096) (n : Fin 1024) : val_main_v65 (F := Ideal) X M G W (ix3 b s n) = part X M G W 0 (by decide) b s n * scale := by
  rw [val_main_v65_apply, v26, val_main_v64_apply, val_main_cst_9_apply]
  rfl

theorem v67 (b : Fin 2) (s : Fin 4096) (n : Fin 1024) : val_main_v67 (F := Ideal) X M G W Q (ix3 b s n) = normed X M G W 3072 (by decide) Q b s n * scale := by
  rw [val_main_v67_apply, v48, val_main_v66_apply, val_main_cst_10_apply]
  rfl

theorem cat (a0 a1 a2 a3 a4 a5 : S2x4096x1024.Idx → EReal) (a6 a7 : S2x4096x2048.Idx → EReal) (h) (b : Fin 2) (s : Fin 4096) (n : Fin 10240) :
    concatenate S2x4096x10240 2 [⟨S2x4096x1024, a0⟩, ⟨S2x4096x1024, a1⟩, ⟨S2x4096x1024, a2⟩, ⟨S2x4096x1024, a3⟩, ⟨S2x4096x1024, a4⟩, ⟨S2x4096x1024, a5⟩, ⟨S2x4096x2048, a6⟩, ⟨S2x4096x2048, a7⟩] h (ix3 b s n)
      = if h : n.val < 1024 then a0 (ix3 b s ⟨n.val, h⟩)
        else if h : n.val - 1024 < 1024 then a1 (ix3 b s ⟨n.val - 1024, h⟩)
        else if h : n.val - 1024 - 1024 < 1024 then a2 (ix3 b s ⟨n.val - 1024 - 1024, h⟩)
        else if h : n.val - 1024 - 1024 - 1024 < 1024 then a3 (ix3 b s ⟨n.val - 1024 - 1024 - 1024, h⟩)
        else if h : n.val - 1024 - 1024 - 1024 - 1024 < 1024 then a4 (ix3 b s ⟨n.val - 1024 - 1024 - 1024 - 1024, h⟩)
        else if h : n.val - 1024 - 1024 - 1024 - 1024 - 1024 < 1024 then a5 (ix3 b s ⟨n.val - 1024 - 1024 - 1024 - 1024 - 1024, h⟩)
        else if h : n.val - 1024 - 1024 - 1024 - 1024 - 1024 - 1024 < 2048 then a6 (ix3 b s ⟨n.val - 1024 - 1024 - 1024 - 1024 - 1024 - 1024, h⟩)
        else a7 (ix3 b s ⟨n.val - 1024 - 1024 - 1024 - 1024 - 1024 - 1024 - 2048, by omega⟩) := by
  pointwise
  rfl

theorem v68 (b : Fin 2) (s : Fin 4096) (n : Fin 10240) : val_main_v68 (F := Ideal) X M G W Q K (ix3 b s n) = whole X M G W Q K b s n := by
  have hd : ∀ p q : Fin 10240, p.val = q.val → dot X M G W b s p = dot X M G W b s q := fun p q h => congrArg _ (Fin.ext h)
  unfold val_main_v68 whole
  rw [cat]
  split_ifs
  all_goals first
    | omega
    | (rw [v65]; exact congrArg (fun p : EReal => p * scale) (hd _ _ (by show 0 + n.val = n.val; omega)))
    | (rw [v67]; exact congrArg (fun q => normed X M G W 3072 (by decide) Q b s q * scale) (Fin.ext (by show n.val - 1024 - 1024 - 1024 = n.val - 3072; omega)))
    | (rw [v63]; exact congrArg (normed X M G W 4096 (by decide) K b s) (Fin.ext (by show n.val - 1024 - 1024 - 1024 - 1024 = n.val - 4096; omega)))
    | (rw [v27]; exact hd _ _ (by show 1024 + (n.val - 1024) = n.val; omega))
    | (rw [v28]; exact hd _ _ (by show 2048 + (n.val - 1024 - 1024) = n.val; omega))
    | (rw [v31]; exact hd _ _ (by show 5120 + (n.val - 1024 - 1024 - 1024 - 1024 - 1024) = n.val; omega))
    | (rw [v32]; exact hd _ _ (by show 6144 + (n.val - 1024 - 1024 - 1024 - 1024 - 1024 - 1024) = n.val; omega))
    | (rw [v33]; exact hd _ _ (by show 8192 + (n.val - 1024 - 1024 - 1024 - 1024 - 1024 - 1024 - 2048) = n.val; omega))

theorem v70 (r : Fin 8192) (n : Fin 10240) : val_main_v70 (F := Ideal) X M G W Q K (ix2 r n) = whole X M G W Q K (seqR r) (posR r) n := by
  rw [val_main_v70_apply, val_main_v69_apply, ← v68]
  refine congrArg (val_main_v68 (F := Ideal) X M G W Q K) (funext fun a => Fin.ext ?_)
  match a with
  | ⟨0, _⟩ => show (r.val * 10240 + n.val) / 41943040 = r.val / 4096; omega
  | ⟨1, _⟩ => show (r.val * 10240 + n.val) / 10240 % 4096 = r.val % 4096; omega
  | ⟨2, _⟩ => show (r.val * 10240 + n.val) % 10240 = n.val; omega

theorem v71 (r : Fin 8192) (n : Fin 1024) : val_main_v71 (F := Ideal) X M G W (ix2 r n) = part X M G W 1024 (by decide) (seqR r) (posR r) n := by
  rw [val_main_v71_apply, ← v27]
  refine congrArg (val_main_v27 (F := Ideal) X M G W) (funext fun a => Fin.ext ?_)
  match a with
  | ⟨0, _⟩ => show (r.val * 1024 + n.val) / 4194304 = r.val / 4096; omega
  | ⟨1, _⟩ => show (r.val * 1024 + n.val) / 1024 % 4096 = r.val % 4096; omega
  | ⟨2, _⟩ => show (r.val * 1024 + n.val) % 1024 = n.val; omega

theorem v72 (r : Fin 8192) (n : Fin 1024) : val_main_v72 (F := Ideal) X M G W (ix2 r n) = part X M G W 2048 (by decide) (seqR r) (posR r) n := by
  rw [val_main_v72_apply, ← v28]
  refine congrArg (val_main_v28 (F := Ideal) X M G W) (funext fun a => Fin.ext ?_)
  match a with
  | ⟨0, _⟩ => show (r.val * 1024 + n.val) / 4194304 = r.val / 4096; omega
  | ⟨1, _⟩ => show (r.val * 1024 + n.val) / 1024 % 4096 = r.val % 4096; omega
  | ⟨2, _⟩ => show (r.val * 1024 + n.val) % 1024 = n.val; omega

theorem v73 (r : Fin 8192) (n : Fin 1024) : val_main_v73 (F := Ideal) X M G W K (ix2 r n) = normed X M G W 4096 (by decide) K (seqR r) (posR r) n := by
  rw [val_main_v73_apply, ← v63]
  refine congrArg (val_main_v63 (F := Ideal) X M G W K) (funext fun a => Fin.ext ?_)
  match a with
  | ⟨0, _⟩ => show (r.val * 1024 + n.val) / 4194304 = r.val / 4096; omega
  | ⟨1, _⟩ => show (r.val * 1024 + n.val) / 1024 % 4096 = r.val % 4096; omega
  | ⟨2, _⟩ => show (r.val * 1024 + n.val) % 1024 = n.val; omega

theorem v74 (r : Fin 8192) (n : Fin 1024) : val_main_v74 (F := Ideal) X M G W (ix2 r n) = part X M G W 5120 (by decide) (seqR r) (posR r) n := by
  rw [val_main_v74_apply, ← v31]
  refine congrArg (val_main_v31 (F := Ideal) X M G W) (funext fun a => Fin.ext ?_)
  match a with
  | ⟨0, _⟩ => show (r.val * 1024 + n.val) / 4194304 = r.val / 4096; omega
  | ⟨1, _⟩ => show (r.val * 1024 + n.val) / 1024 % 4096 = r.val % 4096; omega
  | ⟨2, _⟩ => show (r.val * 1024 + n.val) % 1024 = n.val; omega

end Cert.ProjRefValue
-- ==== Proof.ProjValue.lean ====
/- The projection kernel's five arrays in closed form: block by block what the body leaves is the reference's closed form at
   the block's rows and columns. -/
module

public import proofs.«01_k».proof.Proof.ProjFrame
public import proofs.«01_k».proof.Proof.ProjHost
public import proofs.«01_k».proof.Proof.ProjPay
public import proofs.«01_k».proof.Proof.ProjRefValue
public import Idealize.ShloMosaic.Lib.Pipeline.Covers

@[expose] public section

set_option maxRecDepth 16384

noncomputable section

namespace Cert.ProjValue

open Idealize.ShloMosaic hiding ix1 ix2 ix3 ix4 eq_ix1 eq_ix2 eq_ix3 eq_ix4
open Idealize.ShloMosaic.ValueIdx Idealize.ShloMosaic.TcCoe Idealize.SL.Sem
open Cert.ProjIdeal Cert.ProjIdeal.Gen Cert.ProjIdeal.Hand Cert.ProjMath Cert.ProjRefValue

variable (m : (ℓ : Loc nD τ sig) → Buf (Elt Ideal) ℓ) (c : Dev nD)

abbrev X : S2x4096x2048.Idx → EReal := m ((c : Thread nD τ).loc main_arg0)
abbrev M : S6x40x2048.Idx → EReal := m ((c : Thread nD τ).loc main_arg1)
abbrev G : S2048.Idx → EReal := m ((c : Thread nD τ).loc main_arg2)
abbrev W : S2048x10240.Idx → EReal := m ((c : Thread nD τ).loc main_arg3)
abbrev Q : S8x128.Idx → EReal := m ((c : Thread nD τ).loc main_arg4)
abbrev K : S8x128.Idx → EReal := m ((c : Thread nD τ).loc main_arg5)

/-- Row `y` of a point's block among the 8192 rows. -/
def rowP (t : Fin cfg0.N) (y : Fin 512) : Fin 8192 := ⟨512 * (t.val / 20) + y.val, by have := lt_320 t; omega⟩

theorem modulated_congr {x x' g g' sc sc' sh sh' : Fin 2048 → EReal} (h : x = x') (h1 : g = g') (h2 : sc = sc') (h3 : sh = sh') (k : Fin 2048) :
    modulated x g sc sh k = modulated x' g' sc' sh' k := by rw [h, h1, h2, h3]

/-- The hidden rows of a point. -/
theorem hblk_apply (t : Fin cfg0.N) (y : Fin 512) (k : Fin 2048) :
    hblk m c t (ix2 y k) = hid (X m c) (M m c) (G m c) (seqR (rowP t y)) (posR (rowP t y)) k := by
  have hlt := lt_320 t
  refine (pay12 _ _ _ _ _ _).trans (modulated_congr ?_ ?_ ?_ ?_ k)
  · funext k
    refine (iblk_0 m c t _).trans ((V_v8 m c _ _ _).trans (congrArg (X m c) (funext fun a => Fin.ext ?_)))
    match a with
    | ⟨0, _⟩ => show (8 * (t.val / 20) + y.val / 64) / 64 = (512 * (t.val / 20) + y.val) / 4096; omega
    | ⟨1, _⟩ => show 64 * ((8 * (t.val / 20) + y.val / 64) % 64) + y.val % 64 = (512 * (t.val / 20) + y.val) % 4096; omega
    | ⟨2, _⟩ => rfl
  · funext k
    exact (iblk_1 m c t _).trans (V_v7 m c _)
  · funext k
    refine (iblk_2 m c t _).trans ((V_v3 m c _ _ _).trans (congrArg (M m c) (funext fun a => Fin.ext ?_)))
    match a with
    | ⟨0, _⟩ => rfl
    | ⟨1, _⟩ => show (8 * (t.val / 20) + y.val / 64) / 64 = (512 * (t.val / 20) + y.val) / 4096; omega
    | ⟨2, _⟩ => rfl
  · funext k
    refine (iblk_3 m c t _).trans ((V_v3 m c _ _ _).trans (congrArg (M m c) (funext fun a => Fin.ext ?_)))
    match a with
    | ⟨0, _⟩ => rfl
    | ⟨1, _⟩ => show (8 * (t.val / 20) + y.val / 64) / 64 = (512 * (t.val / 20) + y.val) / 4096; omega
    | ⟨2, _⟩ => rfl

/-- The block's accumulator. -/
theorem acc_apply (t : Fin cfg0.N) (y n : Fin 512) :
    acc m c t (ix2 y n) = dot (X m c) (M m c) (G m c) (W m c) (seqR (rowP t y)) (posR (rowP t y)) (colOf t n) := by
  refine (pay13 _ _ y n).trans (Finset.sum_congr rfl fun k _ => ?_)
  exact congrArg₂ (fun p q : EReal => p * q) (hblk_apply m c t y k) ((iblk_4 m c t _).trans (V_v4 m c _ _))

theorem rms_congr {n : ℕ} (len : BitVec 32) {v v' : Fin n → EReal} {k k' : Fin n} (h : v = v') (hk : k = k') : rms len v k = rms len v' k' := by rw [h, hk]

theorem dot_row {r r' : Fin 8192} {n n' : Fin 10240} (h : r = r') (hn : n.val = n'.val) :
    dot (X m c) (M m c) (G m c) (W m c) (seqR r) (posR r) n = dot (X m c) (M m c) (G m c) (W m c) (seqR r') (posR r') n' := by
  rw [h, Fin.ext hn]

/-- A block of the band's queries, its four heads normalised. -/
theorem normQ (t : Fin cfg0.N) (ht : t.val % 20 / 2 = 3) (y n : Fin 512) :
    kNormed (F := Ideal) (acc m c t) (iblk m c 5 t) (ix2 y n)
      = normed (X m c) (M m c) (G m c) (W m c) 3072 (by decide) (Q m c) (seqR (rowP t y)) (posR (rowP t y)) (gainOf 6 t n) := by
  refine (kNormed_apply _ _ y n).trans (congrArg₂ (fun p q : EReal => p * q) (rms_congr _ (funext fun l => ?_) (Fin.ext ?_)) ((iblk_5 m c t _).trans (V_v5 m c _)))
  · refine (acc_apply m c t y _).trans (dot_row m c rfl ?_)
    show 512 * (t.val % 20) + (128 * (n.val / 128) + l.val) = 3072 + (128 * ((512 * min (t.val % 20 - 6) 1 + n.val) / 128) + l.val)
    omega
  · show n.val % 128 = (512 * min (t.val % 20 - 6) 1 + n.val) % 128
    omega

/-- A block of the band's keys, its four heads normalised. -/
theorem normK (t : Fin cfg0.N) (ht : t.val % 20 / 2 = 4) (y n : Fin 512) :
    kNormed (F := Ideal) (acc m c t) (iblk m c 6 t) (ix2 y n)
      = normed (X m c) (M m c) (G m c) (W m c) 4096 (by decide) (K m c) (seqR (rowP t y)) (posR (rowP t y)) (gainOf 8 t n) := by
  refine (kNormed_apply _ _ y n).trans (congrArg₂ (fun p q : EReal => p * q) (rms_congr _ (funext fun l => ?_) (Fin.ext ?_)) ((iblk_6 m c t _).trans (V_v6 m c _)))
  · refine (acc_apply m c t y _).trans (dot_row m c rfl ?_)
    show 512 * (t.val % 20) + (128 * (n.val / 128) + l.val) = 4096 + (128 * ((512 * min (t.val % 20 - 8) 1 + n.val) / 128) + l.val)
    omega
  · show n.val % 128 = (512 * min (t.val % 20 - 8) 1 + n.val) % 128
    omega

/-- What a point leaves in its block of the whole projection. -/
theorem block7 (t : Fin cfg0.N) (y n : Fin 512) :
    left7 m c t (ix2 y n) = whole (X m c) (M m c) (G m c) (W m c) (Q m c) (K m c) (seqR (rowP t y)) (posR (rowP t y)) (colOf t n) := by
  have hc : (colOf t n).val = 512 * (t.val % 20) + n.val := rfl
  unfold left7 outAt whole
  by_cases h2 : k0_cond2 (grid0.coords t) = 1#1
  · rw [if_pos h2]
    have := (cond2_iff t).mp h2
    rw [if_pos (show (colOf t n).val < 1024 by omega)]
    exact (pay14 _ _ _).trans (congrArg (fun p : EReal => p * scale) (acc_apply m c t y n))
  rw [if_neg h2]
  have n2 : ¬ t.val % 20 / 2 = 0 := fun h => h2 ((cond2_iff t).mpr h)
  rw [if_neg (show ¬ (colOf t n).val < 1024 by omega)]
  by_cases h5 : k0_cond5 (grid0.coords t) = 1#1
  · rw [if_pos h5]
    have h := (cond5_iff t).mp h5
    rw [dif_pos (show 3072 ≤ (colOf t n).val ∧ (colOf t n).val < 4096 by omega)]
    refine (qNormed_apply _ _ _).trans (congrArg (fun p : EReal => p * scale) ((normQ m c t h y n).trans (congrArg _ (Fin.ext ?_))))
    show 512 * min (t.val % 20 - 6) 1 + n.val = 512 * (t.val % 20) + n.val - 3072
    omega
  rw [if_neg h5]
  have n5 : ¬ t.val % 20 / 2 = 3 := fun h => h5 ((cond5_iff t).mpr h)
  rw [dif_neg (show ¬ (3072 ≤ (colOf t n).val ∧ (colOf t n).val < 4096) by omega)]
  by_cases h6 : k0_cond6 (grid0.coords t) = 1#1
  · rw [if_pos h6]
    have h := (cond6_iff t).mp h6
    rw [dif_pos (show 4096 ≤ (colOf t n).val ∧ (colOf t n).val < 5120 by omega)]
    refine (kRounded_apply _ _ _).trans ((normK m c t h y n).trans (congrArg _ (Fin.ext ?_)))
    show 512 * min (t.val % 20 - 8) 1 + n.val = 512 * (t.val % 20) + n.val - 4096
    omega
  rw [if_neg h6]
  have n6 : ¬ t.val % 20 / 2 = 4 := fun h => h6 ((cond6_iff t).mpr h)
  rw [dif_neg (show ¬ (4096 ≤ (colOf t n).val ∧ (colOf t n).val < 5120) by omega)]
  exact (pay15 _ _ _).trans (acc_apply m c t y n)

theorem row_tk (lo : Fin 11) (t : Fin cfg0.N) (y : Fin 512) : rowP (tk lo t) y = rowP t y := Fin.ext (by
  have hlo := lo.isLt
  show 512 * ((20 * (t.val / 20) + max lo.val (min (t.val % 20) (lo.val + 1))) / 20) + y.val = 512 * (t.val / 20) + y.val
  omega)

theorem block8 (t : Fin cfg0.N) (ht : t.val % 20 = 2 ∨ t.val % 20 = 19) (y n : Fin 512) :
    left8 m c t (ix2 y n) = part (X m c) (M m c) (G m c) (W m c) 1024 (by decide) (seqR (rowP t y)) (posR (rowP t y)) (gainOf 2 t n) := by
  refine (acc_apply m c _ y n).trans (dot_row m c (row_tk _ t y) ?_)
  show 512 * ((20 * (t.val / 20) + max 2 (min (t.val % 20) (2 + 1))) % 20) + n.val = 1024 + (512 * min (t.val % 20 - 2) 1 + n.val)
  omega

theorem block9 (t : Fin cfg0.N) (ht : t.val % 20 = 4 ∨ t.val % 20 = 19) (y n : Fin 512) :
    left9 m c t (ix2 y n) = part (X m c) (M m c) (G m c) (W m c) 2048 (by decide) (seqR (rowP t y)) (posR (rowP t y)) (gainOf 4 t n) := by
  refine (acc_apply m c _ y n).trans (dot_row m c (row_tk _ t y) ?_)
  show 512 * ((20 * (t.val / 20) + max 4 (min (t.val % 20) (4 + 1))) % 20) + n.val = 2048 + (512 * min (t.val % 20 - 4) 1 + n.val)
  omega

theorem block11 (t : Fin cfg0.N) (ht : t.val % 20 = 10 ∨ t.val % 20 = 19) (y n : Fin 512) :
    left11 m c t (ix2 y n) = part (X m c) (M m c) (G m c) (W m c) 5120 (by decide) (seqR (rowP t y)) (posR (rowP t y)) (gainOf 10 t n) := by
  refine (acc_apply m c _ y n).trans (dot_row m c (row_tk _ t y) ?_)
  show 512 * ((20 * (t.val / 20) + max 10 (min (t.val % 20) (10 + 1))) % 20) + n.val = 5120 + (512 * min (t.val % 20 - 10) 1 + n.val)
  omega

theorem block10 (t : Fin cfg0.N) (ht : t.val % 20 = 8 ∨ t.val % 20 = 19) (y n : Fin 512) :
    left10 m c t (ix2 y n) = normed (X m c) (M m c) (G m c) (W m c) 4096 (by decide) (K m c) (seqR (rowP t y)) (posR (rowP t y)) (gainOf 8 t n) := by
  have hv : (tk 8 t).val = 20 * (t.val / 20) + max 8 (min (t.val % 20) (8 + 1)) := rfl
  refine (normK m c (tk 8 t) (by omega) y n).trans ?_
  rw [row_tk]
  refine congrArg _ (Fin.ext ?_)
  show 512 * min ((tk 8 t).val % 20 - 8) 1 + n.val = 512 * min (t.val % 20 - 8) 1 + n.val
  omega

/-! ## The arrays -/

theorem result7 : (dats m 0 c).arrAt 7 cfg0.N = fun i : S8192x10240.Idx => whole (X m c) (M m c) (G m c) (W m c) (Q m c) (K m c) (seqR (i 0)) (posR (i 0)) (i 1) := by
  refine (dats m 0 c).arrAt_eq_of_covers 7 _ (by decide +kernel) fun t hf y => ?_
  obtain ⟨r, n, rfl⟩ : ∃ (r n : Fin 512), y = (ix2 r n : S512x512.Idx) := ⟨y 0, y 1, eq_ix2 y⟩
  have e0 : (((cfg0.win 7).blk t).view.emb (ix2 r n : S512x512.Idx) : S8192x10240.Idx) = ix2 (rowP t r) (colOf t n) := by
    funext a
    apply Fin.ext
    match a with
    | ⟨0, _⟩ => show (cfg0.win 7).index t 0 * 512 + 1 * r.val = _; rw [index_7]; show t.val / 20 * 512 + 1 * r.val = 512 * (t.val / 20) + r.val; omega
    | ⟨1, _⟩ => show (cfg0.win 7).index t 1 * 512 + 1 * n.val = _; rw [index_7]; show t.val % 20 * 512 + 1 * n.val = 512 * (t.val % 20) + n.val; omega
  rw [e0]
  refine (congrFun (after0_7 m c t) _).trans (block7 m c t r n)

theorem result8 : (dats m 0 c).arrAt 8 cfg0.N = fun i : S8192x1024.Idx => part (X m c) (M m c) (G m c) (W m c) 1024 (by decide) (seqR (i 0)) (posR (i 0)) (i 1) := by
  refine (dats m 0 c).arrAt_eq_of_covers 8 _ (by decide +kernel) fun t hf y => ?_
  obtain ⟨r, n, rfl⟩ : ∃ (r n : Fin 512), y = (ix2 r n : S512x512.Idx) := ⟨y 0, y 1, eq_ix2 y⟩
  have e0 : (((cfg0.win 8).blk t).view.emb (ix2 r n : S512x512.Idx) : S8192x1024.Idx) = ix2 (rowP t r) (gainOf 2 t n) := by
    funext a
    apply Fin.ext
    match a with
    | ⟨0, _⟩ => show (cfg0.win 8).index t 0 * 512 + 1 * r.val = _; rw [index_8]; show t.val / 20 * 512 + 1 * r.val = 512 * (t.val / 20) + r.val; omega
    | ⟨1, _⟩ => show (cfg0.win 8).index t 1 * 512 + 1 * n.val = _; rw [index_8]; show min (t.val % 20 - 2) 1 * 512 + 1 * n.val = 512 * (min (t.val % 20 - 2) 1) + n.val; omega
  rw [e0]
  refine (congrFun (after0_8 m c t) _).trans (block8 m c t ((flush_8 t).mp hf) r n)

theorem result9 : (dats m 0 c).arrAt 9 cfg0.N = fun i : S8192x1024.Idx => part (X m c) (M m c) (G m c) (W m c) 2048 (by decide) (seqR (i 0)) (posR (i 0)) (i 1) := by
  refine (dats m 0 c).arrAt_eq_of_covers 9 _ (by decide +kernel) fun t hf y => ?_
  obtain ⟨r, n, rfl⟩ : ∃ (r n : Fin 512), y = (ix2 r n : S512x512.Idx) := ⟨y 0, y 1, eq_ix2 y⟩
  have e0 : (((cfg0.win 9).blk t).view.emb (ix2 r n : S512x512.Idx) : S8192x1024.Idx) = ix2 (rowP t r) (gainOf 4 t n) := by
    funext a
    apply Fin.ext
    match a with
    | ⟨0, _⟩ => show (cfg0.win 9).index t 0 * 512 + 1 * r.val = _; rw [index_9]; show t.val / 20 * 512 + 1 * r.val = 512 * (t.val / 20) + r.val; omega
    | ⟨1, _⟩ => show (cfg0.win 9).index t 1 * 512 + 1 * n.val = _; rw [index_9]; show min (t.val % 20 - 4) 1 * 512 + 1 * n.val = 512 * (min (t.val % 20 - 4) 1) + n.val; omega
  rw [e0]
  refine (congrFun (after0_9 m c t) _).trans (block9 m c t ((flush_9 t).mp hf) r n)

theorem result10 : (dats m 0 c).arrAt 10 cfg0.N = fun i : S8192x1024.Idx => normed (X m c) (M m c) (G m c) (W m c) 4096 (by decide) (K m c) (seqR (i 0)) (posR (i 0)) (i 1) := by
  refine (dats m 0 c).arrAt_eq_of_covers 10 _ (by decide +kernel) fun t hf y => ?_
  obtain ⟨r, n, rfl⟩ : ∃ (r n : Fin 512), y = (ix2 r n : S512x512.Idx) := ⟨y 0, y 1, eq_ix2 y⟩
  have e0 : (((cfg0.win 10).blk t).view.emb (ix2 r n : S512x512.Idx) : S8192x1024.Idx) = ix2 (rowP t r) (gainOf 8 t n) := by
    funext a
    apply Fin.ext
    match a with
    | ⟨0, _⟩ => show (cfg0.win 10).index t 0 * 512 + 1 * r.val = _; rw [index_10]; show t.val / 20 * 512 + 1 * r.val = 512 * (t.val / 20) + r.val; omega
    | ⟨1, _⟩ => show (cfg0.win 10).index t 1 * 512 + 1 * n.val = _; rw [index_10]; show min (t.val % 20 - 8) 1 * 512 + 1 * n.val = 512 * (min (t.val % 20 - 8) 1) + n.val; omega
  rw [e0]
  refine (congrFun (after0_10 m c t) _).trans (block10 m c t ((flush_10 t).mp hf) r n)

theorem result11 : (dats m 0 c).arrAt 11 cfg0.N = fun i : S8192x1024.Idx => part (X m c) (M m c) (G m c) (W m c) 5120 (by decide) (seqR (i 0)) (posR (i 0)) (i 1) := by
  refine (dats m 0 c).arrAt_eq_of_covers 11 _ (by decide +kernel) fun t hf y => ?_
  obtain ⟨r, n, rfl⟩ : ∃ (r n : Fin 512), y = (ix2 r n : S512x512.Idx) := ⟨y 0, y 1, eq_ix2 y⟩
  have e0 : (((cfg0.win 11).blk t).view.emb (ix2 r n : S512x512.Idx) : S8192x1024.Idx) = ix2 (rowP t r) (gainOf 10 t n) := by
    funext a
    apply Fin.ext
    match a with
    | ⟨0, _⟩ => show (cfg0.win 11).index t 0 * 512 + 1 * r.val = _; rw [index_11]; show t.val / 20 * 512 + 1 * r.val = 512 * (t.val / 20) + r.val; omega
    | ⟨1, _⟩ => show (cfg0.win 11).index t 1 * 512 + 1 * n.val = _; rw [index_11]; show min (t.val % 20 - 10) 1 * 512 + 1 * n.val = 512 * (min (t.val % 20 - 10) 1) + n.val; omega
  rw [e0]
  refine (congrFun (after0_11 m c t) _).trans (block11 m c t ((flush_11 t).mp hf) r n)

end Cert.ProjValue
-- ==== Proof.ProjClaims.lean ====
/- The claims about the projection kernel: its frames at both readings of the floats, its reference's frame, and the equality
   of the five results. -/
module

public import proofs.«01_k».proof.Defs
public import proofs.«01_k».proof.Proof.Gen.Proj.Launch
public import proofs.«01_k».proof.Proof.ProjValue
public import proofs.«01_k».proof.Proof.Gen.ProjRefIdeal.Run

@[expose] public section

set_option maxRecDepth 16384

noncomputable section

namespace Cert.ProjClaims

open Idealize.ShloMosaic Idealize.SL.Sem

/-- The kernel's program has the same body table at the bit-exact reading whether it is read as it is or as the ideal one. -/
theorem bodies_eq : Cert.Proj.defs₀ (F := Bits) = Cert.ProjIdeal.defs₀ (F := Bits) := by
  refine congrArg Defs.onTc (funext fun ℓ => funext fun a => ?_)
  match ℓ, a with
  | ⟨0, _⟩, (_, _) => rfl
  | ⟨n + 1, h⟩, _ => exact absurd h (Nat.not_lt.2 (Nat.le_add_left _ _))

theorem defs_eq : Cert.Proj.defs (F := Bits) = Cert.ProjIdeal.defs (F := Bits) :=
  congrArg (Pipeline.defs (Cert.ProjIdeal.pcfgs (F := Bits))) bodies_eq

theorem frame_bits : Cert.quiescent_Proj := by
  intro m ρ _
  rw [defs_eq]
  exact Cert.ProjIdeal.Hand.frame (F := Bits) m ρ

theorem frame_ideal : Cert.quiescent_ProjIdeal := fun m ρ _ => Cert.ProjIdeal.Hand.frame m ρ

theorem frame_ref : Cert.quiescent_ProjRefIdeal := fun m ρ _ =>
  (θ_run Cert.ProjRefIdeal.defs _ _).mono (fun r h => ⟨fun c => (h c).2.2.2.2.2,
      Idealize.ShloMosaic.sem_eq_zero_of_no_sems (by decide) r.2⟩)
    (Cert.ProjRefIdeal.Value.run (F := Ideal) m ρ)

open Cert.ProjValue Cert.ProjRefValue Cert.ProjRefIdeal.Read

/-- Cell by cell, both programs' five results are the closed forms of the arguments. -/
theorem algebraic : Cert.algebraic_ProjIdeal_ProjRefIdeal := fun m ρ m' ρ' _ hag => by
  refine ⟨fun c => fun i : Cert.ProjIdeal.S8192x10240.Idx => whole (X m c) (M m c) (G m c) (W m c) (Q m c) (K m c) (seqR (i 0)) (posR (i 0)) (i 1),
    fun c => fun i : Cert.ProjIdeal.S8192x1024.Idx => part (X m c) (M m c) (G m c) (W m c) 1024 (by decide) (seqR (i 0)) (posR (i 0)) (i 1),
    fun c => fun i : Cert.ProjIdeal.S8192x1024.Idx => part (X m c) (M m c) (G m c) (W m c) 2048 (by decide) (seqR (i 0)) (posR (i 0)) (i 1),
    fun c => fun i : Cert.ProjIdeal.S8192x1024.Idx => normed (X m c) (M m c) (G m c) (W m c) 4096 (by decide) (K m c) (seqR (i 0)) (posR (i 0)) (i 1),
    fun c => fun i : Cert.ProjIdeal.S8192x1024.Idx => part (X m c) (M m c) (G m c) (W m c) 5120 (by decide) (seqR (i 0)) (posR (i 0)) (i 1), ?_, ?_⟩
  · exact (θ_run Cert.ProjIdeal.defs _ _).mono (fun r hq c =>
        ⟨(hq.1 c).1.trans (result7 m c), (hq.1 c).2.1.trans (result8 m c), (hq.1 c).2.2.1.trans (result9 m c), (hq.1 c).2.2.2.1.trans (result10 m c),
          (hq.1 c).2.2.2.2.1.trans (result11 m c), (hq.1 c).2.2.2.2.2⟩)
      (Cert.ProjIdeal.Hand.run_values m ρ)
  · refine (θ_run Cert.ProjRefIdeal.defs _ _).mono (fun r hq c => ?_) (Cert.ProjRefIdeal.Value.run (F := Ideal) m' ρ')
    obtain ⟨a0, a1, a2, a3, a4, a5⟩ := hag c
    have hi : ∀ {w : ℕ} (i : (⟨2, ![8192, w]⟩ : Shape).Idx), ∃ (r : Fin 8192) (n : Fin w), i = ValueIdx.ix2 r n := fun i => ⟨i 0, i 1, ValueIdx.eq_ix2 i⟩
    refine ⟨(hq c).1.trans ?_, (hq c).2.1.trans ?_, (hq c).2.2.1.trans ?_, (hq c).2.2.2.1.trans ?_, (hq c).2.2.2.2.1.trans ?_, (hq c).2.2.2.2.2⟩
    · rw [val_main_v70_eq, a0, a1, a2, a3, a4, a5]
      funext i
      obtain ⟨r, n, rfl⟩ := hi i
      exact v70 _ _ _ _ _ _ r n
    · refine (val_main_v71_eq _ _ _ _).trans ?_
      rw [a0, a1, a2, a3]
      funext i
      obtain ⟨r, n, rfl⟩ := hi i
      exact v71 _ _ _ _ r n
    · refine (val_main_v72_eq _ _ _ _).trans ?_
      rw [a0, a1, a2, a3]
      funext i
      obtain ⟨r, n, rfl⟩ := hi i
      exact v72 _ _ _ _ r n
    · rw [val_main_v73_eq, a0, a1, a2, a3, a5]
      funext i
      obtain ⟨r, n, rfl⟩ := hi i
      exact v73 _ _ _ _ _ r n
    · refine (val_main_v74_eq _ _ _ _).trans ?_
      rw [a0, a1, a2, a3]
      funext i
      obtain ⟨r, n, rfl⟩ := hi i
      exact v74 _ _ _ _ r n

end Cert.ProjClaims
-- ==== Proof.AdaCall.lean ====
/- The modulation kernel: each of its twelve blocks is the reference's closed form at the block's modulation and columns, and
   with it the claims about the kernel and its reference. -/
module

public import proofs.«01_k».proof.Defs
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pointwise
public import Idealize.ShloMosaic.Lib.Pipeline.Covers

@[expose] public section

set_option maxRecDepth 16384

noncomputable section

namespace Cert.AdaRefValue

open Idealize.ShloMosaic hiding ix1 ix2 ix3 ix4 eq_ix1 eq_ix2 eq_ix3 eq_ix4
open Idealize.ShloMosaic.ValueIdx Idealize.ShloMosaic.TcCoe Idealize.SL.Sem

open Cert.AdaRefIdeal Cert.AdaRefIdeal.Gen Cert.AdaRefIdeal.Read

/-- Modulation `a` of a row: the row gated by its own logistic, times the modulation's columns of the weights, plus their bias. -/
def ada (C : S40x2048.Idx → EReal) (W : S2048x12288.Idx → EReal) (B : S12288.Idx → EReal) (a : Fin 6) (r : Fin 40) (n : Fin 2048) : EReal :=
  (∑ k : Fin 2048, C (ix2 r k) * Ideal.div 1 (1 + Ideal.exp (-C (ix2 r k))) * W (ix2 k ⟨2048 * a.val + n.val, by omega⟩))
    + B (ix1 ⟨2048 * a.val + n.val, by omega⟩)

variable (C : S40x2048.Idx → EReal) (W : S2048x12288.Idx → EReal) (B : S12288.Idx → EReal)

theorem v0 (i : S40x2048.Idx) : val_main_v0 (F := Ideal) C i = C i * Ideal.div 1 (1 + Ideal.exp (-C i)) := by
  have c1 : val_main_call0_v2 (F := Ideal) i = (1 : EReal) := by
    rw [val_main_call0_v2_apply]; exact Ideal.ofBits_one_f32
  have c2 : val_main_call0_v4 (F := Ideal) i = (1 : EReal) := by
    rw [val_main_call0_v4_apply]; exact Ideal.ofBits_one_f32
  rw [val_main_v0_apply, val_main_call0_v5_apply, val_main_call0_v3_apply, val_main_call0_v1_apply, val_main_call0_v0_apply, c1, c2]
  rfl

theorem result (a : Fin 6) (r : Fin 40) (n : Fin 2048) : val_main_v6 (F := Ideal) C W B (ix3 a r n) = ada C W B a r n := by
  have e : idx_main_v5 (idx_main_v6 (ix3 a r n)) = ix2 r ⟨2048 * a.val + n.val, by omega⟩ := by
    funext d
    apply Fin.ext
    match d with
    | ⟨0, _⟩ => show ((r.val * 6 + a.val) * 2048 + n.val) / 12288 = r.val; omega
    | ⟨1, _⟩ => show ((r.val * 6 + a.val) * 2048 + n.val) % 12288 = 2048 * a.val + n.val; omega
  rw [val_main_v6_apply, val_main_v5_apply, e, val_main_v4_apply, val_main_v1_apply, val_main_v3_apply, val_main_v2_apply]
  refine congrArg₂ (fun p q : EReal => p + q) (Finset.sum_congr rfl fun k _ => congrArg₂ (fun p q : EReal => p * q) ((v0 C _).trans ?_) (congrArg W ?_)) (congrArg B ?_)
  · rw [show lidx_main_v1 (ix2 r ⟨2048 * a.val + n.val, by omega⟩) k = ix2 r k from by funext d; match d with | ⟨0, _⟩ => rfl | ⟨1, _⟩ => rfl]
  · funext d; match d with | ⟨0, _⟩ => rfl | ⟨1, _⟩ => rfl
  · funext d; match d with | ⟨0, _⟩ => rfl

end Cert.AdaRefValue

namespace Cert.AdaValue

open Idealize.ShloMosaic hiding ix1 ix2 ix3 ix4 eq_ix1 eq_ix2 eq_ix3 eq_ix4
open Idealize.ShloMosaic.ValueIdx Idealize.ShloMosaic.TcCoe Idealize.SL.Sem

open Cert.AdaIdeal Cert.AdaIdeal.Gen Cert.AdaRefValue

theorem pay (x : Vec Ideal S40x2048 .f32) (w : Vec Ideal S2048x1024 .f32) (b : Vec Ideal S1x1024 .f32) (r : Fin 40) (n : Fin 1024) :
    k0_pay1 (F := Ideal) x w b (ix3 0 r n)
      = (∑ k : Fin 2048, x (ix2 r k) * Ideal.div 1 (1 + Ideal.exp (-x (ix2 r k))) * w (ix2 k n)) + b (ix2 0 n) := by
  unfold k0_pay1
  pointwise
  simp only [zero_sub]
  rfl

theorem left_eq (x : Vec Ideal S40x2048 .f32) (w : Vec Ideal S2048x1024 .f32) (b : Vec Ideal S1x1024 .f32) :
    out0_3 (F := Ideal) x w b = k0_pay1 (F := Ideal) x w b := by
  unfold out0_3
  rw [View.canon_cons_unit_lit _ _ _ (by decide), View.ld_unit_lit _ _ (by decide), View.ld_unit_lit _ _ (by decide), View.ld_unit_lit _ _ (by decide)]

variable (m : (ℓ : Loc nD τ sig) → Buf (Elt Ideal) ℓ) (c : Dev nD)

abbrev C : S40x2048.Idx → EReal := m ((c : Thread nD τ).loc main_arg0)
abbrev W : S2048x12288.Idx → EReal := m ((c : Thread nD τ).loc main_arg1)
abbrev B : S12288.Idx → EReal := m ((c : Thread nD τ).loc main_arg2)

theorem index_0 : ∀ t : Fin cfg0.N, (cfg0.win 0).index t = ![0, 0] := by decide +kernel
theorem index_1 : ∀ t : Fin cfg0.N, (cfg0.win 1).index t = ![0, t.val] := by decide +kernel
theorem index_2 : ∀ t : Fin cfg0.N, (cfg0.win 2).index t = ![0, t.val] := by decide +kernel
theorem index_3 : ∀ t : Fin cfg0.N, (cfg0.win 3).index t = ![t.val / 2, 0, t.val % 2] := by decide +kernel

theorem lt_12 (t : Fin cfg0.N) : t.val < 12 := lt_of_lt_of_eq t.isLt (show cfg0.N = 12 by decide)

theorem iblk_0 (t : Fin cfg0.N) (r : Fin 40) (k : Fin 2048) : iblk m c 0 t (ix2 r k : S40x2048.Idx) = C m c (ix2 r k) := by
  refine (congrArg (V m c main_arg0) (funext fun a => Fin.ext ?_)).trans (congrFun (V_main_arg0 m c) _)
  match a with
  | ⟨0, _⟩ => show (cfg0.win 0).index t 0 * 40 + 1 * r.val = r.val; rw [index_0]; show 0 * 40 + 1 * r.val = r.val; omega
  | ⟨1, _⟩ => show (cfg0.win 0).index t 1 * 2048 + 1 * k.val = k.val; rw [index_0]; show 0 * 2048 + 1 * k.val = k.val; omega

theorem iblk_1 (t : Fin cfg0.N) (k : Fin 2048) (n : Fin 1024) :
    iblk m c 1 t (ix2 k n : S2048x1024.Idx) = W m c (ix2 k ⟨1024 * t.val + n.val, by have := lt_12 t; omega⟩) := by
  refine (congrArg (V m c main_arg1) (funext fun a => Fin.ext ?_)).trans (congrFun (V_main_arg1 m c) _)
  match a with
  | ⟨0, _⟩ => show (cfg0.win 1).index t 0 * 2048 + 1 * k.val = k.val; rw [index_1]; show 0 * 2048 + 1 * k.val = k.val; omega
  | ⟨1, _⟩ => show (cfg0.win 1).index t 1 * 1024 + 1 * n.val = 1024 * t.val + n.val; rw [index_1]; show t.val * 1024 + 1 * n.val = 1024 * t.val + n.val; omega

theorem cast0 (x : (⟨S12288, .f32⟩ : BufTy).Contents (Elt Ideal)) (n : Fin 12288) :
    shapeCast S1x12288 x shapeCasts_S12288_S1x12288 (ix2 0 n) = x (ix1 n) := by
  refine shapeCast_apply _ _ _ _ ?_
  rewrite [Shape.rowMajor_val_one, Shape.rowMajor_val_two]
  show n.val = 0 * 12288 + n.val
  omega

theorem V_v0 (n : Fin 12288) : V m c main_v0 (ix2 0 n : S1x12288.Idx) = B m c (ix1 n) := by
  have e : V m c main_v0 = shapeCast S1x12288 (m ((c : Thread nD τ).loc main_arg2)) shapeCasts_S12288_S1x12288 := by
    unfold V
    after_results
    rfl
  rw [e]
  exact cast0 _ n

theorem iblk_2 (t : Fin cfg0.N) (n : Fin 1024) :
    iblk m c 2 t (ix2 0 n : S1x1024.Idx) = B m c (ix1 ⟨1024 * t.val + n.val, by have := lt_12 t; omega⟩) := by
  refine (congrArg (V m c main_v0) (funext fun a => Fin.ext ?_)).trans (V_v0 m c _)
  match a with
  | ⟨0, _⟩ => show (cfg0.win 2).index t 0 * 1 + 1 * 0 = 0; rw [index_2]; rfl
  | ⟨1, _⟩ => show (cfg0.win 2).index t 1 * 1024 + 1 * n.val = 1024 * t.val + n.val; rw [index_2]; show t.val * 1024 + 1 * n.val = 1024 * t.val + n.val; omega

/-- What a point leaves in its block. -/
theorem block (t : Fin cfg0.N) (r : Fin 40) (n : Fin 1024) :
    out0_3 (F := Ideal) (iblk m c 0 t) (iblk m c 1 t) (iblk m c 2 t) (ix3 0 r n)
      = ada (C m c) (W m c) (B m c) ⟨t.val / 2, by have := lt_12 t; omega⟩ r ⟨1024 * (t.val % 2) + n.val, by omega⟩ := by
  have hn : ∀ h h', (⟨1024 * t.val + n.val, h⟩ : Fin 12288) = ⟨2048 * (t.val / 2) + (1024 * (t.val % 2) + n.val), h'⟩ := fun _ _ => Fin.ext (by
    show 1024 * t.val + n.val = 2048 * (t.val / 2) + (1024 * (t.val % 2) + n.val); omega)
  refine (congrFun (left_eq _ _ _) _).trans ((pay _ _ _ r n).trans ?_)
  refine congrArg₂ (fun p q : EReal => p + q) (Finset.sum_congr rfl fun k _ => ?_) ((iblk_2 m c t n).trans (congrArg (fun x => B m c (ix1 x)) (hn _ _)))
  refine congrArg₂ (fun p q : EReal => p * q) ?_ ((iblk_1 m c t k n).trans (congrArg (fun x => W m c (ix2 k x)) (hn _ _)))
  exact congrArg (fun p : EReal => p * Ideal.div 1 (1 + Ideal.exp (-p))) (iblk_0 m c t r k)

theorem result : (dats m 0 c).arrAt 3 cfg0.N = fun i : S6x40x2048.Idx => ada (C m c) (W m c) (B m c) (i 0) (i 1) (i 2) := by
  refine (dats m 0 c).arrAt_eq_of_covers 3 _ (by decide +kernel) fun t hf y => ?_
  have hlt := lt_12 t
  obtain ⟨z, r, n, rfl⟩ : ∃ (z : Fin 1) (r : Fin 40) (n : Fin 1024), y = (ix3 z r n : S1x40x1024.Idx) := ⟨y 0, y 1, y 2, eq_ix3 y⟩
  obtain rfl : z = 0 := Subsingleton.elim _ _
  have e0 : (((cfg0.win 3).blk t).view.emb (ix3 0 r n : S1x40x1024.Idx) : S6x40x2048.Idx)
      = ix3 ⟨t.val / 2, by omega⟩ r ⟨1024 * (t.val % 2) + n.val, by omega⟩ := by
    funext a
    apply Fin.ext
    match a with
    | ⟨0, _⟩ => show (cfg0.win 3).index t 0 * 1 + 1 * 0 = _; rw [index_3]; show t.val / 2 * 1 + 1 * 0 = t.val / 2; omega
    | ⟨1, _⟩ => show (cfg0.win 3).index t 1 * 40 + 1 * r.val = _; rw [index_3]; show 0 * 40 + 1 * r.val = r.val; omega
    | ⟨2, _⟩ => show (cfg0.win 3).index t 2 * 1024 + 1 * n.val = _; rw [index_3]; show t.val % 2 * 1024 + 1 * n.val = 1024 * (t.val % 2) + n.val; omega
  rw [e0]
  exact (congrFun (after0_3 m c t) _).trans (block m c t r n)

end Cert.AdaValue

namespace Cert.AdaClaims

open Idealize.ShloMosaic hiding ix1 ix2 ix3 ix4 eq_ix1 eq_ix2 eq_ix3 eq_ix4
open Idealize.ShloMosaic.ValueIdx Idealize.ShloMosaic.TcCoe Idealize.SL.Sem

open Cert.AdaValue Cert.AdaRefIdeal.Read

theorem frame_bits : Cert.quiescent_Ada := fun m ρ _ => Cert.Ada.Gen.frame m ρ

theorem frame_ideal : Cert.quiescent_AdaIdeal := fun m ρ _ => Cert.AdaIdeal.Gen.frame m ρ

theorem frame_ref : Cert.quiescent_AdaRefIdeal := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)

/-- Cell by cell, both programs' result is the closed form of the arguments. -/
theorem algebraic : Cert.algebraic_AdaIdeal_AdaRefIdeal := fun m ρ m' ρ' _ hag => by
  refine ⟨fun c => fun i : Cert.AdaIdeal.S6x40x2048.Idx => Cert.AdaRefValue.ada (C m c) (W m c) (B m c) (i 0) (i 1) (i 2), ?_, ?_⟩
  · exact (θ_run Cert.AdaIdeal.defs _ _).mono (fun r hq c => ⟨(hq c).1.trans (result m c), (hq c).2⟩)
      (Cert.AdaIdeal.Value.run_blocks m ρ)
  · refine (θ_run Cert.AdaRefIdeal.defs _ _).mono (fun r hq c => ?_) (Cert.AdaRefIdeal.Value.run (F := Ideal) m' ρ')
    obtain ⟨a0, a1, a2⟩ := hag c
    refine ⟨(hq c).1.trans ?_, (hq c).2⟩
    refine (val_main_v6_eq _ _ _).trans ?_
    rw [a0, a1, a2]
    funext i
    obtain ⟨a, r, n, rfl⟩ : ∃ (a : Fin 6) (r : Fin 40) (n : Fin 2048), i = ix3 a r n := ⟨i 0, i 1, i 2, eq_ix3 i⟩
    exact Cert.AdaRefValue.result _ _ _ a r n

end Cert.AdaClaims
-- ==== Proof.MergeCall.lean ====
/- The merge kernel: each of its sixty-four blocks is the reference's closed form at the block's rows and columns, and with it
   the claims about the kernel and its reference. -/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pointwise
public import Idealize.ShloMosaic.Lib.Pipeline.Covers

@[expose] public section

set_option maxRecDepth 16384

noncomputable section

namespace Cert.MergeRefValue

open Idealize.ShloMosaic hiding ix1 ix2 ix3 ix4 eq_ix1 eq_ix2 eq_ix3 eq_ix4
open Idealize.ShloMosaic.ValueIdx Idealize.ShloMosaic.TcCoe Idealize.SL.Sem

open Cert.MergeRefIdeal Cert.MergeRefIdeal.Gen Cert.MergeRefIdeal.Read

/-- The logistic of a number. -/
def gate (x : EReal) : EReal := Ideal.div 1 (1 + Ideal.exp (-x))

/-- A row of one branch times a column of its weights. -/
def dot (A : S8192x1024.Idx → EReal) (W : S1024x2048.Idx → EReal) (r : Fin 8192) (n : Fin 2048) : EReal :=
  ∑ k : Fin 1024, A (ix2 r k) * W (ix2 k n)

/-- The two branches' products, each gated by the logistic of its own columns of the projection, added. -/
def merged (A B : S8192x1024.Idx → EReal) (Wa Wb : S1024x2048.Idx → EReal) (P : S8192x10240.Idx → EReal) (r : Fin 8192) (n : Fin 2048) : EReal :=
  gate (P (ix2 r ⟨6144 + n.val, by omega⟩)) * dot A Wa r n + gate (P (ix2 r ⟨8192 + n.val, by omega⟩)) * dot B Wb r n

variable (A B : S8192x1024.Idx → EReal) (Wa Wb : S1024x2048.Idx → EReal) (P : S8192x10240.Idx → EReal) (r : Fin 8192) (n : Fin 2048)

theorem v2 : val_main_v2 (F := Ideal) P (ix2 r n) = P (ix2 r ⟨6144 + n.val, by omega⟩) := by
  rw [val_main_v2_apply, val_main_v1_apply]
  show val_main_v0 (F := Ideal) P _ = _
  rw [val_main_v0_apply]
  refine congrArg P (funext fun a => Fin.ext ?_)
  match a with
  | ⟨0, _⟩ => show _ = r.val; simp
  | ⟨1, _⟩ => show _ = 6144 + n.val; simp

theorem v3 : val_main_v3 (F := Ideal) P (ix2 r n) = P (ix2 r ⟨8192 + n.val, by omega⟩) := by
  rw [val_main_v3_apply, val_main_v1_apply]
  show val_main_v0 (F := Ideal) P _ = _
  rw [val_main_v0_apply]
  refine congrArg P (funext fun a => Fin.ext ?_)
  match a with
  | ⟨0, _⟩ => show _ = r.val; simp
  | ⟨1, _⟩ => show 6144 + (2048 + n.val) = 8192 + n.val; omega

theorem v9 (i : S8192x2048.Idx) : val_main_v9 (F := Ideal) P i = gate (val_main_v2 (F := Ideal) P i) := by
  have c1 : val_main_v6 (F := Ideal) i = (1 : EReal) := by
    rw [val_main_v6_apply]; exact Ideal.ofBits_one_f32
  have c2 : val_main_v8 (F := Ideal) i = (1 : EReal) := by
    rw [val_main_v8_apply]; exact Ideal.ofBits_one_f32
  rw [val_main_v9_apply, val_main_v7_apply, val_main_v5_apply, val_main_v4_apply, c1, c2]
  rfl

theorem v18 (i : S8192x2048.Idx) : val_main_v18 (F := Ideal) P i = gate (val_main_v3 (F := Ideal) P i) := by
  have c1 : val_main_v15 (F := Ideal) i = (1 : EReal) := by
    rw [val_main_v15_apply]; exact Ideal.ofBits_one_f32
  have c2 : val_main_v17 (F := Ideal) i = (1 : EReal) := by
    rw [val_main_v17_apply]; exact Ideal.ofBits_one_f32
  rw [val_main_v18_apply, val_main_v16_apply, val_main_v14_apply, val_main_v13_apply, c1, c2]
  rfl

theorem v11 : val_main_v11 (F := Ideal) A Wa (ix2 r n) = dot A Wa r n := by
  rw [val_main_v11_apply]
  refine Finset.sum_congr rfl fun k _ => congrArg₂ (fun p q : EReal => p * q) (congrArg A ?_) (congrArg Wa ?_)
  · funext d; match d with | ⟨0, _⟩ => rfl | ⟨1, _⟩ => rfl
  · funext d; match d with | ⟨0, _⟩ => rfl | ⟨1, _⟩ => rfl

theorem v20 : val_main_v20 (F := Ideal) B Wb (ix2 r n) = dot B Wb r n := by
  rw [val_main_v20_apply]
  refine Finset.sum_congr rfl fun k _ => congrArg₂ (fun p q : EReal => p * q) (congrArg B ?_) (congrArg Wb ?_)
  · funext d; match d with | ⟨0, _⟩ => rfl | ⟨1, _⟩ => rfl
  · funext d; match d with | ⟨0, _⟩ => rfl | ⟨1, _⟩ => rfl

theorem result : val_main_v23 (F := Ideal) A B Wa Wb P (ix2 r n) = merged A B Wa Wb P r n := by
  rw [val_main_v23_apply, val_main_v22_apply, val_main_v12_apply, val_main_v21_apply, v9, v18, v2, v3, v11, v20]
  rfl

end Cert.MergeRefValue

namespace Cert.MergeValue

open Idealize.ShloMosaic hiding ix1 ix2 ix3 ix4 eq_ix1 eq_ix2 eq_ix3 eq_ix4
open Idealize.ShloMosaic.ValueIdx Idealize.ShloMosaic.TcCoe Idealize.SL.Sem

open Cert.MergeIdeal Cert.MergeIdeal.Gen Cert.MergeRefValue

theorem pay (a : Vec Ideal S512x1024 .bf16) (wa : Vec Ideal S1024x512 .bf16) (b : Vec Ideal S512x1024 .bf16) (wb : Vec Ideal S1024x512 .bf16)
    (p q : Vec Ideal S512x512 .bf16) (r n : Fin 512) :
    k0_pay1 (F := Ideal) a wa b wb p q (ix2 r n)
      = gate (p (ix2 r n)) * (∑ k : Fin 1024, a (ix2 r k) * wa (ix2 k n)) + gate (q (ix2 r n)) * (∑ k : Fin 1024, b (ix2 r k) * wb (ix2 k n)) := by
  unfold k0_pay1
  pointwise
  simp only [zero_sub]
  rfl

theorem left_eq (a b : Vec Ideal S512x1024 .bf16) (wa wb : Vec Ideal S1024x512 .bf16) (p q : Vec Ideal S512x512 .bf16) :
    out0_6 (F := Ideal) a b wa wb p q = k0_pay1 (F := Ideal) a wa b wb p q := by
  unfold out0_6
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

variable (m : (ℓ : Loc nD τ sig) → Buf (Elt Ideal) ℓ) (c : Dev nD)

abbrev A : S8192x1024.Idx → EReal := m ((c : Thread nD τ).loc main_arg0)
abbrev B : S8192x1024.Idx → EReal := m ((c : Thread nD τ).loc main_arg1)
abbrev Wa : S1024x2048.Idx → EReal := m ((c : Thread nD τ).loc main_arg2)
abbrev Wb : S1024x2048.Idx → EReal := m ((c : Thread nD τ).loc main_arg3)
abbrev P : S8192x10240.Idx → EReal := m ((c : Thread nD τ).loc main_arg4)

theorem lt_64 (t : Fin cfg0.N) : t.val < 64 := lt_of_lt_of_eq t.isLt (show cfg0.N = 64 by decide)

/-- A point's rows and columns. -/
def rowM (t : Fin cfg0.N) (r : Fin 512) : Fin 8192 := ⟨512 * (t.val / 4) + r.val, by have := lt_64 t; omega⟩
def colM (t : Fin cfg0.N) (n : Fin 512) : Fin 2048 := ⟨512 * (t.val % 4) + n.val, by omega⟩
theorem index_0 : ∀ t : Fin cfg0.N, (cfg0.win 0).index t = ![t.val / 4, 0] := by decide +kernel
theorem index_1 : ∀ t : Fin cfg0.N, (cfg0.win 1).index t = ![t.val / 4, 0] := by decide +kernel
theorem index_2 : ∀ t : Fin cfg0.N, (cfg0.win 2).index t = ![0, t.val % 4] := by decide +kernel
theorem index_3 : ∀ t : Fin cfg0.N, (cfg0.win 3).index t = ![0, t.val % 4] := by decide +kernel
theorem index_4 : ∀ t : Fin cfg0.N, (cfg0.win 4).index t = ![t.val / 4, 12 + t.val % 4] := by decide +kernel
theorem index_5 : ∀ t : Fin cfg0.N, (cfg0.win 5).index t = ![t.val / 4, 16 + t.val % 4] := by decide +kernel
theorem index_6 : ∀ t : Fin cfg0.N, (cfg0.win 6).index t = ![t.val / 4, t.val % 4] := by decide +kernel

theorem iblk_0 (t : Fin cfg0.N) (r : Fin 512) (k : Fin 1024) : iblk m c 0 t (ix2 r k : S512x1024.Idx) = A m c (ix2 (rowM t r) k) := by
  refine (congrArg (V m c main_arg0) (funext fun a => Fin.ext ?_)).trans (congrFun (V_main_arg0 m c) _)
  match a with
  | ⟨0, _⟩ => show (cfg0.win 0).index t 0 * 512 + 1 * r.val = 512 * (t.val / 4) + r.val; rw [index_0]; show t.val / 4 * 512 + 1 * r.val = 512 * (t.val / 4) + r.val; omega
  | ⟨1, _⟩ => show (cfg0.win 0).index t 1 * 1024 + 1 * k.val = k.val; rw [index_0]; show 0 * 1024 + 1 * k.val = k.val; omega

theorem iblk_1 (t : Fin cfg0.N) (r : Fin 512) (k : Fin 1024) : iblk m c 1 t (ix2 r k : S512x1024.Idx) = B m c (ix2 (rowM t r) k) := by
  refine (congrArg (V m c main_arg1) (funext fun a => Fin.ext ?_)).trans (congrFun (V_main_arg1 m c) _)
  match a with
  | ⟨0, _⟩ => show (cfg0.win 1).index t 0 * 512 + 1 * r.val = 512 * (t.val / 4) + r.val; rw [index_1]; show t.val / 4 * 512 + 1 * r.val = 512 * (t.val / 4) + r.val; omega
  | ⟨1, _⟩ => show (cfg0.win 1).index t 1 * 1024 + 1 * k.val = k.val; rw [index_1]; show 0 * 1024 + 1 * k.val = k.val; omega

theorem V_v0 : (V m c main_v0 : S1024x2048.Idx → EReal) = Wa m c := by
  unfold V
  after_results
  rfl

theorem iblk_2 (t : Fin cfg0.N) (k : Fin 1024) (n : Fin 512) : iblk m c 2 t (ix2 k n : S1024x512.Idx) = Wa m c (ix2 k (colM t n)) := by
  refine (congrArg (V m c main_v0 : S1024x2048.Idx → EReal) (funext fun a => Fin.ext ?_)).trans (congrFun (V_v0 m c) _)
  match a with
  | ⟨0, _⟩ => show (cfg0.win 2).index t 0 * 1024 + 1 * k.val = k.val; rw [index_2]; show 0 * 1024 + 1 * k.val = k.val; omega
  | ⟨1, _⟩ => show (cfg0.win 2).index t 1 * 512 + 1 * n.val = 512 * (t.val % 4) + n.val; rw [index_2]; show t.val % 4 * 512 + 1 * n.val = 512 * (t.val % 4) + n.val; omega

theorem V_v1 : (V m c main_v1 : S1024x2048.Idx → EReal) = Wb m c := by
  unfold V
  after_results
  rfl

theorem iblk_3 (t : Fin cfg0.N) (k : Fin 1024) (n : Fin 512) : iblk m c 3 t (ix2 k n : S1024x512.Idx) = Wb m c (ix2 k (colM t n)) := by
  refine (congrArg (V m c main_v1 : S1024x2048.Idx → EReal) (funext fun a => Fin.ext ?_)).trans (congrFun (V_v1 m c) _)
  match a with
  | ⟨0, _⟩ => show (cfg0.win 3).index t 0 * 1024 + 1 * k.val = k.val; rw [index_3]; show 0 * 1024 + 1 * k.val = k.val; omega
  | ⟨1, _⟩ => show (cfg0.win 3).index t 1 * 512 + 1 * n.val = 512 * (t.val % 4) + n.val; rw [index_3]; show t.val % 4 * 512 + 1 * n.val = 512 * (t.val % 4) + n.val; omega

theorem iblk_4 (t : Fin cfg0.N) (r n : Fin 512) :
    iblk m c 4 t (ix2 r n : S512x512.Idx) = P m c (ix2 (rowM t r) ⟨6144 + (colM t n).val, by omega⟩) := by
  refine (congrArg (V m c main_arg4) (funext fun a => Fin.ext ?_)).trans (congrFun (V_main_arg4 m c) _)
  match a with
  | ⟨0, _⟩ => show (cfg0.win 4).index t 0 * 512 + 1 * r.val = 512 * (t.val / 4) + r.val; rw [index_4]; show t.val / 4 * 512 + 1 * r.val = 512 * (t.val / 4) + r.val; omega
  | ⟨1, _⟩ => show (cfg0.win 4).index t 1 * 512 + 1 * n.val = 6144 + (512 * (t.val % 4) + n.val); rw [index_4]; show (12 + t.val % 4) * 512 + 1 * n.val = 6144 + (512 * (t.val % 4) + n.val); omega

theorem iblk_5 (t : Fin cfg0.N) (r n : Fin 512) :
    iblk m c 5 t (ix2 r n : S512x512.Idx) = P m c (ix2 (rowM t r) ⟨8192 + (colM t n).val, by omega⟩) := by
  refine (congrArg (V m c main_arg4) (funext fun a => Fin.ext ?_)).trans (congrFun (V_main_arg4 m c) _)
  match a with
  | ⟨0, _⟩ => show (cfg0.win 5).index t 0 * 512 + 1 * r.val = 512 * (t.val / 4) + r.val; rw [index_5]; show t.val / 4 * 512 + 1 * r.val = 512 * (t.val / 4) + r.val; omega
  | ⟨1, _⟩ => show (cfg0.win 5).index t 1 * 512 + 1 * n.val = 8192 + (512 * (t.val % 4) + n.val); rw [index_5]; show (16 + t.val % 4) * 512 + 1 * n.val = 8192 + (512 * (t.val % 4) + n.val); omega

/-- What a point leaves in its block. -/
theorem block (t : Fin cfg0.N) (r n : Fin 512) :
    out0_6 (F := Ideal) (iblk m c 0 t) (iblk m c 1 t) (iblk m c 2 t) (iblk m c 3 t) (iblk m c 4 t) (iblk m c 5 t) (ix2 r n)
      = merged (A m c) (B m c) (Wa m c) (Wb m c) (P m c) (rowM t r) (colM t n) := by
  refine (congrFun (left_eq _ _ _ _ _ _) _).trans ((pay _ _ _ _ _ _ r n).trans ?_)
  refine congrArg₂ (fun p q : EReal => p + q) (congrArg₂ (fun p q : EReal => p * q) (congrArg gate (iblk_4 m c t r n)) ?_)
    (congrArg₂ (fun p q : EReal => p * q) (congrArg gate (iblk_5 m c t r n)) ?_)
  · exact Finset.sum_congr rfl fun k _ => congrArg₂ (fun p q : EReal => p * q) (iblk_0 m c t r k) (iblk_2 m c t k n)
  · exact Finset.sum_congr rfl fun k _ => congrArg₂ (fun p q : EReal => p * q) (iblk_1 m c t r k) (iblk_3 m c t k n)

theorem result : (dats m 0 c).arrAt 6 cfg0.N = fun i : S8192x2048.Idx => merged (A m c) (B m c) (Wa m c) (Wb m c) (P m c) (i 0) (i 1) := by
  refine (dats m 0 c).arrAt_eq_of_covers 6 _ (by decide +kernel) fun t hf y => ?_
  obtain ⟨r, n, rfl⟩ : ∃ (r n : Fin 512), y = (ix2 r n : S512x512.Idx) := ⟨y 0, y 1, eq_ix2 y⟩
  have e0 : (((cfg0.win 6).blk t).view.emb (ix2 r n : S512x512.Idx) : S8192x2048.Idx) = ix2 (rowM t r) (colM t n) := by
    funext a
    apply Fin.ext
    match a with
    | ⟨0, _⟩ => show (cfg0.win 6).index t 0 * 512 + 1 * r.val = _; rw [index_6]; show t.val / 4 * 512 + 1 * r.val = 512 * (t.val / 4) + r.val; omega
    | ⟨1, _⟩ => show (cfg0.win 6).index t 1 * 512 + 1 * n.val = _; rw [index_6]; show t.val % 4 * 512 + 1 * n.val = 512 * (t.val % 4) + n.val; omega
  rw [e0]
  exact (congrFun (after0_6 m c t) _).trans (block m c t r n)

end Cert.MergeValue

namespace Cert.MergeClaims

open Idealize.ShloMosaic hiding ix1 ix2 ix3 ix4 eq_ix1 eq_ix2 eq_ix3 eq_ix4
open Idealize.ShloMosaic.ValueIdx Idealize.ShloMosaic.TcCoe Idealize.SL.Sem

open Cert.MergeValue Cert.MergeRefIdeal.Read

theorem frame_bits : Cert.quiescent_Merge := fun m ρ _ => Cert.Merge.Gen.frame m ρ

theorem frame_ideal : Cert.quiescent_MergeIdeal := fun m ρ _ => Cert.MergeIdeal.Gen.frame m ρ

theorem frame_ref : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- Cell by cell, both programs' result is the closed form of the arguments. -/
theorem algebraic : Cert.algebraic_MergeIdeal_MergeRefIdeal := fun m ρ m' ρ' _ hag => by
  refine ⟨fun c => fun i : Cert.MergeIdeal.S8192x2048.Idx => Cert.MergeRefValue.merged (A m c) (B m c) (Wa m c) (Wb m c) (P m c) (i 0) (i 1), ?_, ?_⟩
  · exact (θ_run Cert.MergeIdeal.defs _ _).mono (fun r hq c => ⟨(hq c).1.trans (result m c), (hq c).2⟩)
      (Cert.MergeIdeal.Value.run_blocks m ρ)
  · refine (θ_run Cert.MergeRefIdeal.defs _ _).mono (fun r hq c => ?_) (Cert.MergeRefIdeal.Value.run (F := Ideal) m' ρ')
    obtain ⟨a0, a1, a2, a3, a4⟩ := hag c
    refine ⟨(hq c).1.trans ?_, (hq c).2⟩
    refine (val_main_v23_eq _ _ _ _ _).trans ?_
    rw [a0, a1, a2, a3, a4]
    funext i
    obtain ⟨r, n, rfl⟩ : ∃ (r : Fin 8192) (n : Fin 2048), i = ix2 r n := ⟨i 0, i 1, eq_ix2 i⟩
    exact Cert.MergeRefValue.result _ _ _ _ _ r n

end Cert.MergeClaims
-- ==== Proof.OutprojCall.lean ====
/- The output projection kernel: each of its sixty-four blocks is the reference's closed form at the block's rows and columns,
   and with it the claims about the kernel and its reference. -/
module

public import proofs.«01_k».proof.Defs
public import proofs.«01_k».proof.Proof.Gen.Outproj.Frame
public import proofs.«01_k».proof.Proof.Gen.OutprojIdeal.Value
public import proofs.«01_k».proof.Proof.Gen.OutprojRefIdeal.Run
public import proofs.«01_k».proof.Proof.Gen.OutprojRefIdeal.Read
public import Idealize.ShloMosaic.Lib.Pointwise
public import Idealize.ShloMosaic.Lib.Pipeline.Covers
public import proofs.«01_k».proof.Proof.ProjHost

@[expose] public section

set_option maxRecDepth 16384

noncomputable section

namespace Cert.OutprojRefValue

open Idealize.ShloMosaic hiding ix1 ix2 ix3 ix4 eq_ix1 eq_ix2 eq_ix3 eq_ix4
open Idealize.ShloMosaic.ValueIdx Idealize.ShloMosaic.TcCoe Idealize.SL.Sem

open Cert.OutprojRefIdeal Cert.OutprojRefIdeal.Gen Cert.OutprojRefIdeal.Read

/-- The residual row plus its sequence's gate times the merged row's product with the output weights. -/
def added (G : S8192x2048.Idx → EReal) (W : S2048x2048.Idx → EReal) (X : S2x4096x2048.Idx → EReal) (M : S6x40x2048.Idx → EReal)
    (g : Fin 128) (r : Fin 64) (n : Fin 2048) : EReal :=
  X (ix3 ⟨g.val / 64, by omega⟩ ⟨64 * (g.val % 64) + r.val, by omega⟩ n)
    + M (ix3 2 ⟨g.val / 64, by omega⟩ n) * ∑ k : Fin 2048, G (ix2 ⟨64 * g.val + r.val, by omega⟩ k) * W (ix2 k n)

variable (G : S8192x2048.Idx → EReal) (W : S2048x2048.Idx → EReal) (X : S2x4096x2048.Idx → EReal) (M : S6x40x2048.Idx → EReal)

theorem v6 (b : Fin 2) (s : Fin 4096) (n : Fin 2048) : val_main_v6 (F := Ideal) M (ix3 b s n) = M (ix3 2 ⟨b.val, by omega⟩ n) := by
  rw [val_main_v6_apply, val_main_v2_apply, val_main_v1_apply, val_main_v0_apply]
  refine congrArg M (funext fun a => Fin.ext ?_)
  match a with
  | ⟨0, _⟩ => rfl
  | ⟨1, _⟩ => show (b.val * 2048 + n.val) / 2048 % 2 = b.val; omega
  | ⟨2, _⟩ => show (b.val * 2048 + n.val) % 2048 = n.val; omega

theorem v5 (b : Fin 2) (s : Fin 4096) (n : Fin 2048) :
    val_main_v5 (F := Ideal) G W (ix3 b s n) = ∑ k : Fin 2048, G (ix2 ⟨4096 * b.val + s.val, by omega⟩ k) * W (ix2 k n) := by
  have e : idx_main_v5 (ix3 b s n) = ix2 ⟨4096 * b.val + s.val, by omega⟩ n := by
    funext d
    apply Fin.ext
    match d with
    | ⟨0, _⟩ => show ((b.val * 4096 + s.val) * 2048 + n.val) / 2048 = 4096 * b.val + s.val; omega
    | ⟨1, _⟩ => show ((b.val * 4096 + s.val) * 2048 + n.val) % 2048 = n.val; omega
  rw [val_main_v5_apply, e, val_main_v4_apply]
  refine Finset.sum_congr rfl fun k _ => congrArg₂ (fun p q : EReal => p * q) (congrArg G ?_) (congrArg W ?_)
  · funext d; match d with | ⟨0, _⟩ => rfl | ⟨1, _⟩ => rfl
  · funext d; match d with | ⟨0, _⟩ => rfl | ⟨1, _⟩ => rfl

theorem result (g : Fin 128) (r : Fin 64) (n : Fin 2048) : val_main_v9 (F := Ideal) G W X M (ix3 g r n) = added G W X M g r n := by
  have e : idx_main_v9 (ix3 g r n) = ix3 ⟨g.val / 64, by omega⟩ ⟨64 * (g.val % 64) + r.val, by omega⟩ n := by
    funext d
    apply Fin.ext
    match d with
    | ⟨0, _⟩ => show ((g.val * 64 + r.val) * 2048 + n.val) / 8388608 = g.val / 64; omega
    | ⟨1, _⟩ => show ((g.val * 64 + r.val) * 2048 + n.val) / 2048 % 4096 = 64 * (g.val % 64) + r.val; omega
    | ⟨2, _⟩ => show ((g.val * 64 + r.val) * 2048 + n.val) % 2048 = n.val; omega
  rw [val_main_v9_apply, e, val_main_v8_apply, val_main_v7_apply, v6, v5]
  refine congrArg₂ (fun p q : EReal => p + q) rfl (congrArg₂ (fun p q : EReal => p * q) rfl (Finset.sum_congr rfl fun k _ =>
    congrArg (fun x => G (ix2 x k) * W (ix2 k n)) (Fin.ext ?_)))
  show 4096 * (g.val / 64) + (64 * (g.val % 64) + r.val) = 64 * g.val + r.val
  omega

end Cert.OutprojRefValue

namespace Cert.OutprojValue

open Idealize.ShloMosaic hiding ix1 ix2 ix3 ix4 eq_ix1 eq_ix2 eq_ix3 eq_ix4
open Idealize.ShloMosaic.ValueIdx Idealize.ShloMosaic.TcCoe Idealize.SL.Sem

open Cert.OutprojIdeal Cert.OutprojIdeal.Gen Cert.OutprojRefValue

theorem pay (a : Vec Ideal S512x2048 .bf16) (w : Vec Ideal S2048x512 .bf16) (x : Vec Ideal S8x64x512 .f32) (g : Vec Ideal S1x8x1x512 .f32)
    (j : Fin 8) (r : Fin 64) (n : Fin 512) :
    k0_pay1 (F := Ideal) a w x g (ix3 j r n)
      = x (ix3 j r n) + g (ix4 0 j 0 n) * ∑ k : Fin 2048, a (ix2 ⟨j.val * 64 + r.val, by omega⟩ k) * w (ix2 k n) := by
  unfold k0_pay1
  pointwise
  rfl

theorem left_eq (a : Vec Ideal S512x2048 .bf16) (w : Vec Ideal S2048x512 .bf16) (x : Vec Ideal S8x64x512 .f32) (g : Vec Ideal S1x8x1x512 .f32) :
    out0_4 (F := Ideal) a w x g = k0_pay1 (F := Ideal) a w x g := by
  unfold out0_4
  rw [View.canon_cons_unit_lit _ _ _ (by decide), View.ld_unit_lit _ _ (by decide), View.ld_unit_lit _ _ (by decide), View.ld_unit_lit _ _ (by decide),
    View.ld_unit_lit _ _ (by decide)]

variable (m : (ℓ : Loc nD τ sig) → Buf (Elt Ideal) ℓ) (c : Dev nD)

abbrev G : S8192x2048.Idx → EReal := m ((c : Thread nD τ).loc main_arg0)
abbrev W : S2048x2048.Idx → EReal := m ((c : Thread nD τ).loc main_arg1)
abbrev X : S2x4096x2048.Idx → EReal := m ((c : Thread nD τ).loc main_arg2)
abbrev M : S6x40x2048.Idx → EReal := m ((c : Thread nD τ).loc main_arg3)

theorem lt_64 (t : Fin cfg0.N) : t.val < 64 := lt_of_lt_of_eq t.isLt (show cfg0.N = 64 by decide)

/-- A point's groups of rows, and its columns. -/
def grpO (t : Fin cfg0.N) (j : Fin 8) : Fin 128 := ⟨8 * (t.val / 4) + j.val, by have := lt_64 t; omega⟩
def colO (t : Fin cfg0.N) (n : Fin 512) : Fin 2048 := ⟨512 * (t.val % 4) + n.val, by omega⟩
theorem index_0 : ∀ t : Fin cfg0.N, (cfg0.win 0).index t = ![t.val / 4, 0] := by decide +kernel
theorem index_1 : ∀ t : Fin cfg0.N, (cfg0.win 1).index t = ![0, t.val % 4] := by decide +kernel
theorem index_2 : ∀ t : Fin cfg0.N, (cfg0.win 2).index t = ![t.val / 4, 0, t.val % 4] := by decide +kernel
theorem index_3 : ∀ t : Fin cfg0.N, (cfg0.win 3).index t = ![2, t.val / 4, 0, t.val % 4] := by decide +kernel
theorem index_4 : ∀ t : Fin cfg0.N, (cfg0.win 4).index t = ![t.val / 4, 0, t.val % 4] := by decide +kernel

theorem V_w : (V m c main_v4 : S2048x2048.Idx → EReal) = W m c := by
  unfold V
  after_results
  rfl

theorem V_x (g : Fin 128) (r : Fin 64) (k : Fin 2048) :
    V m c main_v5 (ix3 g r k : S128x64x2048.Idx) = X m c (ix3 ⟨g.val / 64, by omega⟩ ⟨64 * (g.val % 64) + r.val, by omega⟩ k) := by
  have e : V m c main_v5 = shapeCast S128x64x2048 (m ((c : Thread nD τ).loc main_arg2)) shapeCasts_S2x4096x2048_S128x64x2048 := by
    unfold V
    after_results
    rfl
  rw [e]
  exact Cert.ProjIdeal.Hand.cast8 _ g r k

theorem V_m (a : Fin 6) (g : Fin 128) (k : Fin 2048) : V m c main_v3 (ix4 a g 0 k : S6x128x1x2048.Idx) = M m c (ix3 a ⟨g.val / 64, by omega⟩ k) := by
  have e : V m c main_v3 = broadcastInDim S6x128x1x2048 ![0, 1, 3] bcast_S6x128x2048_S6x128x1x2048_0_1_3
      (shapeCast S6x128x2048 (broadcastInDim S6x2x64x2048 ![0, 1, 3] bcast_S6x2x2048_S6x2x64x2048_0_1_3
        (extractStridedSlice S6x2x2048 ![0, 0, 0] (m ((c : Thread nD τ).loc main_arg3)) slices_S6x40x2048_S6x2x2048_0_0_0)) shapeCasts_S6x2x64x2048_S6x128x2048) := by
    unfold V
    after_results
    rfl
  rw [e]
  exact Cert.ProjIdeal.Hand.mods3 _ a g k

theorem iblk_0 (t : Fin cfg0.N) (r : Fin 512) (k : Fin 2048) :
    iblk m c 0 t (ix2 r k : S512x2048.Idx) = G m c (ix2 ⟨512 * (t.val / 4) + r.val, by have := lt_64 t; omega⟩ k) := by
  refine (congrArg (V m c main_arg0) (funext fun a => Fin.ext ?_)).trans (congrFun (V_main_arg0 m c) _)
  match a with
  | ⟨0, _⟩ => show (cfg0.win 0).index t 0 * 512 + 1 * r.val = 512 * (t.val / 4) + r.val; rw [index_0]; show t.val / 4 * 512 + 1 * r.val = 512 * (t.val / 4) + r.val; omega
  | ⟨1, _⟩ => show (cfg0.win 0).index t 1 * 2048 + 1 * k.val = k.val; rw [index_0]; show 0 * 2048 + 1 * k.val = k.val; omega

theorem iblk_1 (t : Fin cfg0.N) (k : Fin 2048) (n : Fin 512) : iblk m c 1 t (ix2 k n : S2048x512.Idx) = W m c (ix2 k (colO t n)) := by
  refine (congrArg (V m c main_v4 : S2048x2048.Idx → EReal) (funext fun a => Fin.ext ?_)).trans (congrFun (V_w m c) _)
  match a with
  | ⟨0, _⟩ => show (cfg0.win 1).index t 0 * 2048 + 1 * k.val = k.val; rw [index_1]; show 0 * 2048 + 1 * k.val = k.val; omega
  | ⟨1, _⟩ => show (cfg0.win 1).index t 1 * 512 + 1 * n.val = 512 * (t.val % 4) + n.val; rw [index_1]; show t.val % 4 * 512 + 1 * n.val = 512 * (t.val % 4) + n.val; omega

theorem iblk_2 (t : Fin cfg0.N) (j : Fin 8) (r : Fin 64) (n : Fin 512) : iblk m c 2 t (ix3 j r n : S8x64x512.Idx)
    = X m c (ix3 ⟨(grpO t j).val / 64, by omega⟩ ⟨64 * ((grpO t j).val % 64) + r.val, by omega⟩ (colO t n)) := by
  refine (congrArg (V m c main_v5) (funext fun a => Fin.ext ?_)).trans (V_x m c (grpO t j) r (colO t n))
  match a with
  | ⟨0, _⟩ => show (cfg0.win 2).index t 0 * 8 + 1 * j.val = 8 * (t.val / 4) + j.val; rw [index_2]; show t.val / 4 * 8 + 1 * j.val = 8 * (t.val / 4) + j.val; omega
  | ⟨1, _⟩ => show (cfg0.win 2).index t 1 * 64 + 1 * r.val = r.val; rw [index_2]; show 0 * 64 + 1 * r.val = r.val; omega
  | ⟨2, _⟩ => show (cfg0.win 2).index t 2 * 512 + 1 * n.val = 512 * (t.val % 4) + n.val; rw [index_2]; show t.val % 4 * 512 + 1 * n.val = 512 * (t.val % 4) + n.val; omega

theorem iblk_3 (t : Fin cfg0.N) (j : Fin 8) (n : Fin 512) : iblk m c 3 t (ix4 0 j 0 n : S1x8x1x512.Idx)
    = M m c (ix3 2 ⟨(grpO t j).val / 64, by omega⟩ (colO t n)) := by
  refine (congrArg (V m c main_v3) (funext fun a => Fin.ext ?_)).trans (V_m m c 2 (grpO t j) (colO t n))
  match a with
  | ⟨0, _⟩ => show (cfg0.win 3).index t 0 * 1 + 1 * 0 = 2; rw [index_3]; rfl
  | ⟨1, _⟩ => show (cfg0.win 3).index t 1 * 8 + 1 * j.val = 8 * (t.val / 4) + j.val; rw [index_3]; show t.val / 4 * 8 + 1 * j.val = 8 * (t.val / 4) + j.val; omega
  | ⟨2, _⟩ => show (cfg0.win 3).index t 2 * 1 + 1 * 0 = 0; rw [index_3]; rfl
  | ⟨3, _⟩ => show (cfg0.win 3).index t 3 * 512 + 1 * n.val = 512 * (t.val % 4) + n.val; rw [index_3]; show t.val % 4 * 512 + 1 * n.val = 512 * (t.val % 4) + n.val; omega

/-- What a point leaves in its block. -/
theorem block (t : Fin cfg0.N) (j : Fin 8) (r : Fin 64) (n : Fin 512) :
    out0_4 (F := Ideal) (iblk m c 0 t) (iblk m c 1 t) (iblk m c 2 t) (iblk m c 3 t) (ix3 j r n)
      = added (G m c) (W m c) (X m c) (M m c) (grpO t j) r (colO t n) := by
  refine (congrFun (left_eq _ _ _ _) _).trans ((pay _ _ _ _ j r n).trans ?_)
  refine congrArg₂ (fun p q : EReal => p + q) (iblk_2 m c t j r n) (congrArg₂ (fun p q : EReal => p * q) (iblk_3 m c t j n) (Finset.sum_congr rfl fun k _ => ?_))
  refine congrArg₂ (fun p q : EReal => p * q) ((iblk_0 m c t _ k).trans (congrArg (fun x => G m c (ix2 x k)) (Fin.ext ?_))) (iblk_1 m c t k n)
  show 512 * (t.val / 4) + (j.val * 64 + r.val) = 64 * (8 * (t.val / 4) + j.val) + r.val
  omega

theorem result : (dats m 0 c).arrAt 4 cfg0.N = fun i : S128x64x2048.Idx => added (G m c) (W m c) (X m c) (M m c) (i 0) (i 1) (i 2) := by
  refine (dats m 0 c).arrAt_eq_of_covers 4 _ (by decide +kernel) fun t hf y => ?_
  obtain ⟨j, r, n, rfl⟩ : ∃ (j : Fin 8) (r : Fin 64) (n : Fin 512), y = (ix3 j r n : S8x64x512.Idx) := ⟨y 0, y 1, y 2, eq_ix3 y⟩
  have e0 : (((cfg0.win 4).blk t).view.emb (ix3 j r n : S8x64x512.Idx) : S128x64x2048.Idx) = ix3 (grpO t j) r (colO t n) := by
    funext a
    apply Fin.ext
    match a with
    | ⟨0, _⟩ => show (cfg0.win 4).index t 0 * 8 + 1 * j.val = _; rw [index_4]; show t.val / 4 * 8 + 1 * j.val = 8 * (t.val / 4) + j.val; omega
    | ⟨1, _⟩ => show (cfg0.win 4).index t 1 * 64 + 1 * r.val = _; rw [index_4]; show 0 * 64 + 1 * r.val = r.val; omega
    | ⟨2, _⟩ => show (cfg0.win 4).index t 2 * 512 + 1 * n.val = _; rw [index_4]; show t.val % 4 * 512 + 1 * n.val = 512 * (t.val % 4) + n.val; omega
  rw [e0]
  exact (congrFun (after0_4 m c t) _).trans (block m c t j r n)

end Cert.OutprojValue

namespace Cert.OutprojClaims

open Idealize.ShloMosaic hiding ix1 ix2 ix3 ix4 eq_ix1 eq_ix2 eq_ix3 eq_ix4
open Idealize.ShloMosaic.ValueIdx Idealize.ShloMosaic.TcCoe Idealize.SL.Sem

open Cert.OutprojValue Cert.OutprojRefIdeal.Read

theorem frame_bits : Cert.quiescent_Outproj := fun m ρ _ => Cert.Outproj.Gen.frame m ρ

theorem frame_ideal : Cert.quiescent_OutprojIdeal := fun m ρ _ => Cert.OutprojIdeal.Gen.frame m ρ

theorem frame_ref : Cert.quiescent_OutprojRefIdeal := fun m ρ _ =>
  (θ_run Cert.OutprojRefIdeal.defs _ _).mono (fun r h => ⟨fun c => (h c).2,
      Idealize.ShloMosaic.sem_eq_zero_of_no_sems (by decide) r.2⟩)
    (Cert.OutprojRefIdeal.Value.run (F := Ideal) m ρ)

/-- Cell by cell, both programs' result is the closed form of the arguments. -/
theorem algebraic : Cert.algebraic_OutprojIdeal_OutprojRefIdeal := fun m ρ m' ρ' _ hag => by
  refine ⟨fun c => fun i : Cert.OutprojIdeal.S128x64x2048.Idx => Cert.OutprojRefValue.added (G m c) (W m c) (X m c) (M m c) (i 0) (i 1) (i 2), ?_, ?_⟩
  · exact (θ_run Cert.OutprojIdeal.defs _ _).mono (fun r hq c => ⟨(hq c).1.trans (result m c), (hq c).2⟩)
      (Cert.OutprojIdeal.Value.run_blocks m ρ)
  · refine (θ_run Cert.OutprojRefIdeal.defs _ _).mono (fun r hq c => ?_) (Cert.OutprojRefIdeal.Value.run (F := Ideal) m' ρ')
    obtain ⟨a0, a1, a2, a3⟩ := hag c
    refine ⟨(hq c).1.trans ?_, (hq c).2⟩
    refine (val_main_v9_eq _ _ _ _).trans ?_
    rw [a0, a1, a2, a3]
    funext i
    obtain ⟨g, r, n, rfl⟩ : ∃ (g : Fin 128) (r : Fin 64) (n : Fin 2048), i = ix3 g r n := ⟨i 0, i 1, i 2, eq_ix3 i⟩
    exact Cert.OutprojRefValue.result _ _ _ _ g r n

end Cert.OutprojClaims
-- ==== Proof.FinalCall.lean ====
/- The final call on the prompt: each of its blocks is the reference's closed form at the block's rows and columns, and with it the
   claims about the kernel and its reference. -/
module

public import proofs.«01_k».proof.Defs
public import proofs.«01_k».proof.Proof.Gen.Final.Frame
public import proofs.«01_k».proof.Proof.Gen.FinalIdeal.Value
public import proofs.«01_k».proof.Proof.Gen.FinalRefIdeal.Run
public import proofs.«01_k».proof.Proof.Gen.FinalRefIdeal.Read
public import Idealize.ShloMosaic.Lib.Pointwise
public import Idealize.ShloMosaic.Lib.Pipeline.Covers
public import proofs.«01_k».proof.Proof.ProjHost

@[expose] public section

set_option maxRecDepth 16384

noncomputable section

namespace Cert.FinalRefValue

open Idealize.ShloMosaic hiding ix1 ix2 ix3 ix4 eq_ix1 eq_ix2 eq_ix3 eq_ix4
open Idealize.ShloMosaic.ValueIdx Idealize.ShloMosaic.TcCoe Idealize.SL.Sem

open Cert.FinalRefIdeal Cert.FinalRefIdeal.Gen Cert.FinalRefIdeal.Read

/-- The residual row plus its sequence's gate times the row's two expert rows, each by its combine weight. -/
def combined (X : S128x64x2048.Idx → EReal) (Y Z : S8192x2048.Idx → EReal) (T : S8192x128.Idx → EReal) (M : S6x40x2048.Idx → EReal)
    (g : Fin 128) (r : Fin 64) (n : Fin 2048) : EReal :=
  X (ix3 g r n) + M (ix3 5 ⟨g.val / 64, by omega⟩ n)
    * (T (ix2 ⟨64 * g.val + r.val, by omega⟩ 2) * Y (ix2 ⟨64 * g.val + r.val, by omega⟩ n)
      + T (ix2 ⟨64 * g.val + r.val, by omega⟩ 3) * Z (ix2 ⟨64 * g.val + r.val, by omega⟩ n))

variable (X : S128x64x2048.Idx → EReal) (Y Z : S8192x2048.Idx → EReal) (T : S8192x128.Idx → EReal) (M : S6x40x2048.Idx → EReal)

theorem stack (a b : S8192x1x2048.Idx → EReal) (h) (r : Fin 8192) (k : Fin 2) (n : Fin 2048) :
    concatenate S8192x2x2048 1 [⟨S8192x1x2048, a⟩, ⟨S8192x1x2048, b⟩] h (ix3 r k n)
      = if h : k.val < 1 then a (ix3 r ⟨k.val, h⟩ n) else b (ix3 r ⟨k.val - 1, by omega⟩ n) := by
  pointwise
  rfl

/-- A row's two expert rows, each by its weight. -/
theorem both (r : Fin 8192) (n : Fin 2048) :
    val_main_v10 (F := Ideal) Y Z T (ix2 r n) = T (ix2 r 2) * Y (ix2 r n) + T (ix2 r 3) * Z (ix2 r n) := by
  rw [val_main_v10_apply, Fin.sum_univ_two, val_main_v4_apply, val_main_v4_apply]
  refine congrArg₂ (fun p q : EReal => p + q) (congrArg₂ (fun p q : EReal => p * q) (congrArg T ?_) ?_) (congrArg₂ (fun p q : EReal => p * q) (congrArg T ?_) ?_)
  · funext d; match d with | ⟨0, _⟩ => rfl | ⟨1, _⟩ => rfl
  · rw [eq_ix3 (ridx_main_v10 (ix2 r n) 0)]
    refine (stack _ _ _ r 0 n).trans ?_
    rw [dif_pos (by decide), val_main_v7_apply]
    exact congrArg Y (by funext d; match d with | ⟨0, _⟩ => rfl | ⟨1, _⟩ => rfl)
  · funext d; match d with | ⟨0, _⟩ => rfl | ⟨1, _⟩ => rfl
  · rw [eq_ix3 (ridx_main_v10 (ix2 r n) 1)]
    refine (stack _ _ _ r 1 n).trans ?_
    rw [dif_neg (by decide), val_main_v8_apply]
    exact congrArg Z (by funext d; match d with | ⟨0, _⟩ => rfl | ⟨1, _⟩ => rfl)

theorem result (g : Fin 128) (r : Fin 64) (n : Fin 2048) : val_main_v15 (F := Ideal) X Y Z T M (ix3 g r n) = combined X Y Z T M g r n := by
  have e : idx_main_v15 (ix3 g r n) = ix3 ⟨g.val / 64, by omega⟩ ⟨64 * (g.val % 64) + r.val, by omega⟩ n := by
    funext d
    apply Fin.ext
    match d with
    | ⟨0, _⟩ => show ((g.val * 64 + r.val) * 2048 + n.val) / 8388608 = g.val / 64; omega
    | ⟨1, _⟩ => show ((g.val * 64 + r.val) * 2048 + n.val) / 2048 % 4096 = 64 * (g.val % 64) + r.val; omega
    | ⟨2, _⟩ => show ((g.val * 64 + r.val) * 2048 + n.val) % 2048 = n.val; omega
  have e11 : ∀ (b : Fin 2) (s : Fin 4096), idx_main_v11 (ix3 b s n) = ix2 ⟨4096 * b.val + s.val, by omega⟩ n := fun b s => by
    funext d
    apply Fin.ext
    match d with
    | ⟨0, _⟩ => show ((b.val * 4096 + s.val) * 2048 + n.val) / 2048 = 4096 * b.val + s.val; omega
    | ⟨1, _⟩ => show ((b.val * 4096 + s.val) * 2048 + n.val) % 2048 = n.val; omega
  have e0 : ∀ (b : Fin 2) (s : Fin 4096), idx_main_v0 (ix3 b s n) = ix3 ⟨64 * b.val + s.val / 64, by omega⟩ ⟨s.val % 64, by omega⟩ n := fun b s => by
    funext d
    apply Fin.ext
    match d with
    | ⟨0, _⟩ => show ((b.val * 4096 + s.val) * 2048 + n.val) / 131072 = 64 * b.val + s.val / 64; omega
    | ⟨1, _⟩ => show ((b.val * 4096 + s.val) * 2048 + n.val) / 2048 % 64 = s.val % 64; omega
    | ⟨2, _⟩ => show ((b.val * 4096 + s.val) * 2048 + n.val) % 2048 = n.val; omega
  have er : ∀ h, (⟨4096 * (g.val / 64) + (64 * (g.val % 64) + r.val), h⟩ : Fin 8192) = ⟨64 * g.val + r.val, by omega⟩ := fun _ => Fin.ext (by
    show 4096 * (g.val / 64) + (64 * (g.val % 64) + r.val) = 64 * g.val + r.val; omega)
  rw [val_main_v15_apply, e, val_main_v14_apply, val_main_v13_apply, val_main_v12_apply, val_main_v3_apply, val_main_v2_apply, val_main_v1_apply,
    val_main_v11_apply, val_main_v0_apply, e11, e0, both, er]
  refine congrArg₂ (fun p q : EReal => p + q) (congrArg X (funext fun a => Fin.ext ?_)) (congrArg₂ (fun p q : EReal => p * q) (congrArg M (funext fun a => Fin.ext ?_)) rfl)
  · match a with
    | ⟨0, _⟩ => show 64 * (g.val / 64) + (64 * (g.val % 64) + r.val) / 64 = g.val; omega
    | ⟨1, _⟩ => show (64 * (g.val % 64) + r.val) % 64 = r.val; omega
    | ⟨2, _⟩ => rfl
  · match a with
    | ⟨0, _⟩ => rfl
    | ⟨1, _⟩ => show (g.val / 64 * 2048 + n.val) / 2048 % 2 = g.val / 64; omega
    | ⟨2, _⟩ => show (g.val / 64 * 2048 + n.val) % 2048 = n.val; omega

end Cert.FinalRefValue

namespace Cert.FinalValue

open Idealize.ShloMosaic hiding ix1 ix2 ix3 ix4 eq_ix1 eq_ix2 eq_ix3 eq_ix4
open Idealize.ShloMosaic.ValueIdx Idealize.ShloMosaic.TcCoe Idealize.SL.Sem

open Cert.FinalIdeal Cert.FinalIdeal.Gen Cert.FinalRefValue

theorem pay (t : Vec Ideal S8x64x128 .f32) (y z : Vec Ideal S8x64x1024 .bf16) (x : Vec Ideal S8x64x1024 .f32) (m : Vec Ideal S1x8x1x1024 .f32)
    (j : Fin 8) (r : Fin 64) (n : Fin 1024) :
    k0_pay1 (F := Ideal) t y z x m (ix3 j r n)
      = x (ix3 j r n) + m (ix4 0 j 0 n) * (t (ix3 j r 2) * y (ix3 j r n) + t (ix3 j r 3) * z (ix3 j r n)) := by
  unfold k0_pay1
  pointwise
  rfl

theorem left_eq (x : Vec Ideal S8x64x1024 .f32) (y z : Vec Ideal S8x64x1024 .bf16) (t : Vec Ideal S8x64x128 .f32) (m : Vec Ideal S1x8x1x1024 .f32) :
    out0_5 (F := Ideal) x y z t m = k0_pay1 (F := Ideal) t y z x m := by
  unfold out0_5
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]

variable (m : (ℓ : Loc nD τ sig) → Buf (Elt Ideal) ℓ) (c : Dev nD)

abbrev X : S128x64x2048.Idx → EReal := m ((c : Thread nD τ).loc main_arg0)
abbrev Y : S8192x2048.Idx → EReal := m ((c : Thread nD τ).loc main_arg1)
abbrev Z : S8192x2048.Idx → EReal := m ((c : Thread nD τ).loc main_arg2)
abbrev T : S8192x128.Idx → EReal := m ((c : Thread nD τ).loc main_arg3)
abbrev M : S6x40x2048.Idx → EReal := m ((c : Thread nD τ).loc main_arg4)

theorem lt_32 (t : Fin cfg0.N) : t.val < 32 := lt_of_lt_of_eq t.isLt (show cfg0.N = 32 by decide)

/-- Where a block's element lies. -/
theorem place (i : Fin 3 → Nat) (q p j r n : Nat) (h : i = ![q, 0, p]) :
    i 0 * 8 + 1 * j = 8 * q + j ∧ i 1 * 64 + 1 * r = r ∧ i 2 * 1024 + 1 * n = 1024 * p + n ∧ (p = 0 → i 2 * 128 + 1 * n = n) := by
  subst h
  refine ⟨?_, ?_, ?_, fun h => ?_⟩
  · show q * 8 + 1 * j = 8 * q + j; omega
  · show 0 * 64 + 1 * r = r; omega
  · show p * 1024 + 1 * n = 1024 * p + n; omega
  · show p * 128 + 1 * n = n; omega

/-- A point's groups of rows, and its columns. -/
def grpF (t : Fin cfg0.N) (j : Fin 8) : Fin 128 := ⟨8 * (t.val / 2) + j.val, by have := lt_32 t; omega⟩
def colF (t : Fin cfg0.N) (n : Fin 1024) : Fin 2048 := ⟨1024 * (t.val % 2) + n.val, by omega⟩

theorem index_0 : ∀ t : Fin cfg0.N, (cfg0.win 0).index t = ![t.val / 2, 0, t.val % 2] := by decide +kernel
theorem index_1 : ∀ t : Fin cfg0.N, (cfg0.win 1).index t = ![t.val / 2, 0, t.val % 2] := by decide +kernel
theorem index_2 : ∀ t : Fin cfg0.N, (cfg0.win 2).index t = ![t.val / 2, 0, t.val % 2] := by decide +kernel
theorem index_3 : ∀ t : Fin cfg0.N, (cfg0.win 3).index t = ![t.val / 2, 0, 0] := by decide +kernel
theorem index_4 : ∀ t : Fin cfg0.N, (cfg0.win 4).index t = ![5, t.val / 2, 0, t.val % 2] := by decide +kernel
theorem index_5 : ∀ t : Fin cfg0.N, (cfg0.win 5).index t = ![t.val / 2, 0, t.val % 2] := by decide +kernel

theorem rows_2048 (x : S8192x2048.Idx → EReal) (h) (g : Fin 128) (r : Fin 64) (n : Fin 2048) :
    shapeCast S128x64x2048 x h (ix3 g r n) = x (ix2 ⟨64 * g.val + r.val, by omega⟩ n) := by
  refine shapeCast_apply _ _ _ _ ?_
  rewrite [Shape.rowMajor_val_two, Shape.rowMajor_val_three]
  show (64 * g.val + r.val) * 2048 + n.val = (g.val * 64 + r.val) * 2048 + n.val
  omega

theorem rows_128 (x : S8192x128.Idx → EReal) (h) (g : Fin 128) (r : Fin 64) (n : Fin 128) :
    shapeCast S128x64x128 x h (ix3 g r n) = x (ix2 ⟨64 * g.val + r.val, by omega⟩ n) := by
  refine shapeCast_apply _ _ _ _ ?_
  rewrite [Shape.rowMajor_val_two, Shape.rowMajor_val_three]
  show (64 * g.val + r.val) * 128 + n.val = (g.val * 64 + r.val) * 128 + n.val
  omega

theorem V_y : V m c main_v4 = shapeCast S128x64x2048 (Y m c) shapeCasts_S8192x2048_S128x64x2048 := by
  unfold V
  after_results
  rfl

theorem V_z : V m c main_v5 = shapeCast S128x64x2048 (Z m c) shapeCasts_S8192x2048_S128x64x2048 := by
  unfold V
  after_results
  rfl

theorem V_t : V m c main_v6 = shapeCast S128x64x128 (T m c) shapeCasts_S8192x128_S128x64x128 := by
  unfold V
  after_results
  rfl

theorem V_m (a : Fin 6) (g : Fin 128) (k : Fin 2048) : V m c main_v3 (ix4 a g 0 k : S6x128x1x2048.Idx) = M m c (ix3 a ⟨g.val / 64, by omega⟩ k) := by
  have e : V m c main_v3 = broadcastInDim S6x128x1x2048 ![0, 1, 3] bcast_S6x128x2048_S6x128x1x2048_0_1_3
      (shapeCast S6x128x2048 (broadcastInDim S6x2x64x2048 ![0, 1, 3] bcast_S6x2x2048_S6x2x64x2048_0_1_3
        (extractStridedSlice S6x2x2048 ![0, 0, 0] (m ((c : Thread nD τ).loc main_arg4)) slices_S6x40x2048_S6x2x2048_0_0_0)) shapeCasts_S6x2x64x2048_S6x128x2048) := by
    unfold V
    after_results
    rfl
  rw [e]
  exact Cert.ProjIdeal.Hand.mods3 _ a g k

theorem iblk_0 (t : Fin cfg0.N) (j : Fin 8) (r : Fin 64) (n : Fin 1024) : iblk m c 0 t (ix3 j r n : S8x64x1024.Idx) = X m c (ix3 (grpF t j) r (colF t n)) := by
  refine (congrArg (V m c main_arg0 : S128x64x2048.Idx → EReal) (funext fun a => Fin.ext ?_)).trans (congrFun (V_main_arg0 m c) (ix3 (grpF t j) r (colF t n)))
  match a with
  | ⟨0, _⟩ => exact (place _ _ _ j.val r.val 0 (index_0 t)).1
  | ⟨1, _⟩ => exact (place _ _ _ j.val r.val 0 (index_0 t)).2.1
  | ⟨2, _⟩ => exact (place _ _ _ j.val r.val n.val (index_0 t)).2.2.1

theorem iblk_1 (t : Fin cfg0.N) (j : Fin 8) (r : Fin 64) (n : Fin 1024) : iblk m c 1 t (ix3 j r n : S8x64x1024.Idx) = Y m c (ix2 ⟨64 * (grpF t j).val + r.val, by omega⟩ (colF t n)) := by
  refine (congrArg (V m c main_v4 : S128x64x2048.Idx → EReal) (funext fun a => Fin.ext ?_)).trans ((congrFun (V_y m c) _).trans (rows_2048 _ _ (grpF t j) r (colF t n)))
  match a with
  | ⟨0, _⟩ => exact (place _ _ _ j.val r.val 0 (index_1 t)).1
  | ⟨1, _⟩ => exact (place _ _ _ j.val r.val 0 (index_1 t)).2.1
  | ⟨2, _⟩ => exact (place _ _ _ j.val r.val n.val (index_1 t)).2.2.1

theorem iblk_2 (t : Fin cfg0.N) (j : Fin 8) (r : Fin 64) (n : Fin 1024) : iblk m c 2 t (ix3 j r n : S8x64x1024.Idx) = Z m c (ix2 ⟨64 * (grpF t j).val + r.val, by omega⟩ (colF t n)) := by
  refine (congrArg (V m c main_v5 : S128x64x2048.Idx → EReal) (funext fun a => Fin.ext ?_)).trans ((congrFun (V_z m c) _).trans (rows_2048 _ _ (grpF t j) r (colF t n)))
  match a with
  | ⟨0, _⟩ => exact (place _ _ _ j.val r.val 0 (index_2 t)).1
  | ⟨1, _⟩ => exact (place _ _ _ j.val r.val 0 (index_2 t)).2.1
  | ⟨2, _⟩ => exact (place _ _ _ j.val r.val n.val (index_2 t)).2.2.1

theorem iblk_3 (t : Fin cfg0.N) (j : Fin 8) (r : Fin 64) (n : Fin 128) : iblk m c 3 t (ix3 j r n : S8x64x128.Idx) = T m c (ix2 ⟨64 * (grpF t j).val + r.val, by omega⟩ n) := by
  refine (congrArg (V m c main_v6 : S128x64x128.Idx → EReal) (funext fun a => Fin.ext ?_)).trans ((congrFun (V_t m c) _).trans (rows_128 _ _ (grpF t j) r n))
  match a with
  | ⟨0, _⟩ => exact (place _ _ _ j.val r.val 0 (index_3 t)).1
  | ⟨1, _⟩ => exact (place _ _ _ j.val r.val 0 (index_3 t)).2.1
  | ⟨2, _⟩ => exact (place _ _ _ j.val r.val n.val (index_3 t)).2.2.2 rfl

theorem iblk_4 (t : Fin cfg0.N) (j : Fin 8) (n : Fin 1024) : iblk m c 4 t (ix4 0 j 0 n : S1x8x1x1024.Idx)
    = M m c (ix3 5 ⟨(grpF t j).val / 64, by omega⟩ (colF t n)) := by
  refine (congrArg (V m c main_v3) (funext fun a => Fin.ext ?_)).trans (V_m m c 5 (grpF t j) (colF t n))
  match a with
  | ⟨0, _⟩ => show (cfg0.win 4).index t 0 * 1 + 1 * 0 = 5; rw [index_4]; rfl
  | ⟨1, _⟩ => show (cfg0.win 4).index t 1 * 8 + 1 * j.val = 8 * (t.val / 2) + j.val; rw [index_4]; show t.val / 2 * 8 + 1 * j.val = 8 * (t.val / 2) + j.val; omega
  | ⟨2, _⟩ => show (cfg0.win 4).index t 2 * 1 + 1 * 0 = 0; rw [index_4]; rfl
  | ⟨3, _⟩ => show (cfg0.win 4).index t 3 * 1024 + 1 * n.val = 1024 * (t.val % 2) + n.val; rw [index_4]; show t.val % 2 * 1024 + 1 * n.val = 1024 * (t.val % 2) + n.val; omega

/-- What a point leaves in its block. -/
theorem block (t : Fin cfg0.N) (j : Fin 8) (r : Fin 64) (n : Fin 1024) :
    out0_5 (F := Ideal) (iblk m c 0 t) (iblk m c 1 t) (iblk m c 2 t) (iblk m c 3 t) (iblk m c 4 t) (ix3 j r n)
      = combined (X m c) (Y m c) (Z m c) (T m c) (M m c) (grpF t j) r (colF t n) := by
  refine (congrFun (left_eq _ _ _ _ _) _).trans ((pay _ _ _ _ _ j r n).trans ?_)
  refine congrArg₂ (fun p q : EReal => p + q) (iblk_0 m c t j r n) (congrArg₂ (fun p q : EReal => p * q) (iblk_4 m c t j n) ?_)
  exact congrArg₂ (fun p q : EReal => p + q) (congrArg₂ (fun p q : EReal => p * q) (iblk_3 m c t j r 2) (iblk_1 m c t j r n))
    (congrArg₂ (fun p q : EReal => p * q) (iblk_3 m c t j r 3) (iblk_2 m c t j r n))

theorem result : (dats m 0 c).arrAt 5 cfg0.N = fun i : S128x64x2048.Idx => combined (X m c) (Y m c) (Z m c) (T m c) (M m c) (i 0) (i 1) (i 2) := by
  refine (dats m 0 c).arrAt_eq_of_covers 5 _ (by decide +kernel) fun t hf y => ?_
  obtain ⟨j, r, n, rfl⟩ : ∃ (j : Fin 8) (r : Fin 64) (n : Fin 1024), y = (ix3 j r n : S8x64x1024.Idx) := ⟨y 0, y 1, y 2, eq_ix3 y⟩
  have e0 : (((cfg0.win 5).blk t).view.emb (ix3 j r n : S8x64x1024.Idx) : S128x64x2048.Idx) = ix3 (grpF t j) r (colF t n) := by
    funext a
    apply Fin.ext
    match a with
    | ⟨0, _⟩ => exact (place _ _ _ j.val r.val 0 (index_5 t)).1
    | ⟨1, _⟩ => exact (place _ _ _ j.val r.val 0 (index_5 t)).2.1
    | ⟨2, _⟩ => exact (place _ _ _ j.val r.val n.val (index_5 t)).2.2.1
  rw [e0]
  exact (congrFun (after0_5 m c t) _).trans (block m c t j r n)

end Cert.FinalValue

namespace Cert.FinalClaims

open Idealize.ShloMosaic hiding ix1 ix2 ix3 ix4 eq_ix1 eq_ix2 eq_ix3 eq_ix4
open Idealize.ShloMosaic.ValueIdx Idealize.ShloMosaic.TcCoe Idealize.SL.Sem

open Cert.FinalValue Cert.FinalRefIdeal.Read

theorem frame_bits : Cert.quiescent_Final := fun m ρ _ => Cert.Final.Gen.frame m ρ

theorem frame_ideal : Cert.quiescent_FinalIdeal := fun m ρ _ => Cert.FinalIdeal.Gen.frame m ρ

theorem frame_ref : Cert.quiescent_FinalRefIdeal := fun m ρ _ =>
  (θ_run Cert.FinalRefIdeal.defs _ _).mono (fun r h => ⟨fun c => (h c).2,
      Idealize.ShloMosaic.sem_eq_zero_of_no_sems (by decide) r.2⟩)
    (Cert.FinalRefIdeal.Value.run (F := Ideal) m ρ)

/-- Cell by cell, both programs' result is the closed form of the arguments. -/
theorem algebraic : Cert.algebraic_FinalIdeal_FinalRefIdeal := fun m ρ m' ρ' _ hag => by
  refine ⟨fun c => fun i : Cert.FinalIdeal.S128x64x2048.Idx => Cert.FinalRefValue.combined (X m c) (Y m c) (Z m c) (T m c) (M m c) (i 0) (i 1) (i 2), ?_, ?_⟩
  · exact (θ_run Cert.FinalIdeal.defs _ _).mono (fun r hq c => ⟨(hq c).1.trans (result m c), (hq c).2⟩)
      (Cert.FinalIdeal.Value.run_blocks m ρ)
  · refine (θ_run Cert.FinalRefIdeal.defs _ _).mono (fun r hq c => ?_) (Cert.FinalRefIdeal.Value.run (F := Ideal) m' ρ')
    obtain ⟨a0, a1, a2, a3, a4⟩ := hag c
    refine ⟨(hq c).1.trans ?_, (hq c).2⟩
    refine (val_main_v15_eq _ _ _ _ _).trans ?_
    rw [a0, a1, a2, a3, a4]
    funext i
    obtain ⟨g, r, n, rfl⟩ : ∃ (g : Fin 128) (r : Fin 64) (n : Fin 2048), i = ix3 g r n := ⟨i 0, i 1, i 2, eq_ix3 i⟩
    exact Cert.FinalRefValue.result _ _ _ _ _ g r n

end Cert.FinalClaims
-- ==== Proof.FinalStepCall.lean ====
/- The final call on the sample: each of its blocks is the reference's closed form at the block's rows and columns, and with it the
   claims about the kernel and its reference. -/
module

public import proofs.«01_k».proof.Defs
public import proofs.«01_k».proof.Proof.Gen.FinalStep.Frame
public import proofs.«01_k».proof.Proof.Gen.FinalStepIdeal.Value
public import proofs.«01_k».proof.Proof.Gen.FinalStepRefIdeal.Run
public import proofs.«01_k».proof.Proof.Gen.FinalStepRefIdeal.Read
public import proofs.«01_k».proof.Proof.FinalCall

@[expose] public section

set_option maxRecDepth 16384

noncomputable section

namespace Cert.FinalStepRefValue

open Idealize.ShloMosaic hiding ix1 ix2 ix3 ix4 eq_ix1 eq_ix2 eq_ix3 eq_ix4
open Idealize.ShloMosaic.ValueIdx Idealize.ShloMosaic.TcCoe Idealize.SL.Sem

open Cert.FinalStepRefIdeal Cert.FinalStepRefIdeal.Gen Cert.FinalStepRefIdeal.Read

/-- The residual row plus its sequence's gate times the row's two expert rows, each by its combine weight. -/
def combined (X : S32x64x2048.Idx → EReal) (Y Z : S2048x2048.Idx → EReal) (T : S2048x128.Idx → EReal) (M : S6x40x2048.Idx → EReal)
    (g : Fin 32) (r : Fin 64) (n : Fin 2048) : EReal :=
  X (ix3 g r n) + M (ix3 5 ⟨2 + g.val, by omega⟩ n)
    * (T (ix2 ⟨64 * g.val + r.val, by omega⟩ 2) * Y (ix2 ⟨64 * g.val + r.val, by omega⟩ n)
      + T (ix2 ⟨64 * g.val + r.val, by omega⟩ 3) * Z (ix2 ⟨64 * g.val + r.val, by omega⟩ n))

variable (X : S32x64x2048.Idx → EReal) (Y Z : S2048x2048.Idx → EReal) (T : S2048x128.Idx → EReal) (M : S6x40x2048.Idx → EReal)

theorem stack (a b : S2048x1x2048.Idx → EReal) (h) (r : Fin 2048) (k : Fin 2) (n : Fin 2048) :
    concatenate S2048x2x2048 1 [⟨S2048x1x2048, a⟩, ⟨S2048x1x2048, b⟩] h (ix3 r k n)
      = if h : k.val < 1 then a (ix3 r ⟨k.val, h⟩ n) else b (ix3 r ⟨k.val - 1, by omega⟩ n) := by
  pointwise
  rfl

/-- A row's two expert rows, each by its weight. -/
theorem both (r : Fin 2048) (n : Fin 2048) :
    val_main_v9 (F := Ideal) Y Z T (ix2 r n) = T (ix2 r 2) * Y (ix2 r n) + T (ix2 r 3) * Z (ix2 r n) := by
  rw [val_main_v9_apply, Fin.sum_univ_two, val_main_v3_apply, val_main_v3_apply]
  refine congrArg₂ (fun p q : EReal => p + q) (congrArg₂ (fun p q : EReal => p * q) (congrArg T ?_) ?_) (congrArg₂ (fun p q : EReal => p * q) (congrArg T ?_) ?_)
  · funext d; match d with | ⟨0, _⟩ => rfl | ⟨1, _⟩ => rfl
  · rw [eq_ix3 (ridx_main_v9 (ix2 r n) 0)]
    refine (stack _ _ _ r 0 n).trans ?_
    rw [dif_pos (by decide), val_main_v6_apply]
    exact congrArg Y (by funext d; match d with | ⟨0, _⟩ => rfl | ⟨1, _⟩ => rfl)
  · funext d; match d with | ⟨0, _⟩ => rfl | ⟨1, _⟩ => rfl
  · rw [eq_ix3 (ridx_main_v9 (ix2 r n) 1)]
    refine (stack _ _ _ r 1 n).trans ?_
    rw [dif_neg (by decide), val_main_v7_apply]
    exact congrArg Z (by funext d; match d with | ⟨0, _⟩ => rfl | ⟨1, _⟩ => rfl)

theorem result (g : Fin 32) (r : Fin 64) (n : Fin 2048) : val_main_v13 (F := Ideal) X Y Z T M (ix3 g r n) = combined X Y Z T M g r n := by
  have e : idx_main_v10 (ix3 g r n) = ix2 ⟨64 * g.val + r.val, by omega⟩ n := by
    funext d
    apply Fin.ext
    match d with
    | ⟨0, _⟩ => show ((g.val * 64 + r.val) * 2048 + n.val) / 2048 = 64 * g.val + r.val; omega
    | ⟨1, _⟩ => show ((g.val * 64 + r.val) * 2048 + n.val) % 2048 = n.val; omega
  rw [val_main_v13_apply, val_main_v12_apply, val_main_v11_apply, val_main_v2_apply, val_main_v1_apply, val_main_v0_apply, val_main_v10_apply, e, both]
  refine congrArg₂ (fun p q : EReal => p + q) rfl (congrArg₂ (fun p q : EReal => p * q) (congrArg M (funext fun a => Fin.ext ?_)) rfl)
  match a with
  | ⟨0, _⟩ => rfl
  | ⟨1, _⟩ => show 2 + (g.val * 2048 + n.val) / 2048 % 32 = 2 + g.val; omega
  | ⟨2, _⟩ => show (g.val * 2048 + n.val) % 2048 = n.val; omega

end Cert.FinalStepRefValue

namespace Cert.FinalStepValue

open Idealize.ShloMosaic hiding ix1 ix2 ix3 ix4 eq_ix1 eq_ix2 eq_ix3 eq_ix4
open Idealize.ShloMosaic.ValueIdx Idealize.ShloMosaic.TcCoe Idealize.SL.Sem

open Cert.FinalStepIdeal Cert.FinalStepIdeal.Gen Cert.FinalStepRefValue

theorem pay (t : Vec Ideal S8x64x128 .f32) (y z : Vec Ideal S8x64x1024 .bf16) (x : Vec Ideal S8x64x1024 .f32) (m : Vec Ideal S1x8x1x1024 .f32)
    (j : Fin 8) (r : Fin 64) (n : Fin 1024) :
    k0_pay1 (F := Ideal) t y z x m (ix3 j r n)
      = x (ix3 j r n) + m (ix4 0 j 0 n) * (t (ix3 j r 2) * y (ix3 j r n) + t (ix3 j r 3) * z (ix3 j r n)) := by
  unfold k0_pay1
  pointwise
  rfl

theorem left_eq (x : Vec Ideal S8x64x1024 .f32) (y z : Vec Ideal S8x64x1024 .bf16) (t : Vec Ideal S8x64x128 .f32) (m : Vec Ideal S1x8x1x1024 .f32) :
    out0_5 (F := Ideal) x y z t m = k0_pay1 (F := Ideal) t y z x m := by
  unfold out0_5
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]

variable (m : (ℓ : Loc nD τ sig) → Buf (Elt Ideal) ℓ) (c : Dev nD)

abbrev X : S32x64x2048.Idx → EReal := m ((c : Thread nD τ).loc main_arg0)
abbrev Y : S2048x2048.Idx → EReal := m ((c : Thread nD τ).loc main_arg1)
abbrev Z : S2048x2048.Idx → EReal := m ((c : Thread nD τ).loc main_arg2)
abbrev T : S2048x128.Idx → EReal := m ((c : Thread nD τ).loc main_arg3)
abbrev M : S6x40x2048.Idx → EReal := m ((c : Thread nD τ).loc main_arg4)

theorem lt_8 (t : Fin cfg0.N) : t.val < 8 := lt_of_lt_of_eq t.isLt (show cfg0.N = 8 by decide)

/-- A point's groups of rows, and its columns. -/
def grpF (t : Fin cfg0.N) (j : Fin 8) : Fin 32 := ⟨8 * (t.val / 2) + j.val, by have := lt_8 t; omega⟩
def colF (t : Fin cfg0.N) (n : Fin 1024) : Fin 2048 := ⟨1024 * (t.val % 2) + n.val, by omega⟩

theorem index_0 : ∀ t : Fin cfg0.N, (cfg0.win 0).index t = ![t.val / 2, 0, t.val % 2] := by decide +kernel
theorem index_1 : ∀ t : Fin cfg0.N, (cfg0.win 1).index t = ![t.val / 2, 0, t.val % 2] := by decide +kernel
theorem index_2 : ∀ t : Fin cfg0.N, (cfg0.win 2).index t = ![t.val / 2, 0, t.val % 2] := by decide +kernel
theorem index_3 : ∀ t : Fin cfg0.N, (cfg0.win 3).index t = ![t.val / 2, 0, 0] := by decide +kernel
theorem index_4 : ∀ t : Fin cfg0.N, (cfg0.win 4).index t = ![5, t.val / 2, 0, t.val % 2] := by decide +kernel
theorem index_5 : ∀ t : Fin cfg0.N, (cfg0.win 5).index t = ![t.val / 2, 0, t.val % 2] := by decide +kernel

theorem rows_2048 (x : S2048x2048.Idx → EReal) (h) (g : Fin 32) (r : Fin 64) (n : Fin 2048) :
    shapeCast S32x64x2048 x h (ix3 g r n) = x (ix2 ⟨64 * g.val + r.val, by omega⟩ n) := by
  refine shapeCast_apply _ _ _ _ ?_
  rewrite [Shape.rowMajor_val_two, Shape.rowMajor_val_three]
  show (64 * g.val + r.val) * 2048 + n.val = (g.val * 64 + r.val) * 2048 + n.val
  omega

theorem rows_128 (x : S2048x128.Idx → EReal) (h) (g : Fin 32) (r : Fin 64) (n : Fin 128) :
    shapeCast S32x64x128 x h (ix3 g r n) = x (ix2 ⟨64 * g.val + r.val, by omega⟩ n) := by
  refine shapeCast_apply _ _ _ _ ?_
  rewrite [Shape.rowMajor_val_two, Shape.rowMajor_val_three]
  show (64 * g.val + r.val) * 128 + n.val = (g.val * 64 + r.val) * 128 + n.val
  omega

theorem V_y : V m c main_v2 = shapeCast S32x64x2048 (Y m c) shapeCasts_S2048x2048_S32x64x2048 := by
  unfold V
  after_results
  rfl

theorem V_z : V m c main_v3 = shapeCast S32x64x2048 (Z m c) shapeCasts_S2048x2048_S32x64x2048 := by
  unfold V
  after_results
  rfl

theorem V_t : V m c main_v4 = shapeCast S32x64x128 (T m c) shapeCasts_S2048x128_S32x64x128 := by
  unfold V
  after_results
  rfl

theorem mods (x : (⟨S6x40x2048, .f32⟩ : BufTy).Contents (Elt Ideal)) (a : Fin 6) (g : Fin 32) (k : Fin 2048) :
    broadcastInDim S6x32x1x2048 ![0, 1, 3] bcast_S6x32x2048_S6x32x1x2048_0_1_3
      (extractStridedSlice S6x32x2048 ![0, 2, 0] x slices_S6x40x2048_S6x32x2048_0_2_0) (ix4 a g 0 k) = x (ix3 a ⟨2 + g.val, by omega⟩ k) := by
  refine (broadcastInDim_apply _ bcast_S6x32x2048_S6x32x1x2048_0_1_3 _ _ (ix3 a g k) (fun d => match d with
    | ⟨0, _⟩ => by show a.val = if (6 : Nat) = 1 then 0 else a.val; rw [if_neg (by decide)]
    | ⟨1, _⟩ => by show g.val = if (32 : Nat) = 1 then 0 else g.val; rw [if_neg (by decide)]
    | ⟨2, _⟩ => by show k.val = if (2048 : Nat) = 1 then 0 else k.val; rw [if_neg (by decide)])).trans ?_
  exact extractStridedSlice_apply ![0, 2, 0] x slices_S6x40x2048_S6x32x2048_0_2_0 _ (ix3 a ⟨2 + g.val, by omega⟩ k) (fun d => match d with
    | ⟨0, _⟩ => by show a.val = 0 + a.val; omega
    | ⟨1, _⟩ => rfl
    | ⟨2, _⟩ => by show k.val = 0 + k.val; omega)

theorem V_m (a : Fin 6) (g : Fin 32) (k : Fin 2048) : V m c main_v1 (ix4 a g 0 k : S6x32x1x2048.Idx) = M m c (ix3 a ⟨2 + g.val, by omega⟩ k) := by
  have e : V m c main_v1 = broadcastInDim S6x32x1x2048 ![0, 1, 3] bcast_S6x32x2048_S6x32x1x2048_0_1_3
      (extractStridedSlice S6x32x2048 ![0, 2, 0] (m ((c : Thread nD τ).loc main_arg4)) slices_S6x40x2048_S6x32x2048_0_2_0) := by
    unfold V
    after_results
  rw [e]
  exact mods _ a g k

theorem iblk_0 (t : Fin cfg0.N) (j : Fin 8) (r : Fin 64) (n : Fin 1024) : iblk m c 0 t (ix3 j r n : S8x64x1024.Idx) = X m c (ix3 (grpF t j) r (colF t n)) := by
  refine (congrArg (V m c main_arg0 : S32x64x2048.Idx → EReal) (funext fun a => Fin.ext ?_)).trans (congrFun (V_main_arg0 m c) (ix3 (grpF t j) r (colF t n)))
  match a with
  | ⟨0, _⟩ => exact (Cert.FinalValue.place _ _ _ j.val r.val 0 (index_0 t)).1
  | ⟨1, _⟩ => exact (Cert.FinalValue.place _ _ _ j.val r.val 0 (index_0 t)).2.1
  | ⟨2, _⟩ => exact (Cert.FinalValue.place _ _ _ j.val r.val n.val (index_0 t)).2.2.1

theorem iblk_1 (t : Fin cfg0.N) (j : Fin 8) (r : Fin 64) (n : Fin 1024) : iblk m c 1 t (ix3 j r n : S8x64x1024.Idx) = Y m c (ix2 ⟨64 * (grpF t j).val + r.val, by omega⟩ (colF t n)) := by
  refine (congrArg (V m c main_v2 : S32x64x2048.Idx → EReal) (funext fun a => Fin.ext ?_)).trans ((congrFun (V_y m c) _).trans (rows_2048 _ _ (grpF t j) r (colF t n)))
  match a with
  | ⟨0, _⟩ => exact (Cert.FinalValue.place _ _ _ j.val r.val 0 (index_1 t)).1
  | ⟨1, _⟩ => exact (Cert.FinalValue.place _ _ _ j.val r.val 0 (index_1 t)).2.1
  | ⟨2, _⟩ => exact (Cert.FinalValue.place _ _ _ j.val r.val n.val (index_1 t)).2.2.1

theorem iblk_2 (t : Fin cfg0.N) (j : Fin 8) (r : Fin 64) (n : Fin 1024) : iblk m c 2 t (ix3 j r n : S8x64x1024.Idx) = Z m c (ix2 ⟨64 * (grpF t j).val + r.val, by omega⟩ (colF t n)) := by
  refine (congrArg (V m c main_v3 : S32x64x2048.Idx → EReal) (funext fun a => Fin.ext ?_)).trans ((congrFun (V_z m c) _).trans (rows_2048 _ _ (grpF t j) r (colF t n)))
  match a with
  | ⟨0, _⟩ => exact (Cert.FinalValue.place _ _ _ j.val r.val 0 (index_2 t)).1
  | ⟨1, _⟩ => exact (Cert.FinalValue.place _ _ _ j.val r.val 0 (index_2 t)).2.1
  | ⟨2, _⟩ => exact (Cert.FinalValue.place _ _ _ j.val r.val n.val (index_2 t)).2.2.1

theorem iblk_3 (t : Fin cfg0.N) (j : Fin 8) (r : Fin 64) (n : Fin 128) : iblk m c 3 t (ix3 j r n : S8x64x128.Idx) = T m c (ix2 ⟨64 * (grpF t j).val + r.val, by omega⟩ n) := by
  refine (congrArg (V m c main_v4 : S32x64x128.Idx → EReal) (funext fun a => Fin.ext ?_)).trans ((congrFun (V_t m c) _).trans (rows_128 _ _ (grpF t j) r n))
  match a with
  | ⟨0, _⟩ => exact (Cert.FinalValue.place _ _ _ j.val r.val 0 (index_3 t)).1
  | ⟨1, _⟩ => exact (Cert.FinalValue.place _ _ _ j.val r.val 0 (index_3 t)).2.1
  | ⟨2, _⟩ => exact (Cert.FinalValue.place _ _ _ j.val r.val n.val (index_3 t)).2.2.2 rfl

theorem iblk_4 (t : Fin cfg0.N) (j : Fin 8) (n : Fin 1024) : iblk m c 4 t (ix4 0 j 0 n : S1x8x1x1024.Idx)
    = M m c (ix3 5 ⟨2 + (grpF t j).val, by omega⟩ (colF t n)) := by
  refine (congrArg (V m c main_v1) (funext fun a => Fin.ext ?_)).trans (V_m m c 5 (grpF t j) (colF t n))
  match a with
  | ⟨0, _⟩ => show (cfg0.win 4).index t 0 * 1 + 1 * 0 = 5; rw [index_4]; rfl
  | ⟨1, _⟩ => show (cfg0.win 4).index t 1 * 8 + 1 * j.val = 8 * (t.val / 2) + j.val; rw [index_4]; show t.val / 2 * 8 + 1 * j.val = 8 * (t.val / 2) + j.val; omega
  | ⟨2, _⟩ => show (cfg0.win 4).index t 2 * 1 + 1 * 0 = 0; rw [index_4]; rfl
  | ⟨3, _⟩ => show (cfg0.win 4).index t 3 * 1024 + 1 * n.val = 1024 * (t.val % 2) + n.val; rw [index_4]; show t.val % 2 * 1024 + 1 * n.val = 1024 * (t.val % 2) + n.val; omega

/-- What a point leaves in its block. -/
theorem block (t : Fin cfg0.N) (j : Fin 8) (r : Fin 64) (n : Fin 1024) :
    out0_5 (F := Ideal) (iblk m c 0 t) (iblk m c 1 t) (iblk m c 2 t) (iblk m c 3 t) (iblk m c 4 t) (ix3 j r n)
      = combined (X m c) (Y m c) (Z m c) (T m c) (M m c) (grpF t j) r (colF t n) := by
  refine (congrFun (left_eq _ _ _ _ _) _).trans ((pay _ _ _ _ _ j r n).trans ?_)
  refine congrArg₂ (fun p q : EReal => p + q) (iblk_0 m c t j r n) (congrArg₂ (fun p q : EReal => p * q) (iblk_4 m c t j n) ?_)
  exact congrArg₂ (fun p q : EReal => p + q) (congrArg₂ (fun p q : EReal => p * q) (iblk_3 m c t j r 2) (iblk_1 m c t j r n))
    (congrArg₂ (fun p q : EReal => p * q) (iblk_3 m c t j r 3) (iblk_2 m c t j r n))

theorem result : (dats m 0 c).arrAt 5 cfg0.N = fun i : S32x64x2048.Idx => combined (X m c) (Y m c) (Z m c) (T m c) (M m c) (i 0) (i 1) (i 2) := by
  refine (dats m 0 c).arrAt_eq_of_covers 5 _ (by decide +kernel) fun t hf y => ?_
  obtain ⟨j, r, n, rfl⟩ : ∃ (j : Fin 8) (r : Fin 64) (n : Fin 1024), y = (ix3 j r n : S8x64x1024.Idx) := ⟨y 0, y 1, y 2, eq_ix3 y⟩
  have e0 : (((cfg0.win 5).blk t).view.emb (ix3 j r n : S8x64x1024.Idx) : S32x64x2048.Idx) = ix3 (grpF t j) r (colF t n) := by
    funext a
    apply Fin.ext
    match a with
    | ⟨0, _⟩ => exact (Cert.FinalValue.place _ _ _ j.val r.val 0 (index_5 t)).1
    | ⟨1, _⟩ => exact (Cert.FinalValue.place _ _ _ j.val r.val 0 (index_5 t)).2.1
    | ⟨2, _⟩ => exact (Cert.FinalValue.place _ _ _ j.val r.val n.val (index_5 t)).2.2.1
  rw [e0]
  exact (congrFun (after0_5 m c t) _).trans (block m c t j r n)

end Cert.FinalStepValue

namespace Cert.FinalStepClaims

open Idealize.ShloMosaic hiding ix1 ix2 ix3 ix4 eq_ix1 eq_ix2 eq_ix3 eq_ix4
open Idealize.ShloMosaic.ValueIdx Idealize.ShloMosaic.TcCoe Idealize.SL.Sem

open Cert.FinalStepValue Cert.FinalStepRefIdeal.Read

theorem frame_bits : Cert.quiescent_FinalStep := fun m ρ _ => Cert.FinalStep.Gen.frame m ρ

theorem frame_ideal : Cert.quiescent_FinalStepIdeal := fun m ρ _ => Cert.FinalStepIdeal.Gen.frame m ρ

theorem frame_ref : Cert.quiescent_FinalStepRefIdeal := fun m ρ _ =>
  (θ_run Cert.FinalStepRefIdeal.defs _ _).mono (fun r h => ⟨fun c => (h c).2,
      Idealize.ShloMosaic.sem_eq_zero_of_no_sems (by decide) r.2⟩)
    (Cert.FinalStepRefIdeal.Value.run (F := Ideal) m ρ)

/-- Cell by cell, both programs' result is the closed form of the arguments. -/
theorem algebraic : Cert.algebraic_FinalStepIdeal_FinalStepRefIdeal := fun m ρ m' ρ' _ hag => by
  refine ⟨fun c => fun i : Cert.FinalStepIdeal.S32x64x2048.Idx => Cert.FinalStepRefValue.combined (X m c) (Y m c) (Z m c) (T m c) (M m c) (i 0) (i 1) (i 2), ?_, ?_⟩
  · exact (θ_run Cert.FinalStepIdeal.defs _ _).mono (fun r hq c => ⟨(hq c).1.trans (result m c), (hq c).2⟩)
      (Cert.FinalStepIdeal.Value.run_blocks m ρ)
  · refine (θ_run Cert.FinalStepRefIdeal.defs _ _).mono (fun r hq c => ?_) (Cert.FinalStepRefIdeal.Value.run (F := Ideal) m' ρ')
    obtain ⟨a0, a1, a2, a3, a4⟩ := hag c
    refine ⟨(hq c).1.trans ?_, (hq c).2⟩
    refine (val_main_v13_eq _ _ _ _ _).trans ?_
    rw [a0, a1, a2, a3, a4]
    funext i
    obtain ⟨g, r, n, rfl⟩ : ∃ (g : Fin 32) (r : Fin 64) (n : Fin 2048), i = ix3 g r n := ⟨i 0, i 1, i 2, eq_ix3 i⟩
    exact Cert.FinalStepRefValue.result _ _ _ _ _ g r n

end Cert.FinalStepClaims
-- ==== Proof.BandStepMath.lean ====
/- The band attention step: its closed form, a softmax over the cached and the new keys; what the reference computes; and what the
   precondition gives. -/
module

public import proofs.«01_k».proof.Defs
public import proofs.«01_k».proof.Proof.Gen.BandStepRefIdeal.Run
public import proofs.«01_k».proof.Proof.Gen.BandStepRefIdeal.Read
public import proofs.«01_k».proof.Proof.Gen.Pre_scores
public import proofs.«01_k».proof.Proof.Gen.Pre_finite
public import proofs.«01_k».proof.Proof.StickMath
public import proofs.«01_k».proof.Proof.StickPre
public import Idealize.ShloMosaic.Lib.KernelVsHost

@[expose] public section

set_option maxRecDepth 16384

noncomputable section

namespace Cert.BandMath

open Idealize.ShloMosaic hiding ix1 ix2 ix3 ix4 eq_ix1 eq_ix2 eq_ix3 eq_ix4
open Idealize.ShloMosaic.ValueIdx

/-- The number is real. -/
abbrev IsReal (x : EReal) : Prop := ∃ r : ℝ, x = (r : EReal)

theorem isReal_sum {n : ℕ} (f : Fin n → EReal) (h : ∀ k, IsReal (f k)) : IsReal (∑ k, f k) := by
  choose g hg using h
  exact ⟨∑ k, g k, (Finset.sum_congr rfl fun k _ => hg k).trans (Cert.StickMath.coe_sum _ g).symm⟩

theorem isReal_max {n : ℕ} (k : Fin n) (f : Fin n → EReal) (h : ∀ k, IsReal (f k)) : IsReal (Finset.fold max ⊥ f Finset.univ) := by
  have h1 : Finset.fold max ⊥ f Finset.univ < ⊤ := (Finset.fold_max_lt _).mpr ⟨bot_lt_top, fun k _ => by obtain ⟨r, e⟩ := h k; rw [e]; exact EReal.coe_lt_top r⟩
  have h2 : ⊥ < Finset.fold max ⊥ f Finset.univ := by
    obtain ⟨r, e⟩ := h k
    exact lt_of_lt_of_le (by rw [e]; exact EReal.bot_lt_coe r) ((Finset.le_fold_max _).mpr (Or.inr ⟨k, Finset.mem_univ k, le_refl _⟩))
  exact ⟨_, (EReal.coe_toReal h1.ne h2.ne').symm⟩

/-- Values weighted by the softmax of the scores. -/
def soft (S V : Fin 576 → EReal) : EReal :=
  ∑ k, ((Real.exp (S k).toReal / ∑ j, Real.exp (S j).toReal : ℝ) : EReal) * V k

abbrev lo (k : Fin 512) : Fin 576 := ⟨k.val, by omega⟩
abbrev hi (k : Fin 64) : Fin 576 := ⟨512 + k.val, by omega⟩

theorem split (f : Fin 576 → EReal) : ∑ k : Fin 512, f (lo k) + ∑ k : Fin 64, f (hi k) = ∑ k, f k :=
  (Fin.sum_univ_add (a := 512) (b := 64) f).symm

theorem exp_sub (a b : ℝ) : Ideal.exp ((a : EReal) - (b : EReal)) = (Real.exp (a - b) : EReal) := by
  rw [← EReal.coe_sub]; rfl

theorem div_real (x : EReal) (d : ℝ) (h : 0 < d) : Ideal.div x (d : EReal) = ((d⁻¹ : ℝ) : EReal) * x := by
  unfold Ideal.div
  rw [if_neg (by exact_mod_cast h.ne'), mul_comm, EReal.coe_inv]

theorem mul_sum (c : ℝ) (hc : 0 ≤ c) (f : Fin 576 → EReal) : (c : EReal) * ∑ k, f k = ∑ k, (c : EReal) * f k := by
  classical
  refine Finset.induction_on (motive := fun s => (c : EReal) * ∑ k ∈ s, f k = ∑ k ∈ s, (c : EReal) * f k) Finset.univ (by simp) fun a s ha ih => ?_
  rw [Finset.sum_insert ha, Finset.sum_insert ha, EReal.left_distrib_of_nonneg_of_ne_top (by exact_mod_cast hc) (EReal.coe_ne_top c), ih]

theorem weight (s : Fin 576 → ℝ) (M : ℝ) (k : Fin 576) :
    (∑ j, Real.exp (s j - M))⁻¹ * Real.exp (s k - M) = Real.exp (s k) / ∑ j, Real.exp (s j) := by
  simp only [Real.exp_sub]
  rw [← Finset.sum_div, inv_div, div_mul_div_comm, mul_comm (Real.exp M), mul_div_mul_right _ _ (Real.exp_pos M).ne']

theorem den_pos (s : Fin 576 → ℝ) (M : ℝ) : 0 < ∑ j, Real.exp (s j - M) :=
  Finset.sum_pos (fun j _ => Real.exp_pos _) ⟨0, Finset.mem_univ _⟩

/-- Dividing the weighted sum, whatever real number was taken off the scores. -/
theorem soft_late (S V : Fin 576 → EReal) (hS : ∀ k, IsReal (S k)) (M : EReal) (hM : IsReal M) :
    Ideal.div (∑ k, Ideal.exp (S k - M) * V k) (∑ k, Ideal.exp (S k - M)) = soft S V := by
  choose s hs using hS
  obtain ⟨M, rfl⟩ := hM
  obtain rfl : S = fun k => (s k : EReal) := funext hs
  simp only [exp_sub, soft, EReal.toReal_coe]
  rw [← Cert.StickMath.coe_sum, div_real _ _ (den_pos s M), mul_sum _ (inv_nonneg.mpr (den_pos s M).le)]
  refine Finset.sum_congr rfl fun k _ => ?_
  rw [← mul_assoc, ← EReal.coe_mul, weight]

/-- Dividing each weight first. -/
theorem soft_early (S V : Fin 576 → EReal) (hS : ∀ k, IsReal (S k)) (M : EReal) (hM : IsReal M) :
    ∑ k, V k * Ideal.div (Ideal.exp (S k - M)) (∑ k, Ideal.exp (S k - M)) = soft S V := by
  choose s hs using hS
  obtain ⟨M, rfl⟩ := hM
  obtain rfl : S = fun k => (s k : EReal) := funext hs
  simp only [exp_sub, soft, EReal.toReal_coe]
  refine Finset.sum_congr rfl fun k _ => ?_
  rw [← Cert.StickMath.coe_sum, div_real _ _ (den_pos s M), mul_comm, ← EReal.coe_mul, weight]

end Cert.BandMath

namespace Cert.BandStepRefValue

open Idealize.ShloMosaic hiding ix1 ix2 ix3 ix4 eq_ix1 eq_ix2 eq_ix3 eq_ix4
open Idealize.ShloMosaic.ValueIdx
open Cert.BandMath Cert.BandStepRefIdeal Cert.BandStepRefIdeal.Gen Cert.BandStepRefIdeal.Read

variable (P : S2048x10240.Idx → EReal) (CK CV : S32x512x8x128.Idx → EReal) (B : S8x64x576.Idx → EReal)

/-- Column `h * 128 + d` of section `s` of a row. -/
abbrev part (s : Fin 10) (b : Fin 32) (t : Fin 64) (h : Fin 8) (d : Fin 128) : EReal :=
  P (ix2 ⟨64 * b.val + t.val, by omega⟩ ⟨1024 * s.val + (128 * h.val + d.val), by omega⟩)

/-- A cached row, then the new ones. -/
def row (C : S32x512x8x128.Idx → EReal) (s : Fin 10) (b : Fin 32) (h : Fin 8) (k : Fin 576) (d : Fin 128) : EReal :=
  if hk : k.val < 512 then C (ix4 b ⟨k.val, hk⟩ h d) else part P s b ⟨k.val - 512, by omega⟩ h d

def score (b : Fin 32) (h : Fin 8) (t : Fin 64) (k : Fin 576) : EReal :=
  ∑ d : Fin 128, part P 3 b t h d * row P CK 4 b h k d + B (ix3 h t k)

def attended (b : Fin 32) (h : Fin 8) (t : Fin 64) (d : Fin 128) : EReal :=
  soft (score P CK B b h t) fun k => row P CV 5 b h k d

/-- What the precondition gives. -/
structure Reals : Prop where
  proj : ∀ r c, 3072 ≤ c.val → c.val < 5120 → IsReal (P (ix2 r c))
  cache : ∀ i, IsReal (CK i)
  bias : ∀ i, IsReal (B i)

theorem isReal_add {x y : EReal} : IsReal x → IsReal y → IsReal (x + y) := fun ⟨a, ha⟩ ⟨b, hb⟩ => ⟨a + b, by rw [ha, hb, EReal.coe_add]⟩
theorem isReal_mul {x y : EReal} : IsReal x → IsReal y → IsReal (x * y) := fun ⟨a, ha⟩ ⟨b, hb⟩ => ⟨a * b, by rw [ha, hb, EReal.coe_mul]⟩

theorem isReal_score (H : Reals P CK B) (b : Fin 32) (h : Fin 8) (t : Fin 64) (k : Fin 576) : IsReal (score P CK B b h t k) := by
  refine isReal_add (isReal_sum _ fun d => isReal_mul (H.proj _ _ (by show 3072 ≤ 1024 * 3 + _; omega) (by show 1024 * 3 + _ < 5120; omega)) ?_) (H.bias _)
  unfold row
  split_ifs with hk
  · exact H.cache _
  · exact H.proj _ _ (by show 3072 ≤ 1024 * 4 + _; omega) (by show 1024 * 4 + _ < 5120; omega)

theorem rows (a : S32x512x8x128.Idx → EReal) (x : S32x64x8x128.Idx → EReal) (hc) (b : Fin 32) (k : Fin 576) (h : Fin 8) (d : Fin 128) :
    concatenate S32x576x8x128 1 [⟨S32x512x8x128, a⟩, ⟨S32x64x8x128, x⟩] hc (ix4 b k h d)
      = if hk : k.val < 512 then a (ix4 b ⟨k.val, hk⟩ h d) else x (ix4 b ⟨k.val - 512, by omega⟩ h d) := by
  pointwise
  rfl

theorem q_eq (b : Fin 32) (t : Fin 64) (h : Fin 8) (d : Fin 128) : val_main_v3 (F := Ideal) P (ix4 b t h d) = part P 3 b t h d := by
  show val_main_v2 (F := Ideal) P (ix4 b t h d) = _
  rw [val_main_v2_apply, val_main_v1_apply, val_main_v0_apply]
  refine congrArg P (funext fun a => Fin.ext ?_)
  rcases a with ⟨_ | _ | a, ha⟩
  · show (((((((b.val * 64 + t.val) * 8 + h.val) * 128 + d.val) / 65536 * 64 + (((b.val * 64 + t.val) * 8 + h.val) * 128 + d.val) / 1024 % 64) * 10 + 3) * 8 + (((b.val * 64 + t.val) * 8 + h.val) * 128 + d.val) / 128 % 8) * 128 + (((b.val * 64 + t.val) * 8 + h.val) * 128 + d.val) % 128) / 10240 = 64 * b.val + t.val
    omega
  · show (((((((b.val * 64 + t.val) * 8 + h.val) * 128 + d.val) / 65536 * 64 + (((b.val * 64 + t.val) * 8 + h.val) * 128 + d.val) / 1024 % 64) * 10 + 3) * 8 + (((b.val * 64 + t.val) * 8 + h.val) * 128 + d.val) / 128 % 8) * 128 + (((b.val * 64 + t.val) * 8 + h.val) * 128 + d.val) % 128) % 10240 = 1024 * 3 + (128 * h.val + d.val)
    omega
  · exact absurd (show a + 2 < 2 from ha) (by omega)

theorem k_eq (b : Fin 32) (t : Fin 64) (h : Fin 8) (d : Fin 128) : val_main_v8 (F := Ideal) P (ix4 b t h d) = part P 4 b t h d := by
  show val_main_v5 (F := Ideal) P (ix4 b t h d) = _
  rw [val_main_v5_apply, val_main_v4_apply, val_main_v0_apply]
  refine congrArg P (funext fun a => Fin.ext ?_)
  rcases a with ⟨_ | _ | a, ha⟩
  · show (((((((b.val * 64 + t.val) * 8 + h.val) * 128 + d.val) / 65536 * 64 + (((b.val * 64 + t.val) * 8 + h.val) * 128 + d.val) / 1024 % 64) * 10 + 4) * 8 + (((b.val * 64 + t.val) * 8 + h.val) * 128 + d.val) / 128 % 8) * 128 + (((b.val * 64 + t.val) * 8 + h.val) * 128 + d.val) % 128) / 10240 = 64 * b.val + t.val
    omega
  · show (((((((b.val * 64 + t.val) * 8 + h.val) * 128 + d.val) / 65536 * 64 + (((b.val * 64 + t.val) * 8 + h.val) * 128 + d.val) / 1024 % 64) * 10 + 4) * 8 + (((b.val * 64 + t.val) * 8 + h.val) * 128 + d.val) / 128 % 8) * 128 + (((b.val * 64 + t.val) * 8 + h.val) * 128 + d.val) % 128) % 10240 = 1024 * 4 + (128 * h.val + d.val)
    omega
  · exact absurd (show a + 2 < 2 from ha) (by omega)

theorem v_eq (b : Fin 32) (t : Fin 64) (h : Fin 8) (d : Fin 128) : val_main_v10 (F := Ideal) P (ix4 b t h d) = part P 5 b t h d := by
  show val_main_v7 (F := Ideal) P (ix4 b t h d) = _
  rw [val_main_v7_apply, val_main_v6_apply, val_main_v0_apply]
  refine congrArg P (funext fun a => Fin.ext ?_)
  rcases a with ⟨_ | _ | a, ha⟩
  · show (((((((b.val * 64 + t.val) * 8 + h.val) * 128 + d.val) / 65536 * 64 + (((b.val * 64 + t.val) * 8 + h.val) * 128 + d.val) / 1024 % 64) * 10 + 5) * 8 + (((b.val * 64 + t.val) * 8 + h.val) * 128 + d.val) / 128 % 8) * 128 + (((b.val * 64 + t.val) * 8 + h.val) * 128 + d.val) % 128) / 10240 = 64 * b.val + t.val
    omega
  · show (((((((b.val * 64 + t.val) * 8 + h.val) * 128 + d.val) / 65536 * 64 + (((b.val * 64 + t.val) * 8 + h.val) * 128 + d.val) / 1024 % 64) * 10 + 5) * 8 + (((b.val * 64 + t.val) * 8 + h.val) * 128 + d.val) / 128 % 8) * 128 + (((b.val * 64 + t.val) * 8 + h.val) * 128 + d.val) % 128) % 10240 = 1024 * 5 + (128 * h.val + d.val)
    omega
  · exact absurd (show a + 2 < 2 from ha) (by omega)

theorem keys_eq (b : Fin 32) (k : Fin 576) (h : Fin 8) (d : Fin 128) : val_main_v9 (F := Ideal) P CK (ix4 b k h d) = row P CK 4 b h k d := by
  refine (rows CK (val_main_v8 (F := Ideal) P) _ b k h d).trans ?_
  unfold row
  split_ifs with hk
  · rfl
  · exact k_eq P b _ h d

theorem values_eq (b : Fin 32) (k : Fin 576) (h : Fin 8) (d : Fin 128) : val_main_v11 (F := Ideal) P CV (ix4 b k h d) = row P CV 5 b h k d := by
  refine (rows CV (val_main_v10 (F := Ideal) P) _ b k h d).trans ?_
  unfold row
  split_ifs with hk
  · rfl
  · exact v_eq P b _ h d

theorem score_eq (b : Fin 32) (h : Fin 8) (t : Fin 64) (k : Fin 576) : val_main_v15 (F := Ideal) P CK B (ix4 b h t k) = score P CK B b h t k := by
  rw [val_main_v15_apply, val_main_v12_apply, val_main_v14_apply, val_main_v13_apply]
  refine congrArg₂ (fun p q : EReal => p + q) (Finset.sum_congr rfl fun d _ => ?_) (congrArg B (eq_ix3 _))
  rw [show lidx_main_v12 (ix4 b h t k) d = ix4 b t h d from eq_ix4 _, show ridx_main_v12 (ix4 b h t k) d = ix4 b k h d from eq_ix4 _]
  exact congrArg₂ (fun p q : EReal => p * q) (q_eq P b t h d) (keys_eq P CK b k h d)

theorem bot_const : Ideal.ofBits .f32 0xFF800000#32 = ⊥ := by
  simp [Ideal.ofBits, Ideal.ieee]

/-- The number taken off a row's scores is real. -/
theorem isReal_top (H : Reals P CK B) (b : Fin 32) (h : Fin 8) (t : Fin 64) (k : Fin 576) : IsReal (val_main_v20 (F := Ideal) P CK B (ix4 b h t k)) := by
  have e : val_main_v16 (F := Ideal) P CK B (ix3 b h t) = Finset.fold max ⊥ (fun k => score P CK B b h t k) Finset.univ := by
    have hr : S32x8x64x576.Reduces [3] S32x8x64 := by decide
    unfold val_main_v16 val_main_cst
    refine (congrFun (hostReduce_maximumf_eq_multiReduction (F := Ideal) (φ := .f32) (val_main_v15 (F := Ideal) P CK B) _ _ _ hr (.inl rfl) rfl) _).trans ?_
    generalize hy : val_main_v15 (F := Ideal) P CK B = y
    pointwise
    rw [show Ideal.ofBits .f32 (FKind.maximumf.neutral .f32 (.inl rfl)) = ⊥ from bot_const]
    subst hy
    exact congrArg (fun f => Finset.fold max ⊥ f Finset.univ) (funext fun k => score_eq P CK B b h t k)
  rw [val_main_v20_apply, val_main_v19_apply, val_main_v18_apply, show idx_main_v19 (idx_main_v20 (ix4 b h t k)) = ix3 b h t from eq_ix3 _]
  have e17 : val_main_v17 (F := Ideal) (ix3 b h t) = ⊥ := by rw [val_main_v17_apply]; exact bot_const
  have e18 : FloatOps.maximumf (F := Ideal) (φ := .f32) (val_main_v17 (F := Ideal) (ix3 b h t)) (val_main_v16 (F := Ideal) P CK B (ix3 b h t))
      = val_main_v16 (F := Ideal) P CK B (ix3 b h t) := by
    rw [e17]; exact max_eq_right bot_le
  refine Eq.mp (congrArg IsReal (e.symm.trans e18.symm)) (isReal_max 0 _ (isReal_score P CK B H b h t))

/-- The reference leaves the closed form. -/
theorem result (H : Reals P CK B) (b : Fin 32) (t : Fin 64) (h : Fin 8) (d : Fin 128) :
    val_main_v30 (F := Ideal) P CK CV B (ix3 b t ⟨128 * h.val + d.val, by omega⟩) = attended P CK CV B b h t d := by
  show val_main_v29 (F := Ideal) P CK CV B (ix3 b t ⟨128 * h.val + d.val, by omega⟩) = _
  have e : idx_main_v29 (ix3 b t ⟨128 * h.val + d.val, by omega⟩) = ix4 b t h d := by
    funext a
    apply Fin.ext
    match a with
    | ⟨0, _⟩ => show ((b.val * 64 + t.val) * 1024 + (128 * h.val + d.val)) / 65536 = b.val; omega
    | ⟨1, _⟩ => show ((b.val * 64 + t.val) * 1024 + (128 * h.val + d.val)) / 1024 % 64 = t.val; omega
    | ⟨2, _⟩ => show ((b.val * 64 + t.val) * 1024 + (128 * h.val + d.val)) / 128 % 8 = h.val; omega
    | ⟨3, _⟩ => show ((b.val * 64 + t.val) * 1024 + (128 * h.val + d.val)) % 128 = d.val; omega
  rw [val_main_v29_apply, e, val_main_v28_apply,
    show idx_main_v28 (ix4 b t h d) = ix4 b h d t from eq_ix4 _, val_main_v27_apply]
  have hM := isReal_top P CK B H b h t 0
  have ex : ∀ k, val_main_v22 (F := Ideal) P CK B (ix4 b h t k) = Ideal.exp (score P CK B b h t k - val_main_v20 (F := Ideal) P CK B (ix4 b h t 0)) := fun k => by
    rw [val_main_v22_apply, val_main_v21_apply, score_eq]
    refine congrArg (fun x => Ideal.exp (score P CK B b h t k - x)) ?_
    rw [val_main_v20_apply, val_main_v20_apply]
  refine (Finset.sum_congr rfl fun k _ => ?_).trans (soft_early (score P CK B b h t) (fun k => row P CV 5 b h k d) (isReal_score P CK B H b h t) _ hM)
  rw [show lidx_main_v27 (ix4 b h d t) k = ix4 b k h d from eq_ix4 _, show ridx_main_v27 (ix4 b h d t) k = ix4 b h t k from eq_ix4 _,
    values_eq, val_main_v26_apply, val_main_v25_apply, val_main_v24_apply, ex,
    show idx_main_v24 (idx_main_v25 (ix4 b h t k)) = ix3 b h t from eq_ix3 _, val_main_v23_apply]
  refine congrArg (fun x => row P CV 5 b h k d * Ideal.div _ x) ?_
  refine Eq.trans (congrArg₂ (fun p q : EReal => p + q) Ideal.ofBits_zero_f32 (Finset.sum_congr rfl fun j _ => ?_)) (zero_add _)
  rw [show idx_main_v23 (ix3 b h t) j = ix4 b h t j from eq_ix4 _]
  exact ex j

end Cert.BandStepRefValue

namespace Cert.BandPre

open Idealize.ShloMosaic hiding ix1 ix2 ix3 ix4 eq_ix1 eq_ix2 eq_ix3 eq_ix4
open Idealize.ShloMosaic.ValueIdx
open Cert.Pre_scores Cert.BandMath

/-- Where every entry's absolute value is below infinity, every entry is real. -/
theorem real_of_all {s : Shape} {axes : List (Fin s.rank)} (x : s.Idx → EReal) (bc : Cert.Pre_scores.S_.BroadcastsInDim s (![] : Fin 0 → Fin s.rank)) (h1 : s.ReducesTo axes Cert.Pre_scores.S_) (h2)
    (h : Host.reduce IntOp.andi (cmpf (F := Ideal) (φ := .f32) .olt (Host.absf x) (broadcastInDim s ![] bc (constant (F := Ideal) Cert.Pre_scores.S_ .f32 0x7F800000#32)))
      (constantI Cert.Pre_scores.S_ 1 1#1) h1 h2 (fun a => a.elim0) = 1#1) (i : s.Idx) : IsReal (x i) := by
  have ex := Host.reduce_andi_all _ _ _ _ _ h i
  have ec : Ideal.cmp .olt (max (x i) (-(x i))) (Ideal.ofBits .f32 0x7F800000#32) = 1#1 := ex
  rw [Cert.StickPre.top_const] at ec
  refine ⟨_, Cert.StickPre.real_of_abs ?_⟩
  by_contra hc
  simp [Ideal.cmp, hc] at ec

theorem and_ones {x y : BitVec 1} (h : x &&& y = 1#1) : x = 1#1 ∧ y = 1#1 := by revert x y; decide

theorem reals (P : S2048x10240.Idx → EReal) (CK CV : S32x512x8x128.Idx → EReal) (B : S8x64x576.Idx → EReal)
    (h : Pre_scores.fn (F := Ideal) P CK CV B = fun _ => 1#1) : Cert.BandStepRefValue.Reals P CK B := by
  have e := congrFun h (fun a => a.elim0)
  unfold Pre_scores.fn at e
  obtain ⟨e1, e3⟩ := and_ones e
  obtain ⟨e1, e2⟩ := and_ones e1
  refine ⟨fun r c h1 h2 => ?_, real_of_all CK _ _ _ e2, real_of_all B _ _ _ e3⟩
  refine Eq.mp (congrArg (fun i => IsReal (P i)) (funext fun a => Fin.ext ?_)) (real_of_all _ _ _ _ e1 (ix2 r ⟨c.val - 3072, by omega⟩))
  match a with
  | ⟨0, _⟩ => show 0 + r.val = r.val; omega
  | ⟨1, _⟩ => show 3072 + (c.val - 3072) = c.val; omega

end Cert.BandPre
-- ==== Proof.BandStepCall.lean ====
/- The band attention step kernel: each head of each block is the softmax of the reference's closed form, and with it the claims
   about the kernel and its reference. -/
module

public import proofs.«01_k».proof.Defs
public import proofs.«01_k».proof.Proof.Gen.BandStep.Frame
public import proofs.«01_k».proof.Proof.Gen.BandStepIdeal.Value
public import proofs.«01_k».proof.Proof.BandStepMath
public import Idealize.ShloMosaic.Lib.Pipeline.Covers
public import Idealize.ShloMosaic.Lib.Pipeline.ValueKit.Tiles

@[expose] public section

set_option maxRecDepth 16384

noncomputable section

namespace Cert.BandStepValue

open Idealize.ShloMosaic hiding ix1 ix2 ix3 ix4 eq_ix1 eq_ix2 eq_ix3 eq_ix4
open Idealize.ShloMosaic.ValueIdx Idealize.ShloMosaic.TcCoe Idealize.SL.Sem
open Cert.BandMath Cert.BandStepIdeal Cert.BandStepIdeal.Gen Cert.BandStepRefValue

/-- A head's tail, on scores that are real. -/
theorem pay1 (v0 : Vec Ideal S64x512 .f32) (v2 : Vec Ideal S64x64 .f32) (v6 : Vec Ideal S512x128 .bf16) (v7 : Vec Ideal S1x64x128 .bf16)
    (S V : Fin 576 → EReal) (hS : ∀ k, IsReal (S k)) (r : Fin 64) (d : Fin 128)
    (h0 : ∀ x : Fin 512, v0 (ix2 r x) = S (lo x)) (h2 : ∀ x : Fin 64, v2 (ix2 r x) = S (hi x))
    (h6 : ∀ x : Fin 512, v6 (ix2 x d) = V (lo x)) (h7 : ∀ x : Fin 64, v7 (ix3 0 x d) = V (hi x)) :
    k0_pay1 (F := Ideal) v0 v2 v6 v7 (ix3 0 r d) = soft S V := by
  have hM : IsReal (max (Finset.fold max ⊥ (fun x : Fin 512 => S (lo x)) Finset.univ) (Finset.fold max ⊥ (fun x : Fin 64 => S (hi x)) Finset.univ)) := by
    obtain ⟨a, ha⟩ := isReal_max 0 (fun x : Fin 512 => S (lo x)) fun _ => hS _
    obtain ⟨b, hb⟩ := isReal_max 0 (fun x : Fin 64 => S (hi x)) fun _ => hS _
    exact ⟨max a b, by rw [ha, hb]; exact (EReal.coe_strictMono.monotone.map_max).symm⟩
  refine Eq.trans ?_ (soft_late S V hS _ hM)
  rw [← split (fun k => Ideal.exp (S k - _) * V k), ← split (fun k => Ideal.exp (S k - _))]
  simp only [← h0, ← h2, ← h6, ← h7, ← bot_const]
  unfold k0_pay1
  pointwise
  rfl

theorem pay49 (q : Vec Ideal S1x64x128 .bf16) (k : Vec Ideal S1x512x128 .f32) (b : Vec Ideal S1x64x512 .f32) (r : Fin 64) (x : Fin 512) :
    k0_pay49 (F := Ideal) q k b (ix2 r x) = ∑ d : Fin 128, q (ix3 0 r d) * k (ix3 0 x d) + b (ix3 0 r x) := by
  unfold k0_pay49 k0_pay48
  pointwise
  rfl

theorem pay50 (q k : Vec Ideal S1x64x128 .bf16) (b : Vec Ideal S1x64x64 .f32) (r x : Fin 64) :
    k0_pay50 (F := Ideal) q k b (ix2 r x) = ∑ d : Fin 128, q (ix3 0 r d) * k (ix3 0 x d) + b (ix3 0 r x) := by
  unfold k0_pay50 k0_pay48
  pointwise
  rfl

theorem pay51 (v : Vec Ideal S1x512x128 .f32) (x : Fin 512) (d : Fin 128) : k0_pay51 (F := Ideal) v (ix2 x d) = v (ix3 0 x d) := by
  unfold k0_pay51
  pointwise
  rfl

section Block

variable (x0 x1 x2 : Vec Ideal S1x64x1024 .bf16) (x3 x4 : Vec Ideal S1x512x1024 .f32) (x5 : Vec Ideal S8x64x576 .f32)

abbrev col (h : Fin 8) (d : Fin 128) : Fin 1024 := ⟨128 * h.val + d.val, by omega⟩
def headOf (n : Fin 1024) : Fin 8 := ⟨n.val / 128, by omega⟩
def laneOf (n : Fin 1024) : Fin 128 := ⟨n.val % 128, by omega⟩

theorem headOf_col (h : Fin 8) (d : Fin 128) : headOf (col h d) = h := Fin.ext (by show (128 * h.val + d.val) / 128 = h.val; omega)
theorem laneOf_col (h : Fin 8) (d : Fin 128) : laneOf (col h d) = d := Fin.ext (by show (128 * h.val + d.val) % 128 = d.val; omega)
theorem col_of (n : Fin 1024) : n = col (headOf n) (laneOf n) := Fin.ext (by show n.val = 128 * (n.val / 128) + n.val % 128; omega)

/-- A block's cached row, then its new ones. -/
def rowB (y : Vec Ideal S1x512x1024 .f32) (x : Vec Ideal S1x64x1024 .bf16) (h : Fin 8) (k : Fin 576) (d : Fin 128) : EReal :=
  if hk : k.val < 512 then y (ix3 0 ⟨k.val, hk⟩ (col h d)) else x (ix3 0 ⟨k.val - 512, by omega⟩ (col h d))

def scoreB (h : Fin 8) (r : Fin 64) (k : Fin 576) : EReal := ∑ d : Fin 128, x0 (ix3 0 r (col h d)) * rowB x3 x1 h k d + x5 (ix3 h r k)

def outB : Vec Ideal S1x64x1024 .bf16 := fun y => soft (scoreB x0 x1 x3 x5 (headOf (y 2)) (y 1)) fun k => rowB x4 x2 (headOf (y 2)) k (laneOf (y 2))

theorem rowB_lo (y : Vec Ideal S1x512x1024 .f32) (x : Vec Ideal S1x64x1024 .bf16) (h : Fin 8) (k : Fin 512) (d : Fin 128) :
    rowB y x h (lo k) d = y (ix3 0 k (col h d)) := dif_pos k.isLt

theorem rowB_hi (y : Vec Ideal S1x512x1024 .f32) (x : Vec Ideal S1x64x1024 .bf16) (h : Fin 8) (k : Fin 64) (d : Fin 128) :
    rowB y x h (hi k) d = x (ix3 0 k (col h d)) := by
  unfold rowB
  rw [dif_neg (show ¬ 512 + k.val < 512 by omega)]
  exact congrArg (fun k => x (ix3 0 k (col h d))) (Fin.ext (show 512 + k.val - 512 = k.val by omega))

theorem ld_new (x : Vec Ideal S1x64x1024 .bf16) (h : Fin 8) (o : Nat) (ho : o = 128 * h.val) (i) (r : Fin 64) (d : Fin 128) :
    View.ld x (Rect.unit (s := S1x64x1024) ![0, 0, o] S1x64x128.size i) (ix3 0 r d : S1x64x128.Idx) = x (ix3 0 r (col h d)) :=
  View.ld_unit_apply_of x _ _ i _ _ fun a => match a with
    | ⟨0, _⟩ => rfl
    | ⟨1, _⟩ => (Nat.zero_add r.val).symm
    | ⟨2, _⟩ => congrArg (· + d.val) ho.symm

theorem ld_cache (x : Vec Ideal S1x512x1024 .f32) (h : Fin 8) (o : Nat) (ho : o = 128 * h.val) (i) (r : Fin 512) (d : Fin 128) :
    View.ld x (Rect.unit (s := S1x512x1024) ![0, 0, o] S1x512x128.size i) (ix3 0 r d : S1x512x128.Idx) = x (ix3 0 r (col h d)) :=
  View.ld_unit_apply_of x _ _ i _ _ fun a => match a with
    | ⟨0, _⟩ => rfl
    | ⟨1, _⟩ => (Nat.zero_add r.val).symm
    | ⟨2, _⟩ => congrArg (· + d.val) ho.symm

theorem ld_lo (x : Vec Ideal S8x64x576 .f32) (h : Fin 8) (p : Nat) (hp : p = h.val) (i) (r : Fin 64) (k : Fin 512) :
    View.ld x (Rect.unit (s := S8x64x576) ![p, 0, 0] S1x64x512.size i) (ix3 0 r k : S1x64x512.Idx) = x (ix3 h r (lo k)) :=
  View.ld_unit_apply_of x _ _ i _ _ fun a => match a with
    | ⟨0, _⟩ => hp.symm
    | ⟨1, _⟩ => (Nat.zero_add r.val).symm
    | ⟨2, _⟩ => (Nat.zero_add k.val).symm

theorem ld_hi (x : Vec Ideal S8x64x576 .f32) (h : Fin 8) (p : Nat) (hp : p = h.val) (i) (r : Fin 64) (k : Fin 64) :
    View.ld x (Rect.unit (s := S8x64x576) ![p, 0, 512] S1x64x64.size i) (ix3 0 r k : S1x64x64.Idx) = x (ix3 h r (hi k)) :=
  View.ld_unit_apply_of x _ _ i _ _ fun a => match a with
    | ⟨0, _⟩ => hp.symm
    | ⟨1, _⟩ => (Nat.zero_add r.val).symm
    | ⟨2, _⟩ => rfl

variable (hS : ∀ h r k, IsReal (scoreB x0 x1 x3 x5 h r k))
include hS

/-- One head's store. -/
theorem piece (h : Fin 8) (o p : Nat) (ho : o = 128 * h.val) (hp : p = h.val) (i1) (i2) (i3) (i4) (x : S1x64x128.Idx) :
    k0_pay1 (F := Ideal)
        (k0_pay49 (View.ld x0 (Rect.unit (s := S1x64x1024) ![0, 0, o] S1x64x128.size i1)) (View.ld x3 (Rect.unit (s := S1x512x1024) ![0, 0, o] S1x512x128.size i2))
          (View.ld x5 (Rect.unit (s := S8x64x576) ![p, 0, 0] S1x64x512.size i3)))
        (k0_pay50 (View.ld x0 (Rect.unit (s := S1x64x1024) ![0, 0, o] S1x64x128.size i1)) (View.ld x1 (Rect.unit (s := S1x64x1024) ![0, 0, o] S1x64x128.size i1))
          (View.ld x5 (Rect.unit (s := S8x64x576) ![p, 0, 512] S1x64x64.size i4)))
        (k0_pay51 (View.ld x4 (Rect.unit (s := S1x512x1024) ![0, 0, o] S1x512x128.size i2)))
        (View.ld x2 (Rect.unit (s := S1x64x1024) ![0, 0, o] S1x64x128.size i1)) x
      = outB x0 x1 x2 x3 x4 x5 ((Rect.unit (s := S1x64x1024) ![0, 0, o] S1x64x128.size i1).emb x) := by
  obtain ⟨r, d, rfl⟩ : ∃ (r : Fin 64) (d : Fin 128), x = ix3 0 r d := ⟨x 1, x 2, (eq_ix3 x).trans (congrArg (fun z : Fin 1 => ix3 z (x 1) (x 2)) (Subsingleton.elim _ _))⟩
  refine Eq.trans ?_ (ld_new (outB x0 x1 x2 x3 x4 x5) h o ho i1 r d).symm
  refine (pay1 _ _ _ _ (scoreB x0 x1 x3 x5 h r) (fun k => rowB x4 x2 h k d) (hS h r) r d (fun k => ?_) (fun k => ?_) (fun k => ?_) (fun k => ?_)).trans ?_
  · refine (pay49 _ _ _ r k).trans (congrArg₂ (fun p q : EReal => p + q) (Finset.sum_congr rfl fun e _ => ?_) (ld_lo x5 h p hp i3 r k))
    rw [rowB_lo]
    exact congrArg₂ (fun p q : EReal => p * q) (ld_new x0 h o ho i1 r e) (ld_cache x3 h o ho i2 k e)
  · refine (pay50 _ _ _ r k).trans (congrArg₂ (fun p q : EReal => p + q) (Finset.sum_congr rfl fun e _ => ?_) (ld_hi x5 h p hp i4 r k))
    rw [rowB_hi]
    exact congrArg₂ (fun p q : EReal => p * q) (ld_new x0 h o ho i1 r e) (ld_new x1 h o ho i1 k e)
  · exact (pay51 _ k d).trans ((ld_cache x4 h o ho i2 k d).trans (rowB_lo x4 x2 h k d).symm)
  · exact (ld_new x2 h o ho i1 k d).trans (rowB_hi x4 x2 h k d).symm
  · show soft _ _ = soft (scoreB x0 x1 x3 x5 (headOf (col h d)) r) fun k => rowB x4 x2 (headOf (col h d)) k (laneOf (col h d))
    rw [headOf_col, laneOf_col]

/-- The eight heads' stores fill the block. -/
theorem left_eq (y : S1x64x1024.Idx) : out0_6 (F := Ideal) x0 x1 x2 x3 x4 x5 y = outB x0 x1 x2 x3 x4 x5 y := by
  unfold out0_6
  refine View.canon_apply_of_pieces (outB x0 x1 x2 x3 x4 x5) _ (fun p hp => ?_) y (cover0_6 _ _ _ _ _ _ _ _ y)
  simp only [List.mem_cons, List.not_mem_nil, or_false] at hp
  rcases hp with rfl | rfl | rfl | rfl | rfl | rfl | rfl | rfl
  · exact piece x0 x1 x2 x3 x4 x5 hS 7 896 7 rfl rfl _ _ _ _
  · exact piece x0 x1 x2 x3 x4 x5 hS 6 768 6 rfl rfl _ _ _ _
  · exact piece x0 x1 x2 x3 x4 x5 hS 5 640 5 rfl rfl _ _ _ _
  · exact piece x0 x1 x2 x3 x4 x5 hS 4 512 4 rfl rfl _ _ _ _
  · exact piece x0 x1 x2 x3 x4 x5 hS 3 384 3 rfl rfl _ _ _ _
  · exact piece x0 x1 x2 x3 x4 x5 hS 2 256 2 rfl rfl _ _ _ _
  · exact piece x0 x1 x2 x3 x4 x5 hS 1 128 1 rfl rfl _ _ _ _
  · exact piece x0 x1 x2 x3 x4 x5 hS 0 0 0 rfl rfl _ _ _ _

end Block

variable (m : (ℓ : Loc nD τ sig) → Buf (Elt Ideal) ℓ) (c : Dev nD)

abbrev P : S2048x10240.Idx → EReal := m ((c : Thread nD τ).loc main_arg0)
abbrev CK : S32x512x8x128.Idx → EReal := m ((c : Thread nD τ).loc main_arg1)
abbrev CV : S32x512x8x128.Idx → EReal := m ((c : Thread nD τ).loc main_arg2)
abbrev B : S8x64x576.Idx → EReal := m ((c : Thread nD τ).loc main_arg3)

def seq (t : Fin cfg0.N) : Fin 32 := ⟨t.val, lt_of_lt_of_eq t.isLt (show cfg0.N = 32 by decide)⟩

theorem index_0 : ∀ t : Fin cfg0.N, (cfg0.win 0).index t = ![t.val, 0, 3] := by decide +kernel
theorem index_1 : ∀ t : Fin cfg0.N, (cfg0.win 1).index t = ![t.val, 0, 4] := by decide +kernel
theorem index_2 : ∀ t : Fin cfg0.N, (cfg0.win 2).index t = ![t.val, 0, 5] := by decide +kernel
theorem index_3 : ∀ t : Fin cfg0.N, (cfg0.win 3).index t = ![t.val, 0, 0] := by decide +kernel
theorem index_4 : ∀ t : Fin cfg0.N, (cfg0.win 4).index t = ![t.val, 0, 0] := by decide +kernel
theorem index_5 : ∀ t : Fin cfg0.N, (cfg0.win 5).index t = ![0, 0, 0] := by decide +kernel
theorem index_6 : ∀ t : Fin cfg0.N, (cfg0.win 6).index t = ![t.val, 0, 0] := by decide +kernel

theorem rows_p (x : S2048x10240.Idx → EReal) (h) (g : Fin 32) (r : Fin 64) (n : Fin 10240) :
    shapeCast S32x64x10240 x h (ix3 g r n) = x (ix2 ⟨64 * g.val + r.val, by omega⟩ n) := by
  refine shapeCast_apply _ _ _ _ ?_
  rewrite [Shape.rowMajor_val_two, Shape.rowMajor_val_three]
  show (64 * g.val + r.val) * 10240 + n.val = (g.val * 64 + r.val) * 10240 + n.val
  omega

theorem rows_c (x : S32x512x8x128.Idx → EReal) (hc) (g : Fin 32) (k : Fin 512) (h : Fin 8) (d : Fin 128) :
    shapeCast S32x512x1024 x hc (ix3 g k (col h d)) = x (ix4 g k h d) := by
  refine shapeCast_apply _ _ _ _ ?_
  rewrite [Shape.rowMajor_val_four, Shape.rowMajor_val_three]
  show ((g.val * 512 + k.val) * 8 + h.val) * 128 + d.val = (g.val * 512 + k.val) * 1024 + (128 * h.val + d.val)
  omega

theorem V_p : V m c main_v0 = shapeCast S32x64x10240 (P m c) shapeCasts_S2048x10240_S32x64x10240 := by
  unfold V
  after_results
  rfl

theorem V_k : V m c main_v1 = shapeCast S32x512x1024 (CK m c) shapeCasts_S32x512x8x128_S32x512x1024 := by
  unfold V
  after_results
  rfl

theorem V_v : V m c main_v2 = shapeCast S32x512x1024 (CV m c) shapeCasts_S32x512x8x128_S32x512x1024 := by
  unfold V
  after_results
  rfl

theorem place (i : Fin 3 → Nat) (q p s r n : Nat) (h : i = ![q, 0, p]) :
    i 0 * 1 + 1 * 0 = q ∧ i 1 * s + 1 * r = r ∧ i 2 * 1024 + 1 * n = 1024 * p + n := by
  subst h
  refine ⟨?_, ?_, ?_⟩
  · show q * 1 + 1 * 0 = q; omega
  · show 0 * s + 1 * r = r; omega
  · show p * 1024 + 1 * n = 1024 * p + n; omega

theorem iblk_0 (t : Fin cfg0.N) (r : Fin 64) (h : Fin 8) (d : Fin 128) : iblk m c 0 t (ix3 0 r (col h d) : S1x64x1024.Idx) = part (P m c) 3 (seq t) r h d := by
  have := place _ _ _ 64 r.val (col h d).val (index_0 t)
  refine (congrArg (V m c main_v0) (funext fun a => Fin.ext ?_)).trans ((congrFun (V_p m c) (ix3 (seq t) r ⟨1024 * 3 + (128 * h.val + d.val), by omega⟩)).trans (rows_p _ _ _ _ _))
  match a with
  | ⟨0, _⟩ => exact this.1
  | ⟨1, _⟩ => exact this.2.1
  | ⟨2, _⟩ => exact this.2.2

theorem iblk_1 (t : Fin cfg0.N) (r : Fin 64) (h : Fin 8) (d : Fin 128) : iblk m c 1 t (ix3 0 r (col h d) : S1x64x1024.Idx) = part (P m c) 4 (seq t) r h d := by
  have := place _ _ _ 64 r.val (col h d).val (index_1 t)
  refine (congrArg (V m c main_v0) (funext fun a => Fin.ext ?_)).trans ((congrFun (V_p m c) (ix3 (seq t) r ⟨1024 * 4 + (128 * h.val + d.val), by omega⟩)).trans (rows_p _ _ _ _ _))
  match a with
  | ⟨0, _⟩ => exact this.1
  | ⟨1, _⟩ => exact this.2.1
  | ⟨2, _⟩ => exact this.2.2

theorem iblk_2 (t : Fin cfg0.N) (r : Fin 64) (h : Fin 8) (d : Fin 128) : iblk m c 2 t (ix3 0 r (col h d) : S1x64x1024.Idx) = part (P m c) 5 (seq t) r h d := by
  have := place _ _ _ 64 r.val (col h d).val (index_2 t)
  refine (congrArg (V m c main_v0) (funext fun a => Fin.ext ?_)).trans ((congrFun (V_p m c) (ix3 (seq t) r ⟨1024 * 5 + (128 * h.val + d.val), by omega⟩)).trans (rows_p _ _ _ _ _))
  match a with
  | ⟨0, _⟩ => exact this.1
  | ⟨1, _⟩ => exact this.2.1
  | ⟨2, _⟩ => exact this.2.2

theorem iblk_3 (t : Fin cfg0.N) (k : Fin 512) (h : Fin 8) (d : Fin 128) : iblk m c 3 t (ix3 0 k (col h d) : S1x512x1024.Idx) = CK m c (ix4 (seq t) k h d) := by
  have := place _ _ _ 512 k.val (col h d).val (index_3 t)
  refine (congrArg (V m c main_v1) (funext fun a => Fin.ext ?_)).trans ((congrFun (V_k m c) (ix3 (seq t) k (col h d))).trans (rows_c _ _ _ _ _ _))
  match a with
  | ⟨0, _⟩ => exact this.1
  | ⟨1, _⟩ => exact this.2.1
  | ⟨2, _⟩ => exact this.2.2.trans (Nat.zero_add _)

theorem iblk_4 (t : Fin cfg0.N) (k : Fin 512) (h : Fin 8) (d : Fin 128) : iblk m c 4 t (ix3 0 k (col h d) : S1x512x1024.Idx) = CV m c (ix4 (seq t) k h d) := by
  have := place _ _ _ 512 k.val (col h d).val (index_4 t)
  refine (congrArg (V m c main_v2) (funext fun a => Fin.ext ?_)).trans ((congrFun (V_v m c) (ix3 (seq t) k (col h d))).trans (rows_c _ _ _ _ _ _))
  match a with
  | ⟨0, _⟩ => exact this.1
  | ⟨1, _⟩ => exact this.2.1
  | ⟨2, _⟩ => exact this.2.2.trans (Nat.zero_add _)

theorem iblk_5 (t : Fin cfg0.N) (h : Fin 8) (r : Fin 64) (k : Fin 576) : iblk m c 5 t (ix3 h r k : S8x64x576.Idx) = B m c (ix3 h r k) := by
  refine (congrArg (V m c main_arg3) (funext fun a => Fin.ext ?_)).trans (congrFun (V_main_arg3 m c) _)
  match a with
  | ⟨0, _⟩ => show (cfg0.win 5).index t 0 * 8 + 1 * h.val = h.val; rw [index_5]; show 0 * 8 + 1 * h.val = h.val; omega
  | ⟨1, _⟩ => show (cfg0.win 5).index t 1 * 64 + 1 * r.val = r.val; rw [index_5]; show 0 * 64 + 1 * r.val = r.val; omega
  | ⟨2, _⟩ => show (cfg0.win 5).index t 2 * 576 + 1 * k.val = k.val; rw [index_5]; show 0 * 576 + 1 * k.val = k.val; omega

theorem row_k (t : Fin cfg0.N) (h : Fin 8) (k : Fin 576) (d : Fin 128) : rowB (iblk m c 3 t) (iblk m c 1 t) h k d = row (P m c) (CK m c) 4 (seq t) h k d := by
  unfold rowB row
  split_ifs
  · exact iblk_3 m c t _ h d
  · exact iblk_1 m c t _ h d

theorem row_v (t : Fin cfg0.N) (h : Fin 8) (k : Fin 576) (d : Fin 128) : rowB (iblk m c 4 t) (iblk m c 2 t) h k d = row (P m c) (CV m c) 5 (seq t) h k d := by
  unfold rowB row
  split_ifs
  · exact iblk_4 m c t _ h d
  · exact iblk_2 m c t _ h d

theorem scores (t : Fin cfg0.N) (h : Fin 8) (r : Fin 64) (k : Fin 576) :
    scoreB (iblk m c 0 t) (iblk m c 1 t) (iblk m c 3 t) (iblk m c 5 t) h r k = score (P m c) (CK m c) (B m c) (seq t) h r k :=
  congrArg₂ (fun p q : EReal => p + q) (Finset.sum_congr rfl fun d _ => congrArg₂ (fun p q : EReal => p * q) (iblk_0 m c t r h d) (row_k m c t h k d))
    (iblk_5 m c t h r k)

variable (H : Reals (P m c) (CK m c) (B m c))
include H

theorem block (t : Fin cfg0.N) (r : Fin 64) (n : Fin 1024) :
    out0_6 (F := Ideal) (iblk m c 0 t) (iblk m c 1 t) (iblk m c 2 t) (iblk m c 3 t) (iblk m c 4 t) (iblk m c 5 t) (ix3 0 r n)
      = attended (P m c) (CK m c) (CV m c) (B m c) (seq t) (headOf n) r (laneOf n) := by
  refine (left_eq _ _ _ _ _ _ (fun h r k => ?_) _).trans ?_
  · exact Eq.mp (congrArg IsReal (scores m c t h r k).symm) (isReal_score _ _ _ H (seq t) h r k)
  · exact congrArg₂ soft (funext fun k => scores m c t _ r k) (funext fun k => row_v m c t _ k _)

theorem result : (dats m 0 c).arrAt 6 cfg0.N
    = fun i : S32x64x1024.Idx => attended (P m c) (CK m c) (CV m c) (B m c) (i 0) (headOf (i 2)) (i 1) (laneOf (i 2)) := by
  refine (dats m 0 c).arrAt_eq_of_covers 6 _ (by decide +kernel) fun t hf y => ?_
  obtain ⟨r, n, rfl⟩ : ∃ (r : Fin 64) (n : Fin 1024), y = (ix3 0 r n : S1x64x1024.Idx) :=
    ⟨y 1, y 2, (eq_ix3 (y : S1x64x1024.Idx)).trans (congrArg (fun z : Fin 1 => ix3 z (y 1) (y 2)) (Subsingleton.elim _ _))⟩
  have e0 : (((cfg0.win 6).blk t).view.emb (ix3 0 r n : S1x64x1024.Idx) : S32x64x1024.Idx) = ix3 (seq t) r n := by
    have := place _ _ _ 64 r.val n.val (index_6 t)
    funext a
    apply Fin.ext
    match a with
    | ⟨0, _⟩ => exact this.1
    | ⟨1, _⟩ => exact this.2.1
    | ⟨2, _⟩ => exact this.2.2.trans (Nat.zero_add _)
  rw [e0]
  exact (congrFun (after0_6 m c t) _).trans (block m c H t r n)

end Cert.BandStepValue

namespace Cert.BandStepClaims

open Idealize.ShloMosaic hiding ix1 ix2 ix3 ix4 eq_ix1 eq_ix2 eq_ix3 eq_ix4
open Idealize.ShloMosaic.ValueIdx Idealize.ShloMosaic.TcCoe Idealize.SL.Sem
open Cert.BandStepValue Cert.BandStepRefIdeal.Read

theorem frame_bits : Cert.quiescent_BandStep := fun m ρ _ => Cert.BandStep.Gen.frame m ρ

theorem frame_ideal : Cert.quiescent_BandStepIdeal := fun m ρ _ => Cert.BandStepIdeal.Gen.frame m ρ

theorem frame_ideal_scores : Cert.quiescent_BandStepIdeal_pre_scores := fun m ρ _ => Cert.BandStepIdeal.Gen.frame m ρ

theorem frame_ref : Cert.quiescent_BandStepRefIdeal := fun m ρ _ =>
  (θ_run Cert.BandStepRefIdeal.defs _ _).mono (fun r h => ⟨fun c => (h c).2,
      Idealize.ShloMosaic.sem_eq_zero_of_no_sems (by decide) r.2⟩)
    (Cert.BandStepRefIdeal.Value.run (F := Ideal) m ρ)

theorem frame_ref_scores : Cert.quiescent_BandStepRefIdeal_pre_scores := fun m ρ _ => frame_ref m ρ trivial

/-- Cell by cell, both programs' result is the closed form of the arguments. -/
theorem algebraic : Cert.algebraic_BandStepIdeal_BandStepRefIdeal_pre_scores := fun m ρ m' ρ' h hag => by
  have H : ∀ c : Dev Cert.BandStepIdeal.nD, Cert.BandStepRefValue.Reals (P m c) (CK m c) (B m c) := fun c => Cert.BandPre.reals _ _ _ _ (h c)
  refine ⟨fun c => fun i : Cert.BandStepIdeal.S32x64x1024.Idx => Cert.BandStepRefValue.attended (P m c) (CK m c) (CV m c) (B m c) (i 0) (headOf (i 2)) (i 1) (laneOf (i 2)), ?_, ?_⟩
  · exact (θ_run Cert.BandStepIdeal.defs _ _).mono (fun r hq c => ⟨(hq c).1.trans (result m c (H c)), (hq c).2⟩)
      (Cert.BandStepIdeal.Value.run_blocks m ρ)
  · refine (θ_run Cert.BandStepRefIdeal.defs _ _).mono (fun r hq c => ?_) (Cert.BandStepRefIdeal.Value.run (F := Ideal) m' ρ')
    obtain ⟨a0, a1, a2, a3⟩ := hag c
    refine ⟨(hq c).1.trans ?_, (hq c).2⟩
    refine (val_main_v30_eq m' c).trans ?_
    rw [a0, a1, a2, a3]
    funext i
    obtain ⟨b, t, n, rfl⟩ : ∃ (b : Fin 32) (t : Fin 64) (n : Fin 1024), i = ix3 b t n := ⟨i 0, i 1, i 2, eq_ix3 i⟩
    refine Eq.trans ?_ (Cert.BandStepRefValue.result (P m c) (CK m c) (CV m c) (B m c) (H c) b t (headOf n) (laneOf n))
    exact congrArg (fun n => val_main_v30 (F := Ideal) (P m c) (CK m c) (CV m c) (B m c) (ix3 b t n)) (col_of n)

end Cert.BandStepClaims
-- ==== Proof.ProjStepRows.lean ====
/- The sample's projection kernel's BODY at one grid point. At the first column block the body normalises and modulates its 512
   rows, 64 at a time, into a scratch; at every column block it multiplies the scratch by the block of weights and stores
   the product — scaled, normed head by head, or plain, as the column block's section asks — to the whole projection, and
   for the keys' and values' sections to their own array too. `body_run` states it, with what it leaves everywhere. -/
module

public import proofs.«01_k».proof.Proof.Gen.ProjStepIdeal.Launch
public import proofs.«01_k».proof.Proof.Gen.ProjStepIdeal.Skeleton
public import proofs.«01_k».proof.Proof.Gen.ProjStepIdeal.Loops
public import proofs.«01_k».proof.Proof.Gen.ProjStepIdeal.Points
public import Idealize.ShloMosaic.Lib.Claim
public import Idealize.ShloMosaic.Lib.WholeRead
public import Idealize.ShloMosaic.Lib.WritesUnit
public import Idealize.ShloMosaic.Lib.ValueIdx
public import Idealize.ShloMosaic.Lib.Ring

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- A store through the whole rectangle leaves its payload. -/
theorem read_store_whole {sig : RefSig} {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  funext x
  have e := View.read_writes_cons_emb v f (Rect.unit (fun _ => 0) S.size inb) w [] x
  rwa [show (Rect.unit (fun _ => 0) S.size inb).emb x = x from Rect.emb_whole_apply S x] at e

theorem off2_zero : (![0, 0] : Fin 2 → Nat) = fun _ => 0 := by decide

/-- A load through the whole rectangle of a buffer that reads `X` is `X`. -/
theorem readAt_read {sig : RefSig} {κ : Kind} {sp : Space} {S : Shape} {e : EltTy} (v : View sig κ sp S e) (f : v.ty.Contents (Elt F)) {X : S.Idx → Elt F e}
    (hX : v.read (Elt F) f = X) {off : Fin S.rank → Nat} (h : off = fun _ => 0) (inb : ∀ a, off a + S.size a ≤ S.size a) :
    v.readAt (Elt F) (Rect.unit off S.size inb).toLoadRect f = X :=
  (View.ld_unit_zero h inb _).trans hX

/-! ## What the body computes -/

/-- Group `k` of 64 rows of the block of rows, and of the block of modulations. -/
def rowsOf (x0 : S8x64x2048.Idx → Elt F .f32) (k : Fin 8) : Vec F S1x64x2048 .f32 := fun z => x0 (ix3 k (z 1) (z 2))
def modOf (x : S1x8x1x2048.Idx → Elt F .f32) (k : Fin 8) : Vec F S1x1x1x2048 .f32 := fun z => x (ix4 0 k 0 (z 3))

/-- The 512 normalised and modulated rows. -/
def hAt (x0 : S8x64x2048.Idx → Elt F .f32) (x1 : S1x2048.Idx → Elt F .f32) (x2 x3 : S1x8x1x2048.Idx → Elt F .f32) : S512x2048.Idx → Elt F .bf16 :=
  fun y => k0_pay12 (rowsOf x0 ⟨(y 0).val / 64, Nat.div_lt_of_lt_mul (show (y 0).val < 64 * 8 from (y 0).isLt)⟩) x1 (modOf x2 ⟨(y 0).val / 64, Nat.div_lt_of_lt_mul (show (y 0).val < 64 * 8 from (y 0).isLt)⟩) (modOf x3 ⟨(y 0).val / 64, Nat.div_lt_of_lt_mul (show (y 0).val < 64 * 8 from (y 0).isLt)⟩)
    (ix2 ⟨(y 0).val % 64, Nat.mod_lt _ (by norm_num)⟩ (y 1))

/-- What the scratch holds after the body: those rows at the first column block, what it held at the others. -/
def hNow (i : grid0.Coords) (s : S512x2048.Idx → Elt F .bf16) (x0 : S8x64x2048.Idx → Elt F .f32) (x1 : S1x2048.Idx → Elt F .f32) (x2 x3 : S1x8x1x2048.Idx → Elt F .f32) :
    S512x2048.Idx → Elt F .bf16 := if k0_cond1 i = 1#1 then hAt x0 x1 x2 x3 else s

/-- The gains of the four heads of a block. -/
def gain0 (x : S1x512.Idx → Elt F .f32) : Vec F S1x128 .f32 := fun z => x ((Rect.unit (s := S1x512) ![0, 0] S1x128.size inb_S1x512_S1x128_0_0).toLoadRect.idx z)
def gain1 (x : S1x512.Idx → Elt F .f32) : Vec F S1x128 .f32 := fun z => x ((Rect.unit (s := S1x512) ![0, 128] S1x128.size inb_S1x512_S1x128_0_128).toLoadRect.idx z)
def gain2 (x : S1x512.Idx → Elt F .f32) : Vec F S1x128 .f32 := fun z => x ((Rect.unit (s := S1x512) ![0, 256] S1x128.size inb_S1x512_S1x128_0_256).toLoadRect.idx z)
def gain3 (x : S1x512.Idx → Elt F .f32) : Vec F S1x128 .f32 := fun z => x ((Rect.unit (s := S1x512) ![0, 384] S1x128.size inb_S1x512_S1x128_0_384).toLoadRect.idx z)

/-- The band's queries of a block: normed, scaled, rounded; the band's keys, normed, and rounded. -/
def qNormed (acc : FVec F S512x512 .f32) (x5 : S1x512.Idx → Elt F .f32) : FVec F S512x512 .bf16 :=
  k0_pay1 acc (k0_pay6 acc (gain0 x5)) (k0_pay7 acc (gain1 x5)) (k0_pay8 acc (gain2 x5)) (gain3 x5)
def kNormed (acc : FVec F S512x512 .f32) (x6 : S1x512.Idx → Elt F .f32) : FVec F S512x512 .f32 :=
  k0_pay2 acc (k0_pay9 acc (gain0 x6)) (k0_pay10 acc (gain1 x6)) (k0_pay11 acc (gain2 x6)) (gain3 x6)
def kRounded (acc : FVec F S512x512 .f32) (x6 : S1x512.Idx → Elt F .f32) : FVec F S512x512 .bf16 :=
  k0_pay3 acc (k0_pay9 acc (gain0 x6)) (k0_pay10 acc (gain1 x6)) (k0_pay11 acc (gain2 x6)) (gain3 x6)

/-- What the body leaves in the block of the whole projection. -/
def outAt (i : grid0.Coords) (h : S512x2048.Idx → Elt F .bf16) (x4 : S2048x512.Idx → Elt F .bf16) (x5 x6 : S1x512.Idx → Elt F .f32) : S512x512.Idx → Elt F .bf16 :=
  if k0_cond2 i = 1#1 then k0_pay14 h x4 else if k0_cond5 i = 1#1 then qNormed (k0_pay13 h x4) x5
  else if k0_cond6 i = 1#1 then kRounded (k0_pay13 h x4) x6 else k0_pay15 h x4

/-- The column blocks' sections: exactly one of the branches is taken, the first column block being in the first. -/
def Branch (i : grid0.Coords) : Prop :=
  (k0_cond1 i = 1#1 ∧ k0_cond2 i = 1#1 ∧ ¬ k0_cond3 i = 1#1 ∧ ¬ k0_cond4 i = 1#1 ∧ ¬ k0_cond5 i = 1#1 ∧ ¬ k0_cond6 i = 1#1 ∧ ¬ k0_cond7 i = 1#1 ∧ ¬ k0_cond8 i = 1#1)
  ∨ (¬ k0_cond1 i = 1#1 ∧ k0_cond2 i = 1#1 ∧ ¬ k0_cond3 i = 1#1 ∧ ¬ k0_cond4 i = 1#1 ∧ ¬ k0_cond5 i = 1#1 ∧ ¬ k0_cond6 i = 1#1 ∧ ¬ k0_cond7 i = 1#1 ∧ ¬ k0_cond8 i = 1#1)
  ∨ (¬ k0_cond1 i = 1#1 ∧ ¬ k0_cond2 i = 1#1 ∧ k0_cond3 i = 1#1 ∧ ¬ k0_cond4 i = 1#1 ∧ ¬ k0_cond5 i = 1#1 ∧ ¬ k0_cond6 i = 1#1 ∧ ¬ k0_cond7 i = 1#1 ∧ ¬ k0_cond8 i = 1#1)
  ∨ (¬ k0_cond1 i = 1#1 ∧ ¬ k0_cond2 i = 1#1 ∧ ¬ k0_cond3 i = 1#1 ∧ k0_cond4 i = 1#1 ∧ ¬ k0_cond5 i = 1#1 ∧ ¬ k0_cond6 i = 1#1 ∧ ¬ k0_cond7 i = 1#1 ∧ ¬ k0_cond8 i = 1#1)
  ∨ (¬ k0_cond1 i = 1#1 ∧ ¬ k0_cond2 i = 1#1 ∧ ¬ k0_cond3 i = 1#1 ∧ ¬ k0_cond4 i = 1#1 ∧ k0_cond5 i = 1#1 ∧ ¬ k0_cond6 i = 1#1 ∧ ¬ k0_cond7 i = 1#1 ∧ ¬ k0_cond8 i = 1#1)
  ∨ (¬ k0_cond1 i = 1#1 ∧ ¬ k0_cond2 i = 1#1 ∧ ¬ k0_cond3 i = 1#1 ∧ ¬ k0_cond4 i = 1#1 ∧ ¬ k0_cond5 i = 1#1 ∧ k0_cond6 i = 1#1 ∧ ¬ k0_cond7 i = 1#1 ∧ ¬ k0_cond8 i = 1#1)
  ∨ (¬ k0_cond1 i = 1#1 ∧ ¬ k0_cond2 i = 1#1 ∧ ¬ k0_cond3 i = 1#1 ∧ ¬ k0_cond4 i = 1#1 ∧ ¬ k0_cond5 i = 1#1 ∧ ¬ k0_cond6 i = 1#1 ∧ k0_cond7 i = 1#1 ∧ ¬ k0_cond8 i = 1#1)
  ∨ (¬ k0_cond1 i = 1#1 ∧ ¬ k0_cond2 i = 1#1 ∧ ¬ k0_cond3 i = 1#1 ∧ ¬ k0_cond4 i = 1#1 ∧ ¬ k0_cond5 i = 1#1 ∧ ¬ k0_cond6 i = 1#1 ∧ ¬ k0_cond7 i = 1#1 ∧ k0_cond8 i = 1#1)

/-- Where each branch is taken: by the column block `t % 20`. -/
theorem cond1_iff : ∀ t : Fin cfg0.N, k0_cond1 (grid0.coords t) = 1#1 ↔ t.val % 20 = 0 :=
  (by decide +kernel : ∀ t : Fin grid0.N, k0_cond1 (grid0.coords t) = 1#1 ↔ t.val % 20 = 0)
theorem cond2_iff : ∀ t : Fin cfg0.N, k0_cond2 (grid0.coords t) = 1#1 ↔ t.val % 20 / 2 = 0 :=
  (by decide +kernel : ∀ t : Fin grid0.N, k0_cond2 (grid0.coords t) = 1#1 ↔ t.val % 20 / 2 = 0)
theorem cond3_iff : ∀ t : Fin cfg0.N, k0_cond3 (grid0.coords t) = 1#1 ↔ t.val % 20 / 2 = 1 :=
  (by decide +kernel : ∀ t : Fin grid0.N, k0_cond3 (grid0.coords t) = 1#1 ↔ t.val % 20 / 2 = 1)
theorem cond4_iff : ∀ t : Fin cfg0.N, k0_cond4 (grid0.coords t) = 1#1 ↔ t.val % 20 / 2 = 2 :=
  (by decide +kernel : ∀ t : Fin grid0.N, k0_cond4 (grid0.coords t) = 1#1 ↔ t.val % 20 / 2 = 2)
theorem cond5_iff : ∀ t : Fin cfg0.N, k0_cond5 (grid0.coords t) = 1#1 ↔ t.val % 20 / 2 = 3 :=
  (by decide +kernel : ∀ t : Fin grid0.N, k0_cond5 (grid0.coords t) = 1#1 ↔ t.val % 20 / 2 = 3)
theorem cond6_iff : ∀ t : Fin cfg0.N, k0_cond6 (grid0.coords t) = 1#1 ↔ t.val % 20 / 2 = 4 :=
  (by decide +kernel : ∀ t : Fin grid0.N, k0_cond6 (grid0.coords t) = 1#1 ↔ t.val % 20 / 2 = 4)
theorem cond7_iff : ∀ t : Fin cfg0.N, k0_cond7 (grid0.coords t) = 1#1 ↔ t.val % 20 / 2 = 5 :=
  (by decide +kernel : ∀ t : Fin grid0.N, k0_cond7 (grid0.coords t) = 1#1 ↔ t.val % 20 / 2 = 5)
theorem cond8_iff : ∀ t : Fin cfg0.N, k0_cond8 (grid0.coords t) = 1#1 ↔ 6 ≤ t.val % 20 / 2 :=
  (by decide +kernel : ∀ t : Fin grid0.N, k0_cond8 (grid0.coords t) = 1#1 ↔ 6 ≤ t.val % 20 / 2)

theorem branch (t : Fin cfg0.N) : Branch (grid0.coords t) := by
  unfold Branch
  simp only [cond1_iff, cond2_iff, cond3_iff, cond4_iff, cond5_iff, cond6_iff, cond7_iff, cond8_iff]
  have h : t.val % 20 < 20 := Nat.mod_lt _ (by norm_num)
  generalize t.val % 20 = x at h
  interval_cases x <;> simp

/-! ## The loop over the groups of rows -/

theorem trips_eq : k0_t1_loop.trips = 8 := by decide
theorem off1_eq : ∀ k : Fin k0_t1_loop.trips, k0_off1 k = ![k.val, 0, 0] := by decide +kernel
theorem off2_eq : ∀ k : Fin k0_t1_loop.trips, k0_off2 k = ![0, k.val, 0, 0] := by decide +kernel
theorem off3_eq : ∀ k : Fin k0_t1_loop.trips, k0_off3 k = ![64 * k.val, 0] := by decide +kernel

set_option maxHeartbeats 1000000 in
/-- After `n` groups the scratch holds the first `64 * n` normalised and modulated rows, whatever it held before. -/
theorem rows_written (𝒱 : Variants) (c : Dev nD) (bd : Option 𝒱.V) (i : grid0.Coords) (arg2 : Memref sig .tc .vmem S8x64x2048 .f32) (harg2 : arg2.IsWhole) (arg3 : Memref sig .tc .vmem S1x2048 .f32) (harg3 : arg3.IsWhole) (arg4 : Memref sig .tc .vmem S1x8x1x2048 .f32) (harg4 : arg4.IsWhole) (arg5 : Memref sig .tc .vmem S1x8x1x2048 .f32) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x2048 .bf16) (harg14 : arg14.IsWhole) (h1 : k0_cond1 i = 1#1)
    (x0 : S8x64x2048.Idx → Elt F .f32) (x1 : S1x2048.Idx → Elt F .f32) (x2 x3 : S1x8x1x2048.Idx → Elt F .f32)
    (G : BufTy.Contents (Elt F) arg14.view.ty) (n : ℕ) (hn : n ≤ 8) (y : S512x2048.Idx) (hy : (y 0).val < 64 * n) :
    arg14.view.read (Elt F) (arg14.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h1 (harg2.unread x0) (harg3.unread x1) (harg4.unread x2) (harg5.unread x3) n)) y = hAt x0 x1 x2 x3 y := by
  induction n with
  | zero => omega
  | succ n ih =>
    have hn' : n < k0_t1_loop.trips := by rw [trips_eq]; omega
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 h1 (harg2.unread x0) (harg3.unread x1) (harg4.unread x2) (harg5.unread x3) ⟨n, hn'⟩
    unfold tripL_k0_t1 trip_k0_t1 at hs
    dsimp only at hs
    rw [hs]
    by_cases h : (y 0).val < 64 * n
    · refine (View.read_writes_cons_rows_of_not_mem arg14.view G _ _ _ y (off3_eq ⟨n, hn'⟩) rfl (Or.inl h)).trans (ih (by omega) h)
    · have e : (y 0).val / 64 = n := by omega
      refine (View.read_writes_cons_rows_of_mem arg14.view G _ _ _ y (ix2 ⟨(y 0).val % 64, Nat.mod_lt _ (by norm_num)⟩ (y 1)) (off3_eq ⟨n, hn'⟩) ?_ rfl).trans ?_
      · show (y 0).val = 64 * n + (y 0).val % 64
        omega
      unfold hAt
      have ek : (⟨(y 0).val / 64, Nat.div_lt_of_lt_mul (show (y 0).val < 64 * 8 from (y 0).isLt)⟩ : Fin 8) = ⟨n, by omega⟩ := Fin.ext e
      rw [ek]
      have a0 : ∀ inb, (View.readAt (Elt F) arg2.view (Rect.unit (s := S8x64x2048) (k0_off1 ⟨n, hn'⟩) S1x64x2048.size inb).toLoadRect (harg2.unread x0) : Vec F S1x64x2048 .f32) = rowsOf x0 ⟨n, by omega⟩ := fun inb => by
        funext z
        refine (harg2.readAt_unread x0 _ z).trans (congrArg x0 (funext fun a => Fin.ext ?_))
        have z0 : (z (0 : Fin 3)).val < 1 := (z (0 : Fin 3)).isLt
        match a with
        | ⟨0, _⟩ => show k0_off1 ⟨n, hn'⟩ 0 + 1 * (z (0 : Fin 3)).val = n; rw [show k0_off1 ⟨n, hn'⟩ 0 = _ from congrFun (off1_eq ⟨n, hn'⟩) 0]; show n + 1 * (z (0 : Fin 3)).val = n; omega
        | ⟨1, _⟩ => show k0_off1 ⟨n, hn'⟩ 1 + 1 * (z (1 : Fin 3)).val = (z (1 : Fin 3)).val; rw [show k0_off1 ⟨n, hn'⟩ 1 = _ from congrFun (off1_eq ⟨n, hn'⟩) 1]; exact (Nat.zero_add _).trans (Nat.one_mul _)
        | ⟨2, _⟩ => show k0_off1 ⟨n, hn'⟩ 2 + 1 * (z (2 : Fin 3)).val = (z (2 : Fin 3)).val; rw [show k0_off1 ⟨n, hn'⟩ 2 = _ from congrFun (off1_eq ⟨n, hn'⟩) 2]; exact (Nat.zero_add _).trans (Nat.one_mul _)
      have am : ∀ (m : Memref sig .tc .vmem S1x8x1x2048 .f32) (hm : m.IsWhole) (x : S1x8x1x2048.Idx → Elt F .f32) inb,
          (View.readAt (Elt F) m.view (Rect.unit (s := S1x8x1x2048) (k0_off2 ⟨n, hn'⟩) S1x1x1x2048.size inb).toLoadRect (hm.unread x) : Vec F S1x1x1x2048 .f32) = modOf x ⟨n, by omega⟩ := fun m hm x inb => by
        funext z
        refine (hm.readAt_unread x _ z).trans (congrArg x (funext fun a => Fin.ext ?_))
        have z0 : (z (0 : Fin 4)).val < 1 := (z (0 : Fin 4)).isLt
        have z1 : (z (1 : Fin 4)).val < 1 := (z (1 : Fin 4)).isLt
        have z2 : (z (2 : Fin 4)).val < 1 := (z (2 : Fin 4)).isLt
        match a with
        | ⟨0, _⟩ => show k0_off2 ⟨n, hn'⟩ 0 + 1 * (z (0 : Fin 4)).val = 0; rw [show k0_off2 ⟨n, hn'⟩ 0 = _ from congrFun (off2_eq ⟨n, hn'⟩) 0]; show 0 + 1 * (z (0 : Fin 4)).val = 0; omega
        | ⟨1, _⟩ => show k0_off2 ⟨n, hn'⟩ 1 + 1 * (z (1 : Fin 4)).val = n; rw [show k0_off2 ⟨n, hn'⟩ 1 = _ from congrFun (off2_eq ⟨n, hn'⟩) 1]; show n + 1 * (z (1 : Fin 4)).val = n; omega
        | ⟨2, _⟩ => show k0_off2 ⟨n, hn'⟩ 2 + 1 * (z (2 : Fin 4)).val = 0; rw [show k0_off2 ⟨n, hn'⟩ 2 = _ from congrFun (off2_eq ⟨n, hn'⟩) 2]; show 0 + 1 * (z (2 : Fin 4)).val = 0; omega
        | ⟨3, _⟩ => show k0_off2 ⟨n, hn'⟩ 3 + 1 * (z (3 : Fin 4)).val = (z (3 : Fin 4)).val; rw [show k0_off2 ⟨n, hn'⟩ 3 = _ from congrFun (off2_eq ⟨n, hn'⟩) 3]; exact (Nat.zero_add _).trans (Nat.one_mul _)
      rw [a0, am, am, readAt_read arg3.view _ (harg3.read_unread x1) off2_zero]
      rfl

/-- All eight groups: the scratch reads the 512 normalised and modulated rows. -/
theorem read_rows (𝒱 : Variants) (c : Dev nD) (bd : Option 𝒱.V) (i : grid0.Coords) (arg2 : Memref sig .tc .vmem S8x64x2048 .f32) (harg2 : arg2.IsWhole) (arg3 : Memref sig .tc .vmem S1x2048 .f32) (harg3 : arg3.IsWhole) (arg4 : Memref sig .tc .vmem S1x8x1x2048 .f32) (harg4 : arg4.IsWhole) (arg5 : Memref sig .tc .vmem S1x8x1x2048 .f32) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x2048 .bf16) (harg14 : arg14.IsWhole) (h1 : k0_cond1 i = 1#1)
    (x0 : S8x64x2048.Idx → Elt F .f32) (x1 : S1x2048.Idx → Elt F .f32) (x2 x3 : S1x8x1x2048.Idx → Elt F .f32)
    (G : BufTy.Contents (Elt F) arg14.view.ty) :
    arg14.view.read (Elt F) (arg14.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h1 (harg2.unread x0) (harg3.unread x1) (harg4.unread x2) (harg5.unread x3) (Scf.trips k0_t1_loop.lb k0_t1_loop.ub k0_t1_loop.st))) = hAt x0 x1 x2 x3 :=
  funext fun y => rows_written 𝒱 c bd i arg2 harg2 arg3 harg3 arg4 harg4 arg5 harg5 arg6 harg6 arg7 harg7 arg8 harg8 arg9 harg9 arg10 harg10 arg11 harg11 arg12 harg12 arg13 harg13 arg14 harg14 h1 x0 x1 x2 x3 G _ trips_eq.le y (by
    have : (y 0).val < 64 * 8 := (y 0).isLt
    show (y 0).val < 64 * k0_t1_loop.trips
    rw [trips_eq]; exact this)

/-- THE BODY at a point. Beforehand: the inputs' blocks `x0 … x6`, the block of the whole projection at anything, the blocks
    of the keys and values at `y8 … y11`, the scratch at `s`. Afterwards the inputs as they were, the scratch at `hNow`, the
    block of the whole projection at `outAt`, and the keys' or values' block of the section, if any, at its product. -/
def Runs (i : grid0.Coords) : Prop :=
  ∀ (c : Dev nD) (arg2 : Memref sig .tc .vmem S8x64x2048 .f32) (harg2 : arg2.IsWhole) (arg3 : Memref sig .tc .vmem S1x2048 .f32) (harg3 : arg3.IsWhole) (arg4 : Memref sig .tc .vmem S1x8x1x2048 .f32) (harg4 : arg4.IsWhole) (arg5 : Memref sig .tc .vmem S1x8x1x2048 .f32) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x2048 .bf16) (harg14 : arg14.IsWhole)
    (x0 : S8x64x2048.Idx → Elt F .f32) (x1 : S1x2048.Idx → Elt F .f32) (x2 x3 : S1x8x1x2048.Idx → Elt F .f32) (x4 : S2048x512.Idx → Elt F .bf16) (x5 x6 : S1x512.Idx → Elt F .f32)
    (y8 y9 y10 y11 : S512x512.Idx → Elt F .f32) (s : S512x2048.Idx → Elt F .bf16) (K : PUnit → sProp 𝕄),
    iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ (∃ d, owns (c : Thread nD τ) arg9 fullShare d)
    ∗ owns (c : Thread nD τ) arg10 fullShare y8
    ∗ owns (c : Thread nD τ) arg11 fullShare y9
    ∗ owns (c : Thread nD τ) arg12 fullShare y10
    ∗ owns (c : Thread nD τ) arg13 fullShare y11
    ∗ owns (c : Thread nD τ) arg14 fullShare s
    ∗ (iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare (outAt i (hNow i s x0 x1 x2 x3) x4 x5 x6)
    ∗ owns (c : Thread nD τ) arg10 fullShare (if k0_cond3 i = 1#1 then k0_pay13 (hNow i s x0 x1 x2 x3) x4 else y8)
    ∗ owns (c : Thread nD τ) arg11 fullShare (if k0_cond4 i = 1#1 then k0_pay13 (hNow i s x0 x1 x2 x3) x4 else y9)
    ∗ owns (c : Thread nD τ) arg12 fullShare (if k0_cond6 i = 1#1 then kNormed (k0_pay13 (hNow i s x0 x1 x2 x3) x4) x6 else y10)
    ∗ owns (c : Thread nD τ) arg13 fullShare (if k0_cond7 i = 1#1 then k0_pay13 (hNow i s x0 x1 x2 x3) x4 else y11)
    ∗ owns (c : Thread nD τ) arg14 fullShare (hNow i s x0 x1 x2 x3)) -∗ K ⟨⟩))
    ⊢ wp frame (wpE (defs₀ (F := F)) Variants.none c none) Set.univ (cc0_proj i arg2 harg2 arg3 harg3 arg4 harg4 arg5 harg5 arg6 harg6 arg7 harg7 arg8 harg8 arg9 harg9 arg10 harg10 arg11 harg11 arg12 harg12 arg13 harg13 arg14 harg14) K

end Cert.ProjStepIdeal.Hand
-- ==== Proof.ProjStepEntry.lean ====
/- The sample's projection kernel's LAUNCH up to its region: what the host operations leave, and each window's block read off its
   array. -/
module

public import proofs.«01_k».proof.Proof.ProjStepRows
public import proofs.«01_k».proof.Proof.Gen.ProjStepIdeal.Launch
public import proofs.«01_k».proof.Proof.Gen.ProjStepIdeal.Points

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations -/

/-- The buffers of core `c` when the region starts: as launched, then the host operations. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t` of what its array holds at the start. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem index_0 : ∀ t : Fin cfg0.N, (cfg0.win 0).index t = ![t.val / 20, 0, 0] := by decide +kernel
theorem index_1 : ∀ t : Fin cfg0.N, (cfg0.win 1).index t = ![0, 0] := by decide +kernel
theorem index_2 : ∀ t : Fin cfg0.N, (cfg0.win 2).index t = ![1, t.val / 20, 0, 0] := by decide +kernel
theorem index_3 : ∀ t : Fin cfg0.N, (cfg0.win 3).index t = ![0, t.val / 20, 0, 0] := by decide +kernel
theorem index_4 : ∀ t : Fin cfg0.N, (cfg0.win 4).index t = ![0, t.val % 20] := by decide +kernel
theorem index_5 : ∀ t : Fin cfg0.N, (cfg0.win 5).index t = ![0, min (t.val % 20 - 6) 1] := by decide +kernel
theorem index_6 : ∀ t : Fin cfg0.N, (cfg0.win 6).index t = ![0, min (t.val % 20 - 8) 1] := by decide +kernel
theorem index_7 : ∀ t : Fin cfg0.N, (cfg0.win 7).index t = ![t.val / 20, t.val % 20] := by decide +kernel
theorem index_8 : ∀ t : Fin cfg0.N, (cfg0.win 8).index t = ![t.val / 20, min (t.val % 20 - 2) 1] := by decide +kernel
theorem index_9 : ∀ t : Fin cfg0.N, (cfg0.win 9).index t = ![t.val / 20, min (t.val % 20 - 4) 1] := by decide +kernel
theorem index_10 : ∀ t : Fin cfg0.N, (cfg0.win 10).index t = ![t.val / 20, min (t.val % 20 - 8) 1] := by decide +kernel
theorem index_11 : ∀ t : Fin cfg0.N, (cfg0.win 11).index t = ![t.val / 20, min (t.val % 20 - 10) 1] := by decide +kernel

theorem lt_80 (t : Fin cfg0.N) : t.val < 80 := lt_of_lt_of_eq t.isLt N_0

/-- Sequence row `y` of a point's tile of eight. -/
def seqOf (t : Fin cfg0.N) (y : Fin 8) : Fin 32 := ⟨8 * (t.val / 20) + y.val, by have := lt_80 t; omega⟩
/-- Column `y` of a point's 512 weight columns. -/
def colOf (t : Fin cfg0.N) (y : Fin 512) : Fin 10240 := ⟨512 * (t.val % 20) + y.val, by omega⟩
/-- Lane `y` of one of the two gain blocks. -/
def gainOf (lo : ℕ) (t : Fin cfg0.N) (y : Fin 512) : Fin 1024 := ⟨512 * min (t.val % 20 - lo) 1 + y.val, by omega⟩

theorem iblk_0 (c : Dev nD) (t : Fin cfg0.N) (y : S8x64x2048.Idx) : iblk m c 0 t y = V m c main_arg0 (ix3 (seqOf t (y 0)) (y 1) (y 2)) := by
  refine congrArg (V m c main_arg0) (funext fun a => Fin.ext ?_)
  match a with
  | ⟨0, _⟩ => show (cfg0.win 0).index t 0 * 8 + 1 * (y 0).val = _; rw [index_0]; show t.val / 20 * 8 + 1 * (y 0).val = 8 * (t.val / 20) + (y 0).val; omega
  | ⟨1, _⟩ => show (cfg0.win 0).index t 1 * 64 + 1 * (y 1).val = _; rw [index_0]; show 0 * 64 + 1 * (y 1).val = (y 1).val; omega
  | ⟨2, _⟩ => show (cfg0.win 0).index t 2 * 2048 + 1 * (y 2).val = _; rw [index_0]; show 0 * 2048 + 1 * (y 2).val = (y 2).val; omega

theorem iblk_1 (c : Dev nD) (t : Fin cfg0.N) (y : S1x2048.Idx) : iblk m c 1 t y = V m c main_v5 (y) := by
  refine congrArg (V m c main_v5) (funext fun a => Fin.ext ?_)
  match a with
  | ⟨0, _⟩ => show (cfg0.win 1).index t 0 * 1 + 1 * (y 0).val = _; rw [index_1]; show 0 * 1 + 1 * (y 0).val = (y 0).val; omega
  | ⟨1, _⟩ => show (cfg0.win 1).index t 1 * 2048 + 1 * (y 1).val = _; rw [index_1]; show 0 * 2048 + 1 * (y 1).val = (y 1).val; omega

theorem iblk_2 (c : Dev nD) (t : Fin cfg0.N) (y : S1x8x1x2048.Idx) : iblk m c 2 t y = V m c main_v1 (ix4 1 (seqOf t (y 1)) (y 2) (y 3)) := by
  refine congrArg (V m c main_v1) (funext fun a => Fin.ext ?_)
  match a with
  | ⟨0, _⟩ => show (cfg0.win 2).index t 0 * 1 + 1 * (y 0).val = _; rw [index_2]; have h : (y 0).val < 1 := (y 0).isLt; show 1 * 1 + 1 * (y 0).val = 1; omega
  | ⟨1, _⟩ => show (cfg0.win 2).index t 1 * 8 + 1 * (y 1).val = _; rw [index_2]; show t.val / 20 * 8 + 1 * (y 1).val = 8 * (t.val / 20) + (y 1).val; omega
  | ⟨2, _⟩ => show (cfg0.win 2).index t 2 * 1 + 1 * (y 2).val = _; rw [index_2]; show 0 * 1 + 1 * (y 2).val = (y 2).val; omega
  | ⟨3, _⟩ => show (cfg0.win 2).index t 3 * 2048 + 1 * (y 3).val = _; rw [index_2]; show 0 * 2048 + 1 * (y 3).val = (y 3).val; omega

theorem iblk_3 (c : Dev nD) (t : Fin cfg0.N) (y : S1x8x1x2048.Idx) : iblk m c 3 t y = V m c main_v1 (ix4 0 (seqOf t (y 1)) (y 2) (y 3)) := by
  refine congrArg (V m c main_v1) (funext fun a => Fin.ext ?_)
  match a with
  | ⟨0, _⟩ => show (cfg0.win 3).index t 0 * 1 + 1 * (y 0).val = _; rw [index_3]; have h : (y 0).val < 1 := (y 0).isLt; show 0 * 1 + 1 * (y 0).val = 0; omega
  | ⟨1, _⟩ => show (cfg0.win 3).index t 1 * 8 + 1 * (y 1).val = _; rw [index_3]; show t.val / 20 * 8 + 1 * (y 1).val = 8 * (t.val / 20) + (y 1).val; omega
  | ⟨2, _⟩ => show (cfg0.win 3).index t 2 * 1 + 1 * (y 2).val = _; rw [index_3]; show 0 * 1 + 1 * (y 2).val = (y 2).val; omega
  | ⟨3, _⟩ => show (cfg0.win 3).index t 3 * 2048 + 1 * (y 3).val = _; rw [index_3]; show 0 * 2048 + 1 * (y 3).val = (y 3).val; omega

theorem iblk_4 (c : Dev nD) (t : Fin cfg0.N) (y : S2048x512.Idx) : iblk m c 4 t y = V m c main_v2 (ix2 (y 0) (colOf t (y 1))) := by
  refine congrArg (V m c main_v2) (funext fun a => Fin.ext ?_)
  match a with
  | ⟨0, _⟩ => show (cfg0.win 4).index t 0 * 2048 + 1 * (y 0).val = _; rw [index_4]; show 0 * 2048 + 1 * (y 0).val = (y 0).val; omega
  | ⟨1, _⟩ => show (cfg0.win 4).index t 1 * 512 + 1 * (y 1).val = _; rw [index_4]; show t.val % 20 * 512 + 1 * (y 1).val = 512 * (t.val % 20) + (y 1).val; omega

theorem iblk_5 (c : Dev nD) (t : Fin cfg0.N) (y : S1x512.Idx) : iblk m c 5 t y = V m c main_v3 (ix2 (y 0) (gainOf 6 t (y 1))) := by
  refine congrArg (V m c main_v3) (funext fun a => Fin.ext ?_)
  match a with
  | ⟨0, _⟩ => show (cfg0.win 5).index t 0 * 1 + 1 * (y 0).val = _; rw [index_5]; show 0 * 1 + 1 * (y 0).val = (y 0).val; omega
  | ⟨1, _⟩ => show (cfg0.win 5).index t 1 * 512 + 1 * (y 1).val = _; rw [index_5]; show min (t.val % 20 - 6) 1 * 512 + 1 * (y 1).val = 512 * min (t.val % 20 - 6) 1 + (y 1).val; omega

theorem iblk_6 (c : Dev nD) (t : Fin cfg0.N) (y : S1x512.Idx) : iblk m c 6 t y = V m c main_v4 (ix2 (y 0) (gainOf 8 t (y 1))) := by
  refine congrArg (V m c main_v4) (funext fun a => Fin.ext ?_)
  match a with
  | ⟨0, _⟩ => show (cfg0.win 6).index t 0 * 1 + 1 * (y 0).val = _; rw [index_6]; show 0 * 1 + 1 * (y 0).val = (y 0).val; omega
  | ⟨1, _⟩ => show (cfg0.win 6).index t 1 * 512 + 1 * (y 1).val = _; rw [index_6]; show min (t.val % 20 - 8) 1 * 512 + 1 * (y 1).val = 512 * min (t.val % 20 - 8) 1 + (y 1).val; omega

theorem iblk_0_row (c : Dev nD) (t t' : Fin cfg0.N) (h : t.val / 20 = t'.val / 20) : iblk m c 0 t = iblk m c 0 t' := by
  funext y
  rw [iblk_0, iblk_0]
  rw [show seqOf t = seqOf t' from funext fun y => Fin.ext (by show 8 * (t.val / 20) + y.val = 8 * (t'.val / 20) + y.val; rw [h])]
theorem iblk_1_row (c : Dev nD) (t t' : Fin cfg0.N) (h : t.val / 20 = t'.val / 20) : iblk m c 1 t = iblk m c 1 t' := by
  funext y
  rw [iblk_1, iblk_1]
theorem iblk_2_row (c : Dev nD) (t t' : Fin cfg0.N) (h : t.val / 20 = t'.val / 20) : iblk m c 2 t = iblk m c 2 t' := by
  funext y
  rw [iblk_2, iblk_2]
  rw [show seqOf t = seqOf t' from funext fun y => Fin.ext (by show 8 * (t.val / 20) + y.val = 8 * (t'.val / 20) + y.val; rw [h])]
theorem iblk_3_row (c : Dev nD) (t t' : Fin cfg0.N) (h : t.val / 20 = t'.val / 20) : iblk m c 3 t = iblk m c 3 t' := by
  funext y
  rw [iblk_3, iblk_3]
  rw [show seqOf t = seqOf t' from funext fun y => Fin.ext (by show 8 * (t.val / 20) + y.val = 8 * (t'.val / 20) + y.val; rw [h])]

/-- The normalised rows of a point's tile. -/
def hblk (c : Dev nD) (t : Fin cfg0.N) : S512x2048.Idx → Elt F .bf16 := hAt (iblk m c 0 t) (iblk m c 1 t) (iblk m c 2 t) (iblk m c 3 t)

/-- They are the same at all the points of a row of the grid. -/
theorem hblk_row (c : Dev nD) (t t' : Fin cfg0.N) (h : t.val / 20 = t'.val / 20) : hblk m c t = hblk m c t' := by
  unfold hblk
  rw [iblk_0_row m c t t' h, iblk_1_row m c t t' h, iblk_2_row m c t t' h, iblk_3_row m c t t' h]

end Cert.ProjStepIdeal.Hand
-- ==== Proof.ProjStepBodyA.lean ====
/- The sample's projection kernel's BODY at one grid point, branch A. -/
module

public import proofs.«01_k».proof.Proof.ProjStepRows

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 0 and the column block the first. -/
theorem body_A (i : grid0.Coords) (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_pos h2, show hNow i s x0 x1 x2 x3 = hAt x0 x1 x2 x3 from (if_pos h1), readAt_read arg14.view _ (read_rows _ _ _ _ _ _ _ _ _ _ _ _ _ _ _ _ _ _ _ _ _ _ _ _ _ _ _ _ _ _ h1 x0 x1 x2 x3 _) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = hAt x0 x1 x2 x3 from (if_pos h1)]
    exact read_rows _ _ _ _ _ _ _ _ _ _ _ _ _ _ _ _ _ _ _ _ _ _ _ _ _ _ _ _ _ _ h1 x0 x1 x2 x3 _

end Cert.ProjStepIdeal.Hand
-- ==== Proof.ProjStepBodyB.lean ====
/- The sample's projection kernel's BODY at one grid point, branch B. -/
module

public import proofs.«01_k».proof.Proof.ProjStepRows

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 0 and the column block not the first. -/
theorem body_B (i : grid0.Coords) (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_pos h2, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjStepIdeal.Hand
-- ==== Proof.ProjStepBodyC.lean ====
/- The sample's projection kernel's BODY at one grid point, branch C. -/
module

public import proofs.«01_k».proof.Proof.ProjStepRows

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 1. -/
theorem body_C (i : grid0.Coords) (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_neg h6, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      sl_unfold_words
      refine (read_store_whole _ _ off2_zero _ _).trans ?_
      rw [if_pos h3, show hNow i s x0 x1 x2 x3 = s from (if_neg h1), readAt_read arg14.view _ (harg14.read_unread s) off2_zero, readAt_read arg6.view _ (harg6.read_unread x4) off2_zero]
      try rfl
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjStepIdeal.Hand
-- ==== Proof.ProjStepBodyD.lean ====
/- The sample's projection kernel's BODY at one grid point, branch D. -/
module

public import proofs.«01_k».proof.Proof.ProjStepRows

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 2. -/
theorem body_D (i : grid0.Coords) (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_neg h6, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      sl_unfold_words
      refine (read_store_whole _ _ off2_zero _ _).trans ?_
      rw [if_pos h4, show hNow i s x0 x1 x2 x3 = s from (if_neg h1), readAt_read arg14.view _ (harg14.read_unread s) off2_zero, readAt_read arg6.view _ (harg6.read_unread x4) off2_zero]
      try rfl
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjStepIdeal.Hand
-- ==== Proof.ProjStepBodyE.lean ====
/- The sample's projection kernel's BODY at one grid point, branch E. -/
module

public import proofs.«01_k».proof.Proof.ProjStepRows

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 3. -/
theorem body_E (i : grid0.Coords) (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_pos h5, show hNow i s x0 x1 x2 x3 = s from (if_neg h1), readAt_read arg14.view _ (harg14.read_unread s) off2_zero, readAt_read arg6.view _ (harg6.read_unread x4) off2_zero, show View.readAt (Elt F) arg7.view (Rect.unit (s := S1x512) ![0, 0] S1x128.size inb_S1x512_S1x128_0_0).toLoadRect (harg7.unread x5) = gain0 x5 from funext fun z => harg7.readAt_unread x5 _ z, show View.readAt (Elt F) arg7.view (Rect.unit (s := S1x512) ![0, 128] S1x128.size inb_S1x512_S1x128_0_128).toLoadRect (harg7.unread x5) = gain1 x5 from funext fun z => harg7.readAt_unread x5 _ z, show View.readAt (Elt F) arg7.view (Rect.unit (s := S1x512) ![0, 256] S1x128.size inb_S1x512_S1x128_0_256).toLoadRect (harg7.unread x5) = gain2 x5 from funext fun z => harg7.readAt_unread x5 _ z, show View.readAt (Elt F) arg7.view (Rect.unit (s := S1x512) ![0, 384] S1x128.size inb_S1x512_S1x128_0_384).toLoadRect (harg7.unread x5) = gain3 x5 from funext fun z => harg7.readAt_unread x5 _ z]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjStepIdeal.Hand
-- ==== Proof.ProjStepBodyF.lean ====
/- The sample's projection kernel's BODY at one grid point, branch F. -/
module

public import proofs.«01_k».proof.Proof.ProjStepRows

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 4. -/
theorem body_F (i : grid0.Coords) (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) (h7 : ¬ k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_pos h6, show hNow i s x0 x1 x2 x3 = s from (if_neg h1), readAt_read arg14.view _ (harg14.read_unread s) off2_zero, readAt_read arg6.view _ (harg6.read_unread x4) off2_zero, show View.readAt (Elt F) arg8.view (Rect.unit (s := S1x512) ![0, 0] S1x128.size inb_S1x512_S1x128_0_0).toLoadRect (harg8.unread x6) = gain0 x6 from funext fun z => harg8.readAt_unread x6 _ z, show View.readAt (Elt F) arg8.view (Rect.unit (s := S1x512) ![0, 128] S1x128.size inb_S1x512_S1x128_0_128).toLoadRect (harg8.unread x6) = gain1 x6 from funext fun z => harg8.readAt_unread x6 _ z, show View.readAt (Elt F) arg8.view (Rect.unit (s := S1x512) ![0, 256] S1x128.size inb_S1x512_S1x128_0_256).toLoadRect (harg8.unread x6) = gain2 x6 from funext fun z => harg8.readAt_unread x6 _ z, show View.readAt (Elt F) arg8.view (Rect.unit (s := S1x512) ![0, 384] S1x128.size inb_S1x512_S1x128_0_384).toLoadRect (harg8.unread x6) = gain3 x6 from funext fun z => harg8.readAt_unread x6 _ z]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      sl_unfold_words
      refine (read_store_whole _ _ off2_zero _ _).trans ?_
      rw [if_pos h6, show hNow i s x0 x1 x2 x3 = s from (if_neg h1), readAt_read arg14.view _ (harg14.read_unread s) off2_zero, readAt_read arg6.view _ (harg6.read_unread x4) off2_zero, show View.readAt (Elt F) arg8.view (Rect.unit (s := S1x512) ![0, 0] S1x128.size inb_S1x512_S1x128_0_0).toLoadRect (harg8.unread x6) = gain0 x6 from funext fun z => harg8.readAt_unread x6 _ z, show View.readAt (Elt F) arg8.view (Rect.unit (s := S1x512) ![0, 128] S1x128.size inb_S1x512_S1x128_0_128).toLoadRect (harg8.unread x6) = gain1 x6 from funext fun z => harg8.readAt_unread x6 _ z, show View.readAt (Elt F) arg8.view (Rect.unit (s := S1x512) ![0, 256] S1x128.size inb_S1x512_S1x128_0_256).toLoadRect (harg8.unread x6) = gain2 x6 from funext fun z => harg8.readAt_unread x6 _ z, show View.readAt (Elt F) arg8.view (Rect.unit (s := S1x512) ![0, 384] S1x128.size inb_S1x512_S1x128_0_384).toLoadRect (harg8.unread x6) = gain3 x6 from funext fun z => harg8.readAt_unread x6 _ z]
      try rfl
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjStepIdeal.Hand
-- ==== Proof.ProjStepBodyG.lean ====
/- The sample's projection kernel's BODY at one grid point, branch G. -/
module

public import proofs.«01_k».proof.Proof.ProjStepRows

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 5. -/
theorem body_G (i : grid0.Coords) (h1 : ¬ k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : k0_cond7 i = 1#1) (h8 : ¬ k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_neg h6, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      sl_unfold_words
      refine (read_store_whole _ _ off2_zero _ _).trans ?_
      rw [if_pos h7, show hNow i s x0 x1 x2 x3 = s from (if_neg h1), readAt_read arg14.view _ (harg14.read_unread s) off2_zero, readAt_read arg6.view _ (harg6.read_unread x4) off2_zero]
      try rfl
  iexists _; isplitr; swap
  · iexact HS
  · ipureintro
    rw [show hNow i s x0 x1 x2 x3 = s from (if_neg h1)]
    exact harg14.read_unread s

end Cert.ProjStepIdeal.Hand
-- ==== Proof.ProjStepBodyH.lean ====
/- The sample's projection kernel's BODY at one grid point, branch H. -/
module

public import proofs.«01_k».proof.Proof.ProjStepRows

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
/-- The body where the section is 6. -/
theorem body_H (i : grid0.Coords) (h1 : ¬ k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : k0_cond8 i = 1#1) : Runs (F := F) i := by
  intro c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y8 y9 y10 y11 s K
  unfold owns
  rw [cc0_proj_eq_skeleton]; unfold cc0_proj_skel
  simp only [k0_part3_eq_skeleton, k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hf8; obtain rfl := harg11.eq_unread hf9; obtain rfl := harg12.eq_unread hf10; obtain rfl := harg13.eq_unread hf11
  obtain rfl := harg14.eq_unread hfs
  sl_exec! (disch := first | sl_exact h1 | sl_exact h2 | sl_exact h3 | sl_exact h4 | sl_exact h5 | sl_exact h6 | sl_exact h7 | sl_exact h8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · ipureintro
      sl_unfold_words
      refine (read_store_whole _ _ off2_zero _ _).trans ?_
      rw [outAt, if_neg h2, if_neg h5, if_neg h6, show hNow i s x0 x1 x2 x3 = s from (if_neg h1), readAt_read arg14.view _ (harg14.read_unread s) off2_zero, readAt_read arg6.view _ (harg6.read_unread x4) off2_zero]
      try rfl
  isplitl [H8]
  · iexists _; isplitr; swap
    · iexact H8
    · ipureintro
      rw [if_neg h3]
      exact harg10.read_unread _
  isplitl [H9]
  · iexists _; isplitr; swap
    · iexact H9
    · ipureintro
      rw [if_neg h4]
      exact harg11.read_unread _
  isplitl [H10]
  · iexists _; isplitr; swap
    · iexact H10
    · ipureintro
      rw [if_neg h6]
      exact harg12.read_unread _
  isplitl [H11]
  · iexists _; isplitr; swap
    · iexact H11
    · ipureintro
      rw [if_neg h7]
      exact harg13.read_unread _
  iexists _; isplitr; swap
  · iexact HS
  · ipureintro
    rw [show hNow i s x0 x1 x2 x3 = s from (if_neg h1)]
    exact harg14.read_unread s

end Cert.ProjStepIdeal.Hand
-- ==== Proof.ProjStepBody.lean ====
/- The sample's projection kernel's BODY at one grid point, every branch together. -/
module

public import proofs.«01_k».proof.Proof.ProjStepBodyA
public import proofs.«01_k».proof.Proof.ProjStepBodyB
public import proofs.«01_k».proof.Proof.ProjStepBodyC
public import proofs.«01_k».proof.Proof.ProjStepBodyD
public import proofs.«01_k».proof.Proof.ProjStepBodyE
public import proofs.«01_k».proof.Proof.ProjStepBodyF
public import proofs.«01_k».proof.Proof.ProjStepBodyG
public import proofs.«01_k».proof.Proof.ProjStepBodyH

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-! ## The body -/

/-- The body at a point, whichever its branch. -/
theorem body_run (i : grid0.Coords) (hb : Branch i) : Runs (F := F) i := by
  rcases hb with ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩
  · exact body_A i h1 h2 h3 h4 h5 h6 h7 h8
  · exact body_B i h1 h2 h3 h4 h5 h6 h7 h8
  · exact body_C i h1 h2 h3 h4 h5 h6 h7 h8
  · exact body_D i h1 h2 h3 h4 h5 h6 h7 h8
  · exact body_E i h1 h2 h3 h4 h5 h6 h7 h8
  · exact body_F i h1 h2 h3 h4 h5 h6 h7 h8
  · exact body_G i h1 h2 h3 h4 h5 h6 h7 h8
  · exact body_H i h1 h2 h3 h4 h5 h6 h7 h8

end Cert.ProjStepIdeal.Hand
-- ==== Proof.ProjStepFrame.lean ====
/- The sample's projection kernel's RUN: what every grid point leaves, the body's obligation, and the launch.  A key or value
   buffer is written at two points of a row of the grid, and sent at the first and at the row's last point. -/
module

public import proofs.«01_k».proof.Proof.ProjStepEntry
public import proofs.«01_k».proof.Proof.ProjStepBody

@[expose] public section

set_option maxRecDepth 16384

noncomputable section

namespace Cert.ProjStepIdeal.Hand

open Cert.ProjStepIdeal Cert.ProjStepIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The point of the same row of the grid whose store a buffer holds: of the two points `lo` and `lo + 1`, the later one
    reached, or the first. -/
def tk (lo : Fin 11) (t : Fin cfg0.N) : Fin cfg0.N :=
  ⟨20 * (t.val / 20) + max lo.val (min (t.val % 20) (lo.val + 1)), by have := lt_80 t; have := lo.isLt; have : cfg0.N = 80 := N_0; omega⟩

theorem tk_of_mem (lo : Fin 11) (t : Fin cfg0.N) (h : t.val % 20 / 2 * 2 = lo.val) : tk lo t = t :=
  Fin.ext (by show 20 * (t.val / 20) + max lo.val (min (t.val % 20) (lo.val + 1)) = t.val; omega)

theorem tk_succ (lo : Fin 11) (t t' : Fin cfg0.N) (h : t.val = t'.val + 1) (hl : lo.val + 1 < t.val % 20) : tk lo t' = tk lo t :=
  Fin.ext (by show 20 * (t'.val / 20) + max lo.val (min (t'.val % 20) (lo.val + 1)) = 20 * (t.val / 20) + max lo.val (min (t.val % 20) (lo.val + 1)); omega)

/-- A point's 512 by 512 product. -/
def acc (c : Dev nD) (t : Fin cfg0.N) : S512x512.Idx → Elt F .f32 := k0_pay13 (hblk m c t) (iblk m c 4 t)

def left7 (c : Dev nD) (t : Fin cfg0.N) : S512x512.Idx → Elt F .bf16 :=
  outAt (grid0.coords t) (hblk m c t) (iblk m c 4 t) (iblk m c 5 t) (iblk m c 6 t)
def left8 (c : Dev nD) (t : Fin cfg0.N) : S512x512.Idx → Elt F .f32 := acc m c (tk 2 t)
def left9 (c : Dev nD) (t : Fin cfg0.N) : S512x512.Idx → Elt F .f32 := acc m c (tk 4 t)
def left10 (c : Dev nD) (t : Fin cfg0.N) : S512x512.Idx → Elt F .f32 := kNormed (acc m c (tk 8 t)) (iblk m c 6 (tk 8 t))
def left11 (c : Dev nD) (t : Fin cfg0.N) : S512x512.Idx → Elt F .f32 := acc m c (tk 10 t)

/-- Before point `n` the scratch rows are those the point before left. -/
def Kept (c : Dev nD) (n : ℕ) (s : S512x2048.Idx → Elt F .bf16) : Prop := ∀ t : Fin cfg0.N, n = t.val + 1 → s = hblk m c t

abbrev scM0_0 : Memref sig .tc .vmem S512x2048 .bf16 := Memref.whole cc0_scratch0

def Phi (c : Dev nD) (t : Fin (cfg0.N + 1)) : sProp 𝕄 :=
  iprop(iprop(∃ s, ⌜Kept m c t.val s⌝ ∗ owns (c : Thread nD τ) scM0_0 fullShare s) ∗ (∃ r, prngReg c r))

/-- The rows at a point, whether it writes them or finds them. -/
theorem hNow_eq (c : Dev nD) (t : Fin cfg0.N) (s : S512x2048.Idx → Elt F .bf16) (hs : Kept m c t.val s) :
    hNow (grid0.coords t) s (iblk m c 0 t) (iblk m c 1 t) (iblk m c 2 t) (iblk m c 3 t) = hblk m c t := by
  unfold hNow
  by_cases h : k0_cond1 (grid0.coords t) = 1#1
  · rw [if_pos h]; rfl
  · rw [if_neg h]
    have h0 : t.val % 20 ≠ 0 := fun e => h ((cond1_iff t).mpr e)
    have hlt := lt_80 t
    have hN : cfg0.N = 80 := N_0
    rw [hs ⟨t.val - 1, by omega⟩ (by show t.val = t.val - 1 + 1; omega)]
    exact hblk_row m c _ _ (by show (t.val - 1) / 20 = t.val / 20; omega)

theorem Phi_intro (c : Dev nD) (t : Fin cfg0.N) : Kept m c t.succ.val (hblk m c t) := fun t' h => by
  have : t' = t := Fin.ext (by simp only [Fin.val_succ] at h; omega)
  rw [this]

def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 m c t
    | ⟨8, _⟩ => left8 m c t
    | ⟨9, _⟩ => left9 m c t
    | ⟨10, _⟩ => left10 m c t
    | ⟨11, _⟩ => left11 m c t
  Φ t := Phi m c t
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = left7 m c t := by dsimp only [dats]
theorem after0_8 (c : Dev nD) (t : Fin cfg0.N) : (dats m 0 c).after 8 t = left8 m c t := by dsimp only [dats]
theorem after0_9 (c : Dev nD) (t : Fin cfg0.N) : (dats m 0 c).after 9 t = left9 m c t := by dsimp only [dats]
theorem after0_10 (c : Dev nD) (t : Fin cfg0.N) : (dats m 0 c).after 10 t = left10 m c t := by dsimp only [dats]
theorem after0_11 (c : Dev nD) (t : Fin cfg0.N) : (dats m 0 c).after 11 t = left11 m c t := by dsimp only [dats]

/-! ## The staging buffers -/

abbrev ms0_0 (t : Fin cfg0.N) : Memref sig .tc .vmem S8x64x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .f32 := win0_11.stage (cfg0.slots t 11)
abbrev hs0_11 (t : Fin cfg0.N) : (ms0_11 t).IsWhole := hstage0_11 ((cfg0.slots t 11).cast nbuf0_11)

/-! ## When a key or value buffer is written and sent -/

theorem idle_8 (t : Fin cfg0.N) (h : ¬ k0_cond3 (grid0.coords t) = 1#1) : cfg0.idle 8 (grid0.coords t) = true := by
  show (!(k0_cond3 (grid0.coords t) == 1#1)) = true
  simp [h]
theorem live_8 (t : Fin cfg0.N) (h : k0_cond3 (grid0.coords t) = 1#1) : cfg0.idle 8 (grid0.coords t) = false := by
  show (!(k0_cond3 (grid0.coords t) == 1#1)) = false
  simp [h]
theorem flush_8 : ∀ t : Fin cfg0.N, (cfg0.win 8).flush t = true ↔ t.val % 20 = 2 ∨ t.val % 20 = 19 := by decide +kernel

/-- Past its two points the buffer of window 8 holds what the second left. -/
theorem keep_8 (c : Dev nD) : ∀ (n : ℕ) (t : Fin cfg0.N), t.val = n → 2 + 1 < t.val % 20 → ∀ d, (dats m 0 c).before 8 t d = left8 m c t := by
  intro n
  induction n with
  | zero => intro t h0 h1; omega
  | succ n ih =>
    intro t hn hl d
    have hlt := lt_80 t
    have hN : cfg0.N = 80 := N_0
    rw [(dats m 0 c).before_of_pos 8 t (by omega) rfl d]
    have hp : (⟨t.val - 1, by omega⟩ : Fin cfg0.N) = (⟨n, by omega⟩ : Fin cfg0.N) := Fin.ext (by show t.val - 1 = n; omega)
    rw [hp]
    have hf : (cfg0.win 8).flush (⟨n, by omega⟩ : Fin cfg0.N) = false := by
      rw [Bool.eq_false_iff]; intro h
      have h' : n % 20 = 2 ∨ n % 20 = 19 := (flush_8 _).mp h
      omega
    have hs : left8 m c (⟨n, by omega⟩ : Fin cfg0.N) = left8 m c t := by
      unfold left8
      rw [tk_succ 2 t ⟨n, by omega⟩ hn (by show 2 + 1 < _; omega)]
    rw [if_neg (by rw [hf]; decide)]
    unfold Dat.left
    by_cases hc : k0_cond3 (grid0.coords (⟨n, by omega⟩ : Fin cfg0.N)) = 1#1
    · rw [show cfg0.idle 8 (cfg0.grid.coords (⟨n, by omega⟩ : Fin cfg0.N)) = false from live_8 _ hc]
      refine Eq.trans ?_ hs
      unfold Dat.kept; dsimp only [dats]; rfl
    · rw [show cfg0.idle 8 (cfg0.grid.coords (⟨n, by omega⟩ : Fin cfg0.N)) = true from idle_8 _ hc]
      have h' : ¬ n % 20 / 2 = 1 := fun e => hc ((cond3_iff _).mpr e)
      exact (ih ⟨n, by omega⟩ rfl (by show 2 + 1 < n % 20; omega) _).trans hs

/-- What the body leaves of window 8's buffer is what the run expects of it. -/
theorem leaves_8 (c : Dev nD) (t : Fin cfg0.N) (d) :
    (owns (c : Thread nD τ) (ms0_8 t) fullShare (if k0_cond3 (grid0.coords t) = 1#1 then acc m c t else (dats m 0 c).before 8 t d) : sProp 𝕄)
      ⊢ (dats m 0 c).leavesExact 8 t := by
  unfold Dat.leavesExact
  by_cases hc : k0_cond3 (grid0.coords t) = 1#1
  · rw [if_pos hc, show cfg0.idle 8 (cfg0.grid.coords t) = false from live_8 t hc]
    have h' := (cond3_iff t).mp hc
    have e : left8 m c t = acc m c t := by unfold left8; rw [tk_of_mem 2 t (by show _ = 2; omega)]
    show _ ⊢ owns (c : Thread nD τ) (ms0_8 t) fullShare ((dats m 0 c).after 8 t)
    rw [after0_8, e]
  · rw [if_neg hc, show cfg0.idle 8 (cfg0.grid.coords t) = true from idle_8 t hc]
    have h' : ¬ t.val % 20 / 2 = 1 := fun e => hc ((cond3_iff t).mpr e)
    cases hf : (cfg0.win 8).flush t with
    | false =>
      show _ ⊢ iprop(∃ d, owns (c : Thread nD τ) (ms0_8 t) fullShare ((dats m 0 c).before 8 t d))
      iintro H
      iexists d
      iexact H
    | true =>
      show _ ⊢ owns (c : Thread nD τ) (ms0_8 t) fullShare ((dats m 0 c).after 8 t)
      have h2 := (flush_8 t).mp hf
      rw [after0_8, keep_8 m c _ t rfl (by omega) d]

theorem idle_9 (t : Fin cfg0.N) (h : ¬ k0_cond4 (grid0.coords t) = 1#1) : cfg0.idle 9 (grid0.coords t) = true := by
  show (!(k0_cond4 (grid0.coords t) == 1#1)) = true
  simp [h]
theorem live_9 (t : Fin cfg0.N) (h : k0_cond4 (grid0.coords t) = 1#1) : cfg0.idle 9 (grid0.coords t) = false := by
  show (!(k0_cond4 (grid0.coords t) == 1#1)) = false
  simp [h]
theorem flush_9 : ∀ t : Fin cfg0.N, (cfg0.win 9).flush t = true ↔ t.val % 20 = 4 ∨ t.val % 20 = 19 := by decide +kernel

/-- Past its two points the buffer of window 9 holds what the second left. -/
theorem keep_9 (c : Dev nD) : ∀ (n : ℕ) (t : Fin cfg0.N), t.val = n → 4 + 1 < t.val % 20 → ∀ d, (dats m 0 c).before 9 t d = left9 m c t := by
  intro n
  induction n with
  | zero => intro t h0 h1; omega
  | succ n ih =>
    intro t hn hl d
    have hlt := lt_80 t
    have hN : cfg0.N = 80 := N_0
    rw [(dats m 0 c).before_of_pos 9 t (by omega) rfl d]
    have hp : (⟨t.val - 1, by omega⟩ : Fin cfg0.N) = (⟨n, by omega⟩ : Fin cfg0.N) := Fin.ext (by show t.val - 1 = n; omega)
    rw [hp]
    have hf : (cfg0.win 9).flush (⟨n, by omega⟩ : Fin cfg0.N) = false := by
      rw [Bool.eq_false_iff]; intro h
      have h' : n % 20 = 4 ∨ n % 20 = 19 := (flush_9 _).mp h
      omega
    have hs : left9 m c (⟨n, by omega⟩ : Fin cfg0.N) = left9 m c t := by
      unfold left9
      rw [tk_succ 4 t ⟨n, by omega⟩ hn (by show 4 + 1 < _; omega)]
    rw [if_neg (by rw [hf]; decide)]
    unfold Dat.left
    by_cases hc : k0_cond4 (grid0.coords (⟨n, by omega⟩ : Fin cfg0.N)) = 1#1
    · rw [show cfg0.idle 9 (cfg0.grid.coords (⟨n, by omega⟩ : Fin cfg0.N)) = false from live_9 _ hc]
      refine Eq.trans ?_ hs
      unfold Dat.kept; dsimp only [dats]; rfl
    · rw [show cfg0.idle 9 (cfg0.grid.coords (⟨n, by omega⟩ : Fin cfg0.N)) = true from idle_9 _ hc]
      have h' : ¬ n % 20 / 2 = 2 := fun e => hc ((cond4_iff _).mpr e)
      exact (ih ⟨n, by omega⟩ rfl (by show 4 + 1 < n % 20; omega) _).trans hs

/-- What the body leaves of window 9's buffer is what the run expects of it. -/
theorem leaves_9 (c : Dev nD) (t : Fin cfg0.N) (d) :
    (owns (c : Thread nD τ) (ms0_9 t) fullShare (if k0_cond4 (grid0.coords t) = 1#1 then acc m c t else (dats m 0 c).before 9 t d) : sProp 𝕄)
      ⊢ (dats m 0 c).leavesExact 9 t := by
  unfold Dat.leavesExact
  by_cases hc : k0_cond4 (grid0.coords t) = 1#1
  · rw [if_pos hc, show cfg0.idle 9 (cfg0.grid.coords t) = false from live_9 t hc]
    have h' := (cond4_iff t).mp hc
    have e : left9 m c t = acc m c t := by unfold left9; rw [tk_of_mem 4 t (by show _ = 4; omega)]
    show _ ⊢ owns (c : Thread nD τ) (ms0_9 t) fullShare ((dats m 0 c).after 9 t)
    rw [after0_9, e]
  · rw [if_neg hc, show cfg0.idle 9 (cfg0.grid.coords t) = true from idle_9 t hc]
    have h' : ¬ t.val % 20 / 2 = 2 := fun e => hc ((cond4_iff t).mpr e)
    cases hf : (cfg0.win 9).flush t with
    | false =>
      show _ ⊢ iprop(∃ d, owns (c : Thread nD τ) (ms0_9 t) fullShare ((dats m 0 c).before 9 t d))
      iintro H
      iexists d
      iexact H
    | true =>
      show _ ⊢ owns (c : Thread nD τ) (ms0_9 t) fullShare ((dats m 0 c).after 9 t)
      have h2 := (flush_9 t).mp hf
      rw [after0_9, keep_9 m c _ t rfl (by omega) d]

theorem idle_10 (t : Fin cfg0.N) (h : ¬ k0_cond6 (grid0.coords t) = 1#1) : cfg0.idle 10 (grid0.coords t) = true := by
  show (!(k0_cond6 (grid0.coords t) == 1#1)) = true
  simp [h]
theorem live_10 (t : Fin cfg0.N) (h : k0_cond6 (grid0.coords t) = 1#1) : cfg0.idle 10 (grid0.coords t) = false := by
  show (!(k0_cond6 (grid0.coords t) == 1#1)) = false
  simp [h]
theorem flush_10 : ∀ t : Fin cfg0.N, (cfg0.win 10).flush t = true ↔ t.val % 20 = 8 ∨ t.val % 20 = 19 := by decide +kernel

/-- Past its two points the buffer of window 10 holds what the second left. -/
theorem keep_10 (c : Dev nD) : ∀ (n : ℕ) (t : Fin cfg0.N), t.val = n → 8 + 1 < t.val % 20 → ∀ d, (dats m 0 c).before 10 t d = left10 m c t := by
  intro n
  induction n with
  | zero => intro t h0 h1; omega
  | succ n ih =>
    intro t hn hl d
    have hlt := lt_80 t
    have hN : cfg0.N = 80 := N_0
    rw [(dats m 0 c).before_of_pos 10 t (by omega) rfl d]
    have hp : (⟨t.val - 1, by omega⟩ : Fin cfg0.N) = (⟨n, by omega⟩ : Fin cfg0.N) := Fin.ext (by show t.val - 1 = n; omega)
    rw [hp]
    have hf : (cfg0.win 10).flush (⟨n, by omega⟩ : Fin cfg0.N) = false := by
      rw [Bool.eq_false_iff]; intro h
      have h' : n % 20 = 8 ∨ n % 20 = 19 := (flush_10 _).mp h
      omega
    have hs : left10 m c (⟨n, by omega⟩ : Fin cfg0.N) = left10 m c t := by
      unfold left10
      rw [tk_succ 8 t ⟨n, by omega⟩ hn (by show 8 + 1 < _; omega)]
    rw [if_neg (by rw [hf]; decide)]
    unfold Dat.left
    by_cases hc : k0_cond6 (grid0.coords (⟨n, by omega⟩ : Fin cfg0.N)) = 1#1
    · rw [show cfg0.idle 10 (cfg0.grid.coords (⟨n, by omega⟩ : Fin cfg0.N)) = false from live_10 _ hc]
      refine Eq.trans ?_ hs
      unfold Dat.kept; dsimp only [dats]; rfl
    · rw [show cfg0.idle 10 (cfg0.grid.coords (⟨n, by omega⟩ : Fin cfg0.N)) = true from idle_10 _ hc]
      have h' : ¬ n % 20 / 2 = 4 := fun e => hc ((cond6_iff _).mpr e)
      exact (ih ⟨n, by omega⟩ rfl (by show 8 + 1 < n % 20; omega) _).trans hs

/-- What the body leaves of window 10's buffer is what the run expects of it. -/
theorem leaves_10 (c : Dev nD) (t : Fin cfg0.N) (d) :
    (owns (c : Thread nD τ) (ms0_10 t) fullShare (if k0_cond6 (grid0.coords t) = 1#1 then kNormed (acc m c t) (iblk m c 6 t) else (dats m 0 c).before 10 t d) : sProp 𝕄)
      ⊢ (dats m 0 c).leavesExact 10 t := by
  unfold Dat.leavesExact
  by_cases hc : k0_cond6 (grid0.coords t) = 1#1
  · rw [if_pos hc, show cfg0.idle 10 (cfg0.grid.coords t) = false from live_10 t hc]
    have h' := (cond6_iff t).mp hc
    have e : left10 m c t = kNormed (acc m c t) (iblk m c 6 t) := by unfold left10; rw [tk_of_mem 8 t (by show _ = 8; omega)]
    show _ ⊢ owns (c : Thread nD τ) (ms0_10 t) fullShare ((dats m 0 c).after 10 t)
    rw [after0_10, e]
  · rw [if_neg hc, show cfg0.idle 10 (cfg0.grid.coords t) = true from idle_10 t hc]
    have h' : ¬ t.val % 20 / 2 = 4 := fun e => hc ((cond6_iff t).mpr e)
    cases hf : (cfg0.win 10).flush t with
    | false =>
      show _ ⊢ iprop(∃ d, owns (c : Thread nD τ) (ms0_10 t) fullShare ((dats m 0 c).before 10 t d))
      iintro H
      iexists d
      iexact H
    | true =>
      show _ ⊢ owns (c : Thread nD τ) (ms0_10 t) fullShare ((dats m 0 c).after 10 t)
      have h2 := (flush_10 t).mp hf
      rw [after0_10, keep_10 m c _ t rfl (by omega) d]

theorem idle_11 (t : Fin cfg0.N) (h : ¬ k0_cond7 (grid0.coords t) = 1#1) : cfg0.idle 11 (grid0.coords t) = true := by
  show (!(k0_cond7 (grid0.coords t) == 1#1)) = true
  simp [h]
theorem live_11 (t : Fin cfg0.N) (h : k0_cond7 (grid0.coords t) = 1#1) : cfg0.idle 11 (grid0.coords t) = false := by
  show (!(k0_cond7 (grid0.coords t) == 1#1)) = false
  simp [h]
theorem flush_11 : ∀ t : Fin cfg0.N, (cfg0.win 11).flush t = true ↔ t.val % 20 = 10 ∨ t.val % 20 = 19 := by decide +kernel

/-- Past its two points the buffer of window 11 holds what the second left. -/
theorem keep_11 (c : Dev nD) : ∀ (n : ℕ) (t : Fin cfg0.N), t.val = n → 10 + 1 < t.val % 20 → ∀ d, (dats m 0 c).before 11 t d = left11 m c t := by
  intro n
  induction n with
  | zero => intro t h0 h1; omega
  | succ n ih =>
    intro t hn hl d
    have hlt := lt_80 t
    have hN : cfg0.N = 80 := N_0
    rw [(dats m 0 c).before_of_pos 11 t (by omega) rfl d]
    have hp : (⟨t.val - 1, by omega⟩ : Fin cfg0.N) = (⟨n, by omega⟩ : Fin cfg0.N) := Fin.ext (by show t.val - 1 = n; omega)
    rw [hp]
    have hf : (cfg0.win 11).flush (⟨n, by omega⟩ : Fin cfg0.N) = false := by
      rw [Bool.eq_false_iff]; intro h
      have h' : n % 20 = 10 ∨ n % 20 = 19 := (flush_11 _).mp h
      omega
    have hs : left11 m c (⟨n, by omega⟩ : Fin cfg0.N) = left11 m c t := by
      unfold left11
      rw [tk_succ 10 t ⟨n, by omega⟩ hn (by show 10 + 1 < _; omega)]
    rw [if_neg (by rw [hf]; decide)]
    unfold Dat.left
    by_cases hc : k0_cond7 (grid0.coords (⟨n, by omega⟩ : Fin cfg0.N)) = 1#1
    · rw [show cfg0.idle 11 (cfg0.grid.coords (⟨n, by omega⟩ : Fin cfg0.N)) = false from live_11 _ hc]
      refine Eq.trans ?_ hs
      unfold Dat.kept; dsimp only [dats]; rfl
    · rw [show cfg0.idle 11 (cfg0.grid.coords (⟨n, by omega⟩ : Fin cfg0.N)) = true from idle_11 _ hc]
      have h' : ¬ n % 20 / 2 = 5 := fun e => hc ((cond7_iff _).mpr e)
      exact (ih ⟨n, by omega⟩ rfl (by show 10 + 1 < n % 20; omega) _).trans hs

/-- What the body leaves of window 11's buffer is what the run expects of it. -/
theorem leaves_11 (c : Dev nD) (t : Fin cfg0.N) (d) :
    (owns (c : Thread nD τ) (ms0_11 t) fullShare (if k0_cond7 (grid0.coords t) = 1#1 then acc m c t else (dats m 0 c).before 11 t d) : sProp 𝕄)
      ⊢ (dats m 0 c).leavesExact 11 t := by
  unfold Dat.leavesExact
  by_cases hc : k0_cond7 (grid0.coords t) = 1#1
  · rw [if_pos hc, show cfg0.idle 11 (cfg0.grid.coords t) = false from live_11 t hc]
    have h' := (cond7_iff t).mp hc
    have e : left11 m c t = acc m c t := by unfold left11; rw [tk_of_mem 10 t (by show _ = 10; omega)]
    show _ ⊢ owns (c : Thread nD τ) (ms0_11 t) fullShare ((dats m 0 c).after 11 t)
    rw [after0_11, e]
  · rw [if_neg hc, show cfg0.idle 11 (cfg0.grid.coords t) = true from idle_11 t hc]
    have h' : ¬ t.val % 20 / 2 = 5 := fun e => hc ((cond7_iff t).mpr e)
    cases hf : (cfg0.win 11).flush t with
    | false =>
      show _ ⊢ iprop(∃ d, owns (c : Thread nD τ) (ms0_11 t) fullShare ((dats m 0 c).before 11 t d))
      iintro H
      iexists d
      iexact H
    | true =>
      show _ ⊢ owns (c : Thread nD τ) (ms0_11 t) fullShare ((dats m 0 c).after 11 t)
      have h2 := (flush_11 t).mp hf
      rw [after0_11, keep_11 m c _ t rfl (by omega) d]

theorem live_7 (t : Fin cfg0.N) : cfg0.idle 7 (grid0.coords t) = false := by
  rcases branch t with h | h | h | h | h | h | h | h <;> obtain ⟨h1, h2, h3, h4, h5, h6, h7, h8⟩ := h <;>
    simp [cfg0, idle0, h2, h3, h4, h5, h6, h7, h8]

/-! ## The body obligation -/

set_option maxHeartbeats 2000000 in
theorem sound_body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d))
        ∗ (∃ d, owns (c : Thread nD τ) (ms0_9 t) fullShare ((dats m 0 c).before 9 t d))
        ∗ (∃ d, owns (c : Thread nD τ) (ms0_10 t) fullShare ((dats m 0 c).before 10 t d))
        ∗ (∃ d, owns (c : Thread nD τ) (ms0_11 t) fullShare ((dats m 0 c).before 11 t d)))
      ⊢ wp frame (wpE (defs₀ (F := F)) Variants.none c none) Set.univ (bodyAt0 t) fun _ =>
          iprop((dats m 0 c).Φ t.succ ∗ (dats m 0 c).owesAt () t.succ
            ∗ (dats m 0 c).leavesExact 0 t
            ∗ (dats m 0 c).leavesExact 1 t
            ∗ (dats m 0 c).leavesExact 2 t
            ∗ (dats m 0 c).leavesExact 3 t
            ∗ (dats m 0 c).leavesExact 4 t
            ∗ (dats m 0 c).leavesExact 5 t
            ∗ (dats m 0 c).leavesExact 6 t
            ∗ (dats m 0 c).leavesExact 7 t
            ∗ (dats m 0 c).leavesExact 8 t
            ∗ (dats m 0 c).leavesExact 9 t
            ∗ (dats m 0 c).leavesExact 10 t
            ∗ (dats m 0 c).leavesExact 11 t) := by
  simp only [before0_0, before0_1, before0_2, before0_3, before0_4, before0_5, before0_6]
  rewrite [show (dats m 0 c).leavesExact 0 t = owns (c : Thread nD τ) (ms0_0 t) fullShare ((dats m 0 c).after 0 t) from by
    unfold Dat.leavesExact; rw [show cfg0.idle 0 (cfg0.grid.coords t) = false from rfl], after0_0]
  rewrite [show (dats m 0 c).leavesExact 1 t = owns (c : Thread nD τ) (ms0_1 t) fullShare ((dats m 0 c).after 1 t) from by
    unfold Dat.leavesExact; rw [show cfg0.idle 1 (cfg0.grid.coords t) = false from rfl], after0_1]
  rewrite [show (dats m 0 c).leavesExact 2 t = owns (c : Thread nD τ) (ms0_2 t) fullShare ((dats m 0 c).after 2 t) from by
    unfold Dat.leavesExact; rw [show cfg0.idle 2 (cfg0.grid.coords t) = false from rfl], after0_2]
  rewrite [show (dats m 0 c).leavesExact 3 t = owns (c : Thread nD τ) (ms0_3 t) fullShare ((dats m 0 c).after 3 t) from by
    unfold Dat.leavesExact; rw [show cfg0.idle 3 (cfg0.grid.coords t) = false from rfl], after0_3]
  rewrite [show (dats m 0 c).leavesExact 4 t = owns (c : Thread nD τ) (ms0_4 t) fullShare ((dats m 0 c).after 4 t) from by
    unfold Dat.leavesExact; rw [show cfg0.idle 4 (cfg0.grid.coords t) = false from rfl], after0_4]
  rewrite [show (dats m 0 c).leavesExact 5 t = owns (c : Thread nD τ) (ms0_5 t) fullShare ((dats m 0 c).after 5 t) from by
    unfold Dat.leavesExact; rw [show cfg0.idle 5 (cfg0.grid.coords t) = false from rfl], after0_5]
  rewrite [show (dats m 0 c).leavesExact 6 t = owns (c : Thread nD τ) (ms0_6 t) fullShare ((dats m 0 c).after 6 t) from by
    unfold Dat.leavesExact; rw [show cfg0.idle 6 (cfg0.grid.coords t) = false from rfl], after0_6]
  rewrite [show (dats m 0 c).leavesExact 7 t = owns (c : Thread nD τ) (ms0_7 t) fullShare ((dats m 0 c).after 7 t) from by
    unfold Dat.leavesExact; rw [show cfg0.idle 7 (cfg0.grid.coords t) = false from live_7 t], after0_7]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  iintro ⟨⟨⟨%s, %hk, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hh := hNow_eq m c t s hk
  unfold bodyAt0
  iapply (body_run (F := F) (grid0.coords t) (branch t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (iblk m c 0 t) (iblk m c 1 t) (iblk m c 2 t) (iblk m c 3 t) (iblk m c 4 t) (iblk m c 5 t) (iblk m c 6 t)
    ((dats m 0 c).before 8 t d8) ((dats m 0 c).before 9 t d9) ((dats m 0 c).before 10 t d10) ((dats m 0 c).before 11 t d11) s)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [HS]; · iexact HS
  rewrite [hh]
  iintro ⟨H0, H1, H2, H3, H4, H5, H6, H7, H8, H9, H10, H11, HS⟩
  isplitl [HS Hr]
  · isplitl [HS]
    · iexists _
      isplitr; swap
      · iexact HS
      · ipureintro
        exact Phi_intro m c t
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_8 m c t d8); iexact H8
  isplitl [H9]; · iapply (leaves_9 m c t d9); iexact H9
  isplitl [H10]; · iapply (leaves_10 m c t d10); iexact H10
  iapply (leaves_11 m c t d11); iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem PhiA0_eq (c : Dev nD) :
    (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

theorem hin (c : Dev nD) : Pipeline.ΦA spec0 c ⊢ (dats m 0 c).Φ 0 := by
  rw [show (dats m 0 c).Φ 0 = Phi m c 0 from rfl, PhiA0_eq]
  unfold Phi
  iintro ⟨⟨%d, HS⟩, Hr⟩
  isplitl [HS]
  · iexists d
    isplitr; swap
    · iexact HS
    · ipureintro
      intro t h
      exact absurd h (by simp)
  iexact Hr

theorem hout (c : Dev nD) : (dats m 0 c).Φ (Fin.last cfg0.N) ⊢ Pipeline.ΦA spec0 c := by
  rw [show (dats m 0 c).Φ (Fin.last cfg0.N) = Phi m c (Fin.last cfg0.N) from rfl, PhiA0_eq]
  unfold Phi
  iintro ⟨⟨%s, %hk, HS⟩, Hr⟩
  isplitl [HS]
  · iexists s; iexact HS
  iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends, with its counters at zero, the arguments unchanged and the five results at what the blocks written
    make of them. -/
theorem run_values : θ_run defs (onTc (τ := τ) (main (F := F))) ⟨m, fun _ => 0, ρ⟩ (fun r => (∀ c : Dev nD,
      r.2.mem ((c.tc : Thread nD τ).loc (Pipeline.arrRef spec0 7)) = (dats m 0 c).arrAt 7 cfg0.N
        ∧ r.2.mem ((c.tc : Thread nD τ).loc (Pipeline.arrRef spec0 8)) = (dats m 0 c).arrAt 8 cfg0.N
        ∧ r.2.mem ((c.tc : Thread nD τ).loc (Pipeline.arrRef spec0 9)) = (dats m 0 c).arrAt 9 cfg0.N
        ∧ r.2.mem ((c.tc : Thread nD τ).loc (Pipeline.arrRef spec0 10)) = (dats m 0 c).arrAt 10 cfg0.N
        ∧ r.2.mem ((c.tc : Thread nD τ).loc (Pipeline.arrRef spec0 11)) = (dats m 0 c).arrAt 11 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run defs _ _).mono (fun _ h => ⟨fun c => ⟨(h.1 c).1 7, (h.1 c).1 8, (h.1 c).1 9, (h.1 c).1 10, (h.1 c).1 11,
      ((h.1 c).1 0).trans (((dats m 0 c).arrAt_in 0 rfl _).trans ((A_eq m c 0).trans (V_arg0 m c))),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c),
      ((h.1 c).2 main_arg4 (Pipeline.mem_restRefs_of main_arg4 (by decide) (by decide))).trans (V_arg4 m c),
      ((h.1 c).2 main_arg5 (Pipeline.mem_restRefs_of main_arg5 (by decide) (by decide))).trans (V_arg5 m c)⟩, h.2⟩) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run defs _ _).mono (fun _ h => ⟨fun c => (h.1 c).2.2.2.2.2, h.2⟩) (run_values m ρ)

end Cert.ProjStepIdeal.Hand
-- ==== Proof.ProjStepHost.lean ====
/- What the sample's projection kernel's host operations hand its region: the arguments re-laid. -/
module

public import proofs.«01_k».proof.Proof.ProjStepEntry
public import Idealize.ShloMosaic.Lib.StableHlo.RunRead
public import proofs.«01_k».proof.Proof.ProjMath

@[expose] public section

set_option maxRecDepth 16384

noncomputable section

namespace Cert.ProjStepIdeal.Hand

open Cert.ProjStepIdeal Cert.ProjStepIdeal.Gen
open Idealize.ShloMosaic
open Idealize.ShloMosaic.TcCoe
open Idealize.ShloMosaic.ValueIdx
open Idealize.SL.Sem

/-! ## The layouts -/

theorem cast7 (x : (⟨S2048, .f32⟩ : BufTy).Contents (Elt Ideal)) (k : Fin 2048) :
    shapeCast S1x2048 x shapeCasts_S2048_S1x2048 (ix2 0 k) = x (ix1 k) := by
  refine shapeCast_apply _ _ _ _ ?_
  rewrite [Shape.rowMajor_val_one, Shape.rowMajor_val_two]
  show k.val = 0 * 2048 + k.val
  omega

theorem cast5 (x : (⟨S8x128, .f32⟩ : BufTy).Contents (Elt Ideal)) (n : Fin 1024) :
    shapeCast S1x1024 x shapeCasts_S8x128_S1x1024 (ix2 0 n) = x (ix2 (Cert.ProjMath.headOf n) (Cert.ProjMath.laneOf n)) := by
  refine shapeCast_apply _ _ _ _ ?_
  rewrite [Shape.rowMajor_val_two, Shape.rowMajor_val_two]
  show n.val / 128 * 128 + n.val % 128 = 0 * 1024 + n.val
  omega

theorem mods3 (x : (⟨S6x40x2048, .f32⟩ : BufTy).Contents (Elt Ideal)) (a : Fin 6) (g : Fin 32) (k : Fin 2048) :
    broadcastInDim S6x32x1x2048 ![0, 1, 3] bcast_S6x32x2048_S6x32x1x2048_0_1_3
      (extractStridedSlice S6x32x2048 ![0, 2, 0] x slices_S6x40x2048_S6x32x2048_0_2_0) (ix4 a g 0 k) = x (ix3 a ⟨2 + g.val, by omega⟩ k) := by
  refine (broadcastInDim_apply _ bcast_S6x32x2048_S6x32x1x2048_0_1_3 _ _ (ix3 a g k) (fun d => match d with
    | ⟨0, _⟩ => by show a.val = if (6 : Nat) = 1 then 0 else a.val; rw [if_neg (by decide)]
    | ⟨1, _⟩ => by show g.val = if (32 : Nat) = 1 then 0 else g.val; rw [if_neg (by decide)]
    | ⟨2, _⟩ => by show k.val = if (2048 : Nat) = 1 then 0 else k.val; rw [if_neg (by decide)])).trans ?_
  exact extractStridedSlice_apply ![0, 2, 0] x slices_S6x40x2048_S6x32x2048_0_2_0 _ (ix3 a ⟨2 + g.val, by omega⟩ k) (fun d => match d with
    | ⟨0, _⟩ => by show a.val = 0 + a.val; omega
    | ⟨1, _⟩ => rfl
    | ⟨2, _⟩ => by show k.val = 0 + k.val; omega)

/-! ## The buffers at the region's start -/

variable (m : (ℓ : Loc nD τ sig) → Buf (Elt Ideal) ℓ) (c : Dev nD)

theorem V_v8 (g : Fin 32) (r : Fin 64) (k : Fin 2048) : V m c main_arg0 (ix3 g r k) = m ((c : Thread nD τ).loc main_arg0) (ix3 g r k) :=
  congrFun (V_arg0 m c) _

theorem V_v7 (k : Fin 2048) : V m c main_v5 (ix2 0 k) = m ((c : Thread nD τ).loc main_arg2) (ix1 k) := by
  have e : V m c main_v5 = shapeCast S1x2048 (m ((c : Thread nD τ).loc main_arg2)) shapeCasts_S2048_S1x2048 := by
    unfold V
    after_results
    rfl
  rw [e]
  exact cast7 _ k

theorem V_v5 (n : Fin 1024) : V m c main_v3 (ix2 0 n) = m ((c : Thread nD τ).loc main_arg4) (ix2 (Cert.ProjMath.headOf n) (Cert.ProjMath.laneOf n)) := by
  have e : V m c main_v3 = shapeCast S1x1024 (m ((c : Thread nD τ).loc main_arg4)) shapeCasts_S8x128_S1x1024 := by
    unfold V
    after_results
    rfl
  rw [e]
  exact cast5 _ n

theorem V_v6 (n : Fin 1024) : V m c main_v4 (ix2 0 n) = m ((c : Thread nD τ).loc main_arg5) (ix2 (Cert.ProjMath.headOf n) (Cert.ProjMath.laneOf n)) := by
  have e : V m c main_v4 = shapeCast S1x1024 (m ((c : Thread nD τ).loc main_arg5)) shapeCasts_S8x128_S1x1024 := by
    unfold V
    after_results
    rfl
  rw [e]
  exact cast5 _ n

theorem V_v4 (k : Fin 2048) (n : Fin 10240) : V m c main_v2 (ix2 k n) = (m ((c : Thread nD τ).loc main_arg3) : S2048x10240.Idx → EReal) (ix2 k n) := by
  have e : (V m c main_v2 : S2048x10240.Idx → EReal) = (m ((c : Thread nD τ).loc main_arg3) : S2048x10240.Idx → EReal) := by
    unfold V
    after_results
    rfl
  exact congrFun e _

theorem V_v3 (a : Fin 6) (g : Fin 32) (k : Fin 2048) : V m c main_v1 (ix4 a g 0 k) = m ((c : Thread nD τ).loc main_arg1) (ix3 a ⟨2 + g.val, by omega⟩ k) := by
  have e : V m c main_v1 = broadcastInDim S6x32x1x2048 ![0, 1, 3] bcast_S6x32x2048_S6x32x1x2048_0_1_3
      (extractStridedSlice S6x32x2048 ![0, 2, 0] (m ((c : Thread nD τ).loc main_arg1)) slices_S6x40x2048_S6x32x2048_0_2_0) := by
    unfold V
    after_results
  rw [e]
  exact mods3 _ a g k

end Cert.ProjStepIdeal.Hand
-- ==== Proof.ProjStepPay.lean ====
/- What the sample's projection kernel's blocks are, entry by entry: the normalised rows, the product, and the normed heads. -/
module

public import proofs.«01_k».proof.Proof.ProjStepRows
public import proofs.«01_k».proof.Proof.ProjMath
public import Idealize.ShloMosaic.Lib.Pointwise
public import Idealize.ShloMosaic.Lib.TwoAxisContraction

@[expose] public section

set_option maxRecDepth 16384

noncomputable section

namespace Cert.ProjStepIdeal.Hand

open Cert.ProjStepIdeal Cert.ProjStepIdeal.Gen
open Idealize.ShloMosaic hiding ix1 ix2 ix3 ix4
open Idealize.ShloMosaic.ValueIdx
open Cert.ProjMath (rms modulated scale)

theorem pay12 (x : Vec Ideal S1x64x2048 .f32) (g : Vec Ideal S1x2048 .f32) (sc sh : Vec Ideal S1x1x1x2048 .f32) (r : Fin 64) (k : Fin 2048) :
    k0_pay12 (F := Ideal) x g sc sh (ix2 r k)
      = modulated (fun k => x (ix3 0 r k)) (fun k => g (ix2 0 k)) (fun k => sc (ix4 0 0 0 k)) (fun k => sh (ix4 0 0 0 k)) k := by
  unfold k0_pay12
  pointwise
  rfl

theorem pay13 (h : Vec Ideal S512x2048 .bf16) (w : Vec Ideal S2048x512 .bf16) (r : Fin 512) (n : Fin 512) :
    k0_pay13 (F := Ideal) h w (ix2 r n) = ∑ k : Fin 2048, h (ix2 r k) * w (ix2 k n) := by
  unfold k0_pay13
  pointwise
  rfl

theorem pay14 (h : Vec Ideal S512x2048 .bf16) (w : Vec Ideal S2048x512 .bf16) (x : S512x512.Idx) :
    k0_pay14 (F := Ideal) h w x = k0_pay13 (F := Ideal) h w x * scale := by
  unfold k0_pay14
  generalize k0_pay13 (F := Ideal) h w = p
  pointwise
  rfl

theorem pay15 (h : Vec Ideal S512x2048 .bf16) (w : Vec Ideal S2048x512 .bf16) (x : S512x512.Idx) :
    k0_pay15 (F := Ideal) h w x = k0_pay13 (F := Ideal) h w x := by
  unfold k0_pay15
  generalize k0_pay13 (F := Ideal) h w = p
  pointwise

theorem pay9 (a : FVec Ideal S512x512 .f32) (g : Vec Ideal S1x128 .f32) (r : Fin 512) (l : Fin 128) :
    k0_pay9 (F := Ideal) a g (ix2 r l) = rms 0x43000000#32 (fun l : Fin 128 => a (ix2 r ⟨0 + l.val, by omega⟩)) l * g (ix2 0 l) := by
  unfold k0_pay9
  pointwise
  rfl

theorem pay10 (a : FVec Ideal S512x512 .f32) (g : Vec Ideal S1x128 .f32) (r : Fin 512) (l : Fin 128) :
    k0_pay10 (F := Ideal) a g (ix2 r l) = rms 0x43000000#32 (fun l : Fin 128 => a (ix2 r ⟨128 + l.val, by omega⟩)) l * g (ix2 0 l) := by
  unfold k0_pay10
  pointwise
  rfl

theorem pay11 (a : FVec Ideal S512x512 .f32) (g : Vec Ideal S1x128 .f32) (r : Fin 512) (l : Fin 128) :
    k0_pay11 (F := Ideal) a g (ix2 r l) = rms 0x43000000#32 (fun l : Fin 128 => a (ix2 r ⟨256 + l.val, by omega⟩)) l * g (ix2 0 l) := by
  unfold k0_pay11
  pointwise
  rfl

/-- A head of a block, its lane and its gain named by the column. -/
theorem piece (a : FVec Ideal S512x512 .f32) (x : S1x512.Idx → EReal) (g : Vec Ideal S1x128 .f32) (r n : Fin 512) (off : ℕ) (hb : ∀ l : Fin 128, off + l.val < 512)
    (ho : off = 128 * (n.val / 128)) (l : Fin 128) (hl : l.val = n.val % 128) (hg : g (ix2 0 l) = x (ix2 0 n)) :
    rms 0x43000000#32 (fun l : Fin 128 => a (ix2 r ⟨off + l.val, hb l⟩)) l * g (ix2 0 l)
      = rms 0x43000000#32 (fun l : Fin 128 => a (ix2 r ⟨128 * (n.val / 128) + l.val, by omega⟩)) ⟨n.val % 128, by omega⟩ * x (ix2 0 n) := by
  subst ho
  rw [hg]
  obtain ⟨l, h⟩ := l
  dsimp only at hl
  subst hl
  rfl

theorem gain0_apply (x : S1x512.Idx → EReal) (l : Fin 128) (n : Fin 512) (h : n.val = 0 + l.val) : gain0 (F := Ideal) x (ix2 0 l) = x (ix2 0 n) := by
  refine congrArg x (funext fun d => Fin.ext ?_)
  match d with
  | ⟨0, _⟩ => rfl
  | ⟨1, _⟩ => show 0 + 1 * l.val = n.val; omega

theorem gain1_apply (x : S1x512.Idx → EReal) (l : Fin 128) (n : Fin 512) (h : n.val = 128 + l.val) : gain1 (F := Ideal) x (ix2 0 l) = x (ix2 0 n) := by
  refine congrArg x (funext fun d => Fin.ext ?_)
  match d with
  | ⟨0, _⟩ => rfl
  | ⟨1, _⟩ => show 128 + 1 * l.val = n.val; omega

theorem gain2_apply (x : S1x512.Idx → EReal) (l : Fin 128) (n : Fin 512) (h : n.val = 256 + l.val) : gain2 (F := Ideal) x (ix2 0 l) = x (ix2 0 n) := by
  refine congrArg x (funext fun d => Fin.ext ?_)
  match d with
  | ⟨0, _⟩ => rfl
  | ⟨1, _⟩ => show 256 + 1 * l.val = n.val; omega

theorem gain3_apply (x : S1x512.Idx → EReal) (l : Fin 128) (n : Fin 512) (h : n.val = 384 + l.val) : gain3 (F := Ideal) x (ix2 0 l) = x (ix2 0 n) := by
  refine congrArg x (funext fun d => Fin.ext ?_)
  match d with
  | ⟨0, _⟩ => rfl
  | ⟨1, _⟩ => show 384 + 1 * l.val = n.val; omega

theorem kNormed_apply (a : FVec Ideal S512x512 .f32) (x : S1x512.Idx → EReal) (r n : Fin 512) :
    kNormed (F := Ideal) a x (ix2 r n)
      = rms 0x43000000#32 (fun l : Fin 128 => a (ix2 r ⟨128 * (n.val / 128) + l.val, by omega⟩)) ⟨n.val % 128, by omega⟩ * x (ix2 0 n) := by
  have e : ∀ (p q s : FVec Ideal S512x128 .f32) (g : Vec Ideal S1x128 .f32), k0_pay2 (F := Ideal) a p q s g (ix2 r n)
      = if h : n.val < 128 then p (ix2 r ⟨n.val, h⟩) else if h : n.val - 128 < 128 then q (ix2 r ⟨n.val - 128, h⟩)
        else if h : n.val - 128 - 128 < 128 then s (ix2 r ⟨n.val - 128 - 128, h⟩)
        else rms 0x43000000#32 (fun l : Fin 128 => a (ix2 r ⟨384 + l.val, by omega⟩)) ⟨n.val - 128 - 128 - 128, by omega⟩ * g (ix2 0 ⟨n.val - 128 - 128 - 128, by omega⟩) := by
    intro p q s g
    unfold k0_pay2
    pointwise
    rfl
  unfold kNormed
  rw [e]
  by_cases h0 : n.val < 128
  · rw [dif_pos h0, pay9]
    exact piece a x _ r n 0 (by omega) (by omega) _ (by show n.val = _; omega) (gain0_apply x _ n (by show n.val = 0 + n.val; omega))
  rw [dif_neg h0]
  by_cases h1 : n.val - 128 < 128
  · rw [dif_pos h1, pay10]
    exact piece a x _ r n 128 (by omega) (by omega) _ (by show n.val - 128 = _; omega) (gain1_apply x _ n (by show n.val = 128 + (n.val - 128); omega))
  rw [dif_neg h1]
  by_cases h2 : n.val - 128 - 128 < 128
  · rw [dif_pos h2, pay11]
    exact piece a x _ r n 256 (by omega) (by omega) _ (by show n.val - 128 - 128 = _; omega) (gain2_apply x _ n (by show n.val = 256 + (n.val - 128 - 128); omega))
  rw [dif_neg h2]
  exact piece a x _ r n 384 (by omega) (by omega) _ (by show n.val - 128 - 128 - 128 = _; omega) (gain3_apply x _ n (by show n.val = 384 + (n.val - 128 - 128 - 128); omega))

theorem kRounded_apply (a : FVec Ideal S512x512 .f32) (x : S1x512.Idx → EReal) (i : S512x512.Idx) :
    kRounded (F := Ideal) a x i = kNormed (F := Ideal) a x i := rfl

theorem qNormed_apply (a : FVec Ideal S512x512 .f32) (x : S1x512.Idx → EReal) (i : S512x512.Idx) :
    qNormed (F := Ideal) a x i = kNormed (F := Ideal) a x i * scale := rfl

end Cert.ProjStepIdeal.Hand
-- ==== Proof.ProjStepRefValue.lean ====
/- The sample's projection reference's results in closed form: the hidden rows (normalised, modulated) times the weights, the band's
   queries and keys normalised head by head, the queries scaled. -/
module

public import proofs.«01_k».proof.Proof.Gen.ProjStepRefIdeal.Read
public import proofs.«01_k».proof.Proof.ProjMath
public import Idealize.ShloMosaic.Lib.Pointwise

@[expose] public section

set_option maxRecDepth 16384

noncomputable section

namespace Cert.ProjStepRefValue

open Idealize.ShloMosaic hiding ix1 ix2 ix3 ix4 eq_ix1 eq_ix2 eq_ix3 eq_ix4
open Idealize.ShloMosaic.ValueIdx
open Cert.ProjStepRefIdeal Cert.ProjStepRefIdeal.Gen Cert.ProjStepRefIdeal.Read Cert.ProjMath

/-! ## The closed form -/

variable (X : S32x64x2048.Idx → EReal) (M : S6x40x2048.Idx → EReal) (G : S2048.Idx → EReal) (W : S2048x10240.Idx → EReal) (Q K : S8x128.Idx → EReal)

/-- The hidden row `s` of sequence `b`: its row normalised, times the gain, scaled and shifted by the sequence's modulation. -/
def hid (b : Fin 32) (s : Fin 64) (k : Fin 2048) : EReal :=
  modulated (fun k => X (ix3 b s k)) (fun k => G (ix1 k)) (fun k => M (ix3 1 ⟨2 + b.val, by omega⟩ k)) (fun k => M (ix3 0 ⟨2 + b.val, by omega⟩ k)) k

/-- That row times column `n` of the weights. -/
def dot (b : Fin 32) (s : Fin 64) (n : Fin 10240) : EReal := ∑ k : Fin 2048, hid X M G b s k * W (ix2 k n)

/-- 1024 columns of the projection from column `lo` on. -/
def part (lo : ℕ) (hlo : lo ≤ 9216) (b : Fin 32) (s : Fin 64) (n : Fin 1024) : EReal := dot X M G W b s ⟨lo + n.val, by omega⟩

/-- The same with every head of 128 columns normalised, times its gain. -/
def normed (lo : ℕ) (hlo : lo ≤ 9216) (g : S8x128.Idx → EReal) (b : Fin 32) (s : Fin 64) (n : Fin 1024) : EReal :=
  headed (part X M G W lo hlo b s) (fun h l => g (ix2 h l)) n

/-- The whole projection: the attention's queries scaled, the band's queries normalised and scaled, its keys normalised. -/
def whole (b : Fin 32) (s : Fin 64) (n : Fin 10240) : EReal :=
  if n.val < 1024 then dot X M G W b s n * scale
  else if h : 3072 ≤ n.val ∧ n.val < 4096 then normed X M G W 3072 (by decide) Q b s ⟨n.val - 3072, by omega⟩ * scale
  else if h : 4096 ≤ n.val ∧ n.val < 5120 then normed X M G W 4096 (by decide) K b s ⟨n.val - 4096, by omega⟩
  else dot X M G W b s n

/-- The sequence and the position of one of the 2048 rows. -/
def seqR (r : Fin 2048) : Fin 32 := ⟨r.val / 64, by omega⟩
def posR (r : Fin 2048) : Fin 64 := ⟨r.val % 64, by omega⟩

/-! ## The hidden rows -/

theorem v7 (b : Fin 32) (s : Fin 64) : val_main_v7 (F := Ideal) X (ix2 b s) = ∑ k : Fin 2048, X (ix3 b s k) * X (ix3 b s k) := by
  rw [val_main_v7_apply, val_main_cst_apply, show FloatOps.ofBits (F := Ideal) .f32 0x00000000#32 = (0 : EReal) from Ideal.ofBits_zero_f32, zero_add]
  refine Finset.sum_congr rfl fun k _ => ?_
  rw [val_main_v6_apply, eq_ix3 (idx_main_v7 (ix2 b s) k)]
  rfl

theorem v14 (b : Fin 32) (s : Fin 64) (k : Fin 2048) : val_main_v14 (F := Ideal) X (ix3 b s k)
    = Ideal.rsqrt (Ideal.div (∑ k : Fin 2048, X (ix3 b s k) * X (ix3 b s k)) (Ideal.ofBits .f32 0x45000000#32) + Ideal.ofBits .f32 0x358637BD#32) := by
  rw [val_main_v14_apply, val_main_v13_apply, val_main_v12_apply, val_main_v10_apply, val_main_v8_apply, val_main_v9_apply, val_main_v11_apply,
    val_main_cst_0_apply, val_main_cst_1_apply, eq_ix2 (idx_main_v8 (idx_main_v14 (ix3 b s k)))]
  rw [show ix2 (idx_main_v8 (idx_main_v14 (ix3 b s k)) 0) (idx_main_v8 (idx_main_v14 (ix3 b s k)) 1) = ix2 b s from rfl, v7]
  rfl

theorem v17 (b : Fin 32) (s : Fin 64) (k : Fin 2048) : val_main_v17 (F := Ideal) G (ix3 b s k) = G (ix1 k) := by
  rw [val_main_v17_apply, val_main_v16_apply, eq_ix1 (idx_main_v16 (idx_main_v17 (ix3 b s k)))]
  rfl

theorem v23 (b : Fin 32) (s : Fin 64) (k : Fin 2048) : val_main_v23 (F := Ideal) M (ix3 b s k) = M (ix3 0 ⟨2 + b.val, by omega⟩ k) := by
  rw [val_main_v23_apply, val_main_v2_apply, val_main_v1_apply, val_main_v0_apply]
  refine congrArg M (funext fun a => Fin.ext ?_)
  match a with
  | ⟨0, _⟩ => rfl
  | ⟨1, _⟩ => show 2 + (b.val * 2048 + k.val) / 2048 % 32 = 2 + b.val; omega
  | ⟨2, _⟩ => show (b.val * 2048 + k.val) % 2048 = k.val; omega

theorem v21 (b : Fin 32) (s : Fin 64) (k : Fin 2048) : val_main_v21 (F := Ideal) M (ix3 b s k) = 1 + M (ix3 1 ⟨2 + b.val, by omega⟩ k) := by
  rw [val_main_v21_apply, val_main_v20_apply, val_main_v19_apply, val_main_cst_2_apply, val_main_v5_apply, val_main_v4_apply, val_main_v3_apply]
  refine congrArg₂ (fun p q : EReal => p + q) (by first | rfl | exact Ideal.ofBits_one_f32) (congrArg M (funext fun a => Fin.ext ?_))
  match a with
  | ⟨0, _⟩ => rfl
  | ⟨1, _⟩ => show 2 + (b.val * 2048 + k.val) / 2048 % 32 = 2 + b.val; omega
  | ⟨2, _⟩ => show (b.val * 2048 + k.val) % 2048 = k.val; omega

theorem v24 (b : Fin 32) (s : Fin 64) (k : Fin 2048) : val_main_v24 (F := Ideal) X M G (ix3 b s k) = hid X M G b s k := by
  rw [val_main_v24_apply, val_main_v22_apply, val_main_v18_apply, val_main_v15_apply, v14, v17, v21, v23]
  rfl

theorem v25 (b : Fin 32) (s : Fin 64) (n : Fin 10240) : val_main_v25 (F := Ideal) X M G W (ix3 b s n) = dot X M G W b s n := by
  rw [val_main_v25_apply]
  refine Finset.sum_congr rfl fun k _ => ?_
  rw [eq_ix3 (lidx_main_v25 (ix3 b s n) k), eq_ix2 (ridx_main_v25 (ix3 b s n) k)]
  exact congrArg (fun p : EReal => p * W (ix2 k n)) (v24 X M G b s k)

/-! ## The columns -/

theorem v26 (b : Fin 32) (s : Fin 64) (n : Fin 1024) : val_main_v26 (F := Ideal) X M G W (ix3 b s n) = part X M G W 0 (by decide) b s n := by
  rw [val_main_v26_apply, eq_ix3 (idx_main_v26 (ix3 b s n))]
  refine (v25 X M G W _ _ _).trans (congrArg (dot X M G W b s) (Fin.ext ?_))
  show n.val = 0 + n.val
  omega

theorem v27 (b : Fin 32) (s : Fin 64) (n : Fin 1024) : val_main_v27 (F := Ideal) X M G W (ix3 b s n) = part X M G W 1024 (by decide) b s n := by
  rw [val_main_v27_apply, eq_ix3 (idx_main_v27 (ix3 b s n))]
  refine (v25 X M G W _ _ _).trans (congrArg (dot X M G W b s) (Fin.ext ?_))
  show 1024 + n.val = 1024 + n.val
  omega

theorem v28 (b : Fin 32) (s : Fin 64) (n : Fin 1024) : val_main_v28 (F := Ideal) X M G W (ix3 b s n) = part X M G W 2048 (by decide) b s n := by
  rw [val_main_v28_apply, eq_ix3 (idx_main_v28 (ix3 b s n))]
  refine (v25 X M G W _ _ _).trans (congrArg (dot X M G W b s) (Fin.ext ?_))
  show 2048 + n.val = 2048 + n.val
  omega

theorem v29 (b : Fin 32) (s : Fin 64) (n : Fin 1024) : val_main_v29 (F := Ideal) X M G W (ix3 b s n) = part X M G W 3072 (by decide) b s n := by
  rw [val_main_v29_apply, eq_ix3 (idx_main_v29 (ix3 b s n))]
  refine (v25 X M G W _ _ _).trans (congrArg (dot X M G W b s) (Fin.ext ?_))
  show 3072 + n.val = 3072 + n.val
  omega

theorem v30 (b : Fin 32) (s : Fin 64) (n : Fin 1024) : val_main_v30 (F := Ideal) X M G W (ix3 b s n) = part X M G W 4096 (by decide) b s n := by
  rw [val_main_v30_apply, eq_ix3 (idx_main_v30 (ix3 b s n))]
  refine (v25 X M G W _ _ _).trans (congrArg (dot X M G W b s) (Fin.ext ?_))
  show 4096 + n.val = 4096 + n.val
  omega

theorem v31 (b : Fin 32) (s : Fin 64) (n : Fin 1024) : val_main_v31 (F := Ideal) X M G W (ix3 b s n) = part X M G W 5120 (by decide) b s n := by
  rw [val_main_v31_apply, eq_ix3 (idx_main_v31 (ix3 b s n))]
  refine (v25 X M G W _ _ _).trans (congrArg (dot X M G W b s) (Fin.ext ?_))
  show 5120 + n.val = 5120 + n.val
  omega

theorem v32 (b : Fin 32) (s : Fin 64) (n : Fin 2048) : val_main_v32 (F := Ideal) X M G W (ix3 b s n) = dot X M G W b s ⟨6144 + n.val, by omega⟩ := by
  rw [val_main_v32_apply, eq_ix3 (idx_main_v32 (ix3 b s n))]
  refine (v25 X M G W _ _ _).trans (congrArg (dot X M G W b s) (Fin.ext ?_))
  show 6144 + n.val = 6144 + n.val
  omega

theorem v33 (b : Fin 32) (s : Fin 64) (n : Fin 2048) : val_main_v33 (F := Ideal) X M G W (ix3 b s n) = dot X M G W b s ⟨8192 + n.val, by omega⟩ := by
  rw [val_main_v33_apply, eq_ix3 (idx_main_v33 (ix3 b s n))]
  refine (v25 X M G W _ _ _).trans (congrArg (dot X M G W b s) (Fin.ext ?_))
  show 8192 + n.val = 8192 + n.val
  omega

/-! ## The heads -/

theorem v34 (b : Fin 32) (s : Fin 64) (h : Fin 8) (l : Fin 128) : val_main_v34 (F := Ideal) X M G W (ix4 b s h l)
    = part X M G W 3072 (by decide) b s ⟨128 * h.val + l.val, by omega⟩ := by
  rw [val_main_v34_apply, ← v29]
  refine congrArg (val_main_v29 (F := Ideal) X M G W) (funext fun a => Fin.ext ?_)
  match a with
  | ⟨0, _⟩ => show (((b.val * 64 + s.val) * 8 + h.val) * 128 + l.val) / 65536 = b.val; omega
  | ⟨1, _⟩ => show (((b.val * 64 + s.val) * 8 + h.val) * 128 + l.val) / 1024 % 64 = s.val; omega
  | ⟨2, _⟩ => show (((b.val * 64 + s.val) * 8 + h.val) * 128 + l.val) % 1024 = 128 * h.val + l.val; omega

theorem v36 (b : Fin 32) (s : Fin 64) (h : Fin 8) : val_main_v36 (F := Ideal) X M G W (ix3 b s h)
    = ∑ l : Fin 128, part X M G W 3072 (by decide) b s ⟨128 * h.val + l.val, by omega⟩ * part X M G W 3072 (by decide) b s ⟨128 * h.val + l.val, by omega⟩ := by
  rw [val_main_v36_apply, val_main_cst_3_apply, show FloatOps.ofBits (F := Ideal) .f32 0x00000000#32 = (0 : EReal) from Ideal.ofBits_zero_f32, zero_add]
  refine Finset.sum_congr rfl fun l _ => ?_
  rw [val_main_v35_apply, eq_ix4 (idx_main_v36 (ix3 b s h) l), ← v34]
  rfl

theorem v43 (b : Fin 32) (s : Fin 64) (h : Fin 8) (l : Fin 128) : val_main_v43 (F := Ideal) X M G W (ix4 b s h l)
    = Ideal.rsqrt (Ideal.div (∑ l : Fin 128, part X M G W 3072 (by decide) b s ⟨128 * h.val + l.val, by omega⟩ * part X M G W 3072 (by decide) b s ⟨128 * h.val + l.val, by omega⟩)
        (Ideal.ofBits .f32 0x43000000#32) + Ideal.ofBits .f32 0x358637BD#32) := by
  rw [val_main_v43_apply, val_main_v42_apply, val_main_v41_apply, val_main_v39_apply, val_main_v37_apply, val_main_v38_apply, val_main_v40_apply,
    val_main_cst_4_apply, val_main_cst_5_apply, eq_ix3 (idx_main_v37 (idx_main_v43 (ix4 b s h l)))]
  rw [show ix3 (idx_main_v37 (idx_main_v43 (ix4 b s h l)) 0) (idx_main_v37 (idx_main_v43 (ix4 b s h l)) 1) (idx_main_v37 (idx_main_v43 (ix4 b s h l)) 2) = ix3 b s h from rfl, v36]
  rfl

theorem v46 (b : Fin 32) (s : Fin 64) (h : Fin 8) (l : Fin 128) : val_main_v46 (F := Ideal) Q (ix4 b s h l) = Q (ix2 h l) := by
  rw [val_main_v46_apply, val_main_v45_apply, eq_ix2 (idx_main_v45 (idx_main_v46 (ix4 b s h l)))]
  rfl

theorem v48 (b : Fin 32) (s : Fin 64) (n : Fin 1024) : val_main_v48 (F := Ideal) X M G W Q (ix3 b s n) = normed X M G W 3072 (by decide) Q b s n := by
  have e : idx_main_v48 (ix3 b s n) = ix4 b s (headOf n) (laneOf n) := by
    funext a
    apply Fin.ext
    match a with
    | ⟨0, _⟩ => show ((b.val * 64 + s.val) * 1024 + n.val) / 65536 = b.val; omega
    | ⟨1, _⟩ => show ((b.val * 64 + s.val) * 1024 + n.val) / 1024 % 64 = s.val; omega
    | ⟨2, _⟩ => show ((b.val * 64 + s.val) * 1024 + n.val) / 128 % 8 = n.val / 128; omega
    | ⟨3, _⟩ => show ((b.val * 64 + s.val) * 1024 + n.val) % 128 = n.val % 128; omega
  rw [val_main_v48_apply, e, val_main_v47_apply, val_main_v44_apply, v34, v43, v46]
  rfl

theorem v49 (b : Fin 32) (s : Fin 64) (h : Fin 8) (l : Fin 128) : val_main_v49 (F := Ideal) X M G W (ix4 b s h l)
    = part X M G W 4096 (by decide) b s ⟨128 * h.val + l.val, by omega⟩ := by
  rw [val_main_v49_apply, ← v30]
  refine congrArg (val_main_v30 (F := Ideal) X M G W) (funext fun a => Fin.ext ?_)
  match a with
  | ⟨0, _⟩ => show (((b.val * 64 + s.val) * 8 + h.val) * 128 + l.val) / 65536 = b.val; omega
  | ⟨1, _⟩ => show (((b.val * 64 + s.val) * 8 + h.val) * 128 + l.val) / 1024 % 64 = s.val; omega
  | ⟨2, _⟩ => show (((b.val * 64 + s.val) * 8 + h.val) * 128 + l.val) % 1024 = 128 * h.val + l.val; omega

theorem v51 (b : Fin 32) (s : Fin 64) (h : Fin 8) : val_main_v51 (F := Ideal) X M G W (ix3 b s h)
    = ∑ l : Fin 128, part X M G W 4096 (by decide) b s ⟨128 * h.val + l.val, by omega⟩ * part X M G W 4096 (by decide) b s ⟨128 * h.val + l.val, by omega⟩ := by
  rw [val_main_v51_apply, val_main_cst_6_apply, show FloatOps.ofBits (F := Ideal) .f32 0x00000000#32 = (0 : EReal) from Ideal.ofBits_zero_f32, zero_add]
  refine Finset.sum_congr rfl fun l _ => ?_
  rw [val_main_v50_apply, eq_ix4 (idx_main_v51 (ix3 b s h) l), ← v49]
  rfl

theorem v58 (b : Fin 32) (s : Fin 64) (h : Fin 8) (l : Fin 128) : val_main_v58 (F := Ideal) X M G W (ix4 b s h l)
    = Ideal.rsqrt (Ideal.div (∑ l : Fin 128, part X M G W 4096 (by decide) b s ⟨128 * h.val + l.val, by omega⟩ * part X M G W 4096 (by decide) b s ⟨128 * h.val + l.val, by omega⟩)
        (Ideal.ofBits .f32 0x43000000#32) + Ideal.ofBits .f32 0x358637BD#32) := by
  rw [val_main_v58_apply, val_main_v57_apply, val_main_v56_apply, val_main_v54_apply, val_main_v52_apply, val_main_v53_apply, val_main_v55_apply,
    val_main_cst_7_apply, val_main_cst_8_apply, eq_ix3 (idx_main_v52 (idx_main_v58 (ix4 b s h l)))]
  rw [show ix3 (idx_main_v52 (idx_main_v58 (ix4 b s h l)) 0) (idx_main_v52 (idx_main_v58 (ix4 b s h l)) 1) (idx_main_v52 (idx_main_v58 (ix4 b s h l)) 2) = ix3 b s h from rfl, v51]
  rfl

theorem v61 (b : Fin 32) (s : Fin 64) (h : Fin 8) (l : Fin 128) : val_main_v61 (F := Ideal) K (ix4 b s h l) = K (ix2 h l) := by
  rw [val_main_v61_apply, val_main_v60_apply, eq_ix2 (idx_main_v60 (idx_main_v61 (ix4 b s h l)))]
  rfl

theorem v63 (b : Fin 32) (s : Fin 64) (n : Fin 1024) : val_main_v63 (F := Ideal) X M G W K (ix3 b s n) = normed X M G W 4096 (by decide) K b s n := by
  have e : idx_main_v63 (ix3 b s n) = ix4 b s (headOf n) (laneOf n) := by
    funext a
    apply Fin.ext
    match a with
    | ⟨0, _⟩ => show ((b.val * 64 + s.val) * 1024 + n.val) / 65536 = b.val; omega
    | ⟨1, _⟩ => show ((b.val * 64 + s.val) * 1024 + n.val) / 1024 % 64 = s.val; omega
    | ⟨2, _⟩ => show ((b.val * 64 + s.val) * 1024 + n.val) / 128 % 8 = n.val / 128; omega
    | ⟨3, _⟩ => show ((b.val * 64 + s.val) * 1024 + n.val) % 128 = n.val % 128; omega
  rw [val_main_v63_apply, e, val_main_v62_apply, val_main_v59_apply, v49, v58, v61]
  rfl

/-! ## The results -/

theorem v65 (b : Fin 32) (s : Fin 64) (n : Fin 1024) : val_main_v65 (F := Ideal) X M G W (ix3 b s n) = part X M G W 0 (by decide) b s n * scale := by
  rw [val_main_v65_apply, v26, val_main_v64_apply, val_main_cst_9_apply]
  rfl

theorem v67 (b : Fin 32) (s : Fin 64) (n : Fin 1024) : val_main_v67 (F := Ideal) X M G W Q (ix3 b s n) = normed X M G W 3072 (by decide) Q b s n * scale := by
  rw [val_main_v67_apply, v48, val_main_v66_apply, val_main_cst_10_apply]
  rfl

theorem cat (a0 a1 a2 a3 a4 a5 : S32x64x1024.Idx → EReal) (a6 a7 : S32x64x2048.Idx → EReal) (h) (b : Fin 32) (s : Fin 64) (n : Fin 10240) :
    concatenate S32x64x10240 2 [⟨S32x64x1024, a0⟩, ⟨S32x64x1024, a1⟩, ⟨S32x64x1024, a2⟩, ⟨S32x64x1024, a3⟩, ⟨S32x64x1024, a4⟩, ⟨S32x64x1024, a5⟩, ⟨S32x64x2048, a6⟩, ⟨S32x64x2048, a7⟩] h (ix3 b s n)
      = if h : n.val < 1024 then a0 (ix3 b s ⟨n.val, h⟩)
        else if h : n.val - 1024 < 1024 then a1 (ix3 b s ⟨n.val - 1024, h⟩)
        else if h : n.val - 1024 - 1024 < 1024 then a2 (ix3 b s ⟨n.val - 1024 - 1024, h⟩)
        else if h : n.val - 1024 - 1024 - 1024 < 1024 then a3 (ix3 b s ⟨n.val - 1024 - 1024 - 1024, h⟩)
        else if h : n.val - 1024 - 1024 - 1024 - 1024 < 1024 then a4 (ix3 b s ⟨n.val - 1024 - 1024 - 1024 - 1024, h⟩)
        else if h : n.val - 1024 - 1024 - 1024 - 1024 - 1024 < 1024 then a5 (ix3 b s ⟨n.val - 1024 - 1024 - 1024 - 1024 - 1024, h⟩)
        else if h : n.val - 1024 - 1024 - 1024 - 1024 - 1024 - 1024 < 2048 then a6 (ix3 b s ⟨n.val - 1024 - 1024 - 1024 - 1024 - 1024 - 1024, h⟩)
        else a7 (ix3 b s ⟨n.val - 1024 - 1024 - 1024 - 1024 - 1024 - 1024 - 2048, by omega⟩) := by
  pointwise
  rfl

theorem v68 (b : Fin 32) (s : Fin 64) (n : Fin 10240) : val_main_v68 (F := Ideal) X M G W Q K (ix3 b s n) = whole X M G W Q K b s n := by
  have hd : ∀ p q : Fin 10240, p.val = q.val → dot X M G W b s p = dot X M G W b s q := fun p q h => congrArg _ (Fin.ext h)
  unfold val_main_v68 whole
  rw [cat]
  split_ifs
  all_goals first
    | omega
    | (rw [v65]; exact congrArg (fun p : EReal => p * scale) (hd _ _ (by show 0 + n.val = n.val; omega)))
    | (rw [v67]; exact congrArg (fun q => normed X M G W 3072 (by decide) Q b s q * scale) (Fin.ext (by show n.val - 1024 - 1024 - 1024 = n.val - 3072; omega)))
    | (rw [v63]; exact congrArg (normed X M G W 4096 (by decide) K b s) (Fin.ext (by show n.val - 1024 - 1024 - 1024 - 1024 = n.val - 4096; omega)))
    | (rw [v27]; exact hd _ _ (by show 1024 + (n.val - 1024) = n.val; omega))
    | (rw [v28]; exact hd _ _ (by show 2048 + (n.val - 1024 - 1024) = n.val; omega))
    | (rw [v31]; exact hd _ _ (by show 5120 + (n.val - 1024 - 1024 - 1024 - 1024 - 1024) = n.val; omega))
    | (rw [v32]; exact hd _ _ (by show 6144 + (n.val - 1024 - 1024 - 1024 - 1024 - 1024 - 1024) = n.val; omega))
    | (rw [v33]; exact hd _ _ (by show 8192 + (n.val - 1024 - 1024 - 1024 - 1024 - 1024 - 1024 - 2048) = n.val; omega))

theorem v70 (r : Fin 2048) (n : Fin 10240) : val_main_v70 (F := Ideal) X M G W Q K (ix2 r n) = whole X M G W Q K (seqR r) (posR r) n := by
  rw [val_main_v70_apply, val_main_v69_apply, ← v68]
  refine congrArg (val_main_v68 (F := Ideal) X M G W Q K) (funext fun a => Fin.ext ?_)
  match a with
  | ⟨0, _⟩ => show (r.val * 10240 + n.val) / 655360 = r.val / 64; omega
  | ⟨1, _⟩ => show (r.val * 10240 + n.val) / 10240 % 64 = r.val % 64; omega
  | ⟨2, _⟩ => show (r.val * 10240 + n.val) % 10240 = n.val; omega

theorem v71 (r : Fin 2048) (n : Fin 1024) : val_main_v71 (F := Ideal) X M G W (ix2 r n) = part X M G W 1024 (by decide) (seqR r) (posR r) n := by
  rw [val_main_v71_apply, ← v27]
  refine congrArg (val_main_v27 (F := Ideal) X M G W) (funext fun a => Fin.ext ?_)
  match a with
  | ⟨0, _⟩ => show (r.val * 1024 + n.val) / 65536 = r.val / 64; omega
  | ⟨1, _⟩ => show (r.val * 1024 + n.val) / 1024 % 64 = r.val % 64; omega
  | ⟨2, _⟩ => show (r.val * 1024 + n.val) % 1024 = n.val; omega

theorem v72 (r : Fin 2048) (n : Fin 1024) : val_main_v72 (F := Ideal) X M G W (ix2 r n) = part X M G W 2048 (by decide) (seqR r) (posR r) n := by
  rw [val_main_v72_apply, ← v28]
  refine congrArg (val_main_v28 (F := Ideal) X M G W) (funext fun a => Fin.ext ?_)
  match a with
  | ⟨0, _⟩ => show (r.val * 1024 + n.val) / 65536 = r.val / 64; omega
  | ⟨1, _⟩ => show (r.val * 1024 + n.val) / 1024 % 64 = r.val % 64; omega
  | ⟨2, _⟩ => show (r.val * 1024 + n.val) % 1024 = n.val; omega

theorem v73 (r : Fin 2048) (n : Fin 1024) : val_main_v73 (F := Ideal) X M G W K (ix2 r n) = normed X M G W 4096 (by decide) K (seqR r) (posR r) n := by
  rw [val_main_v73_apply, ← v63]
  refine congrArg (val_main_v63 (F := Ideal) X M G W K) (funext fun a => Fin.ext ?_)
  match a with
  | ⟨0, _⟩ => show (r.val * 1024 + n.val) / 65536 = r.val / 64; omega
  | ⟨1, _⟩ => show (r.val * 1024 + n.val) / 1024 % 64 = r.val % 64; omega
  | ⟨2, _⟩ => show (r.val * 1024 + n.val) % 1024 = n.val; omega

theorem v74 (r : Fin 2048) (n : Fin 1024) : val_main_v74 (F := Ideal) X M G W (ix2 r n) = part X M G W 5120 (by decide) (seqR r) (posR r) n := by
  rw [val_main_v74_apply, ← v31]
  refine congrArg (val_main_v31 (F := Ideal) X M G W) (funext fun a => Fin.ext ?_)
  match a with
  | ⟨0, _⟩ => show (r.val * 1024 + n.val) / 65536 = r.val / 64; omega
  | ⟨1, _⟩ => show (r.val * 1024 + n.val) / 1024 % 64 = r.val % 64; omega
  | ⟨2, _⟩ => show (r.val * 1024 + n.val) % 1024 = n.val; omega

end Cert.ProjStepRefValue
-- ==== Proof.ProjStepValue.lean ====
/- The sample's projection kernel's five arrays in closed form: block by block what the body leaves is the reference's closed form at
   the block's rows and columns. -/
module

public import proofs.«01_k».proof.Proof.ProjStepFrame
public import proofs.«01_k».proof.Proof.ProjStepHost
public import proofs.«01_k».proof.Proof.ProjStepPay
public import proofs.«01_k».proof.Proof.ProjStepRefValue
public import Idealize.ShloMosaic.Lib.Pipeline.Covers

@[expose] public section

set_option maxRecDepth 16384

noncomputable section

namespace Cert.ProjStepValue

open Idealize.ShloMosaic hiding ix1 ix2 ix3 ix4 eq_ix1 eq_ix2 eq_ix3 eq_ix4
open Idealize.ShloMosaic.ValueIdx Idealize.ShloMosaic.TcCoe Idealize.SL.Sem
open Cert.ProjStepIdeal Cert.ProjStepIdeal.Gen Cert.ProjStepIdeal.Hand Cert.ProjMath Cert.ProjStepRefValue

variable (m : (ℓ : Loc nD τ sig) → Buf (Elt Ideal) ℓ) (c : Dev nD)

abbrev X : S32x64x2048.Idx → EReal := m ((c : Thread nD τ).loc main_arg0)
abbrev M : S6x40x2048.Idx → EReal := m ((c : Thread nD τ).loc main_arg1)
abbrev G : S2048.Idx → EReal := m ((c : Thread nD τ).loc main_arg2)
abbrev W : S2048x10240.Idx → EReal := m ((c : Thread nD τ).loc main_arg3)
abbrev Q : S8x128.Idx → EReal := m ((c : Thread nD τ).loc main_arg4)
abbrev K : S8x128.Idx → EReal := m ((c : Thread nD τ).loc main_arg5)

/-- Row `y` of a point's block among the 2048 rows. -/
def rowP (t : Fin cfg0.N) (y : Fin 512) : Fin 2048 := ⟨512 * (t.val / 20) + y.val, by have := lt_80 t; omega⟩

theorem modulated_congr {x x' g g' sc sc' sh sh' : Fin 2048 → EReal} (h : x = x') (h1 : g = g') (h2 : sc = sc') (h3 : sh = sh') (k : Fin 2048) :
    modulated x g sc sh k = modulated x' g' sc' sh' k := by rw [h, h1, h2, h3]

/-- The hidden rows of a point. -/
theorem hblk_apply (t : Fin cfg0.N) (y : Fin 512) (k : Fin 2048) :
    hblk m c t (ix2 y k) = hid (X m c) (M m c) (G m c) (seqR (rowP t y)) (posR (rowP t y)) k := by
  have hlt := lt_80 t
  refine (pay12 _ _ _ _ _ _).trans (modulated_congr ?_ ?_ ?_ ?_ k)
  · funext k
    refine (iblk_0 m c t _).trans ((V_v8 m c _ _ _).trans (congrArg (X m c) (funext fun a => Fin.ext ?_)))
    match a with
    | ⟨0, _⟩ => show 8 * (t.val / 20) + y.val / 64 = (512 * (t.val / 20) + y.val) / 64; omega
    | ⟨1, _⟩ => show y.val % 64 = (512 * (t.val / 20) + y.val) % 64; omega
    | ⟨2, _⟩ => rfl
  · funext k
    exact (iblk_1 m c t _).trans (V_v7 m c _)
  · funext k
    refine (iblk_2 m c t _).trans ((V_v3 m c _ _ _).trans (congrArg (M m c) (funext fun a => Fin.ext ?_)))
    match a with
    | ⟨0, _⟩ => rfl
    | ⟨1, _⟩ => show 2 + (8 * (t.val / 20) + y.val / 64) = 2 + (512 * (t.val / 20) + y.val) / 64; omega
    | ⟨2, _⟩ => rfl
  · funext k
    refine (iblk_3 m c t _).trans ((V_v3 m c _ _ _).trans (congrArg (M m c) (funext fun a => Fin.ext ?_)))
    match a with
    | ⟨0, _⟩ => rfl
    | ⟨1, _⟩ => show 2 + (8 * (t.val / 20) + y.val / 64) = 2 + (512 * (t.val / 20) + y.val) / 64; omega
    | ⟨2, _⟩ => rfl

/-- The block's accumulator. -/
theorem acc_apply (t : Fin cfg0.N) (y n : Fin 512) :
    acc m c t (ix2 y n) = dot (X m c) (M m c) (G m c) (W m c) (seqR (rowP t y)) (posR (rowP t y)) (colOf t n) := by
  refine (pay13 _ _ y n).trans (Finset.sum_congr rfl fun k _ => ?_)
  exact congrArg₂ (fun p q : EReal => p * q) (hblk_apply m c t y k) ((iblk_4 m c t _).trans (V_v4 m c _ _))

theorem rms_congr {n : ℕ} (len : BitVec 32) {v v' : Fin n → EReal} {k k' : Fin n} (h : v = v') (hk : k = k') : rms len v k = rms len v' k' := by rw [h, hk]

theorem dot_row {r r' : Fin 2048} {n n' : Fin 10240} (h : r = r') (hn : n.val = n'.val) :
    dot (X m c) (M m c) (G m c) (W m c) (seqR r) (posR r) n = dot (X m c) (M m c) (G m c) (W m c) (seqR r') (posR r') n' := by
  rw [h, Fin.ext hn]

/-- A block of the band's queries, its four heads normalised. -/
theorem normQ (t : Fin cfg0.N) (ht : t.val % 20 / 2 = 3) (y n : Fin 512) :
    kNormed (F := Ideal) (acc m c t) (iblk m c 5 t) (ix2 y n)
      = normed (X m c) (M m c) (G m c) (W m c) 3072 (by decide) (Q m c) (seqR (rowP t y)) (posR (rowP t y)) (gainOf 6 t n) := by
  refine (kNormed_apply _ _ y n).trans (congrArg₂ (fun p q : EReal => p * q) (rms_congr _ (funext fun l => ?_) (Fin.ext ?_)) ((iblk_5 m c t _).trans (V_v5 m c _)))
  · refine (acc_apply m c t y _).trans (dot_row m c rfl ?_)
    show 512 * (t.val % 20) + (128 * (n.val / 128) + l.val) = 3072 + (128 * ((512 * min (t.val % 20 - 6) 1 + n.val) / 128) + l.val)
    omega
  · show n.val % 128 = (512 * min (t.val % 20 - 6) 1 + n.val) % 128
    omega

/-- A block of the band's keys, its four heads normalised. -/
theorem normK (t : Fin cfg0.N) (ht : t.val % 20 / 2 = 4) (y n : Fin 512) :
    kNormed (F := Ideal) (acc m c t) (iblk m c 6 t) (ix2 y n)
      = normed (X m c) (M m c) (G m c) (W m c) 4096 (by decide) (K m c) (seqR (rowP t y)) (posR (rowP t y)) (gainOf 8 t n) := by
  refine (kNormed_apply _ _ y n).trans (congrArg₂ (fun p q : EReal => p * q) (rms_congr _ (funext fun l => ?_) (Fin.ext ?_)) ((iblk_6 m c t _).trans (V_v6 m c _)))
  · refine (acc_apply m c t y _).trans (dot_row m c rfl ?_)
    show 512 * (t.val % 20) + (128 * (n.val / 128) + l.val) = 4096 + (128 * ((512 * min (t.val % 20 - 8) 1 + n.val) / 128) + l.val)
    omega
  · show n.val % 128 = (512 * min (t.val % 20 - 8) 1 + n.val) % 128
    omega

/-- What a point leaves in its block of the whole projection. -/
theorem block7 (t : Fin cfg0.N) (y n : Fin 512) :
    left7 m c t (ix2 y n) = whole (X m c) (M m c) (G m c) (W m c) (Q m c) (K m c) (seqR (rowP t y)) (posR (rowP t y)) (colOf t n) := by
  have hc : (colOf t n).val = 512 * (t.val % 20) + n.val := rfl
  unfold left7 outAt whole
  by_cases h2 : k0_cond2 (grid0.coords t) = 1#1
  · rw [if_pos h2]
    have := (cond2_iff t).mp h2
    rw [if_pos (show (colOf t n).val < 1024 by omega)]
    exact (pay14 _ _ _).trans (congrArg (fun p : EReal => p * scale) (acc_apply m c t y n))
  rw [if_neg h2]
  have n2 : ¬ t.val % 20 / 2 = 0 := fun h => h2 ((cond2_iff t).mpr h)
  rw [if_neg (show ¬ (colOf t n).val < 1024 by omega)]
  by_cases h5 : k0_cond5 (grid0.coords t) = 1#1
  · rw [if_pos h5]
    have h := (cond5_iff t).mp h5
    rw [dif_pos (show 3072 ≤ (colOf t n).val ∧ (colOf t n).val < 4096 by omega)]
    refine (qNormed_apply _ _ _).trans (congrArg (fun p : EReal => p * scale) ((normQ m c t h y n).trans (congrArg _ (Fin.ext ?_))))
    show 512 * min (t.val % 20 - 6) 1 + n.val = 512 * (t.val % 20) + n.val - 3072
    omega
  rw [if_neg h5]
  have n5 : ¬ t.val % 20 / 2 = 3 := fun h => h5 ((cond5_iff t).mpr h)
  rw [dif_neg (show ¬ (3072 ≤ (colOf t n).val ∧ (colOf t n).val < 4096) by omega)]
  by_cases h6 : k0_cond6 (grid0.coords t) = 1#1
  · rw [if_pos h6]
    have h := (cond6_iff t).mp h6
    rw [dif_pos (show 4096 ≤ (colOf t n).val ∧ (colOf t n).val < 5120 by omega)]
    refine (kRounded_apply _ _ _).trans ((normK m c t h y n).trans (congrArg _ (Fin.ext ?_)))
    show 512 * min (t.val % 20 - 8) 1 + n.val = 512 * (t.val % 20) + n.val - 4096
    omega
  rw [if_neg h6]
  have n6 : ¬ t.val % 20 / 2 = 4 := fun h => h6 ((cond6_iff t).mpr h)
  rw [dif_neg (show ¬ (4096 ≤ (colOf t n).val ∧ (colOf t n).val < 5120) by omega)]
  exact (pay15 _ _ _).trans (acc_apply m c t y n)

theorem row_tk (lo : Fin 11) (t : Fin cfg0.N) (y : Fin 512) : rowP (tk lo t) y = rowP t y := Fin.ext (by
  have hlo := lo.isLt
  show 512 * ((20 * (t.val / 20) + max lo.val (min (t.val % 20) (lo.val + 1))) / 20) + y.val = 512 * (t.val / 20) + y.val
  omega)

theorem block8 (t : Fin cfg0.N) (ht : t.val % 20 = 2 ∨ t.val % 20 = 19) (y n : Fin 512) :
    left8 m c t (ix2 y n) = part (X m c) (M m c) (G m c) (W m c) 1024 (by decide) (seqR (rowP t y)) (posR (rowP t y)) (gainOf 2 t n) := by
  refine (acc_apply m c _ y n).trans (dot_row m c (row_tk _ t y) ?_)
  show 512 * ((20 * (t.val / 20) + max 2 (min (t.val % 20) (2 + 1))) % 20) + n.val = 1024 + (512 * min (t.val % 20 - 2) 1 + n.val)
  omega

theorem block9 (t : Fin cfg0.N) (ht : t.val % 20 = 4 ∨ t.val % 20 = 19) (y n : Fin 512) :
    left9 m c t (ix2 y n) = part (X m c) (M m c) (G m c) (W m c) 2048 (by decide) (seqR (rowP t y)) (posR (rowP t y)) (gainOf 4 t n) := by
  refine (acc_apply m c _ y n).trans (dot_row m c (row_tk _ t y) ?_)
  show 512 * ((20 * (t.val / 20) + max 4 (min (t.val % 20) (4 + 1))) % 20) + n.val = 2048 + (512 * min (t.val % 20 - 4) 1 + n.val)
  omega

theorem block11 (t : Fin cfg0.N) (ht : t.val % 20 = 10 ∨ t.val % 20 = 19) (y n : Fin 512) :
    left11 m c t (ix2 y n) = part (X m c) (M m c) (G m c) (W m c) 5120 (by decide) (seqR (rowP t y)) (posR (rowP t y)) (gainOf 10 t n) := by
  refine (acc_apply m c _ y n).trans (dot_row m c (row_tk _ t y) ?_)
  show 512 * ((20 * (t.val / 20) + max 10 (min (t.val % 20) (10 + 1))) % 20) + n.val = 5120 + (512 * min (t.val % 20 - 10) 1 + n.val)
  omega

theorem block10 (t : Fin cfg0.N) (ht : t.val % 20 = 8 ∨ t.val % 20 = 19) (y n : Fin 512) :
    left10 m c t (ix2 y n) = normed (X m c) (M m c) (G m c) (W m c) 4096 (by decide) (K m c) (seqR (rowP t y)) (posR (rowP t y)) (gainOf 8 t n) := by
  have hv : (tk 8 t).val = 20 * (t.val / 20) + max 8 (min (t.val % 20) (8 + 1)) := rfl
  refine (normK m c (tk 8 t) (by omega) y n).trans ?_
  rw [row_tk]
  refine congrArg _ (Fin.ext ?_)
  show 512 * min ((tk 8 t).val % 20 - 8) 1 + n.val = 512 * min (t.val % 20 - 8) 1 + n.val
  omega

/-! ## The arrays -/

theorem result7 : (dats m 0 c).arrAt 7 cfg0.N = fun i : S2048x10240.Idx => whole (X m c) (M m c) (G m c) (W m c) (Q m c) (K m c) (seqR (i 0)) (posR (i 0)) (i 1) := by
  refine (dats m 0 c).arrAt_eq_of_covers 7 _ (by decide +kernel) fun t hf y => ?_
  obtain ⟨r, n, rfl⟩ : ∃ (r n : Fin 512), y = (ix2 r n : S512x512.Idx) := ⟨y 0, y 1, eq_ix2 y⟩
  have e0 : (((cfg0.win 7).blk t).view.emb (ix2 r n : S512x512.Idx) : S2048x10240.Idx) = ix2 (rowP t r) (colOf t n) := by
    funext a
    apply Fin.ext
    match a with
    | ⟨0, _⟩ => show (cfg0.win 7).index t 0 * 512 + 1 * r.val = _; rw [index_7]; show t.val / 20 * 512 + 1 * r.val = 512 * (t.val / 20) + r.val; omega
    | ⟨1, _⟩ => show (cfg0.win 7).index t 1 * 512 + 1 * n.val = _; rw [index_7]; show t.val % 20 * 512 + 1 * n.val = 512 * (t.val % 20) + n.val; omega
  rw [e0]
  refine (congrFun (after0_7 m c t) _).trans (block7 m c t r n)

theorem result8 : (dats m 0 c).arrAt 8 cfg0.N = fun i : S2048x1024.Idx => part (X m c) (M m c) (G m c) (W m c) 1024 (by decide) (seqR (i 0)) (posR (i 0)) (i 1) := by
  refine (dats m 0 c).arrAt_eq_of_covers 8 _ (by decide +kernel) fun t hf y => ?_
  obtain ⟨r, n, rfl⟩ : ∃ (r n : Fin 512), y = (ix2 r n : S512x512.Idx) := ⟨y 0, y 1, eq_ix2 y⟩
  have e0 : (((cfg0.win 8).blk t).view.emb (ix2 r n : S512x512.Idx) : S2048x1024.Idx) = ix2 (rowP t r) (gainOf 2 t n) := by
    funext a
    apply Fin.ext
    match a with
    | ⟨0, _⟩ => show (cfg0.win 8).index t 0 * 512 + 1 * r.val = _; rw [index_8]; show t.val / 20 * 512 + 1 * r.val = 512 * (t.val / 20) + r.val; omega
    | ⟨1, _⟩ => show (cfg0.win 8).index t 1 * 512 + 1 * n.val = _; rw [index_8]; show min (t.val % 20 - 2) 1 * 512 + 1 * n.val = 512 * (min (t.val % 20 - 2) 1) + n.val; omega
  rw [e0]
  refine (congrFun (after0_8 m c t) _).trans (block8 m c t ((flush_8 t).mp hf) r n)

theorem result9 : (dats m 0 c).arrAt 9 cfg0.N = fun i : S2048x1024.Idx => part (X m c) (M m c) (G m c) (W m c) 2048 (by decide) (seqR (i 0)) (posR (i 0)) (i 1) := by
  refine (dats m 0 c).arrAt_eq_of_covers 9 _ (by decide +kernel) fun t hf y => ?_
  obtain ⟨r, n, rfl⟩ : ∃ (r n : Fin 512), y = (ix2 r n : S512x512.Idx) := ⟨y 0, y 1, eq_ix2 y⟩
  have e0 : (((cfg0.win 9).blk t).view.emb (ix2 r n : S512x512.Idx) : S2048x1024.Idx) = ix2 (rowP t r) (gainOf 4 t n) := by
    funext a
    apply Fin.ext
    match a with
    | ⟨0, _⟩ => show (cfg0.win 9).index t 0 * 512 + 1 * r.val = _; rw [index_9]; show t.val / 20 * 512 + 1 * r.val = 512 * (t.val / 20) + r.val; omega
    | ⟨1, _⟩ => show (cfg0.win 9).index t 1 * 512 + 1 * n.val = _; rw [index_9]; show min (t.val % 20 - 4) 1 * 512 + 1 * n.val = 512 * (min (t.val % 20 - 4) 1) + n.val; omega
  rw [e0]
  refine (congrFun (after0_9 m c t) _).trans (block9 m c t ((flush_9 t).mp hf) r n)

theorem result10 : (dats m 0 c).arrAt 10 cfg0.N = fun i : S2048x1024.Idx => normed (X m c) (M m c) (G m c) (W m c) 4096 (by decide) (K m c) (seqR (i 0)) (posR (i 0)) (i 1) := by
  refine (dats m 0 c).arrAt_eq_of_covers 10 _ (by decide +kernel) fun t hf y => ?_
  obtain ⟨r, n, rfl⟩ : ∃ (r n : Fin 512), y = (ix2 r n : S512x512.Idx) := ⟨y 0, y 1, eq_ix2 y⟩
  have e0 : (((cfg0.win 10).blk t).view.emb (ix2 r n : S512x512.Idx) : S2048x1024.Idx) = ix2 (rowP t r) (gainOf 8 t n) := by
    funext a
    apply Fin.ext
    match a with
    | ⟨0, _⟩ => show (cfg0.win 10).index t 0 * 512 + 1 * r.val = _; rw [index_10]; show t.val / 20 * 512 + 1 * r.val = 512 * (t.val / 20) + r.val; omega
    | ⟨1, _⟩ => show (cfg0.win 10).index t 1 * 512 + 1 * n.val = _; rw [index_10]; show min (t.val % 20 - 8) 1 * 512 + 1 * n.val = 512 * (min (t.val % 20 - 8) 1) + n.val; omega
  rw [e0]
  refine (congrFun (after0_10 m c t) _).trans (block10 m c t ((flush_10 t).mp hf) r n)

theorem result11 : (dats m 0 c).arrAt 11 cfg0.N = fun i : S2048x1024.Idx => part (X m c) (M m c) (G m c) (W m c) 5120 (by decide) (seqR (i 0)) (posR (i 0)) (i 1) := by
  refine (dats m 0 c).arrAt_eq_of_covers 11 _ (by decide +kernel) fun t hf y => ?_
  obtain ⟨r, n, rfl⟩ : ∃ (r n : Fin 512), y = (ix2 r n : S512x512.Idx) := ⟨y 0, y 1, eq_ix2 y⟩
  have e0 : (((cfg0.win 11).blk t).view.emb (ix2 r n : S512x512.Idx) : S2048x1024.Idx) = ix2 (rowP t r) (gainOf 10 t n) := by
    funext a
    apply Fin.ext
    match a with
    | ⟨0, _⟩ => show (cfg0.win 11).index t 0 * 512 + 1 * r.val = _; rw [index_11]; show t.val / 20 * 512 + 1 * r.val = 512 * (t.val / 20) + r.val; omega
    | ⟨1, _⟩ => show (cfg0.win 11).index t 1 * 512 + 1 * n.val = _; rw [index_11]; show min (t.val % 20 - 10) 1 * 512 + 1 * n.val = 512 * (min (t.val % 20 - 10) 1) + n.val; omega
  rw [e0]
  refine (congrFun (after0_11 m c t) _).trans (block11 m c t ((flush_11 t).mp hf) r n)

end Cert.ProjStepValue
-- ==== Proof.ProjStepClaims.lean ====
/- The claims about the sample's projection kernel: its frames at both readings of the floats, its reference's frame, and the equality
   of the five results. -/
module

public import proofs.«01_k».proof.Defs
public import proofs.«01_k».proof.Proof.Gen.ProjStep.Launch
public import proofs.«01_k».proof.Proof.ProjStepValue
public import proofs.«01_k».proof.Proof.Gen.ProjStepRefIdeal.Run

@[expose] public section

set_option maxRecDepth 16384

noncomputable section

namespace Cert.ProjStepClaims

open Idealize.ShloMosaic Idealize.SL.Sem

/-- The kernel's program has the same body table at the bit-exact reading whether it is read as it is or as the ideal one. -/
theorem bodies_eq : Cert.ProjStep.defs₀ (F := Bits) = Cert.ProjStepIdeal.defs₀ (F := Bits) := by
  refine congrArg Defs.onTc (funext fun ℓ => funext fun a => ?_)
  match ℓ, a with
  | ⟨0, _⟩, (_, _) => rfl
  | ⟨n + 1, h⟩, _ => exact absurd h (Nat.not_lt.2 (Nat.le_add_left _ _))

theorem defs_eq : Cert.ProjStep.defs (F := Bits) = Cert.ProjStepIdeal.defs (F := Bits) :=
  congrArg (Pipeline.defs (Cert.ProjStepIdeal.pcfgs (F := Bits))) bodies_eq

theorem frame_bits : Cert.quiescent_ProjStep := by
  intro m ρ _
  rw [defs_eq]
  exact Cert.ProjStepIdeal.Hand.frame (F := Bits) m ρ

theorem frame_ideal : Cert.quiescent_ProjStepIdeal := fun m ρ _ => Cert.ProjStepIdeal.Hand.frame m ρ

theorem frame_ref : Cert.quiescent_ProjStepRefIdeal := fun m ρ _ =>
  (θ_run Cert.ProjStepRefIdeal.defs _ _).mono (fun r h => ⟨fun c => (h c).2.2.2.2.2,
      Idealize.ShloMosaic.sem_eq_zero_of_no_sems (by decide) r.2⟩)
    (Cert.ProjStepRefIdeal.Value.run (F := Ideal) m ρ)

open Cert.ProjStepValue Cert.ProjStepRefValue Cert.ProjStepRefIdeal.Read

/-- Cell by cell, both programs' five results are the closed forms of the arguments. -/
theorem algebraic : Cert.algebraic_ProjStepIdeal_ProjStepRefIdeal := fun m ρ m' ρ' _ hag => by
  refine ⟨fun c => fun i : Cert.ProjStepIdeal.S2048x10240.Idx => whole (X m c) (M m c) (G m c) (W m c) (Q m c) (K m c) (seqR (i 0)) (posR (i 0)) (i 1),
    fun c => fun i : Cert.ProjStepIdeal.S2048x1024.Idx => part (X m c) (M m c) (G m c) (W m c) 1024 (by decide) (seqR (i 0)) (posR (i 0)) (i 1),
    fun c => fun i : Cert.ProjStepIdeal.S2048x1024.Idx => part (X m c) (M m c) (G m c) (W m c) 2048 (by decide) (seqR (i 0)) (posR (i 0)) (i 1),
    fun c => fun i : Cert.ProjStepIdeal.S2048x1024.Idx => normed (X m c) (M m c) (G m c) (W m c) 4096 (by decide) (K m c) (seqR (i 0)) (posR (i 0)) (i 1),
    fun c => fun i : Cert.ProjStepIdeal.S2048x1024.Idx => part (X m c) (M m c) (G m c) (W m c) 5120 (by decide) (seqR (i 0)) (posR (i 0)) (i 1), ?_, ?_⟩
  · exact (θ_run Cert.ProjStepIdeal.defs _ _).mono (fun r hq c =>
        ⟨(hq.1 c).1.trans (result7 m c), (hq.1 c).2.1.trans (result8 m c), (hq.1 c).2.2.1.trans (result9 m c), (hq.1 c).2.2.2.1.trans (result10 m c),
          (hq.1 c).2.2.2.2.1.trans (result11 m c), (hq.1 c).2.2.2.2.2⟩)
      (Cert.ProjStepIdeal.Hand.run_values m ρ)
  · refine (θ_run Cert.ProjStepRefIdeal.defs _ _).mono (fun r hq c => ?_) (Cert.ProjStepRefIdeal.Value.run (F := Ideal) m' ρ')
    obtain ⟨a0, a1, a2, a3, a4, a5⟩ := hag c
    have hi : ∀ {w : ℕ} (i : (⟨2, ![2048, w]⟩ : Shape).Idx), ∃ (r : Fin 2048) (n : Fin w), i = ValueIdx.ix2 r n := fun i => ⟨i 0, i 1, ValueIdx.eq_ix2 i⟩
    refine ⟨(hq c).1.trans ?_, (hq c).2.1.trans ?_, (hq c).2.2.1.trans ?_, (hq c).2.2.2.1.trans ?_, (hq c).2.2.2.2.1.trans ?_, (hq c).2.2.2.2.2⟩
    · rw [val_main_v70_eq, a0, a1, a2, a3, a4, a5]
      funext i
      obtain ⟨r, n, rfl⟩ := hi i
      exact v70 _ _ _ _ _ _ r n
    · refine (val_main_v71_eq _ _ _ _).trans ?_
      rw [a0, a1, a2, a3]
      funext i
      obtain ⟨r, n, rfl⟩ := hi i
      exact v71 _ _ _ _ r n
    · refine (val_main_v72_eq _ _ _ _).trans ?_
      rw [a0, a1, a2, a3]
      funext i
      obtain ⟨r, n, rfl⟩ := hi i
      exact v72 _ _ _ _ r n
    · rw [val_main_v73_eq, a0, a1, a2, a3, a5]
      funext i
      obtain ⟨r, n, rfl⟩ := hi i
      exact v73 _ _ _ _ _ r n
    · refine (val_main_v74_eq _ _ _ _).trans ?_
      rw [a0, a1, a2, a3]
      funext i
      obtain ⟨r, n, rfl⟩ := hi i
      exact v74 _ _ _ _ r n

end Cert.ProjStepClaims
-- ==== Proof.lean ====
module

public import proofs.«01_k».proof.Defs
public import proofs.«01_k».proof.Proof.Gen.Pre_tables
public import proofs.«01_k».proof.Proof.Gen.StickIdeal.Value
public import proofs.«01_k».proof.Proof.Gen.StickRefIdeal.Read
public import proofs.«01_k».proof.Proof.StickClaims
public import proofs.«01_k».proof.Proof.MoeClaims
public import proofs.«01_k».proof.Proof.ProjClaims
public import proofs.«01_k».proof.Proof.AdaCall
public import proofs.«01_k».proof.Proof.MergeCall
public import proofs.«01_k».proof.Proof.OutprojCall
public import proofs.«01_k».proof.Proof.FinalCall
public import proofs.«01_k».proof.Proof.FinalStepCall
public import proofs.«01_k».proof.Proof.BandStepCall
public import proofs.«01_k».proof.Proof.ProjStepClaims

@[expose] public section

noncomputable section

namespace Cert.Proof

open Idealize.ShloMosaic Idealize.SL.Sem

theorem claim : Cert.Claim :=
  ⟨Cert.Stick.Gen.facts, Cert.StickIdeal.Gen.facts, Cert.StickRefIdeal.Gen.facts, Cert.Moe.Gen.facts, Cert.MoeIdeal.Gen.facts,
    Cert.MoeRefIdeal.Gen.facts, Cert.Proj.Gen.facts, Cert.ProjIdeal.Gen.facts, Cert.ProjRefIdeal.Gen.facts,
    Cert.Ada.Gen.facts, Cert.AdaIdeal.Gen.facts, Cert.AdaRefIdeal.Gen.facts, Cert.Merge.Gen.facts, Cert.MergeIdeal.Gen.facts, Cert.MergeRefIdeal.Gen.facts,
    Cert.Outproj.Gen.facts, Cert.OutprojIdeal.Gen.facts, Cert.OutprojRefIdeal.Gen.facts, Cert.Final.Gen.facts, Cert.FinalIdeal.Gen.facts,
    Cert.FinalRefIdeal.Gen.facts, Cert.FinalStep.Gen.facts, Cert.FinalStepIdeal.Gen.facts, Cert.FinalStepRefIdeal.Gen.facts,
    Cert.BandStep.Gen.facts, Cert.BandStepIdeal.Gen.facts, Cert.BandStepRefIdeal.Gen.facts,
    Cert.ProjStep.Gen.facts, Cert.ProjStepIdeal.Gen.facts, Cert.ProjStepRefIdeal.Gen.facts, Cert.Pre_finite.Gen.facts, Cert.Pre_tables.Gen.facts, Cert.Pre_scores.Gen.facts,
    StickClaims.frame_bits, StickClaims.frame_ideal, StickClaims.frame_ideal_finite, StickClaims.frame_ref, StickClaims.frame_ref_finite,
    MoeClaims.frame_bits, MoeClaims.frame_ideal, MoeClaims.frame_ref, MoeClaims.frame_ref_tables,
    ProjClaims.frame_bits, ProjClaims.frame_ideal, ProjClaims.frame_ref,
    AdaClaims.frame_bits, AdaClaims.frame_ideal, AdaClaims.frame_ref, MergeClaims.frame_bits, MergeClaims.frame_ideal, MergeClaims.frame_ref,
    OutprojClaims.frame_bits, OutprojClaims.frame_ideal, OutprojClaims.frame_ref, FinalClaims.frame_bits, FinalClaims.frame_ideal, FinalClaims.frame_ref,
    FinalStepClaims.frame_bits, FinalStepClaims.frame_ideal, FinalStepClaims.frame_ref,
    BandStepClaims.frame_bits, BandStepClaims.frame_ideal, BandStepClaims.frame_ideal_scores, BandStepClaims.frame_ref, BandStepClaims.frame_ref_scores,
    ProjStepClaims.frame_bits, ProjStepClaims.frame_ideal, ProjStepClaims.frame_ref,
    StickClaims.preserves, StickClaims.algebraic, trivial, MoeClaims.algebraic, trivial, ProjClaims.algebraic,
    trivial, AdaClaims.algebraic, trivial, MergeClaims.algebraic, trivial, OutprojClaims.algebraic,
    trivial, FinalClaims.algebraic, trivial, FinalStepClaims.algebraic, trivial, BandStepClaims.algebraic,
    trivial, ProjStepClaims.algebraic⟩

end Cert.Proof

end
